-- ==== Defs.lean ====
def Pre_Na (m : (ℓ : Loc Cert.Na.nD Cert.Na.τ Cert.Na.sig) → Buf (Elt Bits) ℓ) : Prop :=
  True

def Pre_NaIdeal (m : (ℓ : Loc Cert.NaIdeal.nD Cert.NaIdeal.τ Cert.NaIdeal.sig) → Buf (Elt Ideal) ℓ) : Prop :=
  True

def Pre_NaIdeal_finite_scores [hPre_finite_scores : Cert.Pre_finite_scores.Facts] (m : (ℓ : Loc Cert.NaIdeal.nD Cert.NaIdeal.τ Cert.NaIdeal.sig) → Buf (Elt Ideal) ℓ) : Prop :=
  ∀ c : Dev Cert.NaIdeal.nD,
    (Cert.Pre_finite_scores.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2)) (m ((c.tc : Thread Cert.NaIdeal.nD Cert.NaIdeal.τ).loc Cert.NaIdeal.main_arg3))).1 = (fun _ => 1#1)
    ∧ (Cert.Pre_finite_scores.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2)) (m ((c.tc : Thread Cert.NaIdeal.nD Cert.NaIdeal.τ).loc Cert.NaIdeal.main_arg3))).2.1 = (fun _ => 1#1)
    ∧ (Cert.Pre_finite_scores.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2)) (m ((c.tc : Thread Cert.NaIdeal.nD Cert.NaIdeal.τ).loc Cert.NaIdeal.main_arg3))).2.2 = (fun _ => 1#1)

def Pre_NaRefIdeal (m : (ℓ : Loc Cert.NaRefIdeal.nD Cert.NaRefIdeal.τ Cert.NaRefIdeal.sig) → Buf (Elt Ideal) ℓ) : Prop :=
  True

def Pre_NaRefIdeal_finite_scores [hPre_finite_scores : Cert.Pre_finite_scores.Facts] (m : (ℓ : Loc Cert.NaRefIdeal.nD Cert.NaRefIdeal.τ Cert.NaRefIdeal.sig) → Buf (Elt Ideal) ℓ) : Prop :=
  ∀ c : Dev Cert.NaRefIdeal.nD,
    (Cert.Pre_finite_scores.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1)) (m ((c.tc : Thread Cert.NaRefIdeal.nD Cert.NaRefIdeal.τ).loc Cert.NaRefIdeal.main_arg2)) (m ((c.tc : Thread Cert.NaRefIdeal.nD Cert.NaRefIdeal.τ).loc Cert.NaRefIdeal.main_arg3))).1 = (fun _ => 1#1)
    ∧ (Cert.Pre_finite_scores.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1)) (m ((c.tc : Thread Cert.NaRefIdeal.nD Cert.NaRefIdeal.τ).loc Cert.NaRefIdeal.main_arg2)) (m ((c.tc : Thread Cert.NaRefIdeal.nD Cert.NaRefIdeal.τ).loc Cert.NaRefIdeal.main_arg3))).2.1 = (fun _ => 1#1)
    ∧ (Cert.Pre_finite_scores.fn (F := Ideal) (m ((c.tc : Thread Cert.NaRefIdeal.nD Cert.NaRefIdeal.τ).loc Cert.NaRefIdeal.main_arg0)) (m ((c.tc : Thread Cert.NaRefIdeal.nD Cert.NaRefIdeal.τ).loc Cert.NaRefIdeal.main_arg1)) (m ((c.tc : Thread Cert.NaRefIdeal.nD Cert.NaRefIdeal.τ).loc Cert.NaRefIdeal.main_arg2)) (m ((c.tc : Thread Cert.NaRefIdeal.nD Cert.NaRefIdeal.τ).loc Cert.NaRefIdeal.main_arg3))).2.2 = (fun _ => 1#1)

def Pre_FfnFirst (m : (ℓ : Loc Cert.FfnFirst.nD Cert.FfnFirst.τ Cert.FfnFirst.sig) → Buf (Elt Bits) ℓ) : Prop :=
  True

def Pre_FfnFirstIdeal (m : (ℓ : Loc Cert.FfnFirstIdeal.nD Cert.FfnFirstIdeal.τ Cert.FfnFirstIdeal.sig) → Buf (Elt Ideal) ℓ) : Prop :=
  True

def Pre_FfnFirstRefIdeal (m : (ℓ : Loc Cert.FfnFirstRefIdeal.nD Cert.FfnFirstRefIdeal.τ Cert.FfnFirstRefIdeal.sig) → Buf (Elt Ideal) ℓ) : Prop :=
  True

def Pre_FfnSecond (m : (ℓ : Loc Cert.FfnSecond.nD Cert.FfnSecond.τ Cert.FfnSecond.sig) → Buf (Elt Bits) ℓ) : Prop :=
  True

def Pre_FfnSecondIdeal (m : (ℓ : Loc Cert.FfnSecondIdeal.nD Cert.FfnSecondIdeal.τ Cert.FfnSecondIdeal.sig) → Buf (Elt Ideal) ℓ) : Prop :=
  True

def Pre_FfnSecondRefIdeal (m : (ℓ : Loc Cert.FfnSecondRefIdeal.nD Cert.FfnSecondRefIdeal.τ Cert.FfnSecondRefIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastRefIdeal (m : (ℓ : Loc Cert.FfnLastRefIdeal.nD Cert.FfnLastRefIdeal.τ Cert.FfnLastRefIdeal.sig) → Buf (Elt Ideal) ℓ) : Prop :=
  True

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_gqa_finite_scores [hPre_gqa_finite_scores : Cert.Pre_gqa_finite_scores.Facts] (m : (ℓ : Loc Cert.GqaIdeal.nD Cert.GqaIdeal.τ Cert.GqaIdeal.sig) → Buf (Elt Ideal) ℓ) : Prop :=
  ∀ c : Dev Cert.GqaIdeal.nD,
    (Cert.Pre_gqa_finite_scores.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))).1 = (fun _ => 1#1)
    ∧ (Cert.Pre_gqa_finite_scores.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))).2 = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_gqa_finite_scores [hPre_gqa_finite_scores : Cert.Pre_gqa_finite_scores.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_gqa_finite_scores.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))).1 = (fun _ => 1#1)
    ∧ (Cert.Pre_gqa_finite_scores.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))).2 = (fun _ => 1#1)

def Pre_OutFirst (m : (ℓ : Loc Cert.OutFirst.nD Cert.OutFirst.τ Cert.OutFirst.sig) → Buf (Elt Bits) ℓ) : Prop :=
  True

def Pre_OutFirstIdeal (m : (ℓ : Loc Cert.OutFirstIdeal.nD Cert.OutFirstIdeal.τ Cert.OutFirstIdeal.sig) → Buf (Elt Ideal) ℓ) : Prop :=
  True

def Pre_OutFirstRefIdeal (m : (ℓ : Loc Cert.OutFirstRefIdeal.nD Cert.OutFirstRefIdeal.τ Cert.OutFirstRefIdeal.sig) → Buf (Elt Ideal) ℓ) : Prop :=
  True

def Pre_OutLast (m : (ℓ : Loc Cert.OutLast.nD Cert.OutLast.τ Cert.OutLast.sig) → Buf (Elt Bits) ℓ) : Prop :=
  True

def Pre_OutLastIdeal (m : (ℓ : Loc Cert.OutLastIdeal.nD Cert.OutLastIdeal.τ Cert.OutLastIdeal.sig) → Buf (Elt Ideal) ℓ) : Prop :=
  True

def Pre_OutLastRefIdeal (m : (ℓ : Loc Cert.OutLastRefIdeal.nD Cert.OutLastRefIdeal.τ Cert.OutLastRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_in_finite [hPre_in_finite : Cert.Pre_in_finite.Facts] (m : (ℓ : Loc Cert.InIdeal.nD Cert.InIdeal.τ Cert.InIdeal.sig) → Buf (Elt Ideal) ℓ) : Prop :=
  ∀ c : Dev Cert.InIdeal.nD,
    (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))).1 = (fun _ => 1#1)
    ∧ (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))).2.1 = (fun _ => 1#1)
    ∧ (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4)) (m ((c.tc : Thread Cert.InIdeal.nD Cert.InIdeal.τ).loc Cert.InIdeal.main_arg5))).2.2 = (fun _ => 1#1)

def Pre_InRefIdeal (m : (ℓ : Loc Cert.InRefIdeal.nD Cert.InRefIdeal.τ Cert.InRefIdeal.sig) → Buf (Elt Ideal) ℓ) : Prop :=
  True

def Pre_InRefIdeal_in_finite [hPre_in_finite : Cert.Pre_in_finite.Facts] (m : (ℓ : Loc Cert.InRefIdeal.nD Cert.InRefIdeal.τ Cert.InRefIdeal.sig) → Buf (Elt Ideal) ℓ) : Prop :=
  ∀ c : Dev Cert.InRefIdeal.nD,
    (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))).1 = (fun _ => 1#1)
    ∧ (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))).2.1 = (fun _ => 1#1)
    ∧ (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4)) (m ((c.tc : Thread Cert.InRefIdeal.nD Cert.InRefIdeal.τ).loc Cert.InRefIdeal.main_arg5))).2.2 = (fun _ => 1#1)

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Ctx (m : (ℓ : Loc Cert.Ctx.nD Cert.Ctx.τ Cert.Ctx.sig) → Buf (Elt Bits) ℓ) : Prop :=
  True

def Pre_CtxIdeal (m : (ℓ : Loc Cert.CtxIdeal.nD Cert.CtxIdeal.τ Cert.CtxIdeal.sig) → Buf (Elt Ideal) ℓ) : Prop :=
  True

def Pre_CtxIdeal_ctx_finite_scores [hPre_ctx_finite_scores : Cert.Pre_ctx_finite_scores.Facts] (m : (ℓ : Loc Cert.CtxIdeal.nD Cert.CtxIdeal.τ Cert.CtxIdeal.sig) → Buf (Elt Ideal) ℓ) : Prop :=
  ∀ c : Dev Cert.CtxIdeal.nD,
    (Cert.Pre_ctx_finite_scores.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6)) (m ((c.tc : Thread Cert.CtxIdeal.nD Cert.CtxIdeal.τ).loc Cert.CtxIdeal.main_arg7))).1 = (fun _ => 1#1)
    ∧ (Cert.Pre_ctx_finite_scores.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6)) (m ((c.tc : Thread Cert.CtxIdeal.nD Cert.CtxIdeal.τ).loc Cert.CtxIdeal.main_arg7))).2.1 = (fun _ => 1#1)
    ∧ (Cert.Pre_ctx_finite_scores.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6)) (m ((c.tc : Thread Cert.CtxIdeal.nD Cert.CtxIdeal.τ).loc Cert.CtxIdeal.main_arg7))).2.2.1 = (fun _ => 1#1)
    ∧ (Cert.Pre_ctx_finite_scores.fn (F := Ideal) (m ((c.tc : Thread Cert.CtxIdeal.nD Cert.CtxIdeal.τ).loc Cert.CtxIdeal.main_arg0)) (m ((c.tc : Thread Cert.CtxIdeal.nD Cert.CtxIdeal.τ).loc Cert.CtxIdeal.main_arg1)) (m ((c.tc : Thread Cert.CtxIdeal.nD Cert.CtxIdeal.τ).loc Cert.CtxIdeal.main_arg2)) (m ((c.tc : Thread Cert.CtxIdeal.nD Cert.CtxIdeal.τ).loc Cert.CtxIdeal.main_arg3)) (m ((c.tc : Thread Cert.CtxIdeal.nD Cert.CtxIdeal.τ).loc Cert.CtxIdeal.main_arg4)) (m ((c.tc : Thread Cert.CtxIdeal.nD Cert.CtxIdeal.τ).loc Cert.CtxIdeal.main_arg5)) (m ((c.tc : Thread Cert.CtxIdeal.nD Cert.CtxIdeal.τ).loc Cert.CtxIdeal.main_arg6)) (m ((c.tc : Thread Cert.CtxIdeal.nD Cert.CtxIdeal.τ).loc Cert.CtxIdeal.main_arg7))).2.2.2 = (fun _ => 1#1)

def Pre_CtxRefIdeal (m : (ℓ : Loc Cert.CtxRefIdeal.nD Cert.CtxRefIdeal.τ Cert.CtxRefIdeal.sig) → Buf (Elt Ideal) ℓ) : Prop :=
  True

def Pre_CtxRefIdeal_ctx_finite_scores [hPre_ctx_finite_scores : Cert.Pre_ctx_finite_scores.Facts] (m : (ℓ : Loc Cert.CtxRefIdeal.nD Cert.CtxRefIdeal.τ Cert.CtxRefIdeal.sig) → Buf (Elt Ideal) ℓ) : Prop :=
  ∀ c : Dev Cert.CtxRefIdeal.nD,
    (Cert.Pre_ctx_finite_scores.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6)) (m ((c.tc : Thread Cert.CtxRefIdeal.nD Cert.CtxRefIdeal.τ).loc Cert.CtxRefIdeal.main_arg7))).1 = (fun _ => 1#1)
    ∧ (Cert.Pre_ctx_finite_scores.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6)) (m ((c.tc : Thread Cert.CtxRefIdeal.nD Cert.CtxRefIdeal.τ).loc Cert.CtxRefIdeal.main_arg7))).2.1 = (fun _ => 1#1)
    ∧ (Cert.Pre_ctx_finite_scores.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6)) (m ((c.tc : Thread Cert.CtxRefIdeal.nD Cert.CtxRefIdeal.τ).loc Cert.CtxRefIdeal.main_arg7))).2.2.1 = (fun _ => 1#1)
    ∧ (Cert.Pre_ctx_finite_scores.fn (F := Ideal) (m ((c.tc : Thread Cert.CtxRefIdeal.nD Cert.CtxRefIdeal.τ).loc Cert.CtxRefIdeal.main_arg0)) (m ((c.tc : Thread Cert.CtxRefIdeal.nD Cert.CtxRefIdeal.τ).loc Cert.CtxRefIdeal.main_arg1)) (m ((c.tc : Thread Cert.CtxRefIdeal.nD Cert.CtxRefIdeal.τ).loc Cert.CtxRefIdeal.main_arg2)) (m ((c.tc : Thread Cert.CtxRefIdeal.nD Cert.CtxRefIdeal.τ).loc Cert.CtxRefIdeal.main_arg3)) (m ((c.tc : Thread Cert.CtxRefIdeal.nD Cert.CtxRefIdeal.τ).loc Cert.CtxRefIdeal.main_arg4)) (m ((c.tc : Thread Cert.CtxRefIdeal.nD Cert.CtxRefIdeal.τ).loc Cert.CtxRefIdeal.main_arg5)) (m ((c.tc : Thread Cert.CtxRefIdeal.nD Cert.CtxRefIdeal.τ).loc Cert.CtxRefIdeal.main_arg6)) (m ((c.tc : Thread Cert.CtxRefIdeal.nD Cert.CtxRefIdeal.τ).loc Cert.CtxRefIdeal.main_arg7))).2.2.2 = (fun _ => 1#1)

def quiescent_Na [hNa : Cert.Na.Facts] : Prop :=
  ∀ (m : (ℓ : Loc Cert.Na.nD Cert.Na.τ Cert.Na.sig) → Buf (Elt Bits) ℓ) (g : Dev Cert.Na.nD → PrngReg), Pre_Na m →
    θ_run (Cert.Na.defs (F := Bits)) (onTc (τ := Cert.Na.τ) (Cert.Na.main (F := Bits))) ⟨m, fun _ => 0, g⟩ (fun r => (∀ c : Dev Cert.Na.nD,
      r.2.mem ((c.tc : Thread Cert.Na.nD Cert.Na.τ).loc Cert.Na.main_arg0) = m ((c.tc : Thread Cert.Na.nD Cert.Na.τ).loc Cert.Na.main_arg0)
      ∧ r.2.mem ((c.tc : Thread Cert.Na.nD Cert.Na.τ).loc Cert.Na.main_arg1) = m ((c.tc : Thread Cert.Na.nD Cert.Na.τ).loc Cert.Na.main_arg1)
      ∧ r.2.mem ((c.tc : Thread Cert.Na.nD Cert.Na.τ).loc Cert.Na.main_arg2) = m ((c.tc : Thread Cert.Na.nD Cert.Na.τ).loc Cert.Na.main_arg2)
      ∧ r.2.mem ((c.tc : Thread Cert.Na.nD Cert.Na.τ).loc Cert.Na.main_arg3) = m ((c.tc : Thread Cert.Na.nD Cert.Na.τ).loc Cert.Na.main_arg3))
      ∧ r.2.sem = fun _ => 0)

def quiescent_NaIdeal [hNaIdeal : Cert.NaIdeal.Facts] : Prop :=
  ∀ (m : (ℓ : Loc Cert.NaIdeal.nD Cert.NaIdeal.τ Cert.NaIdeal.sig) → Buf (Elt Ideal) ℓ) (g : Dev Cert.NaIdeal.nD → PrngReg), Pre_NaIdeal m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
      ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
      ∧ r.2.mem ((c.tc : Thread Cert.NaIdeal.nD Cert.NaIdeal.τ).loc Cert.NaIdeal.main_arg3) = m ((c.tc : Thread Cert.NaIdeal.nD Cert.NaIdeal.τ).loc Cert.NaIdeal.main_arg3))
      ∧ r.2.sem = fun _ => 0)

def quiescent_NaIdeal_pre_finite_scores [hNaIdeal : Cert.NaIdeal.Facts] [hPre_finite_scores : Cert.Pre_finite_scores.Facts] : Prop :=
  ∀ (m : (ℓ : Loc Cert.NaIdeal.nD Cert.NaIdeal.τ Cert.NaIdeal.sig) → Buf (Elt Ideal) ℓ) (g : Dev Cert.NaIdeal.nD → PrngReg), Pre_NaIdeal_finite_scores m →
    θ_run (Cert.NaIdeal.defs (F := Ideal)) (onTc (τ := Cert.NaIdeal.τ) (Cert.NaIdeal.main (F := Ideal))) ⟨m, fun _ => 0, g⟩ (fun r => (∀ c : Dev Cert.NaIdeal.nD,
      r.2.mem ((c.tc : Thread Cert.NaIdeal.nD Cert.NaIdeal.τ).loc Cert.NaIdeal.main_arg0) = m ((c.tc : Thread Cert.NaIdeal.nD Cert.NaIdeal.τ).loc Cert.NaIdeal.main_arg0)
      ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
      ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
      ∧ r.2.mem ((c.tc : Thread Cert.NaIdeal.nD Cert.NaIdeal.τ).loc Cert.NaIdeal.main_arg3) = m ((c.tc : Thread Cert.NaIdeal.nD Cert.NaIdeal.τ).loc Cert.NaIdeal.main_arg3))
      ∧ r.2.sem = fun _ => 0)

def quiescent_NaRefIdeal [hNaRefIdeal : Cert.NaRefIdeal.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1)
      ∧ r.2.mem ((c.tc : Thread Cert.NaRefIdeal.nD Cert.NaRefIdeal.τ).loc Cert.NaRefIdeal.main_arg2) = m ((c.tc : Thread Cert.NaRefIdeal.nD Cert.NaRefIdeal.τ).loc Cert.NaRefIdeal.main_arg2)
      ∧ r.2.mem ((c.tc : Thread Cert.NaRefIdeal.nD Cert.NaRefIdeal.τ).loc Cert.NaRefIdeal.main_arg3) = m ((c.tc : Thread Cert.NaRefIdeal.nD Cert.NaRefIdeal.τ).loc Cert.NaRefIdeal.main_arg3))
      ∧ r.2.sem = fun _ => 0)

def quiescent_NaRefIdeal_pre_finite_scores [hNaRefIdeal : Cert.NaRefIdeal.Facts] [hPre_finite_scores : Cert.Pre_finite_scores.Facts] : Prop :=
  ∀ (m : (ℓ : Loc Cert.NaRefIdeal.nD Cert.NaRefIdeal.τ Cert.NaRefIdeal.sig) → Buf (Elt Ideal) ℓ) (g : Dev Cert.NaRefIdeal.nD → PrngReg), Pre_NaRefIdeal_finite_scores m →
    θ_run (Cert.NaRefIdeal.defs (F := Ideal)) (onTc (τ := Cert.NaRefIdeal.τ) (Cert.NaRefIdeal.main (F := Ideal))) ⟨m, fun _ => 0, g⟩ (fun r => (∀ c : Dev Cert.NaRefIdeal.nD,
      r.2.mem ((c.tc : Thread Cert.NaRefIdeal.nD Cert.NaRefIdeal.τ).loc Cert.NaRefIdeal.main_arg0) = m ((c.tc : Thread Cert.NaRefIdeal.nD Cert.NaRefIdeal.τ).loc Cert.NaRefIdeal.main_arg0)
      ∧ r.2.mem ((c.tc : Thread Cert.NaRefIdeal.nD Cert.NaRefIdeal.τ).loc Cert.NaRefIdeal.main_arg1) = m ((c.tc : Thread Cert.NaRefIdeal.nD Cert.NaRefIdeal.τ).loc Cert.NaRefIdeal.main_arg1)
      ∧ r.2.mem ((c.tc : Thread Cert.NaRefIdeal.nD Cert.NaRefIdeal.τ).loc Cert.NaRefIdeal.main_arg2) = m ((c.tc : Thread Cert.NaRefIdeal.nD Cert.NaRefIdeal.τ).loc Cert.NaRefIdeal.main_arg2)
      ∧ r.2.mem ((c.tc : Thread Cert.NaRefIdeal.nD Cert.NaRefIdeal.τ).loc Cert.NaRefIdeal.main_arg3) = m ((c.tc : Thread Cert.NaRefIdeal.nD Cert.NaRefIdeal.τ).loc Cert.NaRefIdeal.main_arg3))
      ∧ r.2.sem = fun _ => 0)

def quiescent_FfnFirst [hFfnFirst : Cert.FfnFirst.Facts] : Prop :=
  ∀ (m : (ℓ : Loc Cert.FfnFirst.nD Cert.FfnFirst.τ Cert.FfnFirst.sig) → Buf (Elt Bits) ℓ) (g : Dev Cert.FfnFirst.nD → PrngReg), Pre_FfnFirst m →
    θ_run (Cert.FfnFirst.defs (F := Bits)) (onTc (τ := Cert.FfnFirst.τ) (Cert.FfnFirst.main (F := Bits))) ⟨m, fun _ => 0, g⟩ (fun r => (∀ c : Dev Cert.FfnFirst.nD,
      r.2.mem ((c.tc : Thread Cert.FfnFirst.nD Cert.FfnFirst.τ).loc Cert.FfnFirst.main_arg0) = m ((c.tc : Thread Cert.FfnFirst.nD Cert.FfnFirst.τ).loc Cert.FfnFirst.main_arg0)
      ∧ r.2.mem ((c.tc : Thread Cert.FfnFirst.nD Cert.FfnFirst.τ).loc Cert.FfnFirst.main_arg1) = m ((c.tc : Thread Cert.FfnFirst.nD Cert.FfnFirst.τ).loc Cert.FfnFirst.main_arg1)
      ∧ r.2.mem ((c.tc : Thread Cert.FfnFirst.nD Cert.FfnFirst.τ).loc Cert.FfnFirst.main_arg2) = m ((c.tc : Thread Cert.FfnFirst.nD Cert.FfnFirst.τ).loc Cert.FfnFirst.main_arg2)
      ∧ r.2.mem ((c.tc : Thread Cert.FfnFirst.nD Cert.FfnFirst.τ).loc Cert.FfnFirst.main_arg3) = m ((c.tc : Thread Cert.FfnFirst.nD Cert.FfnFirst.τ).loc Cert.FfnFirst.main_arg3)
      ∧ r.2.mem ((c.tc : Thread Cert.FfnFirst.nD Cert.FfnFirst.τ).loc Cert.FfnFirst.main_arg4) = m ((c.tc : Thread Cert.FfnFirst.nD Cert.FfnFirst.τ).loc Cert.FfnFirst.main_arg4))
      ∧ r.2.sem = fun _ => 0)

def quiescent_FfnFirstIdeal [hFfnFirstIdeal : Cert.FfnFirstIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg), Pre_FfnFirstIdeal m →
    θ_run (Cert.FfnFirstIdeal.defs (F := Ideal)) (onTc (τ := Cert.FfnFirstIdeal.τ) (Cert.FfnFirstIdeal.main (F := Ideal))) ⟨m, fun _ => 0, g⟩ (fun r => (∀ c : Dev Cert.FfnFirstIdeal.nD,
      r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
      ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
      ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
      ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
      ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4))
      ∧ r.2.sem = fun _ => 0)

def quiescent_FfnFirstRefIdeal [hFfnFirstRefIdeal : Cert.FfnFirstRefIdeal.Facts] : Prop :=
  ∀ (m : (ℓ : Loc Cert.FfnFirstRefIdeal.nD Cert.FfnFirstRefIdeal.τ Cert.FfnFirstRefIdeal.sig) → Buf (Elt Ideal) ℓ) (g : Dev Cert.FfnFirstRefIdeal.nD → PrngReg), Pre_FfnFirstRefIdeal m →
    θ_run (Cert.FfnFirstRefIdeal.defs (F := Ideal)) (onTc (τ := Cert.FfnFirstRefIdeal.τ) (Cert.FfnFirstRefIdeal.main (F := Ideal))) ⟨m, fun _ => 0, g⟩ (fun r => (∀ c : Dev Cert.FfnFirstRefIdeal.nD,
      r.2.mem ((c.tc : Thread Cert.FfnFirstRefIdeal.nD Cert.FfnFirstRefIdeal.τ).loc Cert.FfnFirstRefIdeal.main_arg0) = m ((c.tc : Thread Cert.FfnFirstRefIdeal.nD Cert.FfnFirstRefIdeal.τ).loc Cert.FfnFirstRefIdeal.main_arg0)
      ∧ r.2.mem ((c.tc : Thread Cert.FfnFirstRefIdeal.nD Cert.FfnFirstRefIdeal.τ).loc Cert.FfnFirstRefIdeal.main_arg1) = m ((c.tc : Thread Cert.FfnFirstRefIdeal.nD Cert.FfnFirstRefIdeal.τ).loc Cert.FfnFirstRefIdeal.main_arg1)
      ∧ r.2.mem ((c.tc : Thread Cert.FfnFirstRefIdeal.nD Cert.FfnFirstRefIdeal.τ).loc Cert.FfnFirstRefIdeal.main_arg2) = m ((c.tc : Thread Cert.FfnFirstRefIdeal.nD Cert.FfnFirstRefIdeal.τ).loc Cert.FfnFirstRefIdeal.main_arg2)
      ∧ r.2.mem ((c.tc : Thread Cert.FfnFirstRefIdeal.nD Cert.FfnFirstRefIdeal.τ).loc Cert.FfnFirstRefIdeal.main_arg3) = m ((c.tc : Thread Cert.FfnFirstRefIdeal.nD Cert.FfnFirstRefIdeal.τ).loc Cert.FfnFirstRefIdeal.main_arg3)
      ∧ r.2.mem ((c.tc : Thread Cert.FfnFirstRefIdeal.nD Cert.FfnFirstRefIdeal.τ).loc Cert.FfnFirstRefIdeal.main_arg4) = m ((c.tc : Thread Cert.FfnFirstRefIdeal.nD Cert.FfnFirstRefIdeal.τ).loc Cert.FfnFirstRefIdeal.main_arg4))
      ∧ r.2.sem = fun _ => 0)

def quiescent_FfnSecond [hFfnSecond : Cert.FfnSecond.Facts] : Prop :=
  ∀ (m : (ℓ : Loc Cert.FfnSecond.nD Cert.FfnSecond.τ Cert.FfnSecond.sig) → Buf (Elt Bits) ℓ) (g : Dev Cert.FfnSecond.nD → PrngReg), Pre_FfnSecond m →
    θ_run (Cert.FfnSecond.defs (F := Bits)) (onTc (τ := Cert.FfnSecond.τ) (Cert.FfnSecond.main (F := Bits))) ⟨m, fun _ => 0, g⟩ (fun r => (∀ c : Dev Cert.FfnSecond.nD,
      r.2.mem ((c.tc : Thread Cert.FfnSecond.nD Cert.FfnSecond.τ).loc Cert.FfnSecond.main_arg0) = m ((c.tc : Thread Cert.FfnSecond.nD Cert.FfnSecond.τ).loc Cert.FfnSecond.main_arg0)
      ∧ r.2.mem ((c.tc : Thread Cert.FfnSecond.nD Cert.FfnSecond.τ).loc Cert.FfnSecond.main_arg1) = m ((c.tc : Thread Cert.FfnSecond.nD Cert.FfnSecond.τ).loc Cert.FfnSecond.main_arg1)
      ∧ r.2.mem ((c.tc : Thread Cert.FfnSecond.nD Cert.FfnSecond.τ).loc Cert.FfnSecond.main_arg2) = m ((c.tc : Thread Cert.FfnSecond.nD Cert.FfnSecond.τ).loc Cert.FfnSecond.main_arg2)
      ∧ r.2.mem ((c.tc : Thread Cert.FfnSecond.nD Cert.FfnSecond.τ).loc Cert.FfnSecond.main_arg3) = m ((c.tc : Thread Cert.FfnSecond.nD Cert.FfnSecond.τ).loc Cert.FfnSecond.main_arg3)
      ∧ r.2.mem ((c.tc : Thread Cert.FfnSecond.nD Cert.FfnSecond.τ).loc Cert.FfnSecond.main_arg4) = m ((c.tc : Thread Cert.FfnSecond.nD Cert.FfnSecond.τ).loc Cert.FfnSecond.main_arg4))
      ∧ r.2.sem = fun _ => 0)

def quiescent_FfnSecondIdeal [hFfnSecondIdeal : Cert.FfnSecondIdeal.Facts] : Prop :=
  ∀ (m : (ℓ : Loc Cert.FfnSecondIdeal.nD Cert.FfnSecondIdeal.τ Cert.FfnSecondIdeal.sig) → Buf (Elt Ideal) ℓ) (g : Dev Cert.FfnSecondIdeal.nD → PrngReg), Pre_FfnSecondIdeal m →
    θ_run (Cert.FfnSecondIdeal.defs (F := Ideal)) (onTc (τ := Cert.FfnSecondIdeal.τ) (Cert.FfnSecondIdeal.main (F := Ideal))) ⟨m, fun _ => 0, g⟩ (fun r => (∀ c : Dev Cert.FfnSecondIdeal.nD,
      r.2.mem ((c.tc : Thread Cert.FfnSecondIdeal.nD Cert.FfnSecondIdeal.τ).loc Cert.FfnSecondIdeal.main_arg0) = m ((c.tc : Thread Cert.FfnSecondIdeal.nD Cert.FfnSecondIdeal.τ).loc Cert.FfnSecondIdeal.main_arg0)
      ∧ r.2.mem ((c.tc : Thread Cert.FfnSecondIdeal.nD Cert.FfnSecondIdeal.τ).loc Cert.FfnSecondIdeal.main_arg1) = m ((c.tc : Thread Cert.FfnSecondIdeal.nD Cert.FfnSecondIdeal.τ).loc Cert.FfnSecondIdeal.main_arg1)
      ∧ r.2.mem ((c.tc : Thread Cert.FfnSecondIdeal.nD Cert.FfnSecondIdeal.τ).loc Cert.FfnSecondIdeal.main_arg2) = m ((c.tc : Thread Cert.FfnSecondIdeal.nD Cert.FfnSecondIdeal.τ).loc Cert.FfnSecondIdeal.main_arg2)
      ∧ r.2.mem ((c.tc : Thread Cert.FfnSecondIdeal.nD Cert.FfnSecondIdeal.τ).loc Cert.FfnSecondIdeal.main_arg3) = m ((c.tc : Thread Cert.FfnSecondIdeal.nD Cert.FfnSecondIdeal.τ).loc Cert.FfnSecondIdeal.main_arg3)
      ∧ r.2.mem ((c.tc : Thread Cert.FfnSecondIdeal.nD Cert.FfnSecondIdeal.τ).loc Cert.FfnSecondIdeal.main_arg4) = m ((c.tc : Thread Cert.FfnSecondIdeal.nD Cert.FfnSecondIdeal.τ).loc Cert.FfnSecondIdeal.main_arg4))
      ∧ r.2.sem = fun _ => 0)

def quiescent_FfnSecondRefIdeal [hFfnSecondRefIdeal : Cert.FfnSecondRefIdeal.Facts] : Prop :=
  ∀ (m : (ℓ : Loc Cert.FfnSecondRefIdeal.nD Cert.FfnSecondRefIdeal.τ Cert.FfnSecondRefIdeal.sig) → Buf (Elt Ideal) ℓ) (g : Dev Cert.FfnSecondRefIdeal.nD → PrngReg), Pre_FfnSecondRefIdeal m →
    θ_run (Cert.FfnSecondRefIdeal.defs (F := Ideal)) (onTc (τ := Cert.FfnSecondRefIdeal.τ) (Cert.FfnSecondRefIdeal.main (F := Ideal))) ⟨m, fun _ => 0, g⟩ (fun r => (∀ c : Dev Cert.FfnSecondRefIdeal.nD,
      r.2.mem ((c.tc : Thread Cert.FfnSecondRefIdeal.nD Cert.FfnSecondRefIdeal.τ).loc Cert.FfnSecondRefIdeal.main_arg0) = m ((c.tc : Thread Cert.FfnSecondRefIdeal.nD Cert.FfnSecondRefIdeal.τ).loc Cert.FfnSecondRefIdeal.main_arg0)
      ∧ r.2.mem ((c.tc : Thread Cert.FfnSecondRefIdeal.nD Cert.FfnSecondRefIdeal.τ).loc Cert.FfnSecondRefIdeal.main_arg1) = m ((c.tc : Thread Cert.FfnSecondRefIdeal.nD Cert.FfnSecondRefIdeal.τ).loc Cert.FfnSecondRefIdeal.main_arg1)
      ∧ r.2.mem ((c.tc : Thread Cert.FfnSecondRefIdeal.nD Cert.FfnSecondRefIdeal.τ).loc Cert.FfnSecondRefIdeal.main_arg2) = m ((c.tc : Thread Cert.FfnSecondRefIdeal.nD Cert.FfnSecondRefIdeal.τ).loc Cert.FfnSecondRefIdeal.main_arg2)
      ∧ r.2.mem ((c.tc : Thread Cert.FfnSecondRefIdeal.nD Cert.FfnSecondRefIdeal.τ).loc Cert.FfnSecondRefIdeal.main_arg3) = m ((c.tc : Thread Cert.FfnSecondRefIdeal.nD Cert.FfnSecondRefIdeal.τ).loc Cert.FfnSecondRefIdeal.main_arg3)
      ∧ r.2.mem ((c.tc : Thread Cert.FfnSecondRefIdeal.nD Cert.FfnSecondRefIdeal.τ).loc Cert.FfnSecondRefIdeal.main_arg4) = m ((c.tc : Thread Cert.FfnSecondRefIdeal.nD Cert.FfnSecondRefIdeal.τ).loc Cert.FfnSecondRefIdeal.main_arg4))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4)
      ∧ r.2.mem ((c.tc : Thread Cert.FfnLast.nD Cert.FfnLast.τ).loc Cert.FfnLast.main_arg5) = m ((c.tc : Thread Cert.FfnLast.nD Cert.FfnLast.τ).loc Cert.FfnLast.main_arg5))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4)
      ∧ r.2.mem ((c.tc : Thread Cert.FfnLastRefIdeal.nD Cert.FfnLastRefIdeal.τ).loc Cert.FfnLastRefIdeal.main_arg5) = m ((c.tc : Thread Cert.FfnLastRefIdeal.nD Cert.FfnLastRefIdeal.τ).loc Cert.FfnLastRefIdeal.main_arg5))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaIdeal_pre_gqa_finite_scores [hGqaIdeal : Cert.GqaIdeal.Facts] [hPre_gqa_finite_scores : Cert.Pre_gqa_finite_scores.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_gqa_finite_scores m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_GqaRefIdeal_pre_gqa_finite_scores [hGqaRefIdeal : Cert.GqaRefIdeal.Facts] [hPre_gqa_finite_scores : Cert.Pre_gqa_finite_scores.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_gqa_finite_scores m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_OutFirst [hOutFirst : Cert.OutFirst.Facts] : Prop :=
  ∀ (m : (ℓ : Loc Cert.OutFirst.nD Cert.OutFirst.τ Cert.OutFirst.sig) → Buf (Elt Bits) ℓ) (g : Dev Cert.OutFirst.nD → PrngReg), Pre_OutFirst m →
    θ_run (Cert.OutFirst.defs (F := Bits)) (onTc (τ := Cert.OutFirst.τ) (Cert.OutFirst.main (F := Bits))) ⟨m, fun _ => 0, g⟩ (fun r => (∀ c : Dev Cert.OutFirst.nD,
      r.2.mem ((c.tc : Thread Cert.OutFirst.nD Cert.OutFirst.τ).loc Cert.OutFirst.main_arg0) = m ((c.tc : Thread Cert.OutFirst.nD Cert.OutFirst.τ).loc Cert.OutFirst.main_arg0)
      ∧ r.2.mem ((c.tc : Thread Cert.OutFirst.nD Cert.OutFirst.τ).loc Cert.OutFirst.main_arg1) = m ((c.tc : Thread Cert.OutFirst.nD Cert.OutFirst.τ).loc Cert.OutFirst.main_arg1)
      ∧ r.2.mem ((c.tc : Thread Cert.OutFirst.nD Cert.OutFirst.τ).loc Cert.OutFirst.main_arg2) = m ((c.tc : Thread Cert.OutFirst.nD Cert.OutFirst.τ).loc Cert.OutFirst.main_arg2)
      ∧ r.2.mem ((c.tc : Thread Cert.OutFirst.nD Cert.OutFirst.τ).loc Cert.OutFirst.main_arg3) = m ((c.tc : Thread Cert.OutFirst.nD Cert.OutFirst.τ).loc Cert.OutFirst.main_arg3)
      ∧ r.2.mem ((c.tc : Thread Cert.OutFirst.nD Cert.OutFirst.τ).loc Cert.OutFirst.main_arg4) = m ((c.tc : Thread Cert.OutFirst.nD Cert.OutFirst.τ).loc Cert.OutFirst.main_arg4)
      ∧ r.2.mem ((c.tc : Thread Cert.OutFirst.nD Cert.OutFirst.τ).loc Cert.OutFirst.main_arg5) = m ((c.tc : Thread Cert.OutFirst.nD Cert.OutFirst.τ).loc Cert.OutFirst.main_arg5)
      ∧ r.2.mem ((c.tc : Thread Cert.OutFirst.nD Cert.OutFirst.τ).loc Cert.OutFirst.main_arg6) = m ((c.tc : Thread Cert.OutFirst.nD Cert.OutFirst.τ).loc Cert.OutFirst.main_arg6))
      ∧ r.2.sem = fun _ => 0)

def quiescent_OutFirstIdeal [hOutFirstIdeal : Cert.OutFirstIdeal.Facts] : Prop :=
  ∀ (m : (ℓ : Loc Cert.OutFirstIdeal.nD Cert.OutFirstIdeal.τ Cert.OutFirstIdeal.sig) → Buf (Elt Ideal) ℓ) (g : Dev Cert.OutFirstIdeal.nD → PrngReg), Pre_OutFirstIdeal m →
    θ_run (Cert.OutFirstIdeal.defs (F := Ideal)) (onTc (τ := Cert.OutFirstIdeal.τ) (Cert.OutFirstIdeal.main (F := Ideal))) ⟨m, fun _ => 0, g⟩ (fun r => (∀ c : Dev Cert.OutFirstIdeal.nD,
      r.2.mem ((c.tc : Thread Cert.OutFirstIdeal.nD Cert.OutFirstIdeal.τ).loc Cert.OutFirstIdeal.main_arg0) = m ((c.tc : Thread Cert.OutFirstIdeal.nD Cert.OutFirstIdeal.τ).loc Cert.OutFirstIdeal.main_arg0)
      ∧ r.2.mem ((c.tc : Thread Cert.OutFirstIdeal.nD Cert.OutFirstIdeal.τ).loc Cert.OutFirstIdeal.main_arg1) = m ((c.tc : Thread Cert.OutFirstIdeal.nD Cert.OutFirstIdeal.τ).loc Cert.OutFirstIdeal.main_arg1)
      ∧ r.2.mem ((c.tc : Thread Cert.OutFirstIdeal.nD Cert.OutFirstIdeal.τ).loc Cert.OutFirstIdeal.main_arg2) = m ((c.tc : Thread Cert.OutFirstIdeal.nD Cert.OutFirstIdeal.τ).loc Cert.OutFirstIdeal.main_arg2)
      ∧ r.2.mem ((c.tc : Thread Cert.OutFirstIdeal.nD Cert.OutFirstIdeal.τ).loc Cert.OutFirstIdeal.main_arg3) = m ((c.tc : Thread Cert.OutFirstIdeal.nD Cert.OutFirstIdeal.τ).loc Cert.OutFirstIdeal.main_arg3)
      ∧ r.2.mem ((c.tc : Thread Cert.OutFirstIdeal.nD Cert.OutFirstIdeal.τ).loc Cert.OutFirstIdeal.main_arg4) = m ((c.tc : Thread Cert.OutFirstIdeal.nD Cert.OutFirstIdeal.τ).loc Cert.OutFirstIdeal.main_arg4)
      ∧ r.2.mem ((c.tc : Thread Cert.OutFirstIdeal.nD Cert.OutFirstIdeal.τ).loc Cert.OutFirstIdeal.main_arg5) = m ((c.tc : Thread Cert.OutFirstIdeal.nD Cert.OutFirstIdeal.τ).loc Cert.OutFirstIdeal.main_arg5)
      ∧ r.2.mem ((c.tc : Thread Cert.OutFirstIdeal.nD Cert.OutFirstIdeal.τ).loc Cert.OutFirstIdeal.main_arg6) = m ((c.tc : Thread Cert.OutFirstIdeal.nD Cert.OutFirstIdeal.τ).loc Cert.OutFirstIdeal.main_arg6))
      ∧ r.2.sem = fun _ => 0)

def quiescent_OutFirstRefIdeal [hOutFirstRefIdeal : Cert.OutFirstRefIdeal.Facts] : Prop :=
  ∀ (m : (ℓ : Loc Cert.OutFirstRefIdeal.nD Cert.OutFirstRefIdeal.τ Cert.OutFirstRefIdeal.sig) → Buf (Elt Ideal) ℓ) (g : Dev Cert.OutFirstRefIdeal.nD → PrngReg), Pre_OutFirstRefIdeal m →
    θ_run (Cert.OutFirstRefIdeal.defs (F := Ideal)) (onTc (τ := Cert.OutFirstRefIdeal.τ) (Cert.OutFirstRefIdeal.main (F := Ideal))) ⟨m, fun _ => 0, g⟩ (fun r => (∀ c : Dev Cert.OutFirstRefIdeal.nD,
      r.2.mem ((c.tc : Thread Cert.OutFirstRefIdeal.nD Cert.OutFirstRefIdeal.τ).loc Cert.OutFirstRefIdeal.main_arg0) = m ((c.tc : Thread Cert.OutFirstRefIdeal.nD Cert.OutFirstRefIdeal.τ).loc Cert.OutFirstRefIdeal.main_arg0)
      ∧ r.2.mem ((c.tc : Thread Cert.OutFirstRefIdeal.nD Cert.OutFirstRefIdeal.τ).loc Cert.OutFirstRefIdeal.main_arg1) = m ((c.tc : Thread Cert.OutFirstRefIdeal.nD Cert.OutFirstRefIdeal.τ).loc Cert.OutFirstRefIdeal.main_arg1)
      ∧ r.2.mem ((c.tc : Thread Cert.OutFirstRefIdeal.nD Cert.OutFirstRefIdeal.τ).loc Cert.OutFirstRefIdeal.main_arg2) = m ((c.tc : Thread Cert.OutFirstRefIdeal.nD Cert.OutFirstRefIdeal.τ).loc Cert.OutFirstRefIdeal.main_arg2)
      ∧ r.2.mem ((c.tc : Thread Cert.OutFirstRefIdeal.nD Cert.OutFirstRefIdeal.τ).loc Cert.OutFirstRefIdeal.main_arg3) = m ((c.tc : Thread Cert.OutFirstRefIdeal.nD Cert.OutFirstRefIdeal.τ).loc Cert.OutFirstRefIdeal.main_arg3)
      ∧ r.2.mem ((c.tc : Thread Cert.OutFirstRefIdeal.nD Cert.OutFirstRefIdeal.τ).loc Cert.OutFirstRefIdeal.main_arg4) = m ((c.tc : Thread Cert.OutFirstRefIdeal.nD Cert.OutFirstRefIdeal.τ).loc Cert.OutFirstRefIdeal.main_arg4)
      ∧ r.2.mem ((c.tc : Thread Cert.OutFirstRefIdeal.nD Cert.OutFirstRefIdeal.τ).loc Cert.OutFirstRefIdeal.main_arg5) = m ((c.tc : Thread Cert.OutFirstRefIdeal.nD Cert.OutFirstRefIdeal.τ).loc Cert.OutFirstRefIdeal.main_arg5)
      ∧ r.2.mem ((c.tc : Thread Cert.OutFirstRefIdeal.nD Cert.OutFirstRefIdeal.τ).loc Cert.OutFirstRefIdeal.main_arg6) = m ((c.tc : Thread Cert.OutFirstRefIdeal.nD Cert.OutFirstRefIdeal.τ).loc Cert.OutFirstRefIdeal.main_arg6))
      ∧ r.2.sem = fun _ => 0)

def quiescent_OutLast [hOutLast : Cert.OutLast.Facts] : Prop :=
  ∀ (m : (ℓ : Loc Cert.OutLast.nD Cert.OutLast.τ Cert.OutLast.sig) → Buf (Elt Bits) ℓ) (g : Dev Cert.OutLast.nD → PrngReg), Pre_OutLast m →
    θ_run (Cert.OutLast.defs (F := Bits)) (onTc (τ := Cert.OutLast.τ) (Cert.OutLast.main (F := Bits))) ⟨m, fun _ => 0, g⟩ (fun r => (∀ c : Dev Cert.OutLast.nD,
      r.2.mem ((c.tc : Thread Cert.OutLast.nD Cert.OutLast.τ).loc Cert.OutLast.main_arg0) = m ((c.tc : Thread Cert.OutLast.nD Cert.OutLast.τ).loc Cert.OutLast.main_arg0)
      ∧ r.2.mem ((c.tc : Thread Cert.OutLast.nD Cert.OutLast.τ).loc Cert.OutLast.main_arg1) = m ((c.tc : Thread Cert.OutLast.nD Cert.OutLast.τ).loc Cert.OutLast.main_arg1)
      ∧ r.2.mem ((c.tc : Thread Cert.OutLast.nD Cert.OutLast.τ).loc Cert.OutLast.main_arg2) = m ((c.tc : Thread Cert.OutLast.nD Cert.OutLast.τ).loc Cert.OutLast.main_arg2)
      ∧ r.2.mem ((c.tc : Thread Cert.OutLast.nD Cert.OutLast.τ).loc Cert.OutLast.main_arg3) = m ((c.tc : Thread Cert.OutLast.nD Cert.OutLast.τ).loc Cert.OutLast.main_arg3)
      ∧ r.2.mem ((c.tc : Thread Cert.OutLast.nD Cert.OutLast.τ).loc Cert.OutLast.main_arg4) = m ((c.tc : Thread Cert.OutLast.nD Cert.OutLast.τ).loc Cert.OutLast.main_arg4)
      ∧ r.2.mem ((c.tc : Thread Cert.OutLast.nD Cert.OutLast.τ).loc Cert.OutLast.main_arg5) = m ((c.tc : Thread Cert.OutLast.nD Cert.OutLast.τ).loc Cert.OutLast.main_arg5)
      ∧ r.2.mem ((c.tc : Thread Cert.OutLast.nD Cert.OutLast.τ).loc Cert.OutLast.main_arg6) = m ((c.tc : Thread Cert.OutLast.nD Cert.OutLast.τ).loc Cert.OutLast.main_arg6))
      ∧ r.2.sem = fun _ => 0)

def quiescent_OutLastIdeal [hOutLastIdeal : Cert.OutLastIdeal.Facts] : Prop :=
  ∀ (m : (ℓ : Loc Cert.OutLastIdeal.nD Cert.OutLastIdeal.τ Cert.OutLastIdeal.sig) → Buf (Elt Ideal) ℓ) (g : Dev Cert.OutLastIdeal.nD → PrngReg), Pre_OutLastIdeal m →
    θ_run (Cert.OutLastIdeal.defs (F := Ideal)) (onTc (τ := Cert.OutLastIdeal.τ) (Cert.OutLastIdeal.main (F := Ideal))) ⟨m, fun _ => 0, g⟩ (fun r => (∀ c : Dev Cert.OutLastIdeal.nD,
      r.2.mem ((c.tc : Thread Cert.OutLastIdeal.nD Cert.OutLastIdeal.τ).loc Cert.OutLastIdeal.main_arg0) = m ((c.tc : Thread Cert.OutLastIdeal.nD Cert.OutLastIdeal.τ).loc Cert.OutLastIdeal.main_arg0)
      ∧ r.2.mem ((c.tc : Thread Cert.OutLastIdeal.nD Cert.OutLastIdeal.τ).loc Cert.OutLastIdeal.main_arg1) = m ((c.tc : Thread Cert.OutLastIdeal.nD Cert.OutLastIdeal.τ).loc Cert.OutLastIdeal.main_arg1)
      ∧ r.2.mem ((c.tc : Thread Cert.OutLastIdeal.nD Cert.OutLastIdeal.τ).loc Cert.OutLastIdeal.main_arg2) = m ((c.tc : Thread Cert.OutLastIdeal.nD Cert.OutLastIdeal.τ).loc Cert.OutLastIdeal.main_arg2)
      ∧ r.2.mem ((c.tc : Thread Cert.OutLastIdeal.nD Cert.OutLastIdeal.τ).loc Cert.OutLastIdeal.main_arg3) = m ((c.tc : Thread Cert.OutLastIdeal.nD Cert.OutLastIdeal.τ).loc Cert.OutLastIdeal.main_arg3)
      ∧ r.2.mem ((c.tc : Thread Cert.OutLastIdeal.nD Cert.OutLastIdeal.τ).loc Cert.OutLastIdeal.main_arg4) = m ((c.tc : Thread Cert.OutLastIdeal.nD Cert.OutLastIdeal.τ).loc Cert.OutLastIdeal.main_arg4)
      ∧ r.2.mem ((c.tc : Thread Cert.OutLastIdeal.nD Cert.OutLastIdeal.τ).loc Cert.OutLastIdeal.main_arg5) = m ((c.tc : Thread Cert.OutLastIdeal.nD Cert.OutLastIdeal.τ).loc Cert.OutLastIdeal.main_arg5)
      ∧ r.2.mem ((c.tc : Thread Cert.OutLastIdeal.nD Cert.OutLastIdeal.τ).loc Cert.OutLastIdeal.main_arg6) = m ((c.tc : Thread Cert.OutLastIdeal.nD Cert.OutLastIdeal.τ).loc Cert.OutLastIdeal.main_arg6))
      ∧ r.2.sem = fun _ => 0)

def quiescent_OutLastRefIdeal [hOutLastRefIdeal : Cert.OutLastRefIdeal.Facts] : Prop :=
  ∀ (m : (ℓ : Loc Cert.OutLastRefIdeal.nD Cert.OutLastRefIdeal.τ Cert.OutLastRefIdeal.sig) → Buf (Elt Ideal) ℓ) (g : Dev Cert.OutLastRefIdeal.nD → PrngReg), Pre_OutLastRefIdeal m →
    θ_run (Cert.OutLastRefIdeal.defs (F := Ideal)) (onTc (τ := Cert.OutLastRefIdeal.τ) (Cert.OutLastRefIdeal.main (F := Ideal))) ⟨m, fun _ => 0, g⟩ (fun r => (∀ c : Dev Cert.OutLastRefIdeal.nD,
      r.2.mem ((c.tc : Thread Cert.OutLastRefIdeal.nD Cert.OutLastRefIdeal.τ).loc Cert.OutLastRefIdeal.main_arg0) = m ((c.tc : Thread Cert.OutLastRefIdeal.nD Cert.OutLastRefIdeal.τ).loc Cert.OutLastRefIdeal.main_arg0)
      ∧ r.2.mem ((c.tc : Thread Cert.OutLastRefIdeal.nD Cert.OutLastRefIdeal.τ).loc Cert.OutLastRefIdeal.main_arg1) = m ((c.tc : Thread Cert.OutLastRefIdeal.nD Cert.OutLastRefIdeal.τ).loc Cert.OutLastRefIdeal.main_arg1)
      ∧ r.2.mem ((c.tc : Thread Cert.OutLastRefIdeal.nD Cert.OutLastRefIdeal.τ).loc Cert.OutLastRefIdeal.main_arg2) = m ((c.tc : Thread Cert.OutLastRefIdeal.nD Cert.OutLastRefIdeal.τ).loc Cert.OutLastRefIdeal.main_arg2)
      ∧ r.2.mem ((c.tc : Thread Cert.OutLastRefIdeal.nD Cert.OutLastRefIdeal.τ).loc Cert.OutLastRefIdeal.main_arg3) = m ((c.tc : Thread Cert.OutLastRefIdeal.nD Cert.OutLastRefIdeal.τ).loc Cert.OutLastRefIdeal.main_arg3)
      ∧ r.2.mem ((c.tc : Thread Cert.OutLastRefIdeal.nD Cert.OutLastRefIdeal.τ).loc Cert.OutLastRefIdeal.main_arg4) = m ((c.tc : Thread Cert.OutLastRefIdeal.nD Cert.OutLastRefIdeal.τ).loc Cert.OutLastRefIdeal.main_arg4)
      ∧ r.2.mem ((c.tc : Thread Cert.OutLastRefIdeal.nD Cert.OutLastRefIdeal.τ).loc Cert.OutLastRefIdeal.main_arg5) = m ((c.tc : Thread Cert.OutLastRefIdeal.nD Cert.OutLastRefIdeal.τ).loc Cert.OutLastRefIdeal.main_arg5)
      ∧ r.2.mem ((c.tc : Thread Cert.OutLastRefIdeal.nD Cert.OutLastRefIdeal.τ).loc Cert.OutLastRefIdeal.main_arg6) = m ((c.tc : Thread Cert.OutLastRefIdeal.nD Cert.OutLastRefIdeal.τ).loc Cert.OutLastRefIdeal.main_arg6))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_InIdeal_pre_in_finite [hInIdeal : Cert.InIdeal.Facts] [hPre_in_finite : Cert.Pre_in_finite.Facts] : Prop :=
  ∀ (m : (ℓ : Loc Cert.InIdeal.nD Cert.InIdeal.τ Cert.InIdeal.sig) → Buf (Elt Ideal) ℓ) (g : Dev Cert.InIdeal.nD → PrngReg), Pre_InIdeal_in_finite m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def quiescent_InRefIdeal_pre_in_finite [hInRefIdeal : Cert.InRefIdeal.Facts] [hPre_in_finite : Cert.Pre_in_finite.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_in_finite m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2))
      ∧ r.2.sem = fun _ => 0)

def quiescent_Ctx [hCtx : Cert.Ctx.Facts] : Prop :=
  ∀ (m : (ℓ : Loc Cert.Ctx.nD Cert.Ctx.τ Cert.Ctx.sig) → Buf (Elt Bits) ℓ) (g : Dev Cert.Ctx.nD → PrngReg), Pre_Ctx m →
    θ_run (Cert.Ctx.defs (F := Bits)) (onTc (τ := Cert.Ctx.τ) (Cert.Ctx.main (F := Bits))) ⟨m, fun _ => 0, g⟩ (fun r => (∀ c : Dev Cert.Ctx.nD,
      r.2.mem ((c.tc : Thread Cert.Ctx.nD Cert.Ctx.τ).loc Cert.Ctx.main_arg0) = m ((c.tc : Thread Cert.Ctx.nD Cert.Ctx.τ).loc Cert.Ctx.main_arg0)
      ∧ r.2.mem ((c.tc : Thread Cert.Ctx.nD Cert.Ctx.τ).loc Cert.Ctx.main_arg1) = m ((c.tc : Thread Cert.Ctx.nD Cert.Ctx.τ).loc Cert.Ctx.main_arg1)
      ∧ r.2.mem ((c.tc : Thread Cert.Ctx.nD Cert.Ctx.τ).loc Cert.Ctx.main_arg2) = m ((c.tc : Thread Cert.Ctx.nD Cert.Ctx.τ).loc Cert.Ctx.main_arg2)
      ∧ r.2.mem ((c.tc : Thread Cert.Ctx.nD Cert.Ctx.τ).loc Cert.Ctx.main_arg3) = m ((c.tc : Thread Cert.Ctx.nD Cert.Ctx.τ).loc Cert.Ctx.main_arg3)
      ∧ r.2.mem ((c.tc : Thread Cert.Ctx.nD Cert.Ctx.τ).loc Cert.Ctx.main_arg4) = m ((c.tc : Thread Cert.Ctx.nD Cert.Ctx.τ).loc Cert.Ctx.main_arg4)
      ∧ r.2.mem ((c.tc : Thread Cert.Ctx.nD Cert.Ctx.τ).loc Cert.Ctx.main_arg5) = m ((c.tc : Thread Cert.Ctx.nD Cert.Ctx.τ).loc Cert.Ctx.main_arg5)
      ∧ r.2.mem ((c.tc : Thread Cert.Ctx.nD Cert.Ctx.τ).loc Cert.Ctx.main_arg6) = m ((c.tc : Thread Cert.Ctx.nD Cert.Ctx.τ).loc Cert.Ctx.main_arg6)
      ∧ r.2.mem ((c.tc : Thread Cert.Ctx.nD Cert.Ctx.τ).loc Cert.Ctx.main_arg7) = m ((c.tc : Thread Cert.Ctx.nD Cert.Ctx.τ).loc Cert.Ctx.main_arg7))
      ∧ r.2.sem = fun _ => 0)

def quiescent_CtxIdeal [hCtxIdeal : Cert.CtxIdeal.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
      ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6)
      ∧ r.2.mem ((c.tc : Thread Cert.CtxIdeal.nD Cert.CtxIdeal.τ).loc Cert.CtxIdeal.main_arg7) = m ((c.tc : Thread Cert.CtxIdeal.nD Cert.CtxIdeal.τ).loc Cert.CtxIdeal.main_arg7))
      ∧ r.2.sem = fun _ => 0)

def quiescent_CtxIdeal_pre_ctx_finite_scores [hCtxIdeal : Cert.CtxIdeal.Facts] [hPre_ctx_finite_scores : Cert.Pre_ctx_finite_scores.Facts] : Prop :=
  ∀ (m : (ℓ : Loc Cert.CtxIdeal.nD Cert.CtxIdeal.τ Cert.CtxIdeal.sig) → Buf (Elt Ideal) ℓ) (g : Dev Cert.CtxIdeal.nD → PrngReg), Pre_CtxIdeal_ctx_finite_scores m →
    θ_run (Cert.CtxIdeal.defs (F := Ideal)) (onTc (τ := Cert.CtxIdeal.τ) (Cert.CtxIdeal.main (F := Ideal))) ⟨m, fun _ => 0, g⟩ (fun r => (∀ c : Dev Cert.CtxIdeal.nD,
      r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
      ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
      ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
      ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
      ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
      ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
      ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6)
      ∧ r.2.mem ((c.tc : Thread Cert.CtxIdeal.nD Cert.CtxIdeal.τ).loc Cert.CtxIdeal.main_arg7) = m ((c.tc : Thread Cert.CtxIdeal.nD Cert.CtxIdeal.τ).loc Cert.CtxIdeal.main_arg7))
      ∧ r.2.sem = fun _ => 0)

def quiescent_CtxRefIdeal [hCtxRefIdeal : Cert.CtxRefIdeal.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5)
      ∧ r.2.mem ((c.tc : Thread Cert.CtxRefIdeal.nD Cert.CtxRefIdeal.τ).loc Cert.CtxRefIdeal.main_arg6) = m ((c.tc : Thread Cert.CtxRefIdeal.nD Cert.CtxRefIdeal.τ).loc Cert.CtxRefIdeal.main_arg6)
      ∧ r.2.mem ((c.tc : Thread Cert.CtxRefIdeal.nD Cert.CtxRefIdeal.τ).loc Cert.CtxRefIdeal.main_arg7) = m ((c.tc : Thread Cert.CtxRefIdeal.nD Cert.CtxRefIdeal.τ).loc Cert.CtxRefIdeal.main_arg7))
      ∧ r.2.sem = fun _ => 0)

def quiescent_CtxRefIdeal_pre_ctx_finite_scores [hCtxRefIdeal : Cert.CtxRefIdeal.Facts] [hPre_ctx_finite_scores : Cert.Pre_ctx_finite_scores.Facts] : Prop :=
  ∀ (m : (ℓ : Loc Cert.CtxRefIdeal.nD Cert.CtxRefIdeal.τ Cert.CtxRefIdeal.sig) → Buf (Elt Ideal) ℓ) (g : Dev Cert.CtxRefIdeal.nD → PrngReg), Pre_CtxRefIdeal_ctx_finite_scores m →
    θ_run (Cert.CtxRefIdeal.defs (F := Ideal)) (onTc (τ := Cert.CtxRefIdeal.τ) (Cert.CtxRefIdeal.main (F := Ideal))) ⟨m, fun _ => 0, g⟩ (fun r => (∀ c : Dev Cert.CtxRefIdeal.nD,
      r.2.mem ((c.tc : Thread Cert.CtxRefIdeal.nD Cert.CtxRefIdeal.τ).loc Cert.CtxRefIdeal.main_arg0) = m ((c.tc : Thread Cert.CtxRefIdeal.nD Cert.CtxRefIdeal.τ).loc Cert.CtxRefIdeal.main_arg0)
      ∧ r.2.mem ((c.tc : Thread Cert.CtxRefIdeal.nD Cert.CtxRefIdeal.τ).loc Cert.CtxRefIdeal.main_arg1) = m ((c.tc : Thread Cert.CtxRefIdeal.nD Cert.CtxRefIdeal.τ).loc Cert.CtxRefIdeal.main_arg1)
      ∧ r.2.mem ((c.tc : Thread Cert.CtxRefIdeal.nD Cert.CtxRefIdeal.τ).loc Cert.CtxRefIdeal.main_arg2) = m ((c.tc : Thread Cert.CtxRefIdeal.nD Cert.CtxRefIdeal.τ).loc Cert.CtxRefIdeal.main_arg2)
      ∧ r.2.mem ((c.tc : Thread Cert.CtxRefIdeal.nD Cert.CtxRefIdeal.τ).loc Cert.CtxRefIdeal.main_arg3) = m ((c.tc : Thread Cert.CtxRefIdeal.nD Cert.CtxRefIdeal.τ).loc Cert.CtxRefIdeal.main_arg3)
      ∧ r.2.mem ((c.tc : Thread Cert.CtxRefIdeal.nD Cert.CtxRefIdeal.τ).loc Cert.CtxRefIdeal.main_arg4) = m ((c.tc : Thread Cert.CtxRefIdeal.nD Cert.CtxRefIdeal.τ).loc Cert.CtxRefIdeal.main_arg4)
      ∧ r.2.mem ((c.tc : Thread Cert.CtxRefIdeal.nD Cert.CtxRefIdeal.τ).loc Cert.CtxRefIdeal.main_arg5) = m ((c.tc : Thread Cert.CtxRefIdeal.nD Cert.CtxRefIdeal.τ).loc Cert.CtxRefIdeal.main_arg5)
      ∧ r.2.mem ((c.tc : Thread Cert.CtxRefIdeal.nD Cert.CtxRefIdeal.τ).loc Cert.CtxRefIdeal.main_arg6) = m ((c.tc : Thread Cert.CtxRefIdeal.nD Cert.CtxRefIdeal.τ).loc Cert.CtxRefIdeal.main_arg6)
      ∧ r.2.mem ((c.tc : Thread Cert.CtxRefIdeal.nD Cert.CtxRefIdeal.τ).loc Cert.CtxRefIdeal.main_arg7) = m ((c.tc : Thread Cert.CtxRefIdeal.nD Cert.CtxRefIdeal.τ).loc Cert.CtxRefIdeal.main_arg7))
      ∧ r.2.sem = fun _ => 0)

def preserves_Na_NaIdeal : Prop :=
  True

def algebraic_NaIdeal_NaRefIdeal_on_latent_groups_pre_finite_scores [hNaIdeal : Cert.NaIdeal.Facts] [hNaRefIdeal : Cert.NaRefIdeal.Facts] [hPre_finite_scores : Cert.Pre_finite_scores.Facts] [hOn_latent_groups : Cert.On_latent_groups.Facts] : Prop :=
  ∀ (m : (ℓ : Loc Cert.NaIdeal.nD Cert.NaIdeal.τ Cert.NaIdeal.sig) → Buf (Elt Ideal) ℓ) (g : Dev Cert.NaIdeal.nD → PrngReg)
    (m' : (ℓ : Loc Cert.NaRefIdeal.nD Cert.NaRefIdeal.τ Cert.NaRefIdeal.sig) → Buf (Elt Ideal) ℓ) (g' : Dev Cert.NaRefIdeal.nD → PrngReg), Pre_NaIdeal_finite_scores m →
    (∀ c : Dev Cert.NaIdeal.nD,
      m' ((c.tc : Thread Cert.NaRefIdeal.nD Cert.NaRefIdeal.τ).loc Cert.NaRefIdeal.main_arg0) = m ((c.tc : Thread Cert.NaIdeal.nD Cert.NaIdeal.τ).loc Cert.NaIdeal.main_arg0)
      ∧ m' ((c.tc : Thread Cert.NaRefIdeal.nD Cert.NaRefIdeal.τ).loc Cert.NaRefIdeal.main_arg1) = m ((c.tc : Thread Cert.NaIdeal.nD Cert.NaIdeal.τ).loc Cert.NaIdeal.main_arg1)
      ∧ m' ((c.tc : Thread Cert.NaRefIdeal.nD Cert.NaRefIdeal.τ).loc Cert.NaRefIdeal.main_arg2) = m ((c.tc : Thread Cert.NaIdeal.nD Cert.NaIdeal.τ).loc Cert.NaIdeal.main_arg2)
      ∧ m' ((c.tc : Thread Cert.NaRefIdeal.nD Cert.NaRefIdeal.τ).loc Cert.NaRefIdeal.main_arg3) = m ((c.tc : Thread Cert.NaIdeal.nD Cert.NaIdeal.τ).loc Cert.NaIdeal.main_arg3)) →
    ∃ (v0 : (c : Dev Cert.NaIdeal.nD) → Buf (Elt Ideal) ((c.tc : Thread Cert.NaIdeal.nD Cert.NaIdeal.τ).loc Cert.NaIdeal.main_v254)),
      θ_run (Cert.NaIdeal.defs (F := Ideal)) (onTc (τ := Cert.NaIdeal.τ) (Cert.NaIdeal.main (F := Ideal))) ⟨m, fun _ => 0, g⟩ (fun r => ∀ c : Dev Cert.NaIdeal.nD,
          (∀ i : (⟨3, ![9, 2048, 512]⟩ : Shape).Idx, (Cert.On_latent_groups.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2)) (m ((c.tc : Thread Cert.NaIdeal.nD Cert.NaIdeal.τ).loc Cert.NaIdeal.main_arg3))) i = 1#1 → r.2.mem ((c.tc : Thread Cert.NaIdeal.nD Cert.NaIdeal.τ).loc Cert.NaIdeal.main_v254) i = v0 c i)
          ∧ r.2.mem ((c.tc : Thread Cert.NaIdeal.nD Cert.NaIdeal.τ).loc Cert.NaIdeal.main_arg0) = m ((c.tc : Thread Cert.NaIdeal.nD Cert.NaIdeal.τ).loc Cert.NaIdeal.main_arg0)
          ∧ r.2.mem ((c.tc : Thread Cert.NaIdeal.nD Cert.NaIdeal.τ).loc Cert.NaIdeal.main_arg1) = m ((c.tc : Thread Cert.NaIdeal.nD Cert.NaIdeal.τ).loc Cert.NaIdeal.main_arg1)
          ∧ r.2.mem ((c.tc : Thread Cert.NaIdeal.nD Cert.NaIdeal.τ).loc Cert.NaIdeal.main_arg2) = m ((c.tc : Thread Cert.NaIdeal.nD Cert.NaIdeal.τ).loc Cert.NaIdeal.main_arg2)
          ∧ r.2.mem ((c.tc : Thread Cert.NaIdeal.nD Cert.NaIdeal.τ).loc Cert.NaIdeal.main_arg3) = m ((c.tc : Thread Cert.NaIdeal.nD Cert.NaIdeal.τ).loc Cert.NaIdeal.main_arg3))
      ∧ θ_run (Cert.NaRefIdeal.defs (F := Ideal)) (onTc (τ := Cert.NaRefIdeal.τ) (Cert.NaRefIdeal.main (F := Ideal))) ⟨m', fun _ => 0, g'⟩ (fun r => ∀ c : Dev Cert.NaRefIdeal.nD,
          (∀ i : (⟨3, ![9, 2048, 512]⟩ : Shape).Idx, (Cert.On_latent_groups.fn (F := Ideal) (m ((c.tc : Thread Cert.NaIdeal.nD Cert.NaIdeal.τ).loc Cert.NaIdeal.main_arg0)) (m ((c.tc : Thread Cert.NaIdeal.nD Cert.NaIdeal.τ).loc Cert.NaIdeal.main_arg1)) (m ((c.tc : Thread Cert.NaIdeal.nD Cert.NaIdeal.τ).loc Cert.NaIdeal.main_arg2)) (m ((c.tc : Thread Cert.NaIdeal.nD Cert.NaIdeal.τ).loc Cert.NaIdeal.main_arg3))) i = 1#1 → r.2.mem ((c.tc : Thread Cert.NaRefIdeal.nD Cert.NaRefIdeal.τ).loc Cert.NaRefIdeal.main_v133) i = v0 c i)
          ∧ r.2.mem ((c.tc : Thread Cert.NaRefIdeal.nD Cert.NaRefIdeal.τ).loc Cert.NaRefIdeal.main_arg0) = m' ((c.tc : Thread Cert.NaRefIdeal.nD Cert.NaRefIdeal.τ).loc Cert.NaRefIdeal.main_arg0)
          ∧ r.2.mem ((c.tc : Thread Cert.NaRefIdeal.nD Cert.NaRefIdeal.τ).loc Cert.NaRefIdeal.main_arg1) = m' ((c.tc : Thread Cert.NaRefIdeal.nD Cert.NaRefIdeal.τ).loc Cert.NaRefIdeal.main_arg1)
          ∧ r.2.mem ((c.tc : Thread Cert.NaRefIdeal.nD Cert.NaRefIdeal.τ).loc Cert.NaRefIdeal.main_arg2) = m' ((c.tc : Thread Cert.NaRefIdeal.nD Cert.NaRefIdeal.τ).loc Cert.NaRefIdeal.main_arg2)
          ∧ r.2.mem ((c.tc : Thread Cert.NaRefIdeal.nD Cert.NaRefIdeal.τ).loc Cert.NaRefIdeal.main_arg3) = m' ((c.tc : Thread Cert.NaRefIdeal.nD Cert.NaRefIdeal.τ).loc Cert.NaRefIdeal.main_arg3))

def preserves_FfnFirst_FfnFirstIdeal : Prop :=
  True

def algebraic_FfnFirstIdeal_FfnFirstRefIdeal [hFfnFirstIdeal : Cert.FfnFirstIdeal.Facts] [hFfnFirstRefIdeal : Cert.FfnFirstRefIdeal.Facts] : Prop :=
  ∀ (m : (ℓ : Loc Cert.FfnFirstIdeal.nD Cert.FfnFirstIdeal.τ Cert.FfnFirstIdeal.sig) → Buf (Elt Ideal) ℓ) (g : Dev Cert.FfnFirstIdeal.nD → PrngReg)
    (m' : (ℓ : Loc Cert.FfnFirstRefIdeal.nD Cert.FfnFirstRefIdeal.τ Cert.FfnFirstRefIdeal.sig) → Buf (Elt Ideal) ℓ) (g' : Dev Cert.FfnFirstRefIdeal.nD → PrngReg), Pre_FfnFirstIdeal m →
    (∀ c : Dev Cert.FfnFirstIdeal.nD,
      m' ((c.tc : Thread Cert.FfnFirstRefIdeal.nD Cert.FfnFirstRefIdeal.τ).loc Cert.FfnFirstRefIdeal.main_arg0) = m ((c.tc : Thread Cert.FfnFirstIdeal.nD Cert.FfnFirstIdeal.τ).loc Cert.FfnFirstIdeal.main_arg0)
      ∧ m' ((c.tc : Thread Cert.FfnFirstRefIdeal.nD Cert.FfnFirstRefIdeal.τ).loc Cert.FfnFirstRefIdeal.main_arg1) = m ((c.tc : Thread Cert.FfnFirstIdeal.nD Cert.FfnFirstIdeal.τ).loc Cert.FfnFirstIdeal.main_arg1)
      ∧ m' ((c.tc : Thread Cert.FfnFirstRefIdeal.nD Cert.FfnFirstRefIdeal.τ).loc Cert.FfnFirstRefIdeal.main_arg2) = m ((c.tc : Thread Cert.FfnFirstIdeal.nD Cert.FfnFirstIdeal.τ).loc Cert.FfnFirstIdeal.main_arg2)
      ∧ m' ((c.tc : Thread Cert.FfnFirstRefIdeal.nD Cert.FfnFirstRefIdeal.τ).loc Cert.FfnFirstRefIdeal.main_arg3) = m ((c.tc : Thread Cert.FfnFirstIdeal.nD Cert.FfnFirstIdeal.τ).loc Cert.FfnFirstIdeal.main_arg3)
      ∧ m' ((c.tc : Thread Cert.FfnFirstRefIdeal.nD Cert.FfnFirstRefIdeal.τ).loc Cert.FfnFirstRefIdeal.main_arg4) = m ((c.tc : Thread Cert.FfnFirstIdeal.nD Cert.FfnFirstIdeal.τ).loc Cert.FfnFirstIdeal.main_arg4)) →
    ∃ (v0 : (c : Dev Cert.FfnFirstIdeal.nD) → Buf (Elt Ideal) ((c.tc : Thread Cert.FfnFirstIdeal.nD Cert.FfnFirstIdeal.τ).loc Cert.FfnFirstIdeal.main_v6)),
      θ_run (Cert.FfnFirstIdeal.defs (F := Ideal)) (onTc (τ := Cert.FfnFirstIdeal.τ) (Cert.FfnFirstIdeal.main (F := Ideal))) ⟨m, fun _ => 0, g⟩ (fun r => ∀ c : Dev Cert.FfnFirstIdeal.nD,
          r.2.mem ((c.tc : Thread Cert.FfnFirstIdeal.nD Cert.FfnFirstIdeal.τ).loc Cert.FfnFirstIdeal.main_v6) = v0 c
          ∧ r.2.mem ((c.tc : Thread Cert.FfnFirstIdeal.nD Cert.FfnFirstIdeal.τ).loc Cert.FfnFirstIdeal.main_arg0) = m ((c.tc : Thread Cert.FfnFirstIdeal.nD Cert.FfnFirstIdeal.τ).loc Cert.FfnFirstIdeal.main_arg0)
          ∧ r.2.mem ((c.tc : Thread Cert.FfnFirstIdeal.nD Cert.FfnFirstIdeal.τ).loc Cert.FfnFirstIdeal.main_arg1) = m ((c.tc : Thread Cert.FfnFirstIdeal.nD Cert.FfnFirstIdeal.τ).loc Cert.FfnFirstIdeal.main_arg1)
          ∧ r.2.mem ((c.tc : Thread Cert.FfnFirstIdeal.nD Cert.FfnFirstIdeal.τ).loc Cert.FfnFirstIdeal.main_arg2) = m ((c.tc : Thread Cert.FfnFirstIdeal.nD Cert.FfnFirstIdeal.τ).loc Cert.FfnFirstIdeal.main_arg2)
          ∧ r.2.mem ((c.tc : Thread Cert.FfnFirstIdeal.nD Cert.FfnFirstIdeal.τ).loc Cert.FfnFirstIdeal.main_arg3) = m ((c.tc : Thread Cert.FfnFirstIdeal.nD Cert.FfnFirstIdeal.τ).loc Cert.FfnFirstIdeal.main_arg3)
          ∧ r.2.mem ((c.tc : Thread Cert.FfnFirstIdeal.nD Cert.FfnFirstIdeal.τ).loc Cert.FfnFirstIdeal.main_arg4) = m ((c.tc : Thread Cert.FfnFirstIdeal.nD Cert.FfnFirstIdeal.τ).loc Cert.FfnFirstIdeal.main_arg4))
      ∧ θ_run (Cert.FfnFirstRefIdeal.defs (F := Ideal)) (onTc (τ := Cert.FfnFirstRefIdeal.τ) (Cert.FfnFirstRefIdeal.main (F := Ideal))) ⟨m', fun _ => 0, g'⟩ (fun r => ∀ c : Dev Cert.FfnFirstRefIdeal.nD,
          r.2.mem ((c.tc : Thread Cert.FfnFirstRefIdeal.nD Cert.FfnFirstRefIdeal.τ).loc Cert.FfnFirstRefIdeal.main_v39) = v0 c
          ∧ r.2.mem ((c.tc : Thread Cert.FfnFirstRefIdeal.nD Cert.FfnFirstRefIdeal.τ).loc Cert.FfnFirstRefIdeal.main_arg0) = m' ((c.tc : Thread Cert.FfnFirstRefIdeal.nD Cert.FfnFirstRefIdeal.τ).loc Cert.FfnFirstRefIdeal.main_arg0)
          ∧ r.2.mem ((c.tc : Thread Cert.FfnFirstRefIdeal.nD Cert.FfnFirstRefIdeal.τ).loc Cert.FfnFirstRefIdeal.main_arg1) = m' ((c.tc : Thread Cert.FfnFirstRefIdeal.nD Cert.FfnFirstRefIdeal.τ).loc Cert.FfnFirstRefIdeal.main_arg1)
          ∧ r.2.mem ((c.tc : Thread Cert.FfnFirstRefIdeal.nD Cert.FfnFirstRefIdeal.τ).loc Cert.FfnFirstRefIdeal.main_arg2) = m' ((c.tc : Thread Cert.FfnFirstRefIdeal.nD Cert.FfnFirstRefIdeal.τ).loc Cert.FfnFirstRefIdeal.main_arg2)
          ∧ r.2.mem ((c.tc : Thread Cert.FfnFirstRefIdeal.nD Cert.FfnFirstRefIdeal.τ).loc Cert.FfnFirstRefIdeal.main_arg3) = m' ((c.tc : Thread Cert.FfnFirstRefIdeal.nD Cert.FfnFirstRefIdeal.τ).loc Cert.FfnFirstRefIdeal.main_arg3)
          ∧ r.2.mem ((c.tc : Thread Cert.FfnFirstRefIdeal.nD Cert.FfnFirstRefIdeal.τ).loc Cert.FfnFirstRefIdeal.main_arg4) = m' ((c.tc : Thread Cert.FfnFirstRefIdeal.nD Cert.FfnFirstRefIdeal.τ).loc Cert.FfnFirstRefIdeal.main_arg4))

def preserves_FfnSecond_FfnSecondIdeal : Prop :=
  True

def algebraic_FfnSecondIdeal_FfnSecondRefIdeal [hFfnSecondIdeal : Cert.FfnSecondIdeal.Facts] [hFfnSecondRefIdeal : Cert.FfnSecondRefIdeal.Facts] : Prop :=
  ∀ (m : (ℓ : Loc Cert.FfnSecondIdeal.nD Cert.FfnSecondIdeal.τ Cert.FfnSecondIdeal.sig) → Buf (Elt Ideal) ℓ) (g : Dev Cert.FfnSecondIdeal.nD → PrngReg)
    (m' : (ℓ : Loc Cert.FfnSecondRefIdeal.nD Cert.FfnSecondRefIdeal.τ Cert.FfnSecondRefIdeal.sig) → Buf (Elt Ideal) ℓ) (g' : Dev Cert.FfnSecondRefIdeal.nD → PrngReg), Pre_FfnSecondIdeal m →
    (∀ c : Dev Cert.FfnSecondIdeal.nD,
      m' ((c.tc : Thread Cert.FfnSecondRefIdeal.nD Cert.FfnSecondRefIdeal.τ).loc Cert.FfnSecondRefIdeal.main_arg0) = m ((c.tc : Thread Cert.FfnSecondIdeal.nD Cert.FfnSecondIdeal.τ).loc Cert.FfnSecondIdeal.main_arg0)
      ∧ m' ((c.tc : Thread Cert.FfnSecondRefIdeal.nD Cert.FfnSecondRefIdeal.τ).loc Cert.FfnSecondRefIdeal.main_arg1) = m ((c.tc : Thread Cert.FfnSecondIdeal.nD Cert.FfnSecondIdeal.τ).loc Cert.FfnSecondIdeal.main_arg1)
      ∧ m' ((c.tc : Thread Cert.FfnSecondRefIdeal.nD Cert.FfnSecondRefIdeal.τ).loc Cert.FfnSecondRefIdeal.main_arg2) = m ((c.tc : Thread Cert.FfnSecondIdeal.nD Cert.FfnSecondIdeal.τ).loc Cert.FfnSecondIdeal.main_arg2)
      ∧ m' ((c.tc : Thread Cert.FfnSecondRefIdeal.nD Cert.FfnSecondRefIdeal.τ).loc Cert.FfnSecondRefIdeal.main_arg3) = m ((c.tc : Thread Cert.FfnSecondIdeal.nD Cert.FfnSecondIdeal.τ).loc Cert.FfnSecondIdeal.main_arg3)
      ∧ m' ((c.tc : Thread Cert.FfnSecondRefIdeal.nD Cert.FfnSecondRefIdeal.τ).loc Cert.FfnSecondRefIdeal.main_arg4) = m ((c.tc : Thread Cert.FfnSecondIdeal.nD Cert.FfnSecondIdeal.τ).loc Cert.FfnSecondIdeal.main_arg4)) →
    ∃ (v0 : (c : Dev Cert.FfnSecondIdeal.nD) → Buf (Elt Ideal) ((c.tc : Thread Cert.FfnSecondIdeal.nD Cert.FfnSecondIdeal.τ).loc Cert.FfnSecondIdeal.main_v6)),
      θ_run (Cert.FfnSecondIdeal.defs (F := Ideal)) (onTc (τ := Cert.FfnSecondIdeal.τ) (Cert.FfnSecondIdeal.main (F := Ideal))) ⟨m, fun _ => 0, g⟩ (fun r => ∀ c : Dev Cert.FfnSecondIdeal.nD,
          r.2.mem ((c.tc : Thread Cert.FfnSecondIdeal.nD Cert.FfnSecondIdeal.τ).loc Cert.FfnSecondIdeal.main_v6) = v0 c
          ∧ r.2.mem ((c.tc : Thread Cert.FfnSecondIdeal.nD Cert.FfnSecondIdeal.τ).loc Cert.FfnSecondIdeal.main_arg0) = m ((c.tc : Thread Cert.FfnSecondIdeal.nD Cert.FfnSecondIdeal.τ).loc Cert.FfnSecondIdeal.main_arg0)
          ∧ r.2.mem ((c.tc : Thread Cert.FfnSecondIdeal.nD Cert.FfnSecondIdeal.τ).loc Cert.FfnSecondIdeal.main_arg1) = m ((c.tc : Thread Cert.FfnSecondIdeal.nD Cert.FfnSecondIdeal.τ).loc Cert.FfnSecondIdeal.main_arg1)
          ∧ r.2.mem ((c.tc : Thread Cert.FfnSecondIdeal.nD Cert.FfnSecondIdeal.τ).loc Cert.FfnSecondIdeal.main_arg2) = m ((c.tc : Thread Cert.FfnSecondIdeal.nD Cert.FfnSecondIdeal.τ).loc Cert.FfnSecondIdeal.main_arg2)
          ∧ r.2.mem ((c.tc : Thread Cert.FfnSecondIdeal.nD Cert.FfnSecondIdeal.τ).loc Cert.FfnSecondIdeal.main_arg3) = m ((c.tc : Thread Cert.FfnSecondIdeal.nD Cert.FfnSecondIdeal.τ).loc Cert.FfnSecondIdeal.main_arg3)
          ∧ r.2.mem ((c.tc : Thread Cert.FfnSecondIdeal.nD Cert.FfnSecondIdeal.τ).loc Cert.FfnSecondIdeal.main_arg4) = m ((c.tc : Thread Cert.FfnSecondIdeal.nD Cert.FfnSecondIdeal.τ).loc Cert.FfnSecondIdeal.main_arg4))
      ∧ θ_run (Cert.FfnSecondRefIdeal.defs (F := Ideal)) (onTc (τ := Cert.FfnSecondRefIdeal.τ) (Cert.FfnSecondRefIdeal.main (F := Ideal))) ⟨m', fun _ => 0, g'⟩ (fun r => ∀ c : Dev Cert.FfnSecondRefIdeal.nD,
          r.2.mem ((c.tc : Thread Cert.FfnSecondRefIdeal.nD Cert.FfnSecondRefIdeal.τ).loc Cert.FfnSecondRefIdeal.main_v39) = v0 c
          ∧ r.2.mem ((c.tc : Thread Cert.FfnSecondRefIdeal.nD Cert.FfnSecondRefIdeal.τ).loc Cert.FfnSecondRefIdeal.main_arg0) = m' ((c.tc : Thread Cert.FfnSecondRefIdeal.nD Cert.FfnSecondRefIdeal.τ).loc Cert.FfnSecondRefIdeal.main_arg0)
          ∧ r.2.mem ((c.tc : Thread Cert.FfnSecondRefIdeal.nD Cert.FfnSecondRefIdeal.τ).loc Cert.FfnSecondRefIdeal.main_arg1) = m' ((c.tc : Thread Cert.FfnSecondRefIdeal.nD Cert.FfnSecondRefIdeal.τ).loc Cert.FfnSecondRefIdeal.main_arg1)
          ∧ r.2.mem ((c.tc : Thread Cert.FfnSecondRefIdeal.nD Cert.FfnSecondRefIdeal.τ).loc Cert.FfnSecondRefIdeal.main_arg2) = m' ((c.tc : Thread Cert.FfnSecondRefIdeal.nD Cert.FfnSecondRefIdeal.τ).loc Cert.FfnSecondRefIdeal.main_arg2)
          ∧ r.2.mem ((c.tc : Thread Cert.FfnSecondRefIdeal.nD Cert.FfnSecondRefIdeal.τ).loc Cert.FfnSecondRefIdeal.main_arg3) = m' ((c.tc : Thread Cert.FfnSecondRefIdeal.nD Cert.FfnSecondRefIdeal.τ).loc Cert.FfnSecondRefIdeal.main_arg3)
          ∧ r.2.mem ((c.tc : Thread Cert.FfnSecondRefIdeal.nD Cert.FfnSecondRefIdeal.τ).loc Cert.FfnSecondRefIdeal.main_arg4) = m' ((c.tc : Thread Cert.FfnSecondRefIdeal.nD Cert.FfnSecondRefIdeal.τ).loc Cert.FfnSecondRefIdeal.main_arg4))

def preserves_FfnLast_FfnLastIdeal : Prop :=
  True

def algebraic_FfnLastIdeal_FfnLastRefIdeal [hFfnLastIdeal : Cert.FfnLastIdeal.Facts] [hFfnLastRefIdeal : Cert.FfnLastRefIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)
      ∧ m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)
      ∧ m' ((c.tc : Thread Cert.FfnLastRefIdeal.nD Cert.FfnLastRefIdeal.τ).loc Cert.FfnLastRefIdeal.main_arg5) = m ((c.tc : Thread Cert.FfnLastIdeal.nD Cert.FfnLastIdeal.τ).loc Cert.FfnLastIdeal.main_arg5)) →
    ∃ (v0 : (c : Dev Cert.FfnLastIdeal.nD) → Buf (Elt Ideal) ((c.tc : Thread Cert.FfnLastIdeal.nD Cert.FfnLastIdeal.τ).loc Cert.FfnLastIdeal.main_v6)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v6) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
          ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v52) = v0 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3)
          ∧ r.2.mem ((c.tc : Thread Cert.FfnLastRefIdeal.nD Cert.FfnLastRefIdeal.τ).loc Cert.FfnLastRefIdeal.main_arg4) = m' ((c.tc : Thread Cert.FfnLastRefIdeal.nD Cert.FfnLastRefIdeal.τ).loc Cert.FfnLastRefIdeal.main_arg4)
          ∧ r.2.mem ((c.tc : Thread Cert.FfnLastRefIdeal.nD Cert.FfnLastRefIdeal.τ).loc Cert.FfnLastRefIdeal.main_arg5) = m' ((c.tc : Thread Cert.FfnLastRefIdeal.nD Cert.FfnLastRefIdeal.τ).loc Cert.FfnLastRefIdeal.main_arg5))

def preserves_Gqa_GqaIdeal : Prop :=
  True

def algebraic_GqaIdeal_GqaRefIdeal_on_gqa_latent_groups_pre_gqa_finite_scores [hGqaIdeal : Cert.GqaIdeal.Facts] [hGqaRefIdeal : Cert.GqaRefIdeal.Facts] [hPre_gqa_finite_scores : Cert.Pre_gqa_finite_scores.Facts] [hOn_gqa_latent_groups : Cert.On_gqa_latent_groups.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_gqa_finite_scores m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)) →
    ∃ (v0 : (c : Dev Cert.GqaIdeal.nD) → Buf (Elt Ideal) ((c.tc : Thread Cert.GqaIdeal.nD Cert.GqaIdeal.τ).loc Cert.GqaIdeal.main_v0)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          (∀ i : (⟨3, ![9, 2048, 512]⟩ : Shape).Idx, (Cert.On_gqa_latent_groups.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))) i = 1#1 → r.2.mem ((c.tc : Thread Cert.GqaIdeal.nD Cert.GqaIdeal.τ).loc Cert.GqaIdeal.main_v0) i = v0 c i)
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          (∀ i : (⟨3, ![9, 2048, 512]⟩ : Shape).Idx, (Cert.On_gqa_latent_groups.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))) i = 1#1 → r.2.mem ((c.tc : Thread Cert.GqaRefIdeal.nD Cert.GqaRefIdeal.τ).loc Cert.GqaRefIdeal.main_v42) i = v0 c i)
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2))

def preserves_OutFirst_OutFirstIdeal : Prop :=
  True

def algebraic_OutFirstIdeal_OutFirstRefIdeal [hOutFirstIdeal : Cert.OutFirstIdeal.Facts] [hOutFirstRefIdeal : Cert.OutFirstRefIdeal.Facts] : Prop :=
  ∀ (m : (ℓ : Loc Cert.OutFirstIdeal.nD Cert.OutFirstIdeal.τ Cert.OutFirstIdeal.sig) → Buf (Elt Ideal) ℓ) (g : Dev Cert.OutFirstIdeal.nD → PrngReg)
    (m' : (ℓ : Loc Cert.OutFirstRefIdeal.nD Cert.OutFirstRefIdeal.τ Cert.OutFirstRefIdeal.sig) → Buf (Elt Ideal) ℓ) (g' : Dev Cert.OutFirstRefIdeal.nD → PrngReg), Pre_OutFirstIdeal m →
    (∀ c : Dev Cert.OutFirstIdeal.nD,
      m' ((c.tc : Thread Cert.OutFirstRefIdeal.nD Cert.OutFirstRefIdeal.τ).loc Cert.OutFirstRefIdeal.main_arg0) = m ((c.tc : Thread Cert.OutFirstIdeal.nD Cert.OutFirstIdeal.τ).loc Cert.OutFirstIdeal.main_arg0)
      ∧ m' ((c.tc : Thread Cert.OutFirstRefIdeal.nD Cert.OutFirstRefIdeal.τ).loc Cert.OutFirstRefIdeal.main_arg1) = m ((c.tc : Thread Cert.OutFirstIdeal.nD Cert.OutFirstIdeal.τ).loc Cert.OutFirstIdeal.main_arg1)
      ∧ m' ((c.tc : Thread Cert.OutFirstRefIdeal.nD Cert.OutFirstRefIdeal.τ).loc Cert.OutFirstRefIdeal.main_arg2) = m ((c.tc : Thread Cert.OutFirstIdeal.nD Cert.OutFirstIdeal.τ).loc Cert.OutFirstIdeal.main_arg2)
      ∧ m' ((c.tc : Thread Cert.OutFirstRefIdeal.nD Cert.OutFirstRefIdeal.τ).loc Cert.OutFirstRefIdeal.main_arg3) = m ((c.tc : Thread Cert.OutFirstIdeal.nD Cert.OutFirstIdeal.τ).loc Cert.OutFirstIdeal.main_arg3)
      ∧ m' ((c.tc : Thread Cert.OutFirstRefIdeal.nD Cert.OutFirstRefIdeal.τ).loc Cert.OutFirstRefIdeal.main_arg4) = m ((c.tc : Thread Cert.OutFirstIdeal.nD Cert.OutFirstIdeal.τ).loc Cert.OutFirstIdeal.main_arg4)
      ∧ m' ((c.tc : Thread Cert.OutFirstRefIdeal.nD Cert.OutFirstRefIdeal.τ).loc Cert.OutFirstRefIdeal.main_arg5) = m ((c.tc : Thread Cert.OutFirstIdeal.nD Cert.OutFirstIdeal.τ).loc Cert.OutFirstIdeal.main_arg5)
      ∧ m' ((c.tc : Thread Cert.OutFirstRefIdeal.nD Cert.OutFirstRefIdeal.τ).loc Cert.OutFirstRefIdeal.main_arg6) = m ((c.tc : Thread Cert.OutFirstIdeal.nD Cert.OutFirstIdeal.τ).loc Cert.OutFirstIdeal.main_arg6)) →
    ∃ (v0 : (c : Dev Cert.OutFirstIdeal.nD) → Buf (Elt Ideal) ((c.tc : Thread Cert.OutFirstIdeal.nD Cert.OutFirstIdeal.τ).loc Cert.OutFirstIdeal.main_v3)),
      θ_run (Cert.OutFirstIdeal.defs (F := Ideal)) (onTc (τ := Cert.OutFirstIdeal.τ) (Cert.OutFirstIdeal.main (F := Ideal))) ⟨m, fun _ => 0, g⟩ (fun r => ∀ c : Dev Cert.OutFirstIdeal.nD,
          r.2.mem ((c.tc : Thread Cert.OutFirstIdeal.nD Cert.OutFirstIdeal.τ).loc Cert.OutFirstIdeal.main_v3) = v0 c
          ∧ r.2.mem ((c.tc : Thread Cert.OutFirstIdeal.nD Cert.OutFirstIdeal.τ).loc Cert.OutFirstIdeal.main_arg0) = m ((c.tc : Thread Cert.OutFirstIdeal.nD Cert.OutFirstIdeal.τ).loc Cert.OutFirstIdeal.main_arg0)
          ∧ r.2.mem ((c.tc : Thread Cert.OutFirstIdeal.nD Cert.OutFirstIdeal.τ).loc Cert.OutFirstIdeal.main_arg1) = m ((c.tc : Thread Cert.OutFirstIdeal.nD Cert.OutFirstIdeal.τ).loc Cert.OutFirstIdeal.main_arg1)
          ∧ r.2.mem ((c.tc : Thread Cert.OutFirstIdeal.nD Cert.OutFirstIdeal.τ).loc Cert.OutFirstIdeal.main_arg2) = m ((c.tc : Thread Cert.OutFirstIdeal.nD Cert.OutFirstIdeal.τ).loc Cert.OutFirstIdeal.main_arg2)
          ∧ r.2.mem ((c.tc : Thread Cert.OutFirstIdeal.nD Cert.OutFirstIdeal.τ).loc Cert.OutFirstIdeal.main_arg3) = m ((c.tc : Thread Cert.OutFirstIdeal.nD Cert.OutFirstIdeal.τ).loc Cert.OutFirstIdeal.main_arg3)
          ∧ r.2.mem ((c.tc : Thread Cert.OutFirstIdeal.nD Cert.OutFirstIdeal.τ).loc Cert.OutFirstIdeal.main_arg4) = m ((c.tc : Thread Cert.OutFirstIdeal.nD Cert.OutFirstIdeal.τ).loc Cert.OutFirstIdeal.main_arg4)
          ∧ r.2.mem ((c.tc : Thread Cert.OutFirstIdeal.nD Cert.OutFirstIdeal.τ).loc Cert.OutFirstIdeal.main_arg5) = m ((c.tc : Thread Cert.OutFirstIdeal.nD Cert.OutFirstIdeal.τ).loc Cert.OutFirstIdeal.main_arg5)
          ∧ r.2.mem ((c.tc : Thread Cert.OutFirstIdeal.nD Cert.OutFirstIdeal.τ).loc Cert.OutFirstIdeal.main_arg6) = m ((c.tc : Thread Cert.OutFirstIdeal.nD Cert.OutFirstIdeal.τ).loc Cert.OutFirstIdeal.main_arg6))
      ∧ θ_run (Cert.OutFirstRefIdeal.defs (F := Ideal)) (onTc (τ := Cert.OutFirstRefIdeal.τ) (Cert.OutFirstRefIdeal.main (F := Ideal))) ⟨m', fun _ => 0, g'⟩ (fun r => ∀ c : Dev Cert.OutFirstRefIdeal.nD,
          r.2.mem ((c.tc : Thread Cert.OutFirstRefIdeal.nD Cert.OutFirstRefIdeal.τ).loc Cert.OutFirstRefIdeal.main_v40) = v0 c
          ∧ r.2.mem ((c.tc : Thread Cert.OutFirstRefIdeal.nD Cert.OutFirstRefIdeal.τ).loc Cert.OutFirstRefIdeal.main_arg0) = m' ((c.tc : Thread Cert.OutFirstRefIdeal.nD Cert.OutFirstRefIdeal.τ).loc Cert.OutFirstRefIdeal.main_arg0)
          ∧ r.2.mem ((c.tc : Thread Cert.OutFirstRefIdeal.nD Cert.OutFirstRefIdeal.τ).loc Cert.OutFirstRefIdeal.main_arg1) = m' ((c.tc : Thread Cert.OutFirstRefIdeal.nD Cert.OutFirstRefIdeal.τ).loc Cert.OutFirstRefIdeal.main_arg1)
          ∧ r.2.mem ((c.tc : Thread Cert.OutFirstRefIdeal.nD Cert.OutFirstRefIdeal.τ).loc Cert.OutFirstRefIdeal.main_arg2) = m' ((c.tc : Thread Cert.OutFirstRefIdeal.nD Cert.OutFirstRefIdeal.τ).loc Cert.OutFirstRefIdeal.main_arg2)
          ∧ r.2.mem ((c.tc : Thread Cert.OutFirstRefIdeal.nD Cert.OutFirstRefIdeal.τ).loc Cert.OutFirstRefIdeal.main_arg3) = m' ((c.tc : Thread Cert.OutFirstRefIdeal.nD Cert.OutFirstRefIdeal.τ).loc Cert.OutFirstRefIdeal.main_arg3)
          ∧ r.2.mem ((c.tc : Thread Cert.OutFirstRefIdeal.nD Cert.OutFirstRefIdeal.τ).loc Cert.OutFirstRefIdeal.main_arg4) = m' ((c.tc : Thread Cert.OutFirstRefIdeal.nD Cert.OutFirstRefIdeal.τ).loc Cert.OutFirstRefIdeal.main_arg4)
          ∧ r.2.mem ((c.tc : Thread Cert.OutFirstRefIdeal.nD Cert.OutFirstRefIdeal.τ).loc Cert.OutFirstRefIdeal.main_arg5) = m' ((c.tc : Thread Cert.OutFirstRefIdeal.nD Cert.OutFirstRefIdeal.τ).loc Cert.OutFirstRefIdeal.main_arg5)
          ∧ r.2.mem ((c.tc : Thread Cert.OutFirstRefIdeal.nD Cert.OutFirstRefIdeal.τ).loc Cert.OutFirstRefIdeal.main_arg6) = m' ((c.tc : Thread Cert.OutFirstRefIdeal.nD Cert.OutFirstRefIdeal.τ).loc Cert.OutFirstRefIdeal.main_arg6))

def preserves_OutLast_OutLastIdeal : Prop :=
  True

def algebraic_OutLastIdeal_OutLastRefIdeal [hOutLastIdeal : Cert.OutLastIdeal.Facts] [hOutLastRefIdeal : Cert.OutLastRefIdeal.Facts] : Prop :=
  ∀ (m : (ℓ : Loc Cert.OutLastIdeal.nD Cert.OutLastIdeal.τ Cert.OutLastIdeal.sig) → Buf (Elt Ideal) ℓ) (g : Dev Cert.OutLastIdeal.nD → PrngReg)
    (m' : (ℓ : Loc Cert.OutLastRefIdeal.nD Cert.OutLastRefIdeal.τ Cert.OutLastRefIdeal.sig) → Buf (Elt Ideal) ℓ) (g' : Dev Cert.OutLastRefIdeal.nD → PrngReg), Pre_OutLastIdeal m →
    (∀ c : Dev Cert.OutLastIdeal.nD,
      m' ((c.tc : Thread Cert.OutLastRefIdeal.nD Cert.OutLastRefIdeal.τ).loc Cert.OutLastRefIdeal.main_arg0) = m ((c.tc : Thread Cert.OutLastIdeal.nD Cert.OutLastIdeal.τ).loc Cert.OutLastIdeal.main_arg0)
      ∧ m' ((c.tc : Thread Cert.OutLastRefIdeal.nD Cert.OutLastRefIdeal.τ).loc Cert.OutLastRefIdeal.main_arg1) = m ((c.tc : Thread Cert.OutLastIdeal.nD Cert.OutLastIdeal.τ).loc Cert.OutLastIdeal.main_arg1)
      ∧ m' ((c.tc : Thread Cert.OutLastRefIdeal.nD Cert.OutLastRefIdeal.τ).loc Cert.OutLastRefIdeal.main_arg2) = m ((c.tc : Thread Cert.OutLastIdeal.nD Cert.OutLastIdeal.τ).loc Cert.OutLastIdeal.main_arg2)
      ∧ m' ((c.tc : Thread Cert.OutLastRefIdeal.nD Cert.OutLastRefIdeal.τ).loc Cert.OutLastRefIdeal.main_arg3) = m ((c.tc : Thread Cert.OutLastIdeal.nD Cert.OutLastIdeal.τ).loc Cert.OutLastIdeal.main_arg3)
      ∧ m' ((c.tc : Thread Cert.OutLastRefIdeal.nD Cert.OutLastRefIdeal.τ).loc Cert.OutLastRefIdeal.main_arg4) = m ((c.tc : Thread Cert.OutLastIdeal.nD Cert.OutLastIdeal.τ).loc Cert.OutLastIdeal.main_arg4)
      ∧ m' ((c.tc : Thread Cert.OutLastRefIdeal.nD Cert.OutLastRefIdeal.τ).loc Cert.OutLastRefIdeal.main_arg5) = m ((c.tc : Thread Cert.OutLastIdeal.nD Cert.OutLastIdeal.τ).loc Cert.OutLastIdeal.main_arg5)
      ∧ m' ((c.tc : Thread Cert.OutLastRefIdeal.nD Cert.OutLastRefIdeal.τ).loc Cert.OutLastRefIdeal.main_arg6) = m ((c.tc : Thread Cert.OutLastIdeal.nD Cert.OutLastIdeal.τ).loc Cert.OutLastIdeal.main_arg6)) →
    ∃ (v0 : (c : Dev Cert.OutLastIdeal.nD) → Buf (Elt Ideal) ((c.tc : Thread Cert.OutLastIdeal.nD Cert.OutLastIdeal.τ).loc Cert.OutLastIdeal.main_v3)),
      θ_run (Cert.OutLastIdeal.defs (F := Ideal)) (onTc (τ := Cert.OutLastIdeal.τ) (Cert.OutLastIdeal.main (F := Ideal))) ⟨m, fun _ => 0, g⟩ (fun r => ∀ c : Dev Cert.OutLastIdeal.nD,
          r.2.mem ((c.tc : Thread Cert.OutLastIdeal.nD Cert.OutLastIdeal.τ).loc Cert.OutLastIdeal.main_v3) = v0 c
          ∧ r.2.mem ((c.tc : Thread Cert.OutLastIdeal.nD Cert.OutLastIdeal.τ).loc Cert.OutLastIdeal.main_arg0) = m ((c.tc : Thread Cert.OutLastIdeal.nD Cert.OutLastIdeal.τ).loc Cert.OutLastIdeal.main_arg0)
          ∧ r.2.mem ((c.tc : Thread Cert.OutLastIdeal.nD Cert.OutLastIdeal.τ).loc Cert.OutLastIdeal.main_arg1) = m ((c.tc : Thread Cert.OutLastIdeal.nD Cert.OutLastIdeal.τ).loc Cert.OutLastIdeal.main_arg1)
          ∧ r.2.mem ((c.tc : Thread Cert.OutLastIdeal.nD Cert.OutLastIdeal.τ).loc Cert.OutLastIdeal.main_arg2) = m ((c.tc : Thread Cert.OutLastIdeal.nD Cert.OutLastIdeal.τ).loc Cert.OutLastIdeal.main_arg2)
          ∧ r.2.mem ((c.tc : Thread Cert.OutLastIdeal.nD Cert.OutLastIdeal.τ).loc Cert.OutLastIdeal.main_arg3) = m ((c.tc : Thread Cert.OutLastIdeal.nD Cert.OutLastIdeal.τ).loc Cert.OutLastIdeal.main_arg3)
          ∧ r.2.mem ((c.tc : Thread Cert.OutLastIdeal.nD Cert.OutLastIdeal.τ).loc Cert.OutLastIdeal.main_arg4) = m ((c.tc : Thread Cert.OutLastIdeal.nD Cert.OutLastIdeal.τ).loc Cert.OutLastIdeal.main_arg4)
          ∧ r.2.mem ((c.tc : Thread Cert.OutLastIdeal.nD Cert.OutLastIdeal.τ).loc Cert.OutLastIdeal.main_arg5) = m ((c.tc : Thread Cert.OutLastIdeal.nD Cert.OutLastIdeal.τ).loc Cert.OutLastIdeal.main_arg5)
          ∧ r.2.mem ((c.tc : Thread Cert.OutLastIdeal.nD Cert.OutLastIdeal.τ).loc Cert.OutLastIdeal.main_arg6) = m ((c.tc : Thread Cert.OutLastIdeal.nD Cert.OutLastIdeal.τ).loc Cert.OutLastIdeal.main_arg6))
      ∧ θ_run (Cert.OutLastRefIdeal.defs (F := Ideal)) (onTc (τ := Cert.OutLastRefIdeal.τ) (Cert.OutLastRefIdeal.main (F := Ideal))) ⟨m', fun _ => 0, g'⟩ (fun r => ∀ c : Dev Cert.OutLastRefIdeal.nD,
          r.2.mem ((c.tc : Thread Cert.OutLastRefIdeal.nD Cert.OutLastRefIdeal.τ).loc Cert.OutLastRefIdeal.main_v43) = v0 c
          ∧ r.2.mem ((c.tc : Thread Cert.OutLastRefIdeal.nD Cert.OutLastRefIdeal.τ).loc Cert.OutLastRefIdeal.main_arg0) = m' ((c.tc : Thread Cert.OutLastRefIdeal.nD Cert.OutLastRefIdeal.τ).loc Cert.OutLastRefIdeal.main_arg0)
          ∧ r.2.mem ((c.tc : Thread Cert.OutLastRefIdeal.nD Cert.OutLastRefIdeal.τ).loc Cert.OutLastRefIdeal.main_arg1) = m' ((c.tc : Thread Cert.OutLastRefIdeal.nD Cert.OutLastRefIdeal.τ).loc Cert.OutLastRefIdeal.main_arg1)
          ∧ r.2.mem ((c.tc : Thread Cert.OutLastRefIdeal.nD Cert.OutLastRefIdeal.τ).loc Cert.OutLastRefIdeal.main_arg2) = m' ((c.tc : Thread Cert.OutLastRefIdeal.nD Cert.OutLastRefIdeal.τ).loc Cert.OutLastRefIdeal.main_arg2)
          ∧ r.2.mem ((c.tc : Thread Cert.OutLastRefIdeal.nD Cert.OutLastRefIdeal.τ).loc Cert.OutLastRefIdeal.main_arg3) = m' ((c.tc : Thread Cert.OutLastRefIdeal.nD Cert.OutLastRefIdeal.τ).loc Cert.OutLastRefIdeal.main_arg3)
          ∧ r.2.mem ((c.tc : Thread Cert.OutLastRefIdeal.nD Cert.OutLastRefIdeal.τ).loc Cert.OutLastRefIdeal.main_arg4) = m' ((c.tc : Thread Cert.OutLastRefIdeal.nD Cert.OutLastRefIdeal.τ).loc Cert.OutLastRefIdeal.main_arg4)
          ∧ r.2.mem ((c.tc : Thread Cert.OutLastRefIdeal.nD Cert.OutLastRefIdeal.τ).loc Cert.OutLastRefIdeal.main_arg5) = m' ((c.tc : Thread Cert.OutLastRefIdeal.nD Cert.OutLastRefIdeal.τ).loc Cert.OutLastRefIdeal.main_arg5)
          ∧ r.2.mem ((c.tc : Thread Cert.OutLastRefIdeal.nD Cert.OutLastRefIdeal.τ).loc Cert.OutLastRefIdeal.main_arg6) = m' ((c.tc : Thread Cert.OutLastRefIdeal.nD Cert.OutLastRefIdeal.τ).loc Cert.OutLastRefIdeal.main_arg6))

def preserves_In_InIdeal : Prop :=
  True

def algebraic_InIdeal_InRefIdeal_pre_in_finite [hInIdeal : Cert.InIdeal.Facts] [hInRefIdeal : Cert.InRefIdeal.Facts] [hPre_in_finite : Cert.Pre_in_finite.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal_in_finite m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)) →
    ∃ (v0 : (c : Dev Cert.InIdeal.nD) → Buf (Elt Ideal) ((c.tc : Thread Cert.InIdeal.nD Cert.InIdeal.τ).loc Cert.InIdeal.main_v66_0)) (v1 : (c : Dev Cert.InIdeal.nD) → Buf (Elt Ideal) ((c.tc : Thread Cert.InIdeal.nD Cert.InIdeal.τ).loc Cert.InIdeal.main_v66_1)) (v2 : (c : Dev Cert.InIdeal.nD) → Buf (Elt Ideal) ((c.tc : Thread Cert.InIdeal.nD Cert.InIdeal.τ).loc Cert.InIdeal.main_v66_2)) (v3 : (c : Dev Cert.InIdeal.nD) → Buf (Elt Ideal) ((c.tc : Thread Cert.InIdeal.nD Cert.InIdeal.τ).loc Cert.InIdeal.main_v66_3)) (v4 : (c : Dev Cert.InIdeal.nD) → Buf (Elt Ideal) ((c.tc : Thread Cert.InIdeal.nD Cert.InIdeal.τ).loc Cert.InIdeal.main_v66_4)) (v5 : (c : Dev Cert.InIdeal.nD) → Buf (Elt Ideal) ((c.tc : Thread Cert.InIdeal.nD Cert.InIdeal.τ).loc Cert.InIdeal.main_v66_5)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v66_0) = v0 c
          ∧ r.2.mem ((c.tc : Thread Cert.InIdeal.nD Cert.InIdeal.τ).loc Cert.InIdeal.main_v66_1) = v1 c
          ∧ r.2.mem ((c.tc : Thread Cert.InIdeal.nD Cert.InIdeal.τ).loc Cert.InIdeal.main_v66_2) = v2 c
          ∧ r.2.mem ((c.tc : Thread Cert.InIdeal.nD Cert.InIdeal.τ).loc Cert.InIdeal.main_v66_3) = v3 c
          ∧ r.2.mem ((c.tc : Thread Cert.InIdeal.nD Cert.InIdeal.τ).loc Cert.InIdeal.main_v66_4) = v4 c
          ∧ r.2.mem ((c.tc : Thread Cert.InIdeal.nD Cert.InIdeal.τ).loc Cert.InIdeal.main_v66_5) = v5 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v183) = v0 c
          ∧ r.2.mem ((c.tc : Thread Cert.InRefIdeal.nD Cert.InRefIdeal.τ).loc Cert.InRefIdeal.main_v184) = v1 c
          ∧ r.2.mem ((c.tc : Thread Cert.InRefIdeal.nD Cert.InRefIdeal.τ).loc Cert.InRefIdeal.main_v185) = v2 c
          ∧ r.2.mem ((c.tc : Thread Cert.InRefIdeal.nD Cert.InRefIdeal.τ).loc Cert.InRefIdeal.main_v186) = v3 c
          ∧ r.2.mem ((c.tc : Thread Cert.InRefIdeal.nD Cert.InRefIdeal.τ).loc Cert.InRefIdeal.main_v187) = v4 c
          ∧ r.2.mem ((c.tc : Thread Cert.InRefIdeal.nD Cert.InRefIdeal.τ).loc Cert.InRefIdeal.main_v188) = v5 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)) →
    ∃ (v0 : (c : Dev Cert.ModIdeal.nD) → Buf (Elt Ideal) ((c.tc : Thread Cert.ModIdeal.nD Cert.ModIdeal.τ).loc Cert.ModIdeal.main_v1)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v1) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v20) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2))

def preserves_Ctx_CtxIdeal : Prop :=
  True

def algebraic_CtxIdeal_CtxRefIdeal_pre_ctx_finite_scores [hCtxIdeal : Cert.CtxIdeal.Facts] [hCtxRefIdeal : Cert.CtxRefIdeal.Facts] [hPre_ctx_finite_scores : Cert.Pre_ctx_finite_scores.Facts] : Prop :=
  ∀ (m : (ℓ : Loc Cert.CtxIdeal.nD Cert.CtxIdeal.τ Cert.CtxIdeal.sig) → Buf (Elt Ideal) ℓ) (g : Dev Cert.CtxIdeal.nD → PrngReg)
    (m' : (ℓ : Loc Cert.CtxRefIdeal.nD Cert.CtxRefIdeal.τ Cert.CtxRefIdeal.sig) → Buf (Elt Ideal) ℓ) (g' : Dev Cert.CtxRefIdeal.nD → PrngReg), Pre_CtxIdeal_ctx_finite_scores m →
    (∀ c : Dev Cert.CtxIdeal.nD,
      m' ((c.tc : Thread Cert.CtxRefIdeal.nD Cert.CtxRefIdeal.τ).loc Cert.CtxRefIdeal.main_arg0) = m ((c.tc : Thread Cert.CtxIdeal.nD Cert.CtxIdeal.τ).loc Cert.CtxIdeal.main_arg0)
      ∧ m' ((c.tc : Thread Cert.CtxRefIdeal.nD Cert.CtxRefIdeal.τ).loc Cert.CtxRefIdeal.main_arg1) = m ((c.tc : Thread Cert.CtxIdeal.nD Cert.CtxIdeal.τ).loc Cert.CtxIdeal.main_arg1)
      ∧ m' ((c.tc : Thread Cert.CtxRefIdeal.nD Cert.CtxRefIdeal.τ).loc Cert.CtxRefIdeal.main_arg2) = m ((c.tc : Thread Cert.CtxIdeal.nD Cert.CtxIdeal.τ).loc Cert.CtxIdeal.main_arg2)
      ∧ m' ((c.tc : Thread Cert.CtxRefIdeal.nD Cert.CtxRefIdeal.τ).loc Cert.CtxRefIdeal.main_arg3) = m ((c.tc : Thread Cert.CtxIdeal.nD Cert.CtxIdeal.τ).loc Cert.CtxIdeal.main_arg3)
      ∧ m' ((c.tc : Thread Cert.CtxRefIdeal.nD Cert.CtxRefIdeal.τ).loc Cert.CtxRefIdeal.main_arg4) = m ((c.tc : Thread Cert.CtxIdeal.nD Cert.CtxIdeal.τ).loc Cert.CtxIdeal.main_arg4)
      ∧ m' ((c.tc : Thread Cert.CtxRefIdeal.nD Cert.CtxRefIdeal.τ).loc Cert.CtxRefIdeal.main_arg5) = m ((c.tc : Thread Cert.CtxIdeal.nD Cert.CtxIdeal.τ).loc Cert.CtxIdeal.main_arg5)
      ∧ m' ((c.tc : Thread Cert.CtxRefIdeal.nD Cert.CtxRefIdeal.τ).loc Cert.CtxRefIdeal.main_arg6) = m ((c.tc : Thread Cert.CtxIdeal.nD Cert.CtxIdeal.τ).loc Cert.CtxIdeal.main_arg6)
      ∧ m' ((c.tc : Thread Cert.CtxRefIdeal.nD Cert.CtxRefIdeal.τ).loc Cert.CtxRefIdeal.main_arg7) = m ((c.tc : Thread Cert.CtxIdeal.nD Cert.CtxIdeal.τ).loc Cert.CtxIdeal.main_arg7)) →
    ∃ (v0 : (c : Dev Cert.CtxIdeal.nD) → Buf (Elt Ideal) ((c.tc : Thread Cert.CtxIdeal.nD Cert.CtxIdeal.τ).loc Cert.CtxIdeal.main_v0_0)) (v1 : (c : Dev Cert.CtxIdeal.nD) → Buf (Elt Ideal) ((c.tc : Thread Cert.CtxIdeal.nD Cert.CtxIdeal.τ).loc Cert.CtxIdeal.main_v0_1)),
      θ_run (Cert.CtxIdeal.defs (F := Ideal)) (onTc (τ := Cert.CtxIdeal.τ) (Cert.CtxIdeal.main (F := Ideal))) ⟨m, fun _ => 0, g⟩ (fun r => ∀ c : Dev Cert.CtxIdeal.nD,
          r.2.mem ((c.tc : Thread Cert.CtxIdeal.nD Cert.CtxIdeal.τ).loc Cert.CtxIdeal.main_v0_0) = v0 c
          ∧ r.2.mem ((c.tc : Thread Cert.CtxIdeal.nD Cert.CtxIdeal.τ).loc Cert.CtxIdeal.main_v0_1) = v1 c
          ∧ r.2.mem ((c.tc : Thread Cert.CtxIdeal.nD Cert.CtxIdeal.τ).loc Cert.CtxIdeal.main_arg0) = m ((c.tc : Thread Cert.CtxIdeal.nD Cert.CtxIdeal.τ).loc Cert.CtxIdeal.main_arg0)
          ∧ r.2.mem ((c.tc : Thread Cert.CtxIdeal.nD Cert.CtxIdeal.τ).loc Cert.CtxIdeal.main_arg1) = m ((c.tc : Thread Cert.CtxIdeal.nD Cert.CtxIdeal.τ).loc Cert.CtxIdeal.main_arg1)
          ∧ r.2.mem ((c.tc : Thread Cert.CtxIdeal.nD Cert.CtxIdeal.τ).loc Cert.CtxIdeal.main_arg2) = m ((c.tc : Thread Cert.CtxIdeal.nD Cert.CtxIdeal.τ).loc Cert.CtxIdeal.main_arg2)
          ∧ r.2.mem ((c.tc : Thread Cert.CtxIdeal.nD Cert.CtxIdeal.τ).loc Cert.CtxIdeal.main_arg3) = m ((c.tc : Thread Cert.CtxIdeal.nD Cert.CtxIdeal.τ).loc Cert.CtxIdeal.main_arg3)
          ∧ r.2.mem ((c.tc : Thread Cert.CtxIdeal.nD Cert.CtxIdeal.τ).loc Cert.CtxIdeal.main_arg4) = m ((c.tc : Thread Cert.CtxIdeal.nD Cert.CtxIdeal.τ).loc Cert.CtxIdeal.main_arg4)
          ∧ r.2.mem ((c.tc : Thread Cert.CtxIdeal.nD Cert.CtxIdeal.τ).loc Cert.CtxIdeal.main_arg5) = m ((c.tc : Thread Cert.CtxIdeal.nD Cert.CtxIdeal.τ).loc Cert.CtxIdeal.main_arg5)
          ∧ r.2.mem ((c.tc : Thread Cert.CtxIdeal.nD Cert.CtxIdeal.τ).loc Cert.CtxIdeal.main_arg6) = m ((c.tc : Thread Cert.CtxIdeal.nD Cert.CtxIdeal.τ).loc Cert.CtxIdeal.main_arg6)
          ∧ r.2.mem ((c.tc : Thread Cert.CtxIdeal.nD Cert.CtxIdeal.τ).loc Cert.CtxIdeal.main_arg7) = m ((c.tc : Thread Cert.CtxIdeal.nD Cert.CtxIdeal.τ).loc Cert.CtxIdeal.main_arg7))
      ∧ θ_run (Cert.CtxRefIdeal.defs (F := Ideal)) (onTc (τ := Cert.CtxRefIdeal.τ) (Cert.CtxRefIdeal.main (F := Ideal))) ⟨m', fun _ => 0, g'⟩ (fun r => ∀ c : Dev Cert.CtxRefIdeal.nD,
          r.2.mem ((c.tc : Thread Cert.CtxRefIdeal.nD Cert.CtxRefIdeal.τ).loc Cert.CtxRefIdeal.main_v70) = v0 c
          ∧ r.2.mem ((c.tc : Thread Cert.CtxRefIdeal.nD Cert.CtxRefIdeal.τ).loc Cert.CtxRefIdeal.main_v73) = v1 c
          ∧ r.2.mem ((c.tc : Thread Cert.CtxRefIdeal.nD Cert.CtxRefIdeal.τ).loc Cert.CtxRefIdeal.main_arg0) = m' ((c.tc : Thread Cert.CtxRefIdeal.nD Cert.CtxRefIdeal.τ).loc Cert.CtxRefIdeal.main_arg0)
          ∧ r.2.mem ((c.tc : Thread Cert.CtxRefIdeal.nD Cert.CtxRefIdeal.τ).loc Cert.CtxRefIdeal.main_arg1) = m' ((c.tc : Thread Cert.CtxRefIdeal.nD Cert.CtxRefIdeal.τ).loc Cert.CtxRefIdeal.main_arg1)
          ∧ r.2.mem ((c.tc : Thread Cert.CtxRefIdeal.nD Cert.CtxRefIdeal.τ).loc Cert.CtxRefIdeal.main_arg2) = m' ((c.tc : Thread Cert.CtxRefIdeal.nD Cert.CtxRefIdeal.τ).loc Cert.CtxRefIdeal.main_arg2)
          ∧ r.2.mem ((c.tc : Thread Cert.CtxRefIdeal.nD Cert.CtxRefIdeal.τ).loc Cert.CtxRefIdeal.main_arg3) = m' ((c.tc : Thread Cert.CtxRefIdeal.nD Cert.CtxRefIdeal.τ).loc Cert.CtxRefIdeal.main_arg3)
          ∧ r.2.mem ((c.tc : Thread Cert.CtxRefIdeal.nD Cert.CtxRefIdeal.τ).loc Cert.CtxRefIdeal.main_arg4) = m' ((c.tc : Thread Cert.CtxRefIdeal.nD Cert.CtxRefIdeal.τ).loc Cert.CtxRefIdeal.main_arg4)
          ∧ r.2.mem ((c.tc : Thread Cert.CtxRefIdeal.nD Cert.CtxRefIdeal.τ).loc Cert.CtxRefIdeal.main_arg5) = m' ((c.tc : Thread Cert.CtxRefIdeal.nD Cert.CtxRefIdeal.τ).loc Cert.CtxRefIdeal.main_arg5)
          ∧ r.2.mem ((c.tc : Thread Cert.CtxRefIdeal.nD Cert.CtxRefIdeal.τ).loc Cert.CtxRefIdeal.main_arg6) = m' ((c.tc : Thread Cert.CtxRefIdeal.nD Cert.CtxRefIdeal.τ).loc Cert.CtxRefIdeal.main_arg6)
          ∧ r.2.mem ((c.tc : Thread Cert.CtxRefIdeal.nD Cert.CtxRefIdeal.τ).loc Cert.CtxRefIdeal.main_arg7) = m' ((c.tc : Thread Cert.CtxRefIdeal.nD Cert.CtxRefIdeal.τ).loc Cert.CtxRefIdeal.main_arg7))

def Claim : Prop :=
  ∃ (hNa : Cert.Na.Facts) (hNaIdeal : Cert.NaIdeal.Facts) (hNaRefIdeal : Cert.NaRefIdeal.Facts) (hFfnFirst : Cert.FfnFirst.Facts) (hFfnFirstIdeal : Cert.FfnFirstIdeal.Facts) (hFfnFirstRefIdeal : Cert.FfnFirstRefIdeal.Facts) (hFfnSecond : Cert.FfnSecond.Facts) (hFfnSecondIdeal : Cert.FfnSecondIdeal.Facts) (hFfnSecondRefIdeal : Cert.FfnSecondRefIdeal.Facts) (hFfnLast : Cert.FfnLast.Facts) (hFfnLastIdeal : Cert.FfnLastIdeal.Facts) (hFfnLastRefIdeal : Cert.FfnLastRefIdeal.Facts) (hGqa : Cert.Gqa.Facts) (hGqaIdeal : Cert.GqaIdeal.Facts) (hGqaRefIdeal : Cert.GqaRefIdeal.Facts) (hOutFirst : Cert.OutFirst.Facts) (hOutFirstIdeal : Cert.OutFirstIdeal.Facts) (hOutFirstRefIdeal : Cert.OutFirstRefIdeal.Facts) (hOutLast : Cert.OutLast.Facts) (hOutLastIdeal : Cert.OutLastIdeal.Facts) (hOutLastRefIdeal : Cert.OutLastRefIdeal.Facts) (hIn : Cert.In.Facts) (hInIdeal : Cert.InIdeal.Facts) (hInRefIdeal : Cert.InRefIdeal.Facts) (hMod : Cert.Mod.Facts) (hModIdeal : Cert.ModIdeal.Facts) (hModRefIdeal : Cert.ModRefIdeal.Facts) (hCtx : Cert.Ctx.Facts) (hCtxIdeal : Cert.CtxIdeal.Facts) (hCtxRefIdeal : Cert.CtxRefIdeal.Facts) (hPre_finite_scores : Cert.Pre_finite_scores.Facts) (hPre_gqa_finite_scores : Cert.Pre_gqa_finite_scores.Facts) (hPre_in_finite : Cert.Pre_in_finite.Facts) (hPre_ctx_finite_scores : Cert.Pre_ctx_finite_scores.Facts) (hOn_latent_groups : Cert.On_latent_groups.Facts) (hOn_gqa_latent_groups : Cert.On_gqa_latent_groups.Facts),
    quiescent_Na (hNa := hNa)
    ∧ quiescent_NaIdeal (hNaIdeal := hNaIdeal)
    ∧ quiescent_NaIdeal_pre_finite_scores (hNaIdeal := hNaIdeal) (hPre_finite_scores := hPre_finite_scores)
    ∧ quiescent_NaRefIdeal (hNaRefIdeal := hNaRefIdeal)
    ∧ quiescent_NaRefIdeal_pre_finite_scores (hNaRefIdeal := hNaRefIdeal) (hPre_finite_scores := hPre_finite_scores)
    ∧ quiescent_FfnFirst (hFfnFirst := hFfnFirst)
    ∧ quiescent_FfnFirstIdeal (hFfnFirstIdeal := hFfnFirstIdeal)
    ∧ quiescent_FfnFirstRefIdeal (hFfnFirstRefIdeal := hFfnFirstRefIdeal)
    ∧ quiescent_FfnSecond (hFfnSecond := hFfnSecond)
    ∧ quiescent_FfnSecondIdeal (hFfnSecondIdeal := hFfnSecondIdeal)
    ∧ quiescent_FfnSecondRefIdeal (hFfnSecondRefIdeal := hFfnSecondRefIdeal)
    ∧ quiescent_FfnLast (hFfnLast := hFfnLast)
    ∧ quiescent_FfnLastIdeal (hFfnLastIdeal := hFfnLastIdeal)
    ∧ quiescent_FfnLastRefIdeal (hFfnLastRefIdeal := hFfnLastRefIdeal)
    ∧ quiescent_Gqa (hGqa := hGqa)
    ∧ quiescent_GqaIdeal (hGqaIdeal := hGqaIdeal)
    ∧ quiescent_GqaIdeal_pre_gqa_finite_scores (hGqaIdeal := hGqaIdeal) (hPre_gqa_finite_scores := hPre_gqa_finite_scores)
    ∧ quiescent_GqaRefIdeal (hGqaRefIdeal := hGqaRefIdeal)
    ∧ quiescent_GqaRefIdeal_pre_gqa_finite_scores (hGqaRefIdeal := hGqaRefIdeal) (hPre_gqa_finite_scores := hPre_gqa_finite_scores)
    ∧ quiescent_OutFirst (hOutFirst := hOutFirst)
    ∧ quiescent_OutFirstIdeal (hOutFirstIdeal := hOutFirstIdeal)
    ∧ quiescent_OutFirstRefIdeal (hOutFirstRefIdeal := hOutFirstRefIdeal)
    ∧ quiescent_OutLast (hOutLast := hOutLast)
    ∧ quiescent_OutLastIdeal (hOutLastIdeal := hOutLastIdeal)
    ∧ quiescent_OutLastRefIdeal (hOutLastRefIdeal := hOutLastRefIdeal)
    ∧ quiescent_In (hIn := hIn)
    ∧ quiescent_InIdeal (hInIdeal := hInIdeal)
    ∧ quiescent_InIdeal_pre_in_finite (hInIdeal := hInIdeal) (hPre_in_finite := hPre_in_finite)
    ∧ quiescent_InRefIdeal (hInRefIdeal := hInRefIdeal)
    ∧ quiescent_InRefIdeal_pre_in_finite (hInRefIdeal := hInRefIdeal) (hPre_in_finite := hPre_in_finite)
    ∧ quiescent_Mod (hMod := hMod)
    ∧ quiescent_ModIdeal (hModIdeal := hModIdeal)
    ∧ quiescent_ModRefIdeal (hModRefIdeal := hModRefIdeal)
    ∧ quiescent_Ctx (hCtx := hCtx)
    ∧ quiescent_CtxIdeal (hCtxIdeal := hCtxIdeal)
    ∧ quiescent_CtxIdeal_pre_ctx_finite_scores (hCtxIdeal := hCtxIdeal) (hPre_ctx_finite_scores := hPre_ctx_finite_scores)
    ∧ quiescent_CtxRefIdeal (hCtxRefIdeal := hCtxRefIdeal)
    ∧ quiescent_CtxRefIdeal_pre_ctx_finite_scores (hCtxRefIdeal := hCtxRefIdeal) (hPre_ctx_finite_scores := hPre_ctx_finite_scores)
    ∧ preserves_Na_NaIdeal
    ∧ algebraic_NaIdeal_NaRefIdeal_on_latent_groups_pre_finite_scores (hNaIdeal := hNaIdeal) (hNaRefIdeal := hNaRefIdeal) (hPre_finite_scores := hPre_finite_scores) (hOn_latent_groups := hOn_latent_groups)
    ∧ preserves_FfnFirst_FfnFirstIdeal
    ∧ algebraic_FfnFirstIdeal_FfnFirstRefIdeal (hFfnFirstIdeal := hFfnFirstIdeal) (hFfnFirstRefIdeal := hFfnFirstRefIdeal)
    ∧ preserves_FfnSecond_FfnSecondIdeal
    ∧ algebraic_FfnSecondIdeal_FfnSecondRefIdeal (hFfnSecondIdeal := hFfnSecondIdeal) (hFfnSecondRefIdeal := hFfnSecondRefIdeal)
    ∧ preserves_FfnLast_FfnLastIdeal
    ∧ algebraic_FfnLastIdeal_FfnLastRefIdeal (hFfnLastIdeal := hFfnLastIdeal) (hFfnLastRefIdeal := hFfnLastRefIdeal)
    ∧ preserves_Gqa_GqaIdeal
    ∧ algebraic_GqaIdeal_GqaRefIdeal_on_gqa_latent_groups_pre_gqa_finite_scores (hGqaIdeal := hGqaIdeal) (hGqaRefIdeal := hGqaRefIdeal) (hPre_gqa_finite_scores := hPre_gqa_finite_scores) (hOn_gqa_latent_groups := hOn_gqa_latent_groups)
    ∧ preserves_OutFirst_OutFirstIdeal
    ∧ algebraic_OutFirstIdeal_OutFirstRefIdeal (hOutFirstIdeal := hOutFirstIdeal) (hOutFirstRefIdeal := hOutFirstRefIdeal)
    ∧ preserves_OutLast_OutLastIdeal
    ∧ algebraic_OutLastIdeal_OutLastRefIdeal (hOutLastIdeal := hOutLastIdeal) (hOutLastRefIdeal := hOutLastRefIdeal)
    ∧ preserves_In_InIdeal
    ∧ algebraic_InIdeal_InRefIdeal_pre_in_finite (hInIdeal := hInIdeal) (hInRefIdeal := hInRefIdeal) (hPre_in_finite := hPre_in_finite)
    ∧ preserves_Mod_ModIdeal
    ∧ algebraic_ModIdeal_ModRefIdeal (hModIdeal := hModIdeal) (hModRefIdeal := hModRefIdeal)
    ∧ preserves_Ctx_CtxIdeal
    ∧ algebraic_CtxIdeal_CtxRefIdeal_pre_ctx_finite_scores (hCtxIdeal := hCtxIdeal) (hCtxRefIdeal := hCtxRefIdeal) (hPre_ctx_finite_scores := hPre_ctx_finite_scores)
-- ==== On_gqa_latent_groups.lean ====
abbrev S9x2048x512 : Shape := ⟨3, ![9, 2048, 512]⟩
abbrev S9x2048x128 : Shape := ⟨3, ![9, 2048, 128]⟩
abbrev S_ : Shape := ⟨0, ![]⟩

class Facts : Prop where
  bcast_S_S9x2048x512 : S_.BroadcastsInDim S9x2048x512 (![] : Fin 0 → Fin S9x2048x512.rank)

variable [Facts]

def fn {F : FTy → Type} [FloatOps F] (main_arg0 : FVec F S9x2048x512 .bf16) (main_arg1 : FVec F S9x2048x128 .bf16) (main_arg2 : FVec F S9x2048x128 .bf16) : IVec S9x2048x512 1 :=
  let main_v0 : IVec S9x2048x512 32 := iotaInDim S9x2048x512 32 0
  let main_c : IVec S_ 32 := constantI S_ 32 8#32
  let main_v1 : IVec S9x2048x512 32 := broadcastInDim S9x2048x512 ![] bcast_S_S9x2048x512 main_c
  let main_v2 : IVec S9x2048x512 1 := cmpi .slt main_v0 main_v1
  main_v2
-- ==== On_latent_groups.lean ====
abbrev S9x2048x512 : Shape := ⟨3, ![9, 2048, 512]⟩
abbrev S8x15x31 : Shape := ⟨3, ![8, 15, 31]⟩
abbrev S_ : Shape := ⟨0, ![]⟩

class Facts : Prop where
  bcast_S_S9x2048x512 : S_.BroadcastsInDim S9x2048x512 (![] : Fin 0 → Fin S9x2048x512.rank)

variable [Facts]

def fn {F : FTy → Type} [FloatOps F] (main_arg0 : FVec F S9x2048x512 .bf16) (main_arg1 : FVec F S9x2048x512 .bf16) (main_arg2 : FVec F S9x2048x512 .bf16) (main_arg3 : FVec F S8x15x31 .f32) : IVec S9x2048x512 1 :=
  let main_v0 : IVec S9x2048x512 32 := iotaInDim S9x2048x512 32 0
  let main_c : IVec S_ 32 := constantI S_ 32 8#32
  let main_v1 : IVec S9x2048x512 32 := broadcastInDim S9x2048x512 ![] bcast_S_S9x2048x512 main_c
  let main_v2 : IVec S9x2048x512 1 := cmpi .slt main_v0 main_v1
  main_v2
-- ==== Pre_ctx_finite_scores.lean ====
abbrev S9x2048x512 : Shape := ⟨3, ![9, 2048, 512]⟩
abbrev S9x2048x128 : Shape := ⟨3, ![9, 2048, 128]⟩
abbrev S1x2048x512 : Shape := ⟨3, ![1, 2048, 512]⟩
abbrev S2048x512 : Shape := ⟨2, ![2048, 512]⟩
abbrev S1x2048x128 : Shape := ⟨3, ![1, 2048, 128]⟩
abbrev S2048x128 : Shape := ⟨2, ![2048, 128]⟩
abbrev S_ : Shape := ⟨0, ![]⟩

class Facts : Prop where
  slices_S9x2048x512_S1x2048x512_8_0_0 : S9x2048x512.Slices ![8, 0, 0] S1x2048x512
  shapeCasts_S1x2048x512_S2048x512 : S1x2048x512.ShapeCasts S2048x512
  bitsLt_bf16_f32 : FTy.bits .bf16 < FTy.bits .f32
  slices_S9x2048x128_S1x2048x128_8_0_0 : S9x2048x128.Slices ![8, 0, 0] S1x2048x128
  shapeCasts_S1x2048x128_S2048x128 : S1x2048x128.ShapeCasts S2048x128
  bcast_S_S2048x512 : S_.BroadcastsInDim S2048x512 (![] : Fin 0 → Fin S2048x512.rank)
  bcast_S_S2048x128 : S_.BroadcastsInDim S2048x128 (![] : Fin 0 → Fin S2048x128.rank)

variable [Facts]

def fn_part1 {F : FTy → Type} [FloatOps F] (main_v5 : FVec F S2048x512 .f32) (main_v8 : FVec F S2048x512 .f32) (main_v11 : FVec F S2048x128 .f32) (main_v16 : IVec S2048x512 1) (main_v18 : IVec S2048x512 1) (main_v19 : FVec F S2048x512 .f32) : IVec S2048x512 1 × IVec S2048x512 1 × IVec S2048x512 1 × IVec S2048x128 1 :=
  let main_v20 : IVec S2048x512 1 := cmpf .olt main_v5 main_v19
  let main_v21 : IVec S2048x512 1 := andi main_v18 main_v20
  let main_cst_3 : FVec F S_ .f32 := constant S_ .f32 0xFF800000#32
  let main_v22 : FVec F S2048x512 .f32 := broadcastInDim S2048x512 ![] bcast_S_S2048x512 main_cst_3
  let main_v23 : IVec S2048x512 1 := cmpf .ogt main_v8 main_v22
  let main_cst_4 : FVec F S_ .f32 := constant S_ .f32 0x7F800000#32
  let main_v24 : FVec F S2048x512 .f32 := broadcastInDim S2048x512 ![] bcast_S_S2048x512 main_cst_4
  let main_v25 : IVec S2048x512 1 := cmpf .olt main_v8 main_v24
  let main_v26 : IVec S2048x512 1 := andi main_v23 main_v25
  let main_cst_5 : FVec F S_ .f32 := constant S_ .f32 0xFF800000#32
  let main_v27 : FVec F S2048x128 .f32 := broadcastInDim S2048x128 ![] bcast_S_S2048x128 main_cst_5
  let main_v28 : IVec S2048x128 1 := cmpf .ogt main_v11 main_v27
  let main_cst_6 : FVec F S_ .f32 := constant S_ .f32 0x7F800000#32
  let main_v29 : FVec F S2048x128 .f32 := broadcastInDim S2048x128 ![] bcast_S_S2048x128 main_cst_6
  let main_v30 : IVec S2048x128 1 := cmpf .olt main_v11 main_v29
  let main_v31 : IVec S2048x128 1 := andi main_v28 main_v30
  (main_v16, main_v21, main_v26, main_v31)

def fn {F : FTy → Type} [FloatOps F] (main_arg0 : FVec F S9x2048x512 .bf16) (main_arg1 : FVec F S9x2048x512 .bf16) (main_arg2 : FVec F S9x2048x512 .bf16) (main_arg3 : FVec F S9x2048x512 .bf16) (main_arg4 : FVec F S9x2048x128 .bf16) (main_arg5 : FVec F S9x2048x128 .bf16) (main_arg6 : FVec F S9x2048x512 .f32) (main_arg7 : FVec F S9x2048x512 .f32) : IVec S2048x512 1 × IVec S2048x512 1 × IVec S2048x512 1 × IVec S2048x128 1 :=
  let main_v0 : FVec F S1x2048x512 .bf16 := (extractStridedSlice S1x2048x512 ![8, 0, 0] · slices_S9x2048x512_S1x2048x512_8_0_0) main_arg0
  let main_v1 : FVec F S2048x512 .bf16 := shapeCast S2048x512 main_v0 shapeCasts_S1x2048x512_S2048x512
  let main_v2 : FVec F S2048x512 .f32 := (extf .f32 · bitsLt_bf16_f32) main_v1
  let main_v3 : FVec F S1x2048x512 .bf16 := (extractStridedSlice S1x2048x512 ![8, 0, 0] · slices_S9x2048x512_S1x2048x512_8_0_0) main_arg1
  let main_v4 : FVec F S2048x512 .bf16 := shapeCast S2048x512 main_v3 shapeCasts_S1x2048x512_S2048x512
  let main_v5 : FVec F S2048x512 .f32 := (extf .f32 · bitsLt_bf16_f32) main_v4
  let main_v6 : FVec F S1x2048x512 .bf16 := (extractStridedSlice S1x2048x512 ![8, 0, 0] · slices_S9x2048x512_S1x2048x512_8_0_0) main_arg3
  let main_v7 : FVec F S2048x512 .bf16 := shapeCast S2048x512 main_v6 shapeCasts_S1x2048x512_S2048x512
  let main_v8 : FVec F S2048x512 .f32 := (extf .f32 · bitsLt_bf16_f32) main_v7
  let main_v9 : FVec F S1x2048x128 .bf16 := (extractStridedSlice S1x2048x128 ![8, 0, 0] · slices_S9x2048x128_S1x2048x128_8_0_0) main_arg4
  let main_v10 : FVec F S2048x128 .bf16 := shapeCast S2048x128 main_v9 shapeCasts_S1x2048x128_S2048x128
  let main_v11 : FVec F S2048x128 .f32 := (extf .f32 · bitsLt_bf16_f32) main_v10
  let main_cst : FVec F S_ .f32 := constant S_ .f32 0xFF800000#32
  let main_v12 : FVec F S2048x512 .f32 := broadcastInDim S2048x512 ![] bcast_S_S2048x512 main_cst
  let main_v13 : IVec S2048x512 1 := cmpf .ogt main_v2 main_v12
  let main_cst_0 : FVec F S_ .f32 := constant S_ .f32 0x7F800000#32
  let main_v14 : FVec F S2048x512 .f32 := broadcastInDim S2048x512 ![] bcast_S_S2048x512 main_cst_0
  let main_v15 : IVec S2048x512 1 := cmpf .olt main_v2 main_v14
  let main_v16 : IVec S2048x512 1 := andi main_v13 main_v15
  let main_cst_1 : FVec F S_ .f32 := constant S_ .f32 0xFF800000#32
  let main_v17 : FVec F S2048x512 .f32 := broadcastInDim S2048x512 ![] bcast_S_S2048x512 main_cst_1
  let main_v18 : IVec S2048x512 1 := cmpf .ogt main_v5 main_v17
  let main_cst_2 : FVec F S_ .f32 := constant S_ .f32 0x7F800000#32
  let main_v19 : FVec F S2048x512 .f32 := broadcastInDim S2048x512 ![] bcast_S_S2048x512 main_cst_2
  fn_part1 (F := F) main_v5 main_v8 main_v11 main_v16 main_v18 main_v19
-- ==== Pre_finite_scores.lean ====
abbrev S9x2048x512 : Shape := ⟨3, ![9, 2048, 512]⟩
abbrev S8x15x31 : Shape := ⟨3, ![8, 15, 31]⟩
abbrev S_ : Shape := ⟨0, ![]⟩

class Facts : Prop where
  bitsLt_bf16_f32 : FTy.bits .bf16 < FTy.bits .f32
  bcast_S_S9x2048x512 : S_.BroadcastsInDim S9x2048x512 (![] : Fin 0 → Fin S9x2048x512.rank)
  bcast_S_S8x15x31 : S_.BroadcastsInDim S8x15x31 (![] : Fin 0 → Fin S8x15x31.rank)

variable [Facts]

def fn {F : FTy → Type} [FloatOps F] (main_arg0 : FVec F S9x2048x512 .bf16) (main_arg1 : FVec F S9x2048x512 .bf16) (main_arg2 : FVec F S9x2048x512 .bf16) (main_arg3 : FVec F S8x15x31 .f32) : IVec S9x2048x512 1 × IVec S9x2048x512 1 × IVec S8x15x31 1 :=
  let main_v0 : FVec F S9x2048x512 .f32 := (extf .f32 · bitsLt_bf16_f32) main_arg0
  let main_v1 : FVec F S9x2048x512 .f32 := (extf .f32 · bitsLt_bf16_f32) main_arg1
  let main_cst : FVec F S_ .f32 := constant S_ .f32 0xFF800000#32
  let main_v2 : FVec F S9x2048x512 .f32 := broadcastInDim S9x2048x512 ![] bcast_S_S9x2048x512 main_cst
  let main_v3 : IVec S9x2048x512 1 := cmpf .ogt main_v0 main_v2
  let main_cst_0 : FVec F S_ .f32 := constant S_ .f32 0x7F800000#32
  let main_v4 : FVec F S9x2048x512 .f32 := broadcastInDim S9x2048x512 ![] bcast_S_S9x2048x512 main_cst_0
  let main_v5 : IVec S9x2048x512 1 := cmpf .olt main_v0 main_v4
  let main_v6 : IVec S9x2048x512 1 := andi main_v3 main_v5
  let main_cst_1 : FVec F S_ .f32 := constant S_ .f32 0xFF800000#32
  let main_v7 : FVec F S9x2048x512 .f32 := broadcastInDim S9x2048x512 ![] bcast_S_S9x2048x512 main_cst_1
  let main_v8 : IVec S9x2048x512 1 := cmpf .ogt main_v1 main_v7
  let main_cst_2 : FVec F S_ .f32 := constant S_ .f32 0x7F800000#32
  let main_v9 : FVec F S9x2048x512 .f32 := broadcastInDim S9x2048x512 ![] bcast_S_S9x2048x512 main_cst_2
  let main_v10 : IVec S9x2048x512 1 := cmpf .olt main_v1 main_v9
  let main_v11 : IVec S9x2048x512 1 := andi main_v8 main_v10
  let main_cst_3 : FVec F S_ .f32 := constant S_ .f32 0xFF800000#32
  let main_v12 : FVec F S8x15x31 .f32 := broadcastInDim S8x15x31 ![] bcast_S_S8x15x31 main_cst_3
  let main_v13 : IVec S8x15x31 1 := cmpf .ogt main_arg3 main_v12
  let main_cst_4 : FVec F S_ .f32 := constant S_ .f32 0x7F800000#32
  let main_v14 : FVec F S8x15x31 .f32 := broadcastInDim S8x15x31 ![] bcast_S_S8x15x31 main_cst_4
  let main_v15 : IVec S8x15x31 1 := cmpf .olt main_arg3 main_v14
  let main_v16 : IVec S8x15x31 1 := andi main_v13 main_v15
  (main_v6, main_v11, main_v16)
-- ==== Pre_gqa_finite_scores.lean ====
abbrev S9x2048x512 : Shape := ⟨3, ![9, 2048, 512]⟩
abbrev S9x2048x128 : Shape := ⟨3, ![9, 2048, 128]⟩
abbrev S_ : Shape := ⟨0, ![]⟩

class Facts : Prop where
  bitsLt_bf16_f32 : FTy.bits .bf16 < FTy.bits .f32
  bcast_S_S9x2048x512 : S_.BroadcastsInDim S9x2048x512 (![] : Fin 0 → Fin S9x2048x512.rank)
  bcast_S_S9x2048x128 : S_.BroadcastsInDim S9x2048x128 (![] : Fin 0 → Fin S9x2048x128.rank)

variable [Facts]

def fn {F : FTy → Type} [FloatOps F] (main_arg0 : FVec F S9x2048x512 .bf16) (main_arg1 : FVec F S9x2048x128 .bf16) (main_arg2 : FVec F S9x2048x128 .bf16) : IVec S9x2048x512 1 × IVec S9x2048x128 1 :=
  let main_v0 : FVec F S9x2048x512 .f32 := (extf .f32 · bitsLt_bf16_f32) main_arg0
  let main_v1 : FVec F S9x2048x128 .f32 := (extf .f32 · bitsLt_bf16_f32) main_arg1
  let main_cst : FVec F S_ .f32 := constant S_ .f32 0xFF800000#32
  let main_v2 : FVec F S9x2048x512 .f32 := broadcastInDim S9x2048x512 ![] bcast_S_S9x2048x512 main_cst
  let main_v3 : IVec S9x2048x512 1 := cmpf .ogt main_v0 main_v2
  let main_cst_0 : FVec F S_ .f32 := constant S_ .f32 0x7F800000#32
  let main_v4 : FVec F S9x2048x512 .f32 := broadcastInDim S9x2048x512 ![] bcast_S_S9x2048x512 main_cst_0
  let main_v5 : IVec S9x2048x512 1 := cmpf .olt main_v0 main_v4
  let main_v6 : IVec S9x2048x512 1 := andi main_v3 main_v5
  let main_cst_1 : FVec F S_ .f32 := constant S_ .f32 0xFF800000#32
  let main_v7 : FVec F S9x2048x128 .f32 := broadcastInDim S9x2048x128 ![] bcast_S_S9x2048x128 main_cst_1
  let main_v8 : IVec S9x2048x128 1 := cmpf .ogt main_v1 main_v7
  let main_cst_2 : FVec F S_ .f32 := constant S_ .f32 0x7F800000#32
  let main_v9 : FVec F S9x2048x128 .f32 := broadcastInDim S9x2048x128 ![] bcast_S_S9x2048x128 main_cst_2
  let main_v10 : IVec S9x2048x128 1 := cmpf .olt main_v1 main_v9
  let main_v11 : IVec S9x2048x128 1 := andi main_v8 main_v10
  (main_v6, main_v11)
-- ==== Pre_in_finite.lean ====
abbrev S9x2048x1024 : Shape := ⟨3, ![9, 2048, 1024]⟩
abbrev S16x1x9216 : Shape := ⟨3, ![16, 1, 9216]⟩
abbrev S1024 : Shape := ⟨1, ![1024]⟩
abbrev S1024x2304 : Shape := ⟨2, ![1024, 2304]⟩
abbrev S64 : Shape := ⟨1, ![64]⟩
abbrev S9x1x2048 : Shape := ⟨3, ![9, 1, 2048]⟩
abbrev S1024x640 : Shape := ⟨2, ![1024, 640]⟩
abbrev S_ : Shape := ⟨0, ![]⟩

class Facts : Prop where
  slices_S16x1x9216_S9x1x2048_0_0_3072 : S16x1x9216.Slices ![0, 0, 3072] S9x1x2048
  slices_S1024x2304_S1024x640_0_1536 : S1024x2304.Slices ![0, 1536] S1024x640
  bcast_S_S9x1x2048 : S_.BroadcastsInDim S9x1x2048 (![] : Fin 0 → Fin S9x1x2048.rank)
  bcast_S_S1024 : S_.BroadcastsInDim S1024 (![] : Fin 0 → Fin S1024.rank)
  bcast_S_S1024x640 : S_.BroadcastsInDim S1024x640 (![] : Fin 0 → Fin S1024x640.rank)

variable [Facts]

def fn {F : FTy → Type} [FloatOps F] (main_arg0 : FVec F S9x2048x1024 .f32) (main_arg1 : FVec F S16x1x9216 .f32) (main_arg2 : FVec F S1024 .f32) (main_arg3 : FVec F S1024x2304 .f32) (main_arg4 : FVec F S64 .f32) (main_arg5 : FVec F S64 .f32) : IVec S9x1x2048 1 × IVec S1024 1 × IVec S1024x640 1 :=
  let main_v0 : FVec F S9x1x2048 .f32 := (extractStridedSlice S9x1x2048 ![0, 0, 3072] · slices_S16x1x9216_S9x1x2048_0_0_3072) main_arg1
  let main_v1 : FVec F S1024x640 .f32 := (extractStridedSlice S1024x640 ![0, 1536] · slices_S1024x2304_S1024x640_0_1536) main_arg3
  let main_cst : FVec F S_ .f32 := constant S_ .f32 0xFF800000#32
  let main_v2 : FVec F S9x1x2048 .f32 := broadcastInDim S9x1x2048 ![] bcast_S_S9x1x2048 main_cst
  let main_v3 : IVec S9x1x2048 1 := cmpf .ogt main_v0 main_v2
  let main_cst_0 : FVec F S_ .f32 := constant S_ .f32 0x7F800000#32
  let main_v4 : FVec F S9x1x2048 .f32 := broadcastInDim S9x1x2048 ![] bcast_S_S9x1x2048 main_cst_0
  let main_v5 : IVec S9x1x2048 1 := cmpf .olt main_v0 main_v4
  let main_v6 : IVec S9x1x2048 1 := andi main_v3 main_v5
  let main_cst_1 : FVec F S_ .f32 := constant S_ .f32 0xFF800000#32
  let main_v7 : FVec F S1024 .f32 := broadcastInDim S1024 ![] bcast_S_S1024 main_cst_1
  let main_v8 : IVec S1024 1 := cmpf .ogt main_arg2 main_v7
  let main_cst_2 : FVec F S_ .f32 := constant S_ .f32 0x7F800000#32
  let main_v9 : FVec F S1024 .f32 := broadcastInDim S1024 ![] bcast_S_S1024 main_cst_2
  let main_v10 : IVec S1024 1 := cmpf .olt main_arg2 main_v9
  let main_v11 : IVec S1024 1 := andi main_v8 main_v10
  let main_cst_3 : FVec F S_ .f32 := constant S_ .f32 0xFF800000#32
  let main_v12 : FVec F S1024x640 .f32 := broadcastInDim S1024x640 ![] bcast_S_S1024x640 main_cst_3
  let main_v13 : IVec S1024x640 1 := cmpf .ogt main_v1 main_v12
  let main_cst_4 : FVec F S_ .f32 := constant S_ .f32 0x7F800000#32
  let main_v14 : FVec F S1024x640 .f32 := broadcastInDim S1024x640 ![] bcast_S_S1024x640 main_cst_4
  let main_v15 : IVec S1024x640 1 := cmpf .olt main_v1 main_v14
  let main_v16 : IVec S1024x640 1 := andi main_v13 main_v15
  (main_v6, main_v11, main_v16)
-- ==== Na.lean ====
abbrev S9x2048x512 : Shape := ⟨3, ![9, 2048, 512]⟩
abbrev S8x15x31 : Shape := ⟨3, ![8, 15, 31]⟩
abbrev S256 : Shape := ⟨1, ![256]⟩
abbrev S704 : Shape := ⟨1, ![704]⟩
abbrev S_ : Shape := ⟨0, ![]⟩
abbrev S256x1 : Shape := ⟨2, ![256, 1]⟩
abbrev S1x704 : Shape := ⟨2, ![1, 704]⟩
abbrev S256x704 : Shape := ⟨2, ![256, 704]⟩
abbrev S1x256x704 : Shape := ⟨3, ![1, 256, 704]⟩
abbrev S3x256x704 : Shape := ⟨3, ![3, 256, 704]⟩
abbrev S1x3x256x704 : Shape := ⟨4, ![1, 3, 256, 704]⟩
abbrev S3x256x704x1 : Shape := ⟨4, ![3, 256, 704, 1]⟩
abbrev S3x256x704x2 : Shape := ⟨4, ![3, 256, 704, 2]⟩
abbrev S8x3x256x704 : Shape := ⟨4, ![8, 3, 256, 704]⟩
abbrev S3x8x256x704 : Shape := ⟨4, ![3, 8, 256, 704]⟩
abbrev S1x256x128 : Shape := ⟨3, ![1, 256, 128]⟩
abbrev S1x2048x128 : Shape := ⟨3, ![1, 2048, 128]⟩
abbrev S1x2x256x704 : Shape := ⟨4, ![1, 2, 256, 704]⟩
abbrev S1x704x128 : Shape := ⟨3, ![1, 704, 128]⟩
abbrev S704x128 : Shape := ⟨2, ![704, 128]⟩
abbrev S256x128 : Shape := ⟨2, ![256, 128]⟩
abbrev S1x1x256x704 : Shape := ⟨4, ![1, 1, 256, 704]⟩
abbrev S256x256 : Shape := ⟨2, ![256, 256]⟩

abbrev nBuf : Space → Nat
  | .hbm => 339
  | .vmem => 14
  | .smem => 0
  | _ => 0

abbrev hbmTy0_0 (i : Nat) : BufTy := match i % 128 with
  | 0 => ⟨S9x2048x512, .bf16⟩
  | 1 => ⟨S9x2048x512, .bf16⟩
  | 2 => ⟨S9x2048x512, .bf16⟩
  | 3 => ⟨S8x15x31, .f32⟩
  | 4 => ⟨S256, .i32⟩
  | 5 => ⟨S704, .i32⟩
  | 6 => ⟨S_, .i32⟩
  | 7 => ⟨S256, .i32⟩
  | 8 => ⟨S256, .i32⟩
  | 9 => ⟨S_, .i32⟩
  | 10 => ⟨S256, .i32⟩
  | 11 => ⟨S256, .i32⟩
  | 12 => ⟨S256x1, .i32⟩
  | 13 => ⟨S_, .i32⟩
  | 14 => ⟨S256, .i32⟩
  | 15 => ⟨S256, .i32⟩
  | 16 => ⟨S256x1, .i32⟩
  | 17 => ⟨S_, .i32⟩
  | 18 => ⟨S704, .i32⟩
  | 19 => ⟨S704, .i32⟩
  | 20 => ⟨S_, .i32⟩
  | 21 => ⟨S704, .i32⟩
  | 22 => ⟨S704, .i32⟩
  | 23 => ⟨S1x704, .i32⟩
  | 24 => ⟨S_, .i32⟩
  | 25 => ⟨S704, .i32⟩
  | 26 => ⟨S704, .i32⟩
  | 27 => ⟨S1x704, .i32⟩
  | 28 => ⟨S_, .i32⟩
  | 29 => ⟨S256x1, .i32⟩
  | 30 => ⟨S256x1, .i32⟩
  | 31 => ⟨S_, .i32⟩
  | 32 => ⟨S_, .i32⟩
  | 33 => ⟨S256x1, .i32⟩
  | 34 => ⟨S256x1, .i32⟩
  | 35 => ⟨S256x1, .i32⟩
  | 36 => ⟨S_, .i32⟩
  | 37 => ⟨S256x1, .i32⟩
  | 38 => ⟨S256x1, .i32⟩
  | 39 => ⟨S_, .i32⟩
  | 40 => ⟨S_, .i32⟩
  | 41 => ⟨S256x1, .i32⟩
  | 42 => ⟨S256x1, .i32⟩
  | 43 => ⟨S256x1, .i32⟩
  | 44 => ⟨S256x704, .i32⟩
  | 45 => ⟨S256x704, .i32⟩
  | 46 => ⟨S256x704, .i1⟩
  | 47 => ⟨S_, .i32⟩
  | 48 => ⟨S256x1, .i32⟩
  | 49 => ⟨S256x1, .i32⟩
  | 50 => ⟨S256x704, .i32⟩
  | 51 => ⟨S256x704, .i32⟩
  | 52 => ⟨S256x704, .i1⟩
  | 53 => ⟨S256x704, .i1⟩
  | 54 => ⟨S256x704, .i32⟩
  | 55 => ⟨S256x704, .i32⟩
  | 56 => ⟨S256x704, .i1⟩
  | 57 => ⟨S256x704, .i1⟩
  | 58 => ⟨S_, .i32⟩
  | 59 => ⟨S256x1, .i32⟩
  | 60 => ⟨S256x1, .i32⟩
  | 61 => ⟨S256x704, .i32⟩
  | 62 => ⟨S256x704, .i32⟩
  | 63 => ⟨S256x704, .i1⟩
  | 64 => ⟨S256x704, .i1⟩
  | 65 => ⟨S256x704, .i32⟩
  | 66 => ⟨S256x704, .i32⟩
  | 67 => ⟨S256x704, .i32⟩
  | 68 => ⟨S_, .i32⟩
  | 69 => ⟨S256x704, .i32⟩
  | 70 => ⟨S256x704, .i32⟩
  | 71 => ⟨S_, .i32⟩
  | 72 => ⟨S256x704, .i32⟩
  | 73 => ⟨S256x704, .i32⟩
  | 74 => ⟨S_, .i32⟩
  | 75 => ⟨S_, .i32⟩
  | 76 => ⟨S256x704, .i32⟩
  | 77 => ⟨S256x704, .i32⟩
  | 78 => ⟨S256x704, .i32⟩
  | 79 => ⟨S_, .i32⟩
  | 80 => ⟨S1x704, .i32⟩
  | 81 => ⟨S1x704, .i32⟩
  | 82 => ⟨S256x704, .i32⟩
  | 83 => ⟨S256x704, .i32⟩
  | 84 => ⟨S256x704, .i32⟩
  | 85 => ⟨S256x704, .i32⟩
  | 86 => ⟨S256x704, .i32⟩
  | 87 => ⟨S_, .i32⟩
  | 88 => ⟨S256x704, .i32⟩
  | 89 => ⟨S256x704, .i32⟩
  | 90 => ⟨S_, .i32⟩
  | 91 => ⟨S256x704, .i32⟩
  | 92 => ⟨S256x704, .i32⟩
  | 93 => ⟨S_, .i32⟩
  | 94 => ⟨S_, .i32⟩
  | 95 => ⟨S256x704, .i32⟩
  | 96 => ⟨S256x704, .i32⟩
  | 97 => ⟨S256x704, .i32⟩
  | 98 => ⟨S_, .i32⟩
  | 99 => ⟨S1x704, .i32⟩
  | 100 => ⟨S1x704, .i32⟩
  | 101 => ⟨S256x704, .i32⟩
  | 102 => ⟨S256x704, .i32⟩
  | 103 => ⟨S256, .i32⟩
  | 104 => ⟨S704, .i32⟩
  | 105 => ⟨S_, .i32⟩
  | 106 => ⟨S256, .i32⟩
  | 107 => ⟨S256, .i32⟩
  | 108 => ⟨S_, .i32⟩
  | 109 => ⟨S256, .i32⟩
  | 110 => ⟨S256, .i32⟩
  | 111 => ⟨S256x1, .i32⟩
  | 112 => ⟨S_, .i32⟩
  | 113 => ⟨S256, .i32⟩
  | 114 => ⟨S256, .i32⟩
  | 115 => ⟨S256x1, .i32⟩
  | 116 => ⟨S_, .i32⟩
  | 117 => ⟨S704, .i32⟩
  | 118 => ⟨S704, .i32⟩
  | 119 => ⟨S_, .i32⟩
  | 120 => ⟨S704, .i32⟩
  | 121 => ⟨S704, .i32⟩
  | 122 => ⟨S1x704, .i32⟩
  | 123 => ⟨S_, .i32⟩
  | 124 => ⟨S704, .i32⟩
  | 125 => ⟨S704, .i32⟩
  | 126 => ⟨S1x704, .i32⟩
  | 127 => ⟨S_, .i32⟩
  | _ => ⟨S9x2048x512, .bf16⟩

abbrev hbmTy0_1 (i : Nat) : BufTy := match i % 128 with
  | 0 => ⟨S256x1, .i32⟩
  | 1 => ⟨S256x1, .i32⟩
  | 2 => ⟨S_, .i32⟩
  | 3 => ⟨S_, .i32⟩
  | 4 => ⟨S256x1, .i32⟩
  | 5 => ⟨S256x1, .i32⟩
  | 6 => ⟨S256x1, .i32⟩
  | 7 => ⟨S_, .i32⟩
  | 8 => ⟨S256x1, .i32⟩
  | 9 => ⟨S256x1, .i32⟩
  | 10 => ⟨S_, .i32⟩
  | 11 => ⟨S_, .i32⟩
  | 12 => ⟨S256x1, .i32⟩
  | 13 => ⟨S256x1, .i32⟩
  | 14 => ⟨S256x1, .i32⟩
  | 15 => ⟨S256x704, .i32⟩
  | 16 => ⟨S256x704, .i32⟩
  | 17 => ⟨S256x704, .i1⟩
  | 18 => ⟨S_, .i32⟩
  | 19 => ⟨S256x1, .i32⟩
  | 20 => ⟨S256x1, .i32⟩
  | 21 => ⟨S256x704, .i32⟩
  | 22 => ⟨S256x704, .i32⟩
  | 23 => ⟨S256x704, .i1⟩
  | 24 => ⟨S256x704, .i1⟩
  | 25 => ⟨S256x704, .i32⟩
  | 26 => ⟨S256x704, .i32⟩
  | 27 => ⟨S256x704, .i1⟩
  | 28 => ⟨S256x704, .i1⟩
  | 29 => ⟨S_, .i32⟩
  | 30 => ⟨S256x1, .i32⟩
  | 31 => ⟨S256x1, .i32⟩
  | 32 => ⟨S256x704, .i32⟩
  | 33 => ⟨S256x704, .i32⟩
  | 34 => ⟨S256x704, .i1⟩
  | 35 => ⟨S256x704, .i1⟩
  | 36 => ⟨S256x704, .i32⟩
  | 37 => ⟨S256x704, .i32⟩
  | 38 => ⟨S256x704, .i32⟩
  | 39 => ⟨S_, .i32⟩
  | 40 => ⟨S256x704, .i32⟩
  | 41 => ⟨S256x704, .i32⟩
  | 42 => ⟨S_, .i32⟩
  | 43 => ⟨S256x704, .i32⟩
  | 44 => ⟨S256x704, .i32⟩
  | 45 => ⟨S_, .i32⟩
  | 46 => ⟨S_, .i32⟩
  | 47 => ⟨S256x704, .i32⟩
  | 48 => ⟨S256x704, .i32⟩
  | 49 => ⟨S256x704, .i32⟩
  | 50 => ⟨S_, .i32⟩
  | 51 => ⟨S1x704, .i32⟩
  | 52 => ⟨S1x704, .i32⟩
  | 53 => ⟨S256x704, .i32⟩
  | 54 => ⟨S256x704, .i32⟩
  | 55 => ⟨S256x704, .i32⟩
  | 56 => ⟨S256x704, .i32⟩
  | 57 => ⟨S256x704, .i32⟩
  | 58 => ⟨S_, .i32⟩
  | 59 => ⟨S256x704, .i32⟩
  | 60 => ⟨S256x704, .i32⟩
  | 61 => ⟨S_, .i32⟩
  | 62 => ⟨S256x704, .i32⟩
  | 63 => ⟨S256x704, .i32⟩
  | 64 => ⟨S_, .i32⟩
  | 65 => ⟨S_, .i32⟩
  | 66 => ⟨S256x704, .i32⟩
  | 67 => ⟨S256x704, .i32⟩
  | 68 => ⟨S256x704, .i32⟩
  | 69 => ⟨S_, .i32⟩
  | 70 => ⟨S1x704, .i32⟩
  | 71 => ⟨S1x704, .i32⟩
  | 72 => ⟨S256x704, .i32⟩
  | 73 => ⟨S256x704, .i32⟩
  | 74 => ⟨S256, .i32⟩
  | 75 => ⟨S704, .i32⟩
  | 76 => ⟨S_, .i32⟩
  | 77 => ⟨S256, .i32⟩
  | 78 => ⟨S256, .i32⟩
  | 79 => ⟨S_, .i32⟩
  | 80 => ⟨S256, .i32⟩
  | 81 => ⟨S256, .i32⟩
  | 82 => ⟨S256x1, .i32⟩
  | 83 => ⟨S_, .i32⟩
  | 84 => ⟨S256, .i32⟩
  | 85 => ⟨S256, .i32⟩
  | 86 => ⟨S256x1, .i32⟩
  | 87 => ⟨S_, .i32⟩
  | 88 => ⟨S704, .i32⟩
  | 89 => ⟨S704, .i32⟩
  | 90 => ⟨S_, .i32⟩
  | 91 => ⟨S704, .i32⟩
  | 92 => ⟨S704, .i32⟩
  | 93 => ⟨S1x704, .i32⟩
  | 94 => ⟨S_, .i32⟩
  | 95 => ⟨S704, .i32⟩
  | 96 => ⟨S704, .i32⟩
  | 97 => ⟨S1x704, .i32⟩
  | 98 => ⟨S_, .i32⟩
  | 99 => ⟨S256x1, .i32⟩
  | 100 => ⟨S256x1, .i32⟩
  | 101 => ⟨S_, .i32⟩
  | 102 => ⟨S_, .i32⟩
  | 103 => ⟨S256x1, .i32⟩
  | 104 => ⟨S256x1, .i32⟩
  | 105 => ⟨S256x1, .i32⟩
  | 106 => ⟨S_, .i32⟩
  | 107 => ⟨S256x1, .i32⟩
  | 108 => ⟨S256x1, .i32⟩
  | 109 => ⟨S_, .i32⟩
  | 110 => ⟨S_, .i32⟩
  | 111 => ⟨S256x1, .i32⟩
  | 112 => ⟨S256x1, .i32⟩
  | 113 => ⟨S256x1, .i32⟩
  | 114 => ⟨S256x704, .i32⟩
  | 115 => ⟨S256x704, .i32⟩
  | 116 => ⟨S256x704, .i1⟩
  | 117 => ⟨S_, .i32⟩
  | 118 => ⟨S256x1, .i32⟩
  | 119 => ⟨S256x1, .i32⟩
  | 120 => ⟨S256x704, .i32⟩
  | 121 => ⟨S256x704, .i32⟩
  | 122 => ⟨S256x704, .i1⟩
  | 123 => ⟨S256x704, .i1⟩
  | 124 => ⟨S256x704, .i32⟩
  | 125 => ⟨S256x704, .i32⟩
  | 126 => ⟨S256x704, .i1⟩
  | 127 => ⟨S256x704, .i1⟩
  | _ => ⟨S9x2048x512, .bf16⟩

abbrev hbmTy0_2 (i : Nat) : BufTy := match i % 128 with
  | 0 => ⟨S_, .i32⟩
  | 1 => ⟨S256x1, .i32⟩
  | 2 => ⟨S256x1, .i32⟩
  | 3 => ⟨S256x704, .i32⟩
  | 4 => ⟨S256x704, .i32⟩
  | 5 => ⟨S256x704, .i1⟩
  | 6 => ⟨S256x704, .i1⟩
  | 7 => ⟨S256x704, .i32⟩
  | 8 => ⟨S256x704, .i32⟩
  | 9 => ⟨S256x704, .i32⟩
  | 10 => ⟨S_, .i32⟩
  | 11 => ⟨S256x704, .i32⟩
  | 12 => ⟨S256x704, .i32⟩
  | 13 => ⟨S_, .i32⟩
  | 14 => ⟨S256x704, .i32⟩
  | 15 => ⟨S256x704, .i32⟩
  | 16 => ⟨S_, .i32⟩
  | 17 => ⟨S_, .i32⟩
  | 18 => ⟨S256x704, .i32⟩
  | 19 => ⟨S256x704, .i32⟩
  | 20 => ⟨S256x704, .i32⟩
  | 21 => ⟨S_, .i32⟩
  | 22 => ⟨S1x704, .i32⟩
  | 23 => ⟨S1x704, .i32⟩
  | 24 => ⟨S256x704, .i32⟩
  | 25 => ⟨S256x704, .i32⟩
  | 26 => ⟨S256x704, .i32⟩
  | 27 => ⟨S256x704, .i32⟩
  | 28 => ⟨S256x704, .i32⟩
  | 29 => ⟨S_, .i32⟩
  | 30 => ⟨S256x704, .i32⟩
  | 31 => ⟨S256x704, .i32⟩
  | 32 => ⟨S_, .i32⟩
  | 33 => ⟨S256x704, .i32⟩
  | 34 => ⟨S256x704, .i32⟩
  | 35 => ⟨S_, .i32⟩
  | 36 => ⟨S_, .i32⟩
  | 37 => ⟨S256x704, .i32⟩
  | 38 => ⟨S256x704, .i32⟩
  | 39 => ⟨S256x704, .i32⟩
  | 40 => ⟨S_, .i32⟩
  | 41 => ⟨S1x704, .i32⟩
  | 42 => ⟨S1x704, .i32⟩
  | 43 => ⟨S256x704, .i32⟩
  | 44 => ⟨S256x704, .i32⟩
  | 45 => ⟨S1x256x704, .i32⟩
  | 46 => ⟨S1x256x704, .i32⟩
  | 47 => ⟨S1x256x704, .i32⟩
  | 48 => ⟨S3x256x704, .i32⟩
  | 49 => ⟨S1x256x704, .i32⟩
  | 50 => ⟨S1x256x704, .i32⟩
  | 51 => ⟨S1x256x704, .i32⟩
  | 52 => ⟨S3x256x704, .i32⟩
  | 53 => ⟨S1x256x704, .i1⟩
  | 54 => ⟨S1x256x704, .i1⟩
  | 55 => ⟨S1x256x704, .i1⟩
  | 56 => ⟨S3x256x704, .i1⟩
  | 57 => ⟨S1x3x256x704, .i1⟩
  | 58 => ⟨S_, .i32⟩
  | 59 => ⟨S3x256x704, .i32⟩
  | 60 => ⟨S3x256x704, .i1⟩
  | 61 => ⟨S_, .i32⟩
  | 62 => ⟨S3x256x704, .i32⟩
  | 63 => ⟨S3x256x704, .i32⟩
  | 64 => ⟨S3x256x704, .i32⟩
  | 65 => ⟨S_, .i32⟩
  | 66 => ⟨S3x256x704, .i32⟩
  | 67 => ⟨S3x256x704, .i1⟩
  | 68 => ⟨S_, .i32⟩
  | 69 => ⟨S3x256x704, .i32⟩
  | 70 => ⟨S3x256x704, .i32⟩
  | 71 => ⟨S3x256x704, .i32⟩
  | 72 => ⟨S3x256x704x1, .i32⟩
  | 73 => ⟨S3x256x704x1, .i32⟩
  | 74 => ⟨S3x256x704x2, .i32⟩
  | 75 => ⟨S8x3x256x704, .f32⟩
  | 76 => ⟨S_, .f32⟩
  | 77 => ⟨S_, .f32⟩
  | 78 => ⟨S8x3x256x704, .i1⟩
  | 79 => ⟨S8x3x256x704, .f32⟩
  | 80 => ⟨S8x3x256x704, .f32⟩
  | 81 => ⟨S3x8x256x704, .f32⟩
  | 82 => ⟨S9x2048x512, .f32⟩
  | _ => ⟨S9x2048x512, .bf16⟩

abbrev hbmTy (i : Nat) : BufTy := match i / 128 with
  | 0 => hbmTy0_0 i
  | 1 => hbmTy0_1 i
  | 2 => hbmTy0_2 i
  | _ => ⟨S9x2048x512, .bf16⟩

abbrev bufTy : (tb : Table) → Fin (tcTables nBuf tb) → BufTy
  | .hbm, ⟨i, _⟩ => hbmTy i
  | .local _ .vmem, ⟨0, _⟩ => ⟨S1x256x128, .bf16⟩
  | .local _ .vmem, ⟨1, _⟩ => ⟨S1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x2x256x704, .f32⟩
  | .local _ .vmem, ⟨11, _⟩ => ⟨S1x2x256x704, .f32⟩
  | .local _ .vmem, ⟨12, _⟩ => ⟨S1x256x128, .f32⟩
  | .local _ .vmem, ⟨13, _⟩ => ⟨S1x256x128, .f32⟩
  | _, _ => ⟨S9x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_5 : Ref sig .tc := ⟨.hbm, 28, rfl⟩
abbrev main_v18 : Ref sig .tc := ⟨.hbm, 29, rfl⟩
abbrev main_v19 : Ref sig .tc := ⟨.hbm, 30, rfl⟩
abbrev main_c_6 : Ref sig .tc := ⟨.hbm, 31, rfl⟩
abbrev main_c_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_8 : Ref sig .tc := ⟨.hbm, 36, rfl⟩
abbrev main_v23 : Ref sig .tc := ⟨.hbm, 37, rfl⟩
abbrev main_v24 : Ref sig .tc := ⟨.hbm, 38, rfl⟩
abbrev main_c_9 : Ref sig .tc := ⟨.hbm, 39, rfl⟩
abbrev main_c_10 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_11 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_12 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_13 : Ref sig .tc := ⟨.hbm, 68, rfl⟩
abbrev main_v50 : Ref sig .tc := ⟨.hbm, 69, rfl⟩
abbrev main_v51 : Ref sig .tc := ⟨.hbm, 70, rfl⟩
abbrev main_c_14 : Ref sig .tc := ⟨.hbm, 71, rfl⟩
abbrev main_v52 : Ref sig .tc := ⟨.hbm, 72, rfl⟩
abbrev main_v53 : Ref sig .tc := ⟨.hbm, 73, rfl⟩
abbrev main_c_15 : Ref sig .tc := ⟨.hbm, 74, rfl⟩
abbrev main_c_16 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_17 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_18 : Ref sig .tc := ⟨.hbm, 87, rfl⟩
abbrev main_v64 : Ref sig .tc := ⟨.hbm, 88, rfl⟩
abbrev main_v65 : Ref sig .tc := ⟨.hbm, 89, rfl⟩
abbrev main_c_19 : Ref sig .tc := ⟨.hbm, 90, rfl⟩
abbrev main_v66 : Ref sig .tc := ⟨.hbm, 91, rfl⟩
abbrev main_v67 : Ref sig .tc := ⟨.hbm, 92, rfl⟩
abbrev main_c_20 : Ref sig .tc := ⟨.hbm, 93, rfl⟩
abbrev main_c_21 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_22 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_c_23 : Ref sig .tc := ⟨.hbm, 105, rfl⟩
abbrev main_v77 : Ref sig .tc := ⟨.hbm, 106, rfl⟩
abbrev main_v78 : Ref sig .tc := ⟨.hbm, 107, rfl⟩
abbrev main_c_24 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c_25 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_c_26 : Ref sig .tc := ⟨.hbm, 116, rfl⟩
abbrev main_v85 : Ref sig .tc := ⟨.hbm, 117, rfl⟩
abbrev main_v86 : Ref sig .tc := ⟨.hbm, 118, rfl⟩
abbrev main_c_27 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_c_28 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_c_29 : Ref sig .tc := ⟨.hbm, 127, rfl⟩
abbrev main_v93 : Ref sig .tc := ⟨.hbm, 128, rfl⟩
abbrev main_v94 : Ref sig .tc := ⟨.hbm, 129, rfl⟩
abbrev main_c_30 : Ref sig .tc := ⟨.hbm, 130, rfl⟩
abbrev main_c_31 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_c_32 : Ref sig .tc := ⟨.hbm, 135, rfl⟩
abbrev main_v98 : Ref sig .tc := ⟨.hbm, 136, rfl⟩
abbrev main_v99 : Ref sig .tc := ⟨.hbm, 137, rfl⟩
abbrev main_c_33 : Ref sig .tc := ⟨.hbm, 138, rfl⟩
abbrev main_c_34 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_c_35 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_c_36 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_c_37 : Ref sig .tc := ⟨.hbm, 167, rfl⟩
abbrev main_v125 : Ref sig .tc := ⟨.hbm, 168, rfl⟩
abbrev main_v126 : Ref sig .tc := ⟨.hbm, 169, rfl⟩
abbrev main_c_38 : Ref sig .tc := ⟨.hbm, 170, rfl⟩
abbrev main_v127 : Ref sig .tc := ⟨.hbm, 171, rfl⟩
abbrev main_v128 : Ref sig .tc := ⟨.hbm, 172, rfl⟩
abbrev main_c_39 : Ref sig .tc := ⟨.hbm, 173, rfl⟩
abbrev main_c_40 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_c_41 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_c_42 : Ref sig .tc := ⟨.hbm, 186, rfl⟩
abbrev main_v139 : Ref sig .tc := ⟨.hbm, 187, rfl⟩
abbrev main_v140 : Ref sig .tc := ⟨.hbm, 188, rfl⟩
abbrev main_c_43 : Ref sig .tc := ⟨.hbm, 189, rfl⟩
abbrev main_v141 : Ref sig .tc := ⟨.hbm, 190, rfl⟩
abbrev main_v142 : Ref sig .tc := ⟨.hbm, 191, rfl⟩
abbrev main_c_44 : Ref sig .tc := ⟨.hbm, 192, rfl⟩
abbrev main_c_45 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_c_46 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_c_47 : Ref sig .tc := ⟨.hbm, 204, rfl⟩
abbrev main_v152 : Ref sig .tc := ⟨.hbm, 205, rfl⟩
abbrev main_v153 : Ref sig .tc := ⟨.hbm, 206, rfl⟩
abbrev main_c_48 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_c_49 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_c_50 : Ref sig .tc := ⟨.hbm, 215, rfl⟩
abbrev main_v160 : Ref sig .tc := ⟨.hbm, 216, rfl⟩
abbrev main_v161 : Ref sig .tc := ⟨.hbm, 217, rfl⟩
abbrev main_c_51 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_c_52 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_c_53 : Ref sig .tc := ⟨.hbm, 226, rfl⟩
abbrev main_v168 : Ref sig .tc := ⟨.hbm, 227, rfl⟩
abbrev main_v169 : Ref sig .tc := ⟨.hbm, 228, rfl⟩
abbrev main_c_54 : Ref sig .tc := ⟨.hbm, 229, rfl⟩
abbrev main_c_55 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_c_56 : Ref sig .tc := ⟨.hbm, 234, rfl⟩
abbrev main_v173 : Ref sig .tc := ⟨.hbm, 235, rfl⟩
abbrev main_v174 : Ref sig .tc := ⟨.hbm, 236, rfl⟩
abbrev main_c_57 : Ref sig .tc := ⟨.hbm, 237, rfl⟩
abbrev main_c_58 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_c_59 : Ref sig .tc := ⟨.hbm, 245, rfl⟩
abbrev main_v181 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_c_60 : Ref sig .tc := ⟨.hbm, 256, rfl⟩
abbrev main_v191 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_c_61 : Ref sig .tc := ⟨.hbm, 266, rfl⟩
abbrev main_v200 : Ref sig .tc := ⟨.hbm, 267, rfl⟩
abbrev main_v201 : Ref sig .tc := ⟨.hbm, 268, rfl⟩
abbrev main_c_62 : Ref sig .tc := ⟨.hbm, 269, rfl⟩
abbrev main_v202 : Ref sig .tc := ⟨.hbm, 270, rfl⟩
abbrev main_v203 : Ref sig .tc := ⟨.hbm, 271, rfl⟩
abbrev main_c_63 : Ref sig .tc := ⟨.hbm, 272, rfl⟩
abbrev main_c_64 : Ref sig .tc := ⟨.hbm, 273, rfl⟩
abbrev main_v204 : Ref sig .tc := ⟨.hbm, 274, rfl⟩
abbrev main_v205 : Ref sig .tc := ⟨.hbm, 275, rfl⟩
abbrev main_v206 : Ref sig .tc := ⟨.hbm, 276, rfl⟩
abbrev main_c_65 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_c_66 : Ref sig .tc := ⟨.hbm, 285, rfl⟩
abbrev main_v214 : Ref sig .tc := ⟨.hbm, 286, rfl⟩
abbrev main_v215 : Ref sig .tc := ⟨.hbm, 287, rfl⟩
abbrev main_c_67 : Ref sig .tc := ⟨.hbm, 288, rfl⟩
abbrev main_v216 : Ref sig .tc := ⟨.hbm, 289, rfl⟩
abbrev main_v217 : Ref sig .tc := ⟨.hbm, 290, rfl⟩
abbrev main_c_68 : Ref sig .tc := ⟨.hbm, 291, rfl⟩
abbrev main_c_69 : Ref sig .tc := ⟨.hbm, 292, rfl⟩
abbrev main_v218 : Ref sig .tc := ⟨.hbm, 293, rfl⟩
abbrev main_v219 : Ref sig .tc := ⟨.hbm, 294, rfl⟩
abbrev main_v220 : Ref sig .tc := ⟨.hbm, 295, rfl⟩
abbrev main_c_70 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_v228 : Ref sig .tc := ⟨.hbm, 304, rfl⟩
abbrev main_v229 : Ref sig .tc := ⟨.hbm, 305, rfl⟩
abbrev main_v230 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_c_71 : Ref sig .tc := ⟨.hbm, 314, rfl⟩
abbrev main_v238 : Ref sig .tc := ⟨.hbm, 315, rfl⟩
abbrev main_v239 : Ref sig .tc := ⟨.hbm, 316, rfl⟩
abbrev main_c_72 : Ref sig .tc := ⟨.hbm, 317, rfl⟩
abbrev main_v240 : Ref sig .tc := ⟨.hbm, 318, rfl⟩
abbrev main_v241 : Ref sig .tc := ⟨.hbm, 319, rfl⟩
abbrev main_v242 : Ref sig .tc := ⟨.hbm, 320, rfl⟩
abbrev main_c_73 : Ref sig .tc := ⟨.hbm, 321, rfl⟩
abbrev main_v243 : Ref sig .tc := ⟨.hbm, 322, rfl⟩
abbrev main_v244 : Ref sig .tc := ⟨.hbm, 323, rfl⟩
abbrev main_c_74 : Ref sig .tc := ⟨.hbm, 324, rfl⟩
abbrev main_v245 : Ref sig .tc := ⟨.hbm, 325, rfl⟩
abbrev main_v246 : Ref sig .tc := ⟨.hbm, 326, rfl⟩
abbrev main_v247 : Ref sig .tc := ⟨.hbm, 327, rfl⟩
abbrev main_v248 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_cst : Ref sig .tc := ⟨.hbm, 332, rfl⟩
abbrev main_call0_v0 : Ref sig .tc := ⟨.hbm, 333, rfl⟩
abbrev main_call0_v1 : Ref sig .tc := ⟨.hbm, 334, rfl⟩
abbrev main_call0_v2 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 4, 8], ![false, false, false]⟩

def k0_mult1 (i : grid0.Coords) : BitVec 32 :=
  let c21_i32 : BitVec 32 := 21#32
  let c0_i32 : BitVec 32 := 0#32
  let c4_i32 : BitVec 32 := 4#32
  let arg2 : BitVec 32 := BitVec.ofNat 32 (i 2).val
  let v0 : BitVec 32 := Scalar.muli c4_i32 arg2
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  v4
def k0_off1 (i : grid0.Coords) : Fin 3 → Nat :=
  let c0 : Index := 0#32
  let c21_i32 : BitVec 32 := 21#32
  let c0_i32 : BitVec 32 := 0#32
  let c4_i32 : BitVec 32 := 4#32
  let arg2 : BitVec 32 := BitVec.ofNat 32 (i 2).val
  let v0 : BitVec 32 := Scalar.muli c4_i32 arg2
  let c4_i32_0 : BitVec 32 := 4#32
  let v1 : BitVec 32 := Scalar.subi v0 c4_i32_0
  let v2 : BitVec 32 := Scalar.maxsi c0_i32 v1
  let v3 : BitVec 32 := Scalar.minsi c21_i32 v2
  let c64_i32 : BitVec 32 := 64#32
  let v4 : BitVec 32 := Scalar.muli v3 c64_i32
  let v5 : BitVec 32 := v4
  let v6 : Index := Scalar.indexCast v5
  let c0_1 : Index := 0#32
  ![0, v6.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  ![c8_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  ![c8_i32.toNat, arg0.toNat, arg1.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c7_i32 : BitVec 32 := 7#32
  let v1 : BitVec 1 := Scalar.cmpi .eq arg2 c7_i32
  let c2_i32 : BitVec 32 := 2#32
  let c1_i32 : BitVec 32 := 1#32
  let v2 : BitVec 32 := Scalar.select v1 c2_i32 c1_i32
  let c0_i32_0 : BitVec 32 := 0#32
  let v3 : BitVec 32 := Scalar.select v0 c0_i32_0 v2
  let c0_i32_1 : BitVec 32 := 0#32
  let c0_i32_2 : BitVec 32 := 0#32
  let c0_i32_3 : BitVec 32 := 0#32
  ![v3.toNat, arg1.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x2x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== NaRefIdeal.lean ====
abbrev S9x2048x512 : Shape := ⟨3, ![9, 2048, 512]⟩
abbrev S8x15x31 : Shape := ⟨3, ![8, 15, 31]⟩
abbrev S8x2048x512 : Shape := ⟨3, ![8, 2048, 512]⟩
abbrev S8x2048x8x64 : Shape := ⟨4, ![8, 2048, 8, 64]⟩
abbrev S8x8x2048x64 : Shape := ⟨4, ![8, 8, 2048, 64]⟩
abbrev S1x2048x512 : Shape := ⟨3, ![1, 2048, 512]⟩
abbrev S2048x512 : Shape := ⟨2, ![2048, 512]⟩
abbrev S8x256x512 : Shape := ⟨3, ![8, 256, 512]⟩
abbrev S8x256x8x64 : Shape := ⟨4, ![8, 256, 8, 64]⟩
abbrev S8x8x256x64 : Shape := ⟨4, ![8, 8, 256, 64]⟩
abbrev S8x8x32x64x64 : Shape := ⟨5, ![8, 8, 32, 64, 64]⟩
abbrev S32 : Shape := ⟨1, ![32]⟩
abbrev S_ : Shape := ⟨0, ![]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S8x8x32x8x64x64 : Shape := ⟨6, ![8, 8, 32, 8, 64, 64]⟩
abbrev S64 : Shape := ⟨1, ![64]⟩
abbrev S1x64 : Shape := ⟨2, ![1, 64]⟩
abbrev S64x1 : Shape := ⟨2, ![64, 1]⟩
abbrev S64x64 : Shape := ⟨2, ![64, 64]⟩
abbrev S32x1x8x1 : Shape := ⟨4, ![32, 1, 8, 1]⟩
abbrev S1x64x1x64 : Shape := ⟨4, ![1, 64, 1, 64]⟩
abbrev S32x64x8x64 : Shape := ⟨4, ![32, 64, 8, 64]⟩
abbrev S32x64x8x64x1 : Shape := ⟨5, ![32, 64, 8, 64, 1]⟩
abbrev S32x64x8x64x2 : Shape := ⟨5, ![32, 64, 8, 64, 2]⟩
abbrev S8x32x64x8x64 : Shape := ⟨5, ![8, 32, 64, 8, 64]⟩
abbrev S8x8x32x64x8x64 : Shape := ⟨6, ![8, 8, 32, 64, 8, 64]⟩
abbrev S1x8x32x64x8x64 : Shape := ⟨6, ![1, 8, 32, 64, 8, 64]⟩
abbrev S64x1x64 : Shape := ⟨3, ![64, 1, 64]⟩
abbrev S8x8x32x64x512 : Shape := ⟨5, ![8, 8, 32, 64, 512]⟩
abbrev S8x8x32x64x256 : Shape := ⟨5, ![8, 8, 32, 64, 256]⟩
abbrev S8x8x32x64x768 : Shape := ⟨5, ![8, 8, 32, 64, 768]⟩
abbrev S8x8x32x64 : Shape := ⟨4, ![8, 8, 32, 64]⟩
abbrev S8x8x32x64x1 : Shape := ⟨5, ![8, 8, 32, 64, 1]⟩

abbrev nBuf : Space → Nat
  | .hbm => 182
  | .vmem => 0
  | .smem => 0
  | _ => 0

abbrev hbmTy0_0 (i : Nat) : BufTy := match i % 128 with
  | 0 => ⟨S9x2048x512, .bf16⟩
  | 1 => ⟨S9x2048x512, .bf16⟩
  | 2 => ⟨S9x2048x512, .bf16⟩
  | 3 => ⟨S8x15x31, .f32⟩
  | 4 => ⟨S8x2048x512, .bf16⟩
  | 5 => ⟨S8x2048x512, .f32⟩
  | 6 => ⟨S8x2048x8x64, .f32⟩
  | 7 => ⟨S8x8x2048x64, .f32⟩
  | 8 => ⟨S8x2048x512, .bf16⟩
  | 9 => ⟨S8x2048x512, .f32⟩
  | 10 => ⟨S8x2048x8x64, .f32⟩
  | 11 => ⟨S8x8x2048x64, .f32⟩
  | 12 => ⟨S8x2048x512, .bf16⟩
  | 13 => ⟨S8x2048x512, .f32⟩
  | 14 => ⟨S8x2048x8x64, .f32⟩
  | 15 => ⟨S8x8x2048x64, .f32⟩
  | 16 => ⟨S1x2048x512, .bf16⟩
  | 17 => ⟨S2048x512, .bf16⟩
  | 18 => ⟨S2048x512, .f32⟩
  | 19 => ⟨S8x256x512, .f32⟩
  | 20 => ⟨S8x256x8x64, .f32⟩
  | 21 => ⟨S8x8x256x64, .f32⟩
  | 22 => ⟨S1x2048x512, .bf16⟩
  | 23 => ⟨S2048x512, .bf16⟩
  | 24 => ⟨S2048x512, .f32⟩
  | 25 => ⟨S8x256x512, .f32⟩
  | 26 => ⟨S8x256x8x64, .f32⟩
  | 27 => ⟨S8x8x256x64, .f32⟩
  | 28 => ⟨S8x8x32x64x64, .f32⟩
  | 29 => ⟨S8x8x32x64x64, .f32⟩
  | 30 => ⟨S8x8x32x64x64, .f32⟩
  | 31 => ⟨S32, .i32⟩
  | 32 => ⟨S_, .i32⟩
  | 33 => ⟨S32, .i32⟩
  | 34 => ⟨S32, .i32⟩
  | 35 => ⟨S_, .i32⟩
  | 36 => ⟨S_, .i32⟩
  | 37 => ⟨S_, .i32⟩
  | 38 => ⟨S32, .i32⟩
  | 39 => ⟨S32, .i32⟩
  | 40 => ⟨S_, .i32⟩
  | 41 => ⟨S32, .i32⟩
  | 42 => ⟨S32, .i32⟩
  | 43 => ⟨S32x1, .i32⟩
  | 44 => ⟨S8, .i32⟩
  | 45 => ⟨S1x8, .i32⟩
  | 46 => ⟨S32x8, .i32⟩
  | 47 => ⟨S32x8, .i32⟩
  | 48 => ⟨S32x8, .i32⟩
  | 49 => ⟨S_, .i32⟩
  | 50 => ⟨S32x8, .i32⟩
  | 51 => ⟨S32x8, .i1⟩
  | 52 => ⟨S_, .i32⟩
  | 53 => ⟨S32x8, .i32⟩
  | 54 => ⟨S32x8, .i32⟩
  | 55 => ⟨S32x8, .i32⟩
  | 56 => ⟨S32x8x1, .i32⟩
  | 57 => ⟨S8x8x32x8x64x64, .f32⟩
  | 58 => ⟨S_, .i32⟩
  | 59 => ⟨S32x8, .i32⟩
  | 60 => ⟨S32x8, .i1⟩
  | 61 => ⟨S_, .i32⟩
  | 62 => ⟨S32x8, .i32⟩
  | 63 => ⟨S32x8, .i32⟩
  | 64 => ⟨S32x8, .i32⟩
  | 65 => ⟨S32x8x1, .i32⟩
  | 66 => ⟨S8x8x32x8x64x64, .f32⟩
  | 67 => ⟨S64, .i32⟩
  | 68 => ⟨S_, .i32⟩
  | 69 => ⟨S64, .i32⟩
  | 70 => ⟨S64, .i32⟩
  | 71 => ⟨S_, .i32⟩
  | 72 => ⟨S_, .i32⟩
  | 73 => ⟨S_, .i32⟩
  | 74 => ⟨S64, .i32⟩
  | 75 => ⟨S64, .i32⟩
  | 76 => ⟨S_, .i32⟩
  | 77 => ⟨S64, .i32⟩
  | 78 => ⟨S64, .i32⟩
  | 79 => ⟨S1x64, .i32⟩
  | 80 => ⟨S64x1, .i32⟩
  | 81 => ⟨S64x64, .i32⟩
  | 82 => ⟨S64x64, .i32⟩
  | 83 => ⟨S64x64, .i1⟩
  | 84 => ⟨S1x64, .i32⟩
  | 85 => ⟨S64x1, .i32⟩
  | 86 => ⟨S_, .i32⟩
  | 87 => ⟨S64x1, .i32⟩
  | 88 => ⟨S64x1, .i32⟩
  | 89 => ⟨S64x64, .i32⟩
  | 90 => ⟨S64x64, .i32⟩
  | 91 => ⟨S64x64, .i1⟩
  | 92 => ⟨S64x64, .i1⟩
  | 93 => ⟨S32x1, .i32⟩
  | 94 => ⟨S32x8, .i32⟩
  | 95 => ⟨S32x8, .i32⟩
  | 96 => ⟨S1x64, .i32⟩
  | 97 => ⟨S64x1, .i32⟩
  | 98 => ⟨S64x64, .i32⟩
  | 99 => ⟨S64x64, .i32⟩
  | 100 => ⟨S64x64, .i32⟩
  | 101 => ⟨S_, .i32⟩
  | 102 => ⟨S64x64, .i32⟩
  | 103 => ⟨S64x64, .i32⟩
  | 104 => ⟨S_, .i32⟩
  | 105 => ⟨S64x64, .i32⟩
  | 106 => ⟨S64x64, .i32⟩
  | 107 => ⟨S_, .i32⟩
  | 108 => ⟨S_, .i32⟩
  | 109 => ⟨S_, .i32⟩
  | 110 => ⟨S64x64, .i32⟩
  | 111 => ⟨S64x64, .i32⟩
  | 112 => ⟨S_, .i32⟩
  | 113 => ⟨S64x64, .i32⟩
  | 114 => ⟨S64x64, .i32⟩
  | 115 => ⟨S_, .i32⟩
  | 116 => ⟨S32x8, .i32⟩
  | 117 => ⟨S32x8, .i32⟩
  | 118 => ⟨S_, .i32⟩
  | 119 => ⟨S32x8, .i32⟩
  | 120 => ⟨S32x8, .i32⟩
  | 121 => ⟨S32x1x8x1, .i32⟩
  | 122 => ⟨S1x64x1x64, .i32⟩
  | 123 => ⟨S_, .i32⟩
  | 124 => ⟨S32x1x8x1, .i32⟩
  | 125 => ⟨S32x1x8x1, .i1⟩
  | 126 => ⟨S_, .i32⟩
  | 127 => ⟨S32x1x8x1, .i32⟩
  | _ => ⟨S9x2048x512, .bf16⟩

abbrev hbmTy0_1 (i : Nat) : BufTy := match i % 128 with
  | 0 => ⟨S32x1x8x1, .i32⟩
  | 1 => ⟨S32x1x8x1, .i32⟩
  | 2 => ⟨S_, .i32⟩
  | 3 => ⟨S1x64x1x64, .i32⟩
  | 4 => ⟨S1x64x1x64, .i1⟩
  | 5 => ⟨S_, .i32⟩
  | 6 => ⟨S1x64x1x64, .i32⟩
  | 7 => ⟨S1x64x1x64, .i32⟩
  | 8 => ⟨S1x64x1x64, .i32⟩
  | 9 => ⟨S32x64x8x64, .i32⟩
  | 10 => ⟨S32x64x8x64, .i32⟩
  | 11 => ⟨S32x64x8x64x1, .i32⟩
  | 12 => ⟨S32x64x8x64x1, .i32⟩
  | 13 => ⟨S32x64x8x64x2, .i32⟩
  | 14 => ⟨S8x32x64x8x64, .f32⟩
  | 15 => ⟨S8x8x32x64x8x64, .f32⟩
  | 16 => ⟨S1x8x32x64x8x64, .f32⟩
  | 17 => ⟨S8x8x32x64x8x64, .f32⟩
  | 18 => ⟨S8x8x32x64x8x64, .f32⟩
  | 19 => ⟨S64x1x64, .i1⟩
  | 20 => ⟨S_, .f32⟩
  | 21 => ⟨S_, .f32⟩
  | 22 => ⟨S8x8x32x64x8x64, .i1⟩
  | 23 => ⟨S8x8x32x64x8x64, .f32⟩
  | 24 => ⟨S8x8x32x64x8x64, .f32⟩
  | 25 => ⟨S8x8x32x64x512, .f32⟩
  | 26 => ⟨S8x8x32x64x256, .f32⟩
  | 27 => ⟨S8x8x32x64x768, .f32⟩
  | 28 => ⟨S_, .f32⟩
  | 29 => ⟨S8x8x32x64, .f32⟩
  | 30 => ⟨S_, .f32⟩
  | 31 => ⟨S8x8x32x64, .f32⟩
  | 32 => ⟨S8x8x32x64, .f32⟩
  | 33 => ⟨S8x8x32x64x1, .f32⟩
  | 34 => ⟨S8x8x32x64x768, .f32⟩
  | 35 => ⟨S8x8x32x64x768, .f32⟩
  | 36 => ⟨S8x8x32x64x768, .f32⟩
  | 37 => ⟨S_, .f32⟩
  | 38 => ⟨S8x8x32x64, .f32⟩
  | 39 => ⟨S8x8x32x64x1, .f32⟩
  | 40 => ⟨S8x8x32x64x768, .f32⟩
  | 41 => ⟨S8x8x32x64x768, .f32⟩
  | 42 => ⟨S8x8x32x64x512, .f32⟩
  | 43 => ⟨S8x8x32x64x8x64, .f32⟩
  | 44 => ⟨S8x8x32x64x256, .f32⟩
  | 45 => ⟨S8x8x32x64x64, .f32⟩
  | 46 => ⟨S8x8x32x64x64, .f32⟩
  | 47 => ⟨S8x8x32x64x64, .f32⟩
  | 48 => ⟨S8x8x2048x64, .f32⟩
  | 49 => ⟨S8x2048x8x64, .f32⟩
  | 50 => ⟨S8x2048x512, .f32⟩
  | 51 => ⟨S_, .f32⟩
  | 52 => ⟨S1x2048x512, .f32⟩
  | 53 => ⟨S9x2048x512, .f32⟩
  | _ => ⟨S9x2048x512, .bf16⟩

abbrev hbmTy (i : Nat) : BufTy := match i / 128 with
  | 0 => hbmTy0_0 i
  | 1 => hbmTy0_1 i
  | _ => ⟨S9x2048x512, .bf16⟩

abbrev bufTy : (tb : Table) → Fin (tcTables nBuf tb) → BufTy
  | .hbm, ⟨i, _⟩ => hbmTy i
  | _, _ => ⟨S9x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_c : Ref sig .tc := ⟨.hbm, 32, rfl⟩
abbrev main_v28 : Ref sig .tc := ⟨.hbm, 33, rfl⟩
abbrev main_v29 : Ref sig .tc := ⟨.hbm, 34, rfl⟩
abbrev main_c_0 : Ref sig .tc := ⟨.hbm, 35, rfl⟩
abbrev main_c_1 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_c_2 : Ref sig .tc := ⟨.hbm, 49, rfl⟩
abbrev main_v37 : Ref sig .tc := ⟨.hbm, 50, rfl⟩
abbrev main_v38 : Ref sig .tc := ⟨.hbm, 51, rfl⟩
abbrev main_c_3 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c_4 : Ref sig .tc := ⟨.hbm, 58, rfl⟩
abbrev main_v44 : Ref sig .tc := ⟨.hbm, 59, rfl⟩
abbrev main_v45 : Ref sig .tc := ⟨.hbm, 60, rfl⟩
abbrev main_c_5 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_c_6 : Ref sig .tc := ⟨.hbm, 68, rfl⟩
abbrev main_v52 : Ref sig .tc := ⟨.hbm, 69, rfl⟩
abbrev main_v53 : Ref sig .tc := ⟨.hbm, 70, rfl⟩
abbrev main_c_7 : Ref sig .tc := ⟨.hbm, 71, rfl⟩
abbrev main_c_8 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_9 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_10 : Ref sig .tc := ⟨.hbm, 101, rfl⟩
abbrev main_v76 : Ref sig .tc := ⟨.hbm, 102, rfl⟩
abbrev main_v77 : Ref sig .tc := ⟨.hbm, 103, rfl⟩
abbrev main_c_11 : Ref sig .tc := ⟨.hbm, 104, rfl⟩
abbrev main_v78 : Ref sig .tc := ⟨.hbm, 105, rfl⟩
abbrev main_v79 : Ref sig .tc := ⟨.hbm, 106, rfl⟩
abbrev main_c_12 : Ref sig .tc := ⟨.hbm, 107, rfl⟩
abbrev main_c_13 : Ref sig .tc := ⟨.hbm, 108, rfl⟩
abbrev main_call2_v0 : Ref sig .tc := ⟨.hbm, 109, rfl⟩
abbrev main_call2_v1 : Ref sig .tc := ⟨.hbm, 110, rfl⟩
abbrev main_call2_v2 : Ref sig .tc := ⟨.hbm, 111, rfl⟩
abbrev main_call2_v3 : Ref sig .tc := ⟨.hbm, 112, rfl⟩
abbrev main_call2_v4 : Ref sig .tc := ⟨.hbm, 113, rfl⟩
abbrev main_v80 : Ref sig .tc := ⟨.hbm, 114, rfl⟩
abbrev main_c_14 : Ref sig .tc := ⟨.hbm, 115, rfl⟩
abbrev main_v81 : Ref sig .tc := ⟨.hbm, 116, rfl⟩
abbrev main_v82 : Ref sig .tc := ⟨.hbm, 117, rfl⟩
abbrev main_c_15 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_c_16 : Ref sig .tc := ⟨.hbm, 123, rfl⟩
abbrev main_v87 : Ref sig .tc := ⟨.hbm, 124, rfl⟩
abbrev main_v88 : Ref sig .tc := ⟨.hbm, 125, rfl⟩
abbrev main_c_17 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_c_18 : Ref sig .tc := ⟨.hbm, 130, rfl⟩
abbrev main_v92 : Ref sig .tc := ⟨.hbm, 131, rfl⟩
abbrev main_v93 : Ref sig .tc := ⟨.hbm, 132, rfl⟩
abbrev main_c_19 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst : Ref sig .tc := ⟨.hbm, 148, rfl⟩
abbrev main_call3_v0 : Ref sig .tc := ⟨.hbm, 149, rfl⟩
abbrev main_call3_v1 : Ref sig .tc := ⟨.hbm, 150, rfl⟩
abbrev main_call3_v2 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_cst_20 : Ref sig .tc := ⟨.hbm, 156, rfl⟩
abbrev main_v112 : Ref sig .tc := ⟨.hbm, 157, rfl⟩
abbrev main_cst_21 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_cst_22 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_cst_23 : Ref sig .tc := ⟨.hbm, 179, rfl⟩
abbrev main_v132 : Ref sig .tc := ⟨.hbm, 180, rfl⟩
abbrev main_v133 : Ref sig .tc := ⟨.hbm, 181, rfl⟩

abbrev nD : Nat := 1
abbrev τ : Topo := Topo.v7x

variable {F : FTy → Type} [FloatOps F]
-- ==== FfnFirst.lean ====
abbrev S9x2048x1024 : Shape := ⟨3, ![9, 2048, 1024]⟩
abbrev S16x1x9216 : Shape := ⟨3, ![16, 1, 9216]⟩
abbrev S1024 : Shape := ⟨1, ![1024]⟩
abbrev S1024x5632 : Shape := ⟨2, ![1024, 5632]⟩
abbrev S2816x1024 : Shape := ⟨2, ![2816, 1024]⟩
abbrev S1024x22x256 : Shape := ⟨3, ![1024, 22, 256]⟩
abbrev S22x1024x256 : Shape := ⟨3, ![22, 1024, 256]⟩
abbrev S1x1024 : Shape := ⟨2, ![1, 1024]⟩
abbrev S1x512x1024 : Shape := ⟨3, ![1, 512, 1024]⟩
abbrev S1x1x3072 : Shape := ⟨3, ![1, 1, 3072]⟩
abbrev S512x2816 : Shape := ⟨2, ![512, 2816]⟩
abbrev S512x1024 : Shape := ⟨2, ![512, 1024]⟩
abbrev S1x3072 : Shape := ⟨2, ![1, 3072]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 12
  | .vmem => 11
  | .smem => 0
  | _ => 0

abbrev bufTy : (tb : Table) → Fin (tcTables nBuf tb) → BufTy
  | .hbm, ⟨0, _⟩ => ⟨S9x2048x1024, .f32⟩
  | .hbm, ⟨1, _⟩ => ⟨S16x1x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024x5632, .bf16⟩
  | .hbm, ⟨6, _⟩ => ⟨S1024x22x256, .bf16⟩
  | .hbm, ⟨7, _⟩ => ⟨S22x1024x256, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S9x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S22x1024x256, .bf16⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S512x2816, .bf16⟩
  | _, _ => ⟨S9x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![9, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S22x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnFirstRefIdeal.lean ====
abbrev S9x2048x1024 : Shape := ⟨3, ![9, 2048, 1024]⟩
abbrev S16x1x9216 : Shape := ⟨3, ![16, 1, 9216]⟩
abbrev S1024 : Shape := ⟨1, ![1024]⟩
abbrev S1024x5632 : Shape := ⟨2, ![1024, 5632]⟩
abbrev S2816x1024 : Shape := ⟨2, ![2816, 1024]⟩
abbrev S9x1x9216 : Shape := ⟨3, ![9, 1, 9216]⟩
abbrev S9x1x1024 : Shape := ⟨3, ![9, 1, 1024]⟩
abbrev S_ : Shape := ⟨0, ![]⟩
abbrev S9x2048 : Shape := ⟨2, ![9, 2048]⟩
abbrev S9x2048x1 : Shape := ⟨3, ![9, 2048, 1]⟩
abbrev S1x1x1024 : Shape := ⟨3, ![1, 1, 1024]⟩
abbrev S9x2048x5632 : Shape := ⟨3, ![9, 2048, 5632]⟩
abbrev S9x2048x2816 : Shape := ⟨3, ![9, 2048, 2816]⟩

abbrev nBuf : Space → Nat
  | .hbm => 58
  | .vmem => 0
  | .smem => 0
  | _ => 0

abbrev bufTy : (tb : Table) → Fin (tcTables nBuf tb) → BufTy
  | .hbm, ⟨0, _⟩ => ⟨S9x2048x1024, .f32⟩
  | .hbm, ⟨1, _⟩ => ⟨S16x1x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S9x1x9216, .f32⟩
  | .hbm, ⟨6, _⟩ => ⟨S9x1x1024, .f32⟩
  | .hbm, ⟨7, _⟩ => ⟨S9x1x1024, .f32⟩
  | .hbm, ⟨8, _⟩ => ⟨S9x1x1024, .f32⟩
  | .hbm, ⟨9, _⟩ => ⟨S9x1x1024, .f32⟩
  | .hbm, ⟨10, _⟩ => ⟨S9x1x1024, .f32⟩
  | .hbm, ⟨11, _⟩ => ⟨S9x1x1024, .f32⟩
  | .hbm, ⟨12, _⟩ => ⟨S9x1x1024, .f32⟩
  | .hbm, ⟨13, _⟩ => ⟨S9x1x1024, .f32⟩
  | .hbm, ⟨14, _⟩ => ⟨S9x1x1024, .f32⟩
  | .hbm, ⟨15, _⟩ => ⟨S9x2048x1024, .f32⟩
  | .hbm, ⟨16, _⟩ => ⟨S_, .f32⟩
  | .hbm, ⟨17, _⟩ => ⟨S9x2048, .f32⟩
  | .hbm, ⟨18, _⟩ => ⟨S9x2048x1, .f32⟩
  | .hbm, ⟨19, _⟩ => ⟨S_, .f32⟩
  | .hbm, ⟨20, _⟩ => ⟨S9x2048x1, .f32⟩
  | .hbm, ⟨21, _⟩ => ⟨S9x2048x1, .f32⟩
  | .hbm, ⟨22, _⟩ => ⟨S_, .f32⟩
  | .hbm, ⟨23, _⟩ => ⟨S9x2048x1, .f32⟩
  | .hbm, ⟨24, _⟩ => ⟨S9x2048x1, .f32⟩
  | .hbm, ⟨25, _⟩ => ⟨S9x2048x1, .f32⟩
  | .hbm, ⟨26, _⟩ => ⟨S9x2048x1024, .f32⟩
  | .hbm, ⟨27, _⟩ => ⟨S9x2048x1024, .f32⟩
  | .hbm, ⟨28, _⟩ => ⟨S1x1x1024, .f32⟩
  | .hbm, ⟨29, _⟩ => ⟨S9x2048x1024, .f32⟩
  | .hbm, ⟨30, _⟩ => ⟨S9x2048x1024, .f32⟩
  | .hbm, ⟨31, _⟩ => ⟨S_, .f32⟩
  | .hbm, ⟨32, _⟩ => ⟨S9x1x1024, .f32⟩
  | .hbm, ⟨33, _⟩ => ⟨S9x1x1024, .f32⟩
  | .hbm, ⟨34, _⟩ => ⟨S9x2048x1024, .f32⟩
  | .hbm, ⟨35, _⟩ => ⟨S9x2048x1024, .f32⟩
  | .hbm, ⟨36, _⟩ => ⟨S9x2048x1024, .f32⟩
  | .hbm, ⟨37, _⟩ => ⟨S9x2048x1024, .f32⟩
  | .hbm, ⟨38, _⟩ => ⟨S_, .f32⟩
  | .hbm, ⟨39, _⟩ => ⟨S9x1x1024, .f32⟩
  | .hbm, ⟨40, _⟩ => ⟨S9x1x1024, .f32⟩
  | .hbm, ⟨41, _⟩ => ⟨S9x2048x5632, .f32⟩
  | .hbm, ⟨42, _⟩ => ⟨S9x2048x2816, .f32⟩
  | .hbm, ⟨43, _⟩ => ⟨S9x2048x2816, .f32⟩
  | .hbm, ⟨44, _⟩ => ⟨S9x2048x2816, .f32⟩
  | .hbm, ⟨45, _⟩ => ⟨S9x2048x2816, .f32⟩
  | .hbm, ⟨46, _⟩ => ⟨S_, .f32⟩
  | .hbm, ⟨47, _⟩ => ⟨S9x2048x2816, .f32⟩
  | .hbm, ⟨48, _⟩ => ⟨S9x2048x2816, .f32⟩
  | .hbm, ⟨49, _⟩ => ⟨S_, .f32⟩
  | .hbm, ⟨50, _⟩ => ⟨S9x2048x2816, .f32⟩
  | .hbm, ⟨51, _⟩ => ⟨S9x2048x2816, .f32⟩
  | .hbm, ⟨52, _⟩ => ⟨S9x2048x2816, .f32⟩
  | .hbm, ⟨53, _⟩ => ⟨S9x2048x2816, .f32⟩
  | .hbm, ⟨54, _⟩ => ⟨S9x2048x1024, .f32⟩
  | .hbm, ⟨55, _⟩ => ⟨S9x2048x1024, .f32⟩
  | .hbm, ⟨56, _⟩ => ⟨S9x2048x1024, .f32⟩
  | .hbm, ⟨57, _⟩ => ⟨S9x2048x1024, .f32⟩
  | _, _ => ⟨S9x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== FfnSecond.lean ====
abbrev S9x2048x1024 : Shape := ⟨3, ![9, 2048, 1024]⟩
abbrev S16x1x9216 : Shape := ⟨3, ![16, 1, 9216]⟩
abbrev S1024 : Shape := ⟨1, ![1024]⟩
abbrev S1024x5632 : Shape := ⟨2, ![1024, 5632]⟩
abbrev S2816x1024 : Shape := ⟨2, ![2816, 1024]⟩
abbrev S1024x22x256 : Shape := ⟨3, ![1024, 22, 256]⟩
abbrev S22x1024x256 : Shape := ⟨3, ![22, 1024, 256]⟩
abbrev S1x1024 : Shape := ⟨2, ![1, 1024]⟩
abbrev S1x512x1024 : Shape := ⟨3, ![1, 512, 1024]⟩
abbrev S1x1x3072 : Shape := ⟨3, ![1, 1, 3072]⟩
abbrev S512x2816 : Shape := ⟨2, ![512, 2816]⟩
abbrev S512x1024 : Shape := ⟨2, ![512, 1024]⟩
abbrev S1x3072 : Shape := ⟨2, ![1, 3072]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 12
  | .vmem => 11
  | .smem => 0
  | _ => 0

abbrev bufTy : (tb : Table) → Fin (tcTables nBuf tb) → BufTy
  | .hbm, ⟨0, _⟩ => ⟨S9x2048x1024, .f32⟩
  | .hbm, ⟨1, _⟩ => ⟨S16x1x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024x5632, .bf16⟩
  | .hbm, ⟨6, _⟩ => ⟨S1024x22x256, .bf16⟩
  | .hbm, ⟨7, _⟩ => ⟨S22x1024x256, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S9x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S22x1024x256, .bf16⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S512x2816, .bf16⟩
  | _, _ => ⟨S9x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![9, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S22x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnSecondRefIdeal.lean ====
abbrev S9x2048x1024 : Shape := ⟨3, ![9, 2048, 1024]⟩
abbrev S16x1x9216 : Shape := ⟨3, ![16, 1, 9216]⟩
abbrev S1024 : Shape := ⟨1, ![1024]⟩
abbrev S1024x5632 : Shape := ⟨2, ![1024, 5632]⟩
abbrev S2816x1024 : Shape := ⟨2, ![2816, 1024]⟩
abbrev S9x1x9216 : Shape := ⟨3, ![9, 1, 9216]⟩
abbrev S9x1x1024 : Shape := ⟨3, ![9, 1, 1024]⟩
abbrev S_ : Shape := ⟨0, ![]⟩
abbrev S9x2048 : Shape := ⟨2, ![9, 2048]⟩
abbrev S9x2048x1 : Shape := ⟨3, ![9, 2048, 1]⟩
abbrev S1x1x1024 : Shape := ⟨3, ![1, 1, 1024]⟩
abbrev S9x2048x5632 : Shape := ⟨3, ![9, 2048, 5632]⟩
abbrev S9x2048x2816 : Shape := ⟨3, ![9, 2048, 2816]⟩

abbrev nBuf : Space → Nat
  | .hbm => 58
  | .vmem => 0
  | .smem => 0
  | _ => 0

abbrev bufTy : (tb : Table) → Fin (tcTables nBuf tb) → BufTy
  | .hbm, ⟨0, _⟩ => ⟨S9x2048x1024, .f32⟩
  | .hbm, ⟨1, _⟩ => ⟨S16x1x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S9x1x9216, .f32⟩
  | .hbm, ⟨6, _⟩ => ⟨S9x1x1024, .f32⟩
  | .hbm, ⟨7, _⟩ => ⟨S9x1x1024, .f32⟩
  | .hbm, ⟨8, _⟩ => ⟨S9x1x1024, .f32⟩
  | .hbm, ⟨9, _⟩ => ⟨S9x1x1024, .f32⟩
  | .hbm, ⟨10, _⟩ => ⟨S9x1x1024, .f32⟩
  | .hbm, ⟨11, _⟩ => ⟨S9x1x1024, .f32⟩
  | .hbm, ⟨12, _⟩ => ⟨S9x1x1024, .f32⟩
  | .hbm, ⟨13, _⟩ => ⟨S9x1x1024, .f32⟩
  | .hbm, ⟨14, _⟩ => ⟨S9x1x1024, .f32⟩
  | .hbm, ⟨15, _⟩ => ⟨S9x2048x1024, .f32⟩
  | .hbm, ⟨16, _⟩ => ⟨S_, .f32⟩
  | .hbm, ⟨17, _⟩ => ⟨S9x2048, .f32⟩
  | .hbm, ⟨18, _⟩ => ⟨S9x2048x1, .f32⟩
  | .hbm, ⟨19, _⟩ => ⟨S_, .f32⟩
  | .hbm, ⟨20, _⟩ => ⟨S9x2048x1, .f32⟩
  | .hbm, ⟨21, _⟩ => ⟨S9x2048x1, .f32⟩
  | .hbm, ⟨22, _⟩ => ⟨S_, .f32⟩
  | .hbm, ⟨23, _⟩ => ⟨S9x2048x1, .f32⟩
  | .hbm, ⟨24, _⟩ => ⟨S9x2048x1, .f32⟩
  | .hbm, ⟨25, _⟩ => ⟨S9x2048x1, .f32⟩
  | .hbm, ⟨26, _⟩ => ⟨S9x2048x1024, .f32⟩
  | .hbm, ⟨27, _⟩ => ⟨S9x2048x1024, .f32⟩
  | .hbm, ⟨28, _⟩ => ⟨S1x1x1024, .f32⟩
  | .hbm, ⟨29, _⟩ => ⟨S9x2048x1024, .f32⟩
  | .hbm, ⟨30, _⟩ => ⟨S9x2048x1024, .f32⟩
  | .hbm, ⟨31, _⟩ => ⟨S_, .f32⟩
  | .hbm, ⟨32, _⟩ => ⟨S9x1x1024, .f32⟩
  | .hbm, ⟨33, _⟩ => ⟨S9x1x1024, .f32⟩
  | .hbm, ⟨34, _⟩ => ⟨S9x2048x1024, .f32⟩
  | .hbm, ⟨35, _⟩ => ⟨S9x2048x1024, .f32⟩
  | .hbm, ⟨36, _⟩ => ⟨S9x2048x1024, .f32⟩
  | .hbm, ⟨37, _⟩ => ⟨S9x2048x1024, .f32⟩
  | .hbm, ⟨38, _⟩ => ⟨S_, .f32⟩
  | .hbm, ⟨39, _⟩ => ⟨S9x1x1024, .f32⟩
  | .hbm, ⟨40, _⟩ => ⟨S9x1x1024, .f32⟩
  | .hbm, ⟨41, _⟩ => ⟨S9x2048x5632, .f32⟩
  | .hbm, ⟨42, _⟩ => ⟨S9x2048x2816, .f32⟩
  | .hbm, ⟨43, _⟩ => ⟨S9x2048x2816, .f32⟩
  | .hbm, ⟨44, _⟩ => ⟨S9x2048x2816, .f32⟩
  | .hbm, ⟨45, _⟩ => ⟨S9x2048x2816, .f32⟩
  | .hbm, ⟨46, _⟩ => ⟨S_, .f32⟩
  | .hbm, ⟨47, _⟩ => ⟨S9x2048x2816, .f32⟩
  | .hbm, ⟨48, _⟩ => ⟨S9x2048x2816, .f32⟩
  | .hbm, ⟨49, _⟩ => ⟨S_, .f32⟩
  | .hbm, ⟨50, _⟩ => ⟨S9x2048x2816, .f32⟩
  | .hbm, ⟨51, _⟩ => ⟨S9x2048x2816, .f32⟩
  | .hbm, ⟨52, _⟩ => ⟨S9x2048x2816, .f32⟩
  | .hbm, ⟨53, _⟩ => ⟨S9x2048x2816, .f32⟩
  | .hbm, ⟨54, _⟩ => ⟨S9x2048x1024, .f32⟩
  | .hbm, ⟨55, _⟩ => ⟨S9x2048x1024, .f32⟩
  | .hbm, ⟨56, _⟩ => ⟨S9x2048x1024, .f32⟩
  | .hbm, ⟨57, _⟩ => ⟨S9x2048x1024, .f32⟩
  | _, _ => ⟨S9x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩

abbrev nD : Nat := 1
abbrev τ : Topo := Topo.v7x

variable {F : FTy → Type} [FloatOps F]
-- ==== FfnLast.lean ====
abbrev S8x2048x1024 : Shape := ⟨3, ![8, 2048, 1024]⟩
abbrev S16x1x9216 : Shape := ⟨3, ![16, 1, 9216]⟩
abbrev S1024 : Shape := ⟨1, ![1024]⟩
abbrev S1024x5632 : Shape := ⟨2, ![1024, 5632]⟩
abbrev S2816x1024 : Shape := ⟨2, ![2816, 1024]⟩
abbrev S1024x22x256 : Shape := ⟨3, ![1024, 22, 256]⟩
abbrev S22x1024x256 : Shape := ⟨3, ![22, 1024, 256]⟩
abbrev S1x1024 : Shape := ⟨2, ![1, 1024]⟩
abbrev S1x512x1024 : Shape := ⟨3, ![1, 512, 1024]⟩
abbrev S1x1x3072 : Shape := ⟨3, ![1, 1, 3072]⟩
abbrev S512x2816 : Shape := ⟨2, ![512, 2816]⟩
abbrev S512x1024 : Shape := ⟨2, ![512, 1024]⟩
abbrev S1x3072 : Shape := ⟨2, ![1, 3072]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩

abbrev nBuf : Space → Nat
  | .hbm => 13
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S16x1x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S1024x5632, .bf16⟩
  | .hbm, ⟨7, _⟩ => ⟨S1024x22x256, .bf16⟩
  | .hbm, ⟨8, _⟩ => ⟨S22x1024x256, .bf16⟩
  | .hbm, ⟨9, _⟩ => ⟨S2816x1024, .bf16⟩
  | .hbm, ⟨10, _⟩ => ⟨S1x1024, .f32⟩
  | .hbm, ⟨11, _⟩ => ⟨S1x1024, .f32⟩
  | .hbm, ⟨12, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S22x1024x256, .bf16⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S512x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S22x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnLastRefIdeal.lean ====
abbrev S8x2048x1024 : Shape := ⟨3, ![8, 2048, 1024]⟩
abbrev S16x1x9216 : Shape := ⟨3, ![16, 1, 9216]⟩
abbrev S1024 : Shape := ⟨1, ![1024]⟩
abbrev S1024x5632 : Shape := ⟨2, ![1024, 5632]⟩
abbrev S2816x1024 : Shape := ⟨2, ![2816, 1024]⟩
abbrev S8x1x9216 : Shape := ⟨3, ![8, 1, 9216]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5632 : Shape := ⟨3, ![8, 2048, 5632]⟩
abbrev S8x2048x2816 : Shape := ⟨3, ![8, 2048, 2816]⟩

abbrev nBuf : Space → Nat
  | .hbm => 75
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16x1x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S8x1x9216, .f32⟩
  | .hbm, ⟨7, _⟩ => ⟨S8x1x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x2048x1024, .f32⟩
  | .hbm, ⟨17, _⟩ => ⟨S_, .f32⟩
  | .hbm, ⟨18, _⟩ => ⟨S8x2048, .f32⟩
  | .hbm, ⟨19, _⟩ => ⟨S8x2048x1, .f32⟩
  | .hbm, ⟨20, _⟩ => ⟨S_, .f32⟩
  | .hbm, ⟨21, _⟩ => ⟨S8x2048x1, .f32⟩
  | .hbm, ⟨22, _⟩ => ⟨S8x2048x1, .f32⟩
  | .hbm, ⟨23, _⟩ => ⟨S_, .f32⟩
  | .hbm, ⟨24, _⟩ => ⟨S8x2048x1, .f32⟩
  | .hbm, ⟨25, _⟩ => ⟨S8x2048x1, .f32⟩
  | .hbm, ⟨26, _⟩ => ⟨S8x2048x1, .f32⟩
  | .hbm, ⟨27, _⟩ => ⟨S8x2048x1024, .f32⟩
  | .hbm, ⟨28, _⟩ => ⟨S8x2048x1024, .f32⟩
  | .hbm, ⟨29, _⟩ => ⟨S1x1x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x1x1024, .f32⟩
  | .hbm, ⟨34, _⟩ => ⟨S8x1x1024, .f32⟩
  | .hbm, ⟨35, _⟩ => ⟨S8x2048x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S_, .f32⟩
  | .hbm, ⟨40, _⟩ => ⟨S8x1x1024, .f32⟩
  | .hbm, ⟨41, _⟩ => ⟨S8x1x1024, .f32⟩
  | .hbm, ⟨42, _⟩ => ⟨S8x2048x5632, .f32⟩
  | .hbm, ⟨43, _⟩ => ⟨S8x2048x2816, .f32⟩
  | .hbm, ⟨44, _⟩ => ⟨S8x2048x2816, .f32⟩
  | .hbm, ⟨45, _⟩ => ⟨S8x2048x2816, .f32⟩
  | .hbm, ⟨46, _⟩ => ⟨S8x2048x2816, .f32⟩
  | .hbm, ⟨47, _⟩ => ⟨S_, .f32⟩
  | .hbm, ⟨48, _⟩ => ⟨S8x2048x2816, .f32⟩
  | .hbm, ⟨49, _⟩ => ⟨S8x2048x2816, .f32⟩
  | .hbm, ⟨50, _⟩ => ⟨S_, .f32⟩
  | .hbm, ⟨51, _⟩ => ⟨S8x2048x2816, .f32⟩
  | .hbm, ⟨52, _⟩ => ⟨S8x2048x2816, .f32⟩
  | .hbm, ⟨53, _⟩ => ⟨S8x2048x2816, .f32⟩
  | .hbm, ⟨54, _⟩ => ⟨S8x2048x2816, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S8x2048x1024, .f32⟩
  | .hbm, ⟨60, _⟩ => ⟨S_, .f32⟩
  | .hbm, ⟨61, _⟩ => ⟨S8x2048, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S_, .f32⟩
  | .hbm, ⟨67, _⟩ => ⟨S8x2048x1, .f32⟩
  | .hbm, ⟨68, _⟩ => ⟨S8x2048x1, .f32⟩
  | .hbm, ⟨69, _⟩ => ⟨S8x2048x1, .f32⟩
  | .hbm, ⟨70, _⟩ => ⟨S8x2048x1024, .f32⟩
  | .hbm, ⟨71, _⟩ => ⟨S8x2048x1024, .f32⟩
  | .hbm, ⟨72, _⟩ => ⟨S1x1x1024, .f32⟩
  | .hbm, ⟨73, _⟩ => ⟨S8x2048x1024, .f32⟩
  | .hbm, ⟨74, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩

abbrev nD : Nat := 1
abbrev τ : Topo := Topo.v7x

variable {F : FTy → Type} [FloatOps F]
-- ==== Gqa.lean ====
abbrev S9x2048x512 : Shape := ⟨3, ![9, 2048, 512]⟩
abbrev S9x2048x128 : Shape := ⟨3, ![9, 2048, 128]⟩
abbrev S1x128x512 : Shape := ⟨3, ![1, 128, 512]⟩
abbrev S1x2048x128 : Shape := ⟨3, ![1, 2048, 128]⟩
abbrev S1x256x128 : Shape := ⟨3, ![1, 256, 128]⟩
abbrev S128x512 : Shape := ⟨2, ![128, 512]⟩
abbrev S2048x128 : Shape := ⟨2, ![2048, 128]⟩
abbrev S256x128 : Shape := ⟨2, ![256, 128]⟩
abbrev S128x128 : Shape := ⟨2, ![128, 128]⟩
abbrev S512x128 : Shape := ⟨2, ![512, 128]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩
abbrev S1x128x128 : Shape := ⟨3, ![1, 128, 128]⟩

abbrev nBuf : Space → Nat
  | .hbm => 4
  | .vmem => 12
  | .smem => 0
  | _ => 0

abbrev bufTy : (tb : Table) → Fin (tcTables nBuf tb) → BufTy
  | .hbm, ⟨0, _⟩ => ⟨S9x2048x512, .bf16⟩
  | .hbm, ⟨1, _⟩ => ⟨S9x2048x128, .bf16⟩
  | .hbm, ⟨2, _⟩ => ⟨S9x2048x128, .bf16⟩
  | .hbm, ⟨3, _⟩ => ⟨S9x2048x512, .f32⟩
  | .local _ .vmem, ⟨0, _⟩ => ⟨S1x128x512, .bf16⟩
  | .local _ .vmem, ⟨1, _⟩ => ⟨S1x128x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x128x512, .f32⟩
  | .local _ .vmem, ⟨11, _⟩ => ⟨S1x128x512, .f32⟩
  | _, _ => ⟨S9x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  ![c8_i32.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  ![c8_i32.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GqaRefIdeal.lean ====
abbrev S9x2048x512 : Shape := ⟨3, ![9, 2048, 512]⟩
abbrev S9x2048x128 : Shape := ⟨3, ![9, 2048, 128]⟩
abbrev S8x2048x128 : Shape := ⟨3, ![8, 2048, 128]⟩
abbrev S8x2048x2x64 : Shape := ⟨4, ![8, 2048, 2, 64]⟩
abbrev S8x2x2048x64 : Shape := ⟨4, ![8, 2, 2048, 64]⟩
abbrev S1x2048x128 : Shape := ⟨3, ![1, 2048, 128]⟩
abbrev S2048x128 : Shape := ⟨2, ![2048, 128]⟩
abbrev S8x256x128 : Shape := ⟨3, ![8, 256, 128]⟩
abbrev S8x256x2x64 : Shape := ⟨4, ![8, 256, 2, 64]⟩
abbrev S8x2x256x64 : Shape := ⟨4, ![8, 2, 256, 64]⟩
abbrev S8x2x2304x64 : Shape := ⟨4, ![8, 2, 2304, 64]⟩
abbrev S8x2048x512 : Shape := ⟨3, ![8, 2048, 512]⟩
abbrev S8x2048x4x2x64 : Shape := ⟨5, ![8, 2048, 4, 2, 64]⟩
abbrev S8x2x4x2048x64 : Shape := ⟨5, ![8, 2, 4, 2048, 64]⟩
abbrev S8x2x4x2048x2304 : Shape := ⟨5, ![8, 2, 4, 2048, 2304]⟩
abbrev S_ : Shape := ⟨0, ![]⟩
abbrev S8x2x4x2048 : Shape := ⟨4, ![8, 2, 4, 2048]⟩
abbrev S8x2x4x2048x1 : Shape := ⟨5, ![8, 2, 4, 2048, 1]⟩
abbrev S1x2048x512 : Shape := ⟨3, ![1, 2048, 512]⟩

abbrev nBuf : Space → Nat
  | .hbm => 50
  | .vmem => 0
  | .smem => 0
  | _ => 0

abbrev bufTy : (tb : Table) → Fin (tcTables nBuf tb) → BufTy
  | .hbm, ⟨0, _⟩ => ⟨S9x2048x512, .bf16⟩
  | .hbm, ⟨1, _⟩ => ⟨S9x2048x128, .bf16⟩
  | .hbm, ⟨2, _⟩ => ⟨S9x2048x128, .bf16⟩
  | .hbm, ⟨3, _⟩ => ⟨S8x2048x128, .bf16⟩
  | .hbm, ⟨4, _⟩ => ⟨S8x2048x128, .f32⟩
  | .hbm, ⟨5, _⟩ => ⟨S8x2048x2x64, .f32⟩
  | .hbm, ⟨6, _⟩ => ⟨S8x2x2048x64, .f32⟩
  | .hbm, ⟨7, _⟩ => ⟨S1x2048x128, .bf16⟩
  | .hbm, ⟨8, _⟩ => ⟨S2048x128, .bf16⟩
  | .hbm, ⟨9, _⟩ => ⟨S2048x128, .f32⟩
  | .hbm, ⟨10, _⟩ => ⟨S8x256x128, .f32⟩
  | .hbm, ⟨11, _⟩ => ⟨S8x256x2x64, .f32⟩
  | .hbm, ⟨12, _⟩ => ⟨S8x2x256x64, .f32⟩
  | .hbm, ⟨13, _⟩ => ⟨S8x2x2304x64, .f32⟩
  | .hbm, ⟨14, _⟩ => ⟨S8x2048x128, .bf16⟩
  | .hbm, ⟨15, _⟩ => ⟨S8x2048x128, .f32⟩
  | .hbm, ⟨16, _⟩ => ⟨S8x2048x2x64, .f32⟩
  | .hbm, ⟨17, _⟩ => ⟨S8x2x2048x64, .f32⟩
  | .hbm, ⟨18, _⟩ => ⟨S1x2048x128, .bf16⟩
  | .hbm, ⟨19, _⟩ => ⟨S2048x128, .bf16⟩
  | .hbm, ⟨20, _⟩ => ⟨S2048x128, .f32⟩
  | .hbm, ⟨21, _⟩ => ⟨S8x256x128, .f32⟩
  | .hbm, ⟨22, _⟩ => ⟨S8x256x2x64, .f32⟩
  | .hbm, ⟨23, _⟩ => ⟨S8x2x256x64, .f32⟩
  | .hbm, ⟨24, _⟩ => ⟨S8x2x2304x64, .f32⟩
  | .hbm, ⟨25, _⟩ => ⟨S8x2048x512, .bf16⟩
  | .hbm, ⟨26, _⟩ => ⟨S8x2048x512, .f32⟩
  | .hbm, ⟨27, _⟩ => ⟨S8x2048x4x2x64, .f32⟩
  | .hbm, ⟨28, _⟩ => ⟨S8x2x4x2048x64, .f32⟩
  | .hbm, ⟨29, _⟩ => ⟨S8x2x4x2048x2304, .f32⟩
  | .hbm, ⟨30, _⟩ => ⟨S_, .f32⟩
  | .hbm, ⟨31, _⟩ => ⟨S8x2x4x2048, .f32⟩
  | .hbm, ⟨32, _⟩ => ⟨S_, .f32⟩
  | .hbm, ⟨33, _⟩ => ⟨S8x2x4x2048, .f32⟩
  | .hbm, ⟨34, _⟩ => ⟨S8x2x4x2048, .f32⟩
  | .hbm, ⟨35, _⟩ => ⟨S8x2x4x2048x1, .f32⟩
  | .hbm, ⟨36, _⟩ => ⟨S8x2x4x2048x2304, .f32⟩
  | .hbm, ⟨37, _⟩ => ⟨S8x2x4x2048x2304, .f32⟩
  | .hbm, ⟨38, _⟩ => ⟨S8x2x4x2048x2304, .f32⟩
  | .hbm, ⟨39, _⟩ => ⟨S_, .f32⟩
  | .hbm, ⟨40, _⟩ => ⟨S8x2x4x2048, .f32⟩
  | .hbm, ⟨41, _⟩ => ⟨S8x2x4x2048x1, .f32⟩
  | .hbm, ⟨42, _⟩ => ⟨S8x2x4x2048x2304, .f32⟩
  | .hbm, ⟨43, _⟩ => ⟨S8x2x4x2048x2304, .f32⟩
  | .hbm, ⟨44, _⟩ => ⟨S8x2x4x2048x64, .f32⟩
  | .hbm, ⟨45, _⟩ => ⟨S8x2048x4x2x64, .f32⟩
  | .hbm, ⟨46, _⟩ => ⟨S8x2048x512, .f32⟩
  | .hbm, ⟨47, _⟩ => ⟨S_, .f32⟩
  | .hbm, ⟨48, _⟩ => ⟨S1x2048x512, .f32⟩
  | .hbm, ⟨49, _⟩ => ⟨S9x2048x512, .f32⟩
  | _, _ => ⟨S9x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_cst : Ref sig .tc := ⟨.hbm, 30, rfl⟩
abbrev main_v27 : Ref sig .tc := ⟨.hbm, 31, rfl⟩
abbrev main_cst_0 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩

abbrev nD : Nat := 1
abbrev τ : Topo := Topo.v7x

variable {F : FTy → Type} [FloatOps F]
-- ==== OutFirst.lean ====
abbrev S9x2048x1024 : Shape := ⟨3, ![9, 2048, 1024]⟩
abbrev S9x2048x512 : Shape := ⟨3, ![9, 2048, 512]⟩
abbrev S16x1x9216 : Shape := ⟨3, ![16, 1, 9216]⟩
abbrev S512 : Shape := ⟨1, ![512]⟩
abbrev S1024x1024 : Shape := ⟨2, ![1024, 1024]⟩
abbrev S1x512 : Shape := ⟨2, ![1, 512]⟩
abbrev S1x512x1024 : Shape := ⟨3, ![1, 512, 1024]⟩
abbrev S1x512x512 : Shape := ⟨3, ![1, 512, 512]⟩
abbrev S1x1x3072 : Shape := ⟨3, ![1, 1, 3072]⟩
abbrev S1x3072 : Shape := ⟨2, ![1, 3072]⟩
abbrev S1x1024 : Shape := ⟨2, ![1, 1024]⟩
abbrev S512x512 : Shape := ⟨2, ![512, 512]⟩
abbrev S512x1 : Shape := ⟨2, ![512, 1]⟩
abbrev S512x1024 : Shape := ⟨2, ![512, 1024]⟩

abbrev nBuf : Space → Nat
  | .hbm => 11
  | .vmem => 13
  | .smem => 0
  | _ => 0

abbrev bufTy : (tb : Table) → Fin (tcTables nBuf tb) → BufTy
  | .hbm, ⟨0, _⟩ => ⟨S9x2048x1024, .f32⟩
  | .hbm, ⟨1, _⟩ => ⟨S9x2048x512, .f32⟩
  | .hbm, ⟨2, _⟩ => ⟨S9x2048x512, .f32⟩
  | .hbm, ⟨3, _⟩ => ⟨S16x1x9216, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S1024x1024, .bf16⟩
  | .hbm, ⟨8, _⟩ => ⟨S1x512, .f32⟩
  | .hbm, ⟨9, _⟩ => ⟨S1x512, .f32⟩
  | .hbm, ⟨10, _⟩ => ⟨S9x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x1x3072, .f32⟩
  | .local _ .vmem, ⟨7, _⟩ => ⟨S1x1x3072, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1x512x1024, .f32⟩
  | .local _ .vmem, ⟨12, _⟩ => ⟨S1x512x1024, .f32⟩
  | _, _ => ⟨S9x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![9, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutFirstRefIdeal.lean ====
abbrev S9x2048x1024 : Shape := ⟨3, ![9, 2048, 1024]⟩
abbrev S9x2048x512 : Shape := ⟨3, ![9, 2048, 512]⟩
abbrev S16x1x9216 : Shape := ⟨3, ![16, 1, 9216]⟩
abbrev S512 : Shape := ⟨1, ![512]⟩
abbrev S1024x1024 : Shape := ⟨2, ![1024, 1024]⟩
abbrev S9x1x9216 : Shape := ⟨3, ![9, 1, 9216]⟩
abbrev S9x1x1024 : Shape := ⟨3, ![9, 1, 1024]⟩
abbrev S_ : Shape := ⟨0, ![]⟩
abbrev S9x2048 : Shape := ⟨2, ![9, 2048]⟩
abbrev S9x2048x1 : Shape := ⟨3, ![9, 2048, 1]⟩
abbrev S1x1x512 : Shape := ⟨3, ![1, 1, 512]⟩

abbrev nBuf : Space → Nat
  | .hbm => 54
  | .vmem => 0
  | .smem => 0
  | _ => 0

abbrev bufTy : (tb : Table) → Fin (tcTables nBuf tb) → BufTy
  | .hbm, ⟨0, _⟩ => ⟨S9x2048x1024, .f32⟩
  | .hbm, ⟨1, _⟩ => ⟨S9x2048x512, .f32⟩
  | .hbm, ⟨2, _⟩ => ⟨S9x2048x512, .f32⟩
  | .hbm, ⟨3, _⟩ => ⟨S16x1x9216, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S9x1x9216, .f32⟩
  | .hbm, ⟨8, _⟩ => ⟨S9x1x1024, .f32⟩
  | .hbm, ⟨9, _⟩ => ⟨S9x1x1024, .f32⟩
  | .hbm, ⟨10, _⟩ => ⟨S9x1x1024, .f32⟩
  | .hbm, ⟨11, _⟩ => ⟨S9x1x1024, .f32⟩
  | .hbm, ⟨12, _⟩ => ⟨S9x1x1024, .f32⟩
  | .hbm, ⟨13, _⟩ => ⟨S9x1x1024, .f32⟩
  | .hbm, ⟨14, _⟩ => ⟨S9x1x1024, .f32⟩
  | .hbm, ⟨15, _⟩ => ⟨S9x1x1024, .f32⟩
  | .hbm, ⟨16, _⟩ => ⟨S9x1x1024, .f32⟩
  | .hbm, ⟨17, _⟩ => ⟨S9x2048x512, .f32⟩
  | .hbm, ⟨18, _⟩ => ⟨S_, .f32⟩
  | .hbm, ⟨19, _⟩ => ⟨S9x2048, .f32⟩
  | .hbm, ⟨20, _⟩ => ⟨S9x2048x1, .f32⟩
  | .hbm, ⟨21, _⟩ => ⟨S_, .f32⟩
  | .hbm, ⟨22, _⟩ => ⟨S9x2048x1, .f32⟩
  | .hbm, ⟨23, _⟩ => ⟨S9x2048x1, .f32⟩
  | .hbm, ⟨24, _⟩ => ⟨S_, .f32⟩
  | .hbm, ⟨25, _⟩ => ⟨S9x2048x1, .f32⟩
  | .hbm, ⟨26, _⟩ => ⟨S9x2048x1, .f32⟩
  | .hbm, ⟨27, _⟩ => ⟨S9x2048x1, .f32⟩
  | .hbm, ⟨28, _⟩ => ⟨S9x2048x512, .f32⟩
  | .hbm, ⟨29, _⟩ => ⟨S9x2048x512, .f32⟩
  | .hbm, ⟨30, _⟩ => ⟨S1x1x512, .f32⟩
  | .hbm, ⟨31, _⟩ => ⟨S9x2048x512, .f32⟩
  | .hbm, ⟨32, _⟩ => ⟨S9x2048x512, .f32⟩
  | .hbm, ⟨33, _⟩ => ⟨S9x2048x512, .f32⟩
  | .hbm, ⟨34, _⟩ => ⟨S_, .f32⟩
  | .hbm, ⟨35, _⟩ => ⟨S9x2048, .f32⟩
  | .hbm, ⟨36, _⟩ => ⟨S9x2048x1, .f32⟩
  | .hbm, ⟨37, _⟩ => ⟨S_, .f32⟩
  | .hbm, ⟨38, _⟩ => ⟨S9x2048x1, .f32⟩
  | .hbm, ⟨39, _⟩ => ⟨S9x2048x1, .f32⟩
  | .hbm, ⟨40, _⟩ => ⟨S_, .f32⟩
  | .hbm, ⟨41, _⟩ => ⟨S9x2048x1, .f32⟩
  | .hbm, ⟨42, _⟩ => ⟨S9x2048x1, .f32⟩
  | .hbm, ⟨43, _⟩ => ⟨S9x2048x1, .f32⟩
  | .hbm, ⟨44, _⟩ => ⟨S9x2048x512, .f32⟩
  | .hbm, ⟨45, _⟩ => ⟨S9x2048x512, .f32⟩
  | .hbm, ⟨46, _⟩ => ⟨S1x1x512, .f32⟩
  | .hbm, ⟨47, _⟩ => ⟨S9x2048x512, .f32⟩
  | .hbm, ⟨48, _⟩ => ⟨S9x2048x512, .f32⟩
  | .hbm, ⟨49, _⟩ => ⟨S9x2048x1024, .f32⟩
  | .hbm, ⟨50, _⟩ => ⟨S9x2048x1024, .f32⟩
  | .hbm, ⟨51, _⟩ => ⟨S9x2048x1024, .f32⟩
  | .hbm, ⟨52, _⟩ => ⟨S9x2048x1024, .f32⟩
  | .hbm, ⟨53, _⟩ => ⟨S9x2048x1024, .f32⟩
  | _, _ => ⟨S9x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== OutLast.lean ====
abbrev S9x2048x1024 : Shape := ⟨3, ![9, 2048, 1024]⟩
abbrev S9x2048x512 : Shape := ⟨3, ![9, 2048, 512]⟩
abbrev S16x1x9216 : Shape := ⟨3, ![16, 1, 9216]⟩
abbrev S512 : Shape := ⟨1, ![512]⟩
abbrev S1024x1024 : Shape := ⟨2, ![1024, 1024]⟩
abbrev S1x512 : Shape := ⟨2, ![1, 512]⟩
abbrev S8x2048x1024 : Shape := ⟨3, ![8, 2048, 1024]⟩
abbrev S1x512x1024 : Shape := ⟨3, ![1, 512, 1024]⟩
abbrev S1x512x512 : Shape := ⟨3, ![1, 512, 512]⟩
abbrev S1x1x3072 : Shape := ⟨3, ![1, 1, 3072]⟩
abbrev S1x3072 : Shape := ⟨2, ![1, 3072]⟩
abbrev S1x1024 : Shape := ⟨2, ![1, 1024]⟩
abbrev S512x512 : Shape := ⟨2, ![512, 512]⟩
abbrev S512x1 : Shape := ⟨2, ![512, 1]⟩
abbrev S512x1024 : Shape := ⟨2, ![512, 1024]⟩

abbrev nBuf : Space → Nat
  | .hbm => 11
  | .vmem => 13
  | .smem => 0
  | _ => 0

abbrev bufTy : (tb : Table) → Fin (tcTables nBuf tb) → BufTy
  | .hbm, ⟨0, _⟩ => ⟨S9x2048x1024, .f32⟩
  | .hbm, ⟨1, _⟩ => ⟨S9x2048x512, .f32⟩
  | .hbm, ⟨2, _⟩ => ⟨S9x2048x512, .f32⟩
  | .hbm, ⟨3, _⟩ => ⟨S16x1x9216, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S1024x1024, .bf16⟩
  | .hbm, ⟨8, _⟩ => ⟨S1x512, .f32⟩
  | .hbm, ⟨9, _⟩ => ⟨S1x512, .f32⟩
  | .hbm, ⟨10, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x1x3072, .f32⟩
  | .local _ .vmem, ⟨7, _⟩ => ⟨S1x1x3072, .f32⟩
  | .local _ .vmem, ⟨8, _⟩ => ⟨S1x512, .f32⟩
  | .local _ .vmem, ⟨9, _⟩ => ⟨S1x512, .f32⟩
  | .local _ .vmem, ⟨10, _⟩ => ⟨S1024x1024, .bf16⟩
  | .local _ .vmem, ⟨11, _⟩ => ⟨S1x512x1024, .f32⟩
  | .local _ .vmem, ⟨12, _⟩ => ⟨S1x512x1024, .f32⟩
  | _, _ => ⟨S9x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutLastRefIdeal.lean ====
abbrev S9x2048x1024 : Shape := ⟨3, ![9, 2048, 1024]⟩
abbrev S9x2048x512 : Shape := ⟨3, ![9, 2048, 512]⟩
abbrev S16x1x9216 : Shape := ⟨3, ![16, 1, 9216]⟩
abbrev S512 : Shape := ⟨1, ![512]⟩
abbrev S1024x1024 : Shape := ⟨2, ![1024, 1024]⟩
abbrev S8x2048x1024 : Shape := ⟨3, ![8, 2048, 1024]⟩
abbrev S8x2048x512 : Shape := ⟨3, ![8, 2048, 512]⟩
abbrev S8x1x9216 : Shape := ⟨3, ![8, 1, 9216]⟩
abbrev S8x1x1024 : Shape := ⟨3, ![8, 1, 1024]⟩
abbrev S_ : Shape := ⟨0, ![]⟩
abbrev S8x2048 : Shape := ⟨2, ![8, 2048]⟩
abbrev S8x2048x1 : Shape := ⟨3, ![8, 2048, 1]⟩
abbrev S1x1x512 : Shape := ⟨3, ![1, 1, 512]⟩

abbrev nBuf : Space → Nat
  | .hbm => 57
  | .vmem => 0
  | .smem => 0
  | _ => 0

abbrev bufTy : (tb : Table) → Fin (tcTables nBuf tb) → BufTy
  | .hbm, ⟨0, _⟩ => ⟨S9x2048x1024, .f32⟩
  | .hbm, ⟨1, _⟩ => ⟨S9x2048x512, .f32⟩
  | .hbm, ⟨2, _⟩ => ⟨S9x2048x512, .f32⟩
  | .hbm, ⟨3, _⟩ => ⟨S16x1x9216, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S8x2048x1024, .f32⟩
  | .hbm, ⟨8, _⟩ => ⟨S8x2048x512, .f32⟩
  | .hbm, ⟨9, _⟩ => ⟨S8x2048x512, .f32⟩
  | .hbm, ⟨10, _⟩ => ⟨S8x1x9216, .f32⟩
  | .hbm, ⟨11, _⟩ => ⟨S8x1x1024, .f32⟩
  | .hbm, ⟨12, _⟩ => ⟨S8x1x1024, .f32⟩
  | .hbm, ⟨13, _⟩ => ⟨S8x1x1024, .f32⟩
  | .hbm, ⟨14, _⟩ => ⟨S8x1x1024, .f32⟩
  | .hbm, ⟨15, _⟩ => ⟨S8x1x1024, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x2048x512, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S8x2048x1, .f32⟩
  | .hbm, ⟨31, _⟩ => ⟨S8x2048x512, .f32⟩
  | .hbm, ⟨32, _⟩ => ⟨S8x2048x512, .f32⟩
  | .hbm, ⟨33, _⟩ => ⟨S1x1x512, .f32⟩
  | .hbm, ⟨34, _⟩ => ⟨S8x2048x512, .f32⟩
  | .hbm, ⟨35, _⟩ => ⟨S8x2048x512, .f32⟩
  | .hbm, ⟨36, _⟩ => ⟨S8x2048x512, .f32⟩
  | .hbm, ⟨37, _⟩ => ⟨S_, .f32⟩
  | .hbm, ⟨38, _⟩ => ⟨S8x2048, .f32⟩
  | .hbm, ⟨39, _⟩ => ⟨S8x2048x1, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S_, .f32⟩
  | .hbm, ⟨44, _⟩ => ⟨S8x2048x1, .f32⟩
  | .hbm, ⟨45, _⟩ => ⟨S8x2048x1, .f32⟩
  | .hbm, ⟨46, _⟩ => ⟨S8x2048x1, .f32⟩
  | .hbm, ⟨47, _⟩ => ⟨S8x2048x512, .f32⟩
  | .hbm, ⟨48, _⟩ => ⟨S8x2048x512, .f32⟩
  | .hbm, ⟨49, _⟩ => ⟨S1x1x512, .f32⟩
  | .hbm, ⟨50, _⟩ => ⟨S8x2048x512, .f32⟩
  | .hbm, ⟨51, _⟩ => ⟨S8x2048x512, .f32⟩
  | .hbm, ⟨52, _⟩ => ⟨S8x2048x1024, .f32⟩
  | .hbm, ⟨53, _⟩ => ⟨S8x2048x1024, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | _, _ => ⟨S9x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== In.lean ====
abbrev S9x2048x1024 : Shape := ⟨3, ![9, 2048, 1024]⟩
abbrev S16x1x9216 : Shape := ⟨3, ![16, 1, 9216]⟩
abbrev S1024 : Shape := ⟨1, ![1024]⟩
abbrev S1024x2304 : Shape := ⟨2, ![1024, 2304]⟩
abbrev S64 : Shape := ⟨1, ![64]⟩
abbrev S2048 : Shape := ⟨1, ![2048]⟩
abbrev S_ : Shape := ⟨0, ![]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x2048x128 : Shape := ⟨3, ![1, 2048, 128]⟩
abbrev S2x2048x128 : Shape := ⟨3, ![2, 2048, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x64 : Shape := ⟨2, ![1, 64]⟩
abbrev S2x64 : Shape := ⟨2, ![2, 64]⟩
abbrev S1x1024 : Shape := ⟨2, ![1, 1024]⟩
abbrev S9x2048x512 : Shape := ⟨3, ![9, 2048, 512]⟩
abbrev S9x2048x128 : Shape := ⟨3, ![9, 2048, 128]⟩
abbrev S1x512x1024 : Shape := ⟨3, ![1, 512, 1024]⟩
abbrev S1x1x3072 : Shape := ⟨3, ![1, 1, 3072]⟩
abbrev S1x512x128 : Shape := ⟨3, ![1, 512, 128]⟩
abbrev S1x512x512 : Shape := ⟨3, ![1, 512, 512]⟩
abbrev S512x1024 : Shape := ⟨2, ![512, 1024]⟩
abbrev S1x3072 : Shape := ⟨2, ![1, 3072]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x128 : Shape := ⟨2, ![1024, 128]⟩
abbrev S512x128 : Shape := ⟨2, ![512, 128]⟩

abbrev nBuf : Space → Nat
  | .hbm => 123
  | .vmem => 25
  | .smem => 0
  | _ => 0

abbrev bufTy : (tb : Table) → Fin (tcTables nBuf tb) → BufTy
  | .hbm, ⟨0, _⟩ => ⟨S9x2048x1024, .f32⟩
  | .hbm, ⟨1, _⟩ => ⟨S16x1x9216, .f32⟩
  | .hbm, ⟨2, _⟩ => ⟨S1024, .f32⟩
  | .hbm, ⟨3, _⟩ => ⟨S1024x2304, .f32⟩
  | .hbm, ⟨4, _⟩ => ⟨S64, .f32⟩
  | .hbm, ⟨5, _⟩ => ⟨S64, .f32⟩
  | .hbm, ⟨6, _⟩ => ⟨S2048, .i32⟩
  | .hbm, ⟨7, _⟩ => ⟨S_, .i32⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S_, .i32⟩
  | .hbm, ⟨13, _⟩ => ⟨S2048, .i32⟩
  | .hbm, ⟨14, _⟩ => ⟨S2048, .i1⟩
  | .hbm, ⟨15, _⟩ => ⟨S2048, .i32⟩
  | .hbm, ⟨16, _⟩ => ⟨S2048, .i32⟩
  | .hbm, ⟨17, _⟩ => ⟨S_, .i32⟩
  | .hbm, ⟨18, _⟩ => ⟨S2048, .i32⟩
  | .hbm, ⟨19, _⟩ => ⟨S2048, .i1⟩
  | .hbm, ⟨20, _⟩ => ⟨S2048, .i1⟩
  | .hbm, ⟨21, _⟩ => ⟨S_, .i32⟩
  | .hbm, ⟨22, _⟩ => ⟨S2048, .i32⟩
  | .hbm, ⟨23, _⟩ => ⟨S2048, .i32⟩
  | .hbm, ⟨24, _⟩ => ⟨S2048, .i32⟩
  | .hbm, ⟨25, _⟩ => ⟨S2048, .f32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S2048, .i32⟩
  | .hbm, ⟨33, _⟩ => ⟨S2048, .i32⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S_, .i32⟩
  | .hbm, ⟨41, _⟩ => ⟨S_, .i1⟩
  | .hbm, ⟨42, _⟩ => ⟨S2048, .i1⟩
  | .hbm, ⟨43, _⟩ => ⟨S2048, .i1⟩
  | .hbm, ⟨44, _⟩ => ⟨S2048, .i1⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S2048, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S16, .f32⟩
  | .hbm, ⟨57, _⟩ => ⟨S_, .f32⟩
  | .hbm, ⟨58, _⟩ => ⟨S16, .f32⟩
  | .hbm, ⟨59, _⟩ => ⟨S16, .f32⟩
  | .hbm, ⟨60, _⟩ => ⟨S_, .f32⟩
  | .hbm, ⟨61, _⟩ => ⟨S16, .f32⟩
  | .hbm, ⟨62, _⟩ => ⟨S16, .f32⟩
  | .hbm, ⟨63, _⟩ => ⟨S2048x1, .f32⟩
  | .hbm, ⟨64, _⟩ => ⟨S1x16, .f32⟩
  | .hbm, ⟨65, _⟩ => ⟨S2048x16, .f32⟩
  | .hbm, ⟨66, _⟩ => ⟨S2048x16, .f32⟩
  | .hbm, ⟨67, _⟩ => ⟨S2048x16, .f32⟩
  | .hbm, ⟨68, _⟩ => ⟨S2048x1, .f32⟩
  | .hbm, ⟨69, _⟩ => ⟨S1x16, .f32⟩
  | .hbm, ⟨70, _⟩ => ⟨S2048x16, .f32⟩
  | .hbm, ⟨71, _⟩ => ⟨S2048x16, .f32⟩
  | .hbm, ⟨72, _⟩ => ⟨S2048x16, .f32⟩
  | .hbm, ⟨73, _⟩ => ⟨S2048x16, .f32⟩
  | .hbm, ⟨74, _⟩ => ⟨S2048x16, .f32⟩
  | .hbm, ⟨75, _⟩ => ⟨S2048x16, .f32⟩
  | .hbm, ⟨76, _⟩ => ⟨S2048x16, .f32⟩
  | .hbm, ⟨77, _⟩ => ⟨S2048x64, .f32⟩
  | .hbm, ⟨78, _⟩ => ⟨S2048x16, .f32⟩
  | .hbm, ⟨79, _⟩ => ⟨S2048x16, .f32⟩
  | .hbm, ⟨80, _⟩ => ⟨S2048x64, .f32⟩
  | .hbm, ⟨81, _⟩ => ⟨S1x2048x1x64, .f32⟩
  | .hbm, ⟨82, _⟩ => ⟨S1x2048x2x64, .f32⟩
  | .hbm, ⟨83, _⟩ => ⟨S2048x128, .f32⟩
  | .hbm, ⟨84, _⟩ => ⟨S1x2048x1x64, .f32⟩
  | .hbm, ⟨85, _⟩ => ⟨S1x2048x2x64, .f32⟩
  | .hbm, ⟨86, _⟩ => ⟨S2048x128, .f32⟩
  | .hbm, ⟨87, _⟩ => ⟨S_, .f32⟩
  | .hbm, ⟨88, _⟩ => ⟨S2048x128, .f32⟩
  | .hbm, ⟨89, _⟩ => ⟨S1x2048x128, .f32⟩
  | .hbm, ⟨90, _⟩ => ⟨S1x2048x128, .f32⟩
  | .hbm, ⟨91, _⟩ => ⟨S2x2048x128, .f32⟩
  | .hbm, ⟨92, _⟩ => ⟨S_, .f32⟩
  | .hbm, ⟨93, _⟩ => ⟨S2048x128, .f32⟩
  | .hbm, ⟨94, _⟩ => ⟨S1x2048x128, .f32⟩
  | .hbm, ⟨95, _⟩ => ⟨S1x2048x128, .f32⟩
  | .hbm, ⟨96, _⟩ => ⟨S2x2048x128, .f32⟩
  | .hbm, ⟨97, _⟩ => ⟨S128, .i32⟩
  | .hbm, ⟨98, _⟩ => ⟨S_, .i32⟩
  | .hbm, ⟨99, _⟩ => ⟨S128, .i32⟩
  | .hbm, ⟨100, _⟩ => ⟨S128, .i32⟩
  | .hbm, ⟨101, _⟩ => ⟨S128x1, .i32⟩
  | .hbm, ⟨102, _⟩ => ⟨S1x128, .i32⟩
  | .hbm, ⟨103, _⟩ => ⟨S128x128, .i32⟩
  | .hbm, ⟨104, _⟩ => ⟨S128x128, .i32⟩
  | .hbm, ⟨105, _⟩ => ⟨S128x128, .i1⟩
  | .hbm, ⟨106, _⟩ => ⟨S128x128, .bf16⟩
  | .hbm, ⟨107, _⟩ => ⟨S1x64, .f32⟩
  | .hbm, ⟨108, _⟩ => ⟨S2x64, .f32⟩
  | .hbm, ⟨109, _⟩ => ⟨S128, .f32⟩
  | .hbm, ⟨110, _⟩ => ⟨S1x128, .f32⟩
  | .hbm, ⟨111, _⟩ => ⟨S1x64, .f32⟩
  | .hbm, ⟨112, _⟩ => ⟨S2x64, .f32⟩
  | .hbm, ⟨113, _⟩ => ⟨S128, .f32⟩
  | .hbm, ⟨114, _⟩ => ⟨S1x128, .f32⟩
  | .hbm, ⟨115, _⟩ => ⟨S1024x2304, .bf16⟩
  | .hbm, ⟨116, _⟩ => ⟨S1x1024, .f32⟩
  | .hbm, ⟨117, _⟩ => ⟨S9x2048x512, .bf16⟩
  | .hbm, ⟨118, _⟩ => ⟨S9x2048x512, .bf16⟩
  | .hbm, ⟨119, _⟩ => ⟨S9x2048x512, .bf16⟩
  | .hbm, ⟨120, _⟩ => ⟨S9x2048x512, .bf16⟩
  | .hbm, ⟨121, _⟩ => ⟨S9x2048x128, .bf16⟩
  | .hbm, ⟨122, _⟩ => ⟨S9x2048x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1024x2304, .bf16⟩
  | .local _ .vmem, ⟨6, _⟩ => ⟨S128x128, .bf16⟩
  | .local _ .vmem, ⟨7, _⟩ => ⟨S1x128, .f32⟩
  | .local _ .vmem, ⟨8, _⟩ => ⟨S1x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x128, .bf16⟩
  | .local _ .vmem, ⟨22, _⟩ => ⟨S1x512x128, .bf16⟩
  | .local _ .vmem, ⟨23, _⟩ => ⟨S1x512x128, .bf16⟩
  | .local _ .vmem, ⟨24, _⟩ => ⟨S1x512x128, .bf16⟩
  | _, _ => ⟨S9x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_cst : Ref sig .tc := ⟨.hbm, 50, rfl⟩
abbrev main_v6 : Ref sig .tc := ⟨.hbm, 51, rfl⟩
abbrev main_v7 : Ref sig .tc := ⟨.hbm, 52, rfl⟩
abbrev main_cst_1 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_cst_2 : Ref sig .tc := ⟨.hbm, 57, rfl⟩
abbrev main_v11 : Ref sig .tc := ⟨.hbm, 58, rfl⟩
abbrev main_v12 : Ref sig .tc := ⟨.hbm, 59, rfl⟩
abbrev main_cst_3 : Ref sig .tc := ⟨.hbm, 60, rfl⟩
abbrev main_v13 : Ref sig .tc := ⟨.hbm, 61, rfl⟩
abbrev main_v14 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_v32 : Ref sig .tc := ⟨.hbm, 80, rfl⟩
abbrev main_v33 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_cst_4 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_cst_5 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_c_6 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66_0 : Ref sig .tc := ⟨.hbm, 117, rfl⟩
abbrev main_v66_1 : Ref sig .tc := ⟨.hbm, 118, rfl⟩
abbrev main_v66_2 : Ref sig .tc := ⟨.hbm, 119, rfl⟩
abbrev main_v66_3 : Ref sig .tc := ⟨.hbm, 120, rfl⟩
abbrev main_v66_4 : Ref sig .tc := ⟨.hbm, 121, rfl⟩
abbrev main_v66_5 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![9, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  ![v1.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .eq arg0 c8_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  ![v1.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== InRefIdeal.lean ====
abbrev S9x2048x1024 : Shape := ⟨3, ![9, 2048, 1024]⟩
abbrev S16x1x9216 : Shape := ⟨3, ![16, 1, 9216]⟩
abbrev S1024 : Shape := ⟨1, ![1024]⟩
abbrev S1024x2304 : Shape := ⟨2, ![1024, 2304]⟩
abbrev S64 : Shape := ⟨1, ![64]⟩
abbrev S9x1x9216 : Shape := ⟨3, ![9, 1, 9216]⟩
abbrev S9x1x1024 : Shape := ⟨3, ![9, 1, 1024]⟩
abbrev S_ : Shape := ⟨0, ![]⟩
abbrev S9x2048 : Shape := ⟨2, ![9, 2048]⟩
abbrev S9x2048x1 : Shape := ⟨3, ![9, 2048, 1]⟩
abbrev S1x1x1024 : Shape := ⟨3, ![1, 1, 1024]⟩
abbrev S9x2048x2304 : Shape := ⟨3, ![9, 2048, 2304]⟩
abbrev S9x2048x512 : Shape := ⟨3, ![9, 2048, 512]⟩
abbrev S9x2048x128 : Shape := ⟨3, ![9, 2048, 128]⟩
abbrev S2048 : Shape := ⟨1, ![2048]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S9x2048x8x64 : Shape := ⟨4, ![9, 2048, 8, 64]⟩
abbrev S9x8x2048x64 : Shape := ⟨4, ![9, 8, 2048, 64]⟩
abbrev S9x8x2048 : Shape := ⟨3, ![9, 8, 2048]⟩
abbrev S9x8x2048x1 : Shape := ⟨4, ![9, 8, 2048, 1]⟩
abbrev S1x1x1x64 : Shape := ⟨4, ![1, 1, 1, 64]⟩
abbrev S8x8x2048x64 : Shape := ⟨4, ![8, 8, 2048, 64]⟩
abbrev S8x8x2048x32 : Shape := ⟨4, ![8, 8, 2048, 32]⟩
abbrev S8x8x2048x16 : Shape := ⟨4, ![8, 8, 2048, 16]⟩
abbrev S1x1x2048x16 : Shape := ⟨4, ![1, 1, 2048, 16]⟩
abbrev S1x8x2048x64 : Shape := ⟨4, ![1, 8, 2048, 64]⟩
abbrev S9x2048x2x64 : Shape := ⟨4, ![9, 2048, 2, 64]⟩
abbrev S9x2x2048x64 : Shape := ⟨4, ![9, 2, 2048, 64]⟩
abbrev S9x2x2048 : Shape := ⟨3, ![9, 2, 2048]⟩
abbrev S9x2x2048x1 : Shape := ⟨4, ![9, 2, 2048, 1]⟩
abbrev S8x2x2048x64 : Shape := ⟨4, ![8, 2, 2048, 64]⟩
abbrev S8x2x2048x32 : Shape := ⟨4, ![8, 2, 2048, 32]⟩
abbrev S8x2x2048x16 : Shape := ⟨4, ![8, 2, 2048, 16]⟩
abbrev S1x2x2048x64 : Shape := ⟨4, ![1, 2, 2048, 64]⟩

abbrev nBuf : Space → Nat
  | .hbm => 249
  | .vmem => 0
  | .smem => 0
  | _ => 0

abbrev hbmTy0_0 (i : Nat) : BufTy := match i % 128 with
  | 0 => ⟨S9x2048x1024, .f32⟩
  | 1 => ⟨S16x1x9216, .f32⟩
  | 2 => ⟨S1024, .f32⟩
  | 3 => ⟨S1024x2304, .f32⟩
  | 4 => ⟨S64, .f32⟩
  | 5 => ⟨S64, .f32⟩
  | 6 => ⟨S9x1x9216, .f32⟩
  | 7 => ⟨S9x1x1024, .f32⟩
  | 8 => ⟨S9x1x1024, .f32⟩
  | 9 => ⟨S9x1x1024, .f32⟩
  | 10 => ⟨S9x1x1024, .f32⟩
  | 11 => ⟨S9x1x1024, .f32⟩
  | 12 => ⟨S9x1x1024, .f32⟩
  | 13 => ⟨S9x1x1024, .f32⟩
  | 14 => ⟨S9x1x1024, .f32⟩
  | 15 => ⟨S9x1x1024, .f32⟩
  | 16 => ⟨S9x2048x1024, .f32⟩
  | 17 => ⟨S_, .f32⟩
  | 18 => ⟨S9x2048, .f32⟩
  | 19 => ⟨S9x2048x1, .f32⟩
  | 20 => ⟨S_, .f32⟩
  | 21 => ⟨S9x2048x1, .f32⟩
  | 22 => ⟨S9x2048x1, .f32⟩
  | 23 => ⟨S_, .f32⟩
  | 24 => ⟨S9x2048x1, .f32⟩
  | 25 => ⟨S9x2048x1, .f32⟩
  | 26 => ⟨S9x2048x1, .f32⟩
  | 27 => ⟨S9x2048x1024, .f32⟩
  | 28 => ⟨S9x2048x1024, .f32⟩
  | 29 => ⟨S1x1x1024, .f32⟩
  | 30 => ⟨S9x2048x1024, .f32⟩
  | 31 => ⟨S9x2048x1024, .f32⟩
  | 32 => ⟨S_, .f32⟩
  | 33 => ⟨S9x1x1024, .f32⟩
  | 34 => ⟨S9x1x1024, .f32⟩
  | 35 => ⟨S9x2048x1024, .f32⟩
  | 36 => ⟨S9x2048x1024, .f32⟩
  | 37 => ⟨S9x2048x1024, .f32⟩
  | 38 => ⟨S9x2048x1024, .f32⟩
  | 39 => ⟨S9x2048x2304, .f32⟩
  | 40 => ⟨S9x2048x512, .f32⟩
  | 41 => ⟨S9x2048x512, .f32⟩
  | 42 => ⟨S9x2048x512, .f32⟩
  | 43 => ⟨S9x2048x512, .f32⟩
  | 44 => ⟨S9x2048x128, .f32⟩
  | 45 => ⟨S9x2048x128, .f32⟩
  | 46 => ⟨S2048, .i32⟩
  | 47 => ⟨S_, .i32⟩
  | 48 => ⟨S_, .i32⟩
  | 49 => ⟨S2048, .i32⟩
  | 50 => ⟨S2048, .i32⟩
  | 51 => ⟨S2048, .i32⟩
  | 52 => ⟨S_, .i32⟩
  | 53 => ⟨S2048, .i32⟩
  | 54 => ⟨S2048, .i1⟩
  | 55 => ⟨S2048, .i32⟩
  | 56 => ⟨S2048, .i32⟩
  | 57 => ⟨S_, .i32⟩
  | 58 => ⟨S2048, .i32⟩
  | 59 => ⟨S2048, .i1⟩
  | 60 => ⟨S2048, .i1⟩
  | 61 => ⟨S_, .i32⟩
  | 62 => ⟨S2048, .i32⟩
  | 63 => ⟨S2048, .i32⟩
  | 64 => ⟨S2048, .i32⟩
  | 65 => ⟨S2048, .f32⟩
  | 66 => ⟨S_, .i32⟩
  | 67 => ⟨S_, .i32⟩
  | 68 => ⟨S_, .i32⟩
  | 69 => ⟨S_, .i1⟩
  | 70 => ⟨S_, .i32⟩
  | 71 => ⟨S_, .i32⟩
  | 72 => ⟨S2048, .i32⟩
  | 73 => ⟨S2048, .i32⟩
  | 74 => ⟨S_, .i32⟩
  | 75 => ⟨S2048, .i32⟩
  | 76 => ⟨S2048, .i1⟩
  | 77 => ⟨S_, .i32⟩
  | 78 => ⟨S2048, .i32⟩
  | 79 => ⟨S2048, .i1⟩
  | 80 => ⟨S_, .i32⟩
  | 81 => ⟨S_, .i1⟩
  | 82 => ⟨S2048, .i1⟩
  | 83 => ⟨S2048, .i1⟩
  | 84 => ⟨S2048, .i1⟩
  | 85 => ⟨S2048, .i32⟩
  | 86 => ⟨S2048, .i32⟩
  | 87 => ⟨S2048, .i32⟩
  | 88 => ⟨S2048, .f32⟩
  | 89 => ⟨S16, .f32⟩
  | 90 => ⟨S_, .f32⟩
  | 91 => ⟨S16, .f32⟩
  | 92 => ⟨S16, .f32⟩
  | 93 => ⟨S_, .f32⟩
  | 94 => ⟨S16, .f32⟩
  | 95 => ⟨S16, .f32⟩
  | 96 => ⟨S16, .f32⟩
  | 97 => ⟨S_, .f32⟩
  | 98 => ⟨S16, .f32⟩
  | 99 => ⟨S16, .f32⟩
  | 100 => ⟨S_, .f32⟩
  | 101 => ⟨S16, .f32⟩
  | 102 => ⟨S16, .f32⟩
  | 103 => ⟨S2048x1, .f32⟩
  | 104 => ⟨S1x16, .f32⟩
  | 105 => ⟨S2048x16, .f32⟩
  | 106 => ⟨S2048x16, .f32⟩
  | 107 => ⟨S2048x16, .f32⟩
  | 108 => ⟨S2048x1, .f32⟩
  | 109 => ⟨S1x16, .f32⟩
  | 110 => ⟨S2048x16, .f32⟩
  | 111 => ⟨S2048x16, .f32⟩
  | 112 => ⟨S2048x16, .f32⟩
  | 113 => ⟨S2048x16, .f32⟩
  | 114 => ⟨S2048x16, .f32⟩
  | 115 => ⟨S2048x16, .f32⟩
  | 116 => ⟨S2048x16, .f32⟩
  | 117 => ⟨S_, .f32⟩
  | 118 => ⟨S9x2048x512, .f32⟩
  | 119 => ⟨S9x2048x512, .f32⟩
  | 120 => ⟨S9x2048x8x64, .f32⟩
  | 121 => ⟨S9x8x2048x64, .f32⟩
  | 122 => ⟨S9x8x2048x64, .f32⟩
  | 123 => ⟨S_, .f32⟩
  | 124 => ⟨S9x8x2048, .f32⟩
  | 125 => ⟨S9x8x2048x1, .f32⟩
  | 126 => ⟨S_, .f32⟩
  | 127 => ⟨S9x8x2048x1, .f32⟩
  | _ => ⟨S9x2048x1024, .f32⟩

abbrev hbmTy0_1 (i : Nat) : BufTy := match i % 128 with
  | 0 => ⟨S9x8x2048x1, .f32⟩
  | 1 => ⟨S_, .f32⟩
  | 2 => ⟨S9x8x2048x1, .f32⟩
  | 3 => ⟨S9x8x2048x1, .f32⟩
  | 4 => ⟨S9x8x2048x1, .f32⟩
  | 5 => ⟨S9x8x2048x64, .f32⟩
  | 6 => ⟨S9x8x2048x64, .f32⟩
  | 7 => ⟨S1x1x1x64, .f32⟩
  | 8 => ⟨S9x8x2048x64, .f32⟩
  | 9 => ⟨S9x8x2048x64, .f32⟩
  | 10 => ⟨S8x8x2048x64, .f32⟩
  | 11 => ⟨S8x8x2048x32, .f32⟩
  | 12 => ⟨S8x8x2048x32, .f32⟩
  | 13 => ⟨S8x8x2048x16, .f32⟩
  | 14 => ⟨S8x8x2048x16, .f32⟩
  | 15 => ⟨S1x1x2048x16, .f32⟩
  | 16 => ⟨S8x8x2048x16, .f32⟩
  | 17 => ⟨S8x8x2048x16, .f32⟩
  | 18 => ⟨S1x1x2048x16, .f32⟩
  | 19 => ⟨S8x8x2048x16, .f32⟩
  | 20 => ⟨S8x8x2048x16, .f32⟩
  | 21 => ⟨S8x8x2048x16, .f32⟩
  | 22 => ⟨S1x1x2048x16, .f32⟩
  | 23 => ⟨S8x8x2048x16, .f32⟩
  | 24 => ⟨S8x8x2048x16, .f32⟩
  | 25 => ⟨S1x1x2048x16, .f32⟩
  | 26 => ⟨S8x8x2048x16, .f32⟩
  | 27 => ⟨S8x8x2048x16, .f32⟩
  | 28 => ⟨S8x8x2048x16, .f32⟩
  | 29 => ⟨S8x8x2048x32, .f32⟩
  | 30 => ⟨S8x8x2048x16, .f32⟩
  | 31 => ⟨S8x8x2048x16, .f32⟩
  | 32 => ⟨S1x1x2048x16, .f32⟩
  | 33 => ⟨S8x8x2048x16, .f32⟩
  | 34 => ⟨S8x8x2048x16, .f32⟩
  | 35 => ⟨S1x1x2048x16, .f32⟩
  | 36 => ⟨S8x8x2048x16, .f32⟩
  | 37 => ⟨S8x8x2048x16, .f32⟩
  | 38 => ⟨S8x8x2048x16, .f32⟩
  | 39 => ⟨S1x1x2048x16, .f32⟩
  | 40 => ⟨S8x8x2048x16, .f32⟩
  | 41 => ⟨S8x8x2048x16, .f32⟩
  | 42 => ⟨S1x1x2048x16, .f32⟩
  | 43 => ⟨S8x8x2048x16, .f32⟩
  | 44 => ⟨S8x8x2048x16, .f32⟩
  | 45 => ⟨S8x8x2048x16, .f32⟩
  | 46 => ⟨S8x8x2048x32, .f32⟩
  | 47 => ⟨S8x8x2048x64, .f32⟩
  | 48 => ⟨S1x8x2048x64, .f32⟩
  | 49 => ⟨S9x8x2048x64, .f32⟩
  | 50 => ⟨S9x2048x8x64, .f32⟩
  | 51 => ⟨S9x2048x512, .f32⟩
  | 52 => ⟨S_, .f32⟩
  | 53 => ⟨S9x2048x512, .f32⟩
  | 54 => ⟨S9x2048x512, .f32⟩
  | 55 => ⟨S9x2048x2x64, .f32⟩
  | 56 => ⟨S9x2x2048x64, .f32⟩
  | 57 => ⟨S9x2x2048x64, .f32⟩
  | 58 => ⟨S_, .f32⟩
  | 59 => ⟨S9x2x2048, .f32⟩
  | 60 => ⟨S9x2x2048x1, .f32⟩
  | 61 => ⟨S_, .f32⟩
  | 62 => ⟨S9x2x2048x1, .f32⟩
  | 63 => ⟨S9x2x2048x1, .f32⟩
  | 64 => ⟨S_, .f32⟩
  | 65 => ⟨S9x2x2048x1, .f32⟩
  | 66 => ⟨S9x2x2048x1, .f32⟩
  | 67 => ⟨S9x2x2048x1, .f32⟩
  | 68 => ⟨S9x2x2048x64, .f32⟩
  | 69 => ⟨S9x2x2048x64, .f32⟩
  | 70 => ⟨S1x1x1x64, .f32⟩
  | 71 => ⟨S9x2x2048x64, .f32⟩
  | 72 => ⟨S9x2x2048x64, .f32⟩
  | 73 => ⟨S8x2x2048x64, .f32⟩
  | 74 => ⟨S8x2x2048x32, .f32⟩
  | 75 => ⟨S8x2x2048x32, .f32⟩
  | 76 => ⟨S8x2x2048x16, .f32⟩
  | 77 => ⟨S8x2x2048x16, .f32⟩
  | 78 => ⟨S1x1x2048x16, .f32⟩
  | 79 => ⟨S8x2x2048x16, .f32⟩
  | 80 => ⟨S8x2x2048x16, .f32⟩
  | 81 => ⟨S1x1x2048x16, .f32⟩
  | 82 => ⟨S8x2x2048x16, .f32⟩
  | 83 => ⟨S8x2x2048x16, .f32⟩
  | 84 => ⟨S8x2x2048x16, .f32⟩
  | 85 => ⟨S1x1x2048x16, .f32⟩
  | 86 => ⟨S8x2x2048x16, .f32⟩
  | 87 => ⟨S8x2x2048x16, .f32⟩
  | 88 => ⟨S1x1x2048x16, .f32⟩
  | 89 => ⟨S8x2x2048x16, .f32⟩
  | 90 => ⟨S8x2x2048x16, .f32⟩
  | 91 => ⟨S8x2x2048x16, .f32⟩
  | 92 => ⟨S8x2x2048x32, .f32⟩
  | 93 => ⟨S8x2x2048x16, .f32⟩
  | 94 => ⟨S8x2x2048x16, .f32⟩
  | 95 => ⟨S1x1x2048x16, .f32⟩
  | 96 => ⟨S8x2x2048x16, .f32⟩
  | 97 => ⟨S8x2x2048x16, .f32⟩
  | 98 => ⟨S1x1x2048x16, .f32⟩
  | 99 => ⟨S8x2x2048x16, .f32⟩
  | 100 => ⟨S8x2x2048x16, .f32⟩
  | 101 => ⟨S8x2x2048x16, .f32⟩
  | 102 => ⟨S1x1x2048x16, .f32⟩
  | 103 => ⟨S8x2x2048x16, .f32⟩
  | 104 => ⟨S8x2x2048x16, .f32⟩
  | 105 => ⟨S1x1x2048x16, .f32⟩
  | 106 => ⟨S8x2x2048x16, .f32⟩
  | 107 => ⟨S8x2x2048x16, .f32⟩
  | 108 => ⟨S8x2x2048x16, .f32⟩
  | 109 => ⟨S8x2x2048x32, .f32⟩
  | 110 => ⟨S8x2x2048x64, .f32⟩
  | 111 => ⟨S1x2x2048x64, .f32⟩
  | 112 => ⟨S9x2x2048x64, .f32⟩
  | 113 => ⟨S9x2048x2x64, .f32⟩
  | 114 => ⟨S9x2048x128, .f32⟩
  | 115 => ⟨S9x2048x512, .bf16⟩
  | 116 => ⟨S9x2048x512, .bf16⟩
  | 117 => ⟨S9x2048x512, .bf16⟩
  | 118 => ⟨S9x2048x512, .bf16⟩
  | 119 => ⟨S9x2048x128, .bf16⟩
  | 120 => ⟨S9x2048x128, .bf16⟩
  | _ => ⟨S9x2048x1024, .f32⟩

abbrev hbmTy (i : Nat) : BufTy := match i / 128 with
  | 0 => hbmTy0_0 i
  | 1 => hbmTy0_1 i
  | _ => ⟨S9x2048x1024, .f32⟩

abbrev bufTy : (tb : Table) → Fin (tcTables nBuf tb) → BufTy
  | .hbm, ⟨i, _⟩ => hbmTy i
  | _, _ => ⟨S9x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_v8 : Ref sig .tc := ⟨.hbm, 56, rfl⟩
abbrev main_call0_c : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_0 : Ref sig .tc := ⟨.hbm, 61, rfl⟩
abbrev main_call0_v12 : Ref sig .tc := ⟨.hbm, 62, rfl⟩
abbrev main_call0_v13 : Ref sig .tc := ⟨.hbm, 63, rfl⟩
abbrev main_v37 : Ref sig .tc := ⟨.hbm, 64, rfl⟩
abbrev main_v38 : Ref sig .tc := ⟨.hbm, 65, rfl⟩
abbrev main_c_3 : Ref sig .tc := ⟨.hbm, 66, rfl⟩
abbrev main_call1_v0 : Ref sig .tc := ⟨.hbm, 67, rfl⟩
abbrev main_call1_c : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_c_1 : Ref sig .tc := ⟨.hbm, 74, rfl⟩
abbrev main_call1_v5 : Ref sig .tc := ⟨.hbm, 75, rfl⟩
abbrev main_call1_v6 : Ref sig .tc := ⟨.hbm, 76, rfl⟩
abbrev main_call1_c_2 : Ref sig .tc := ⟨.hbm, 77, rfl⟩
abbrev main_call1_v7 : Ref sig .tc := ⟨.hbm, 78, rfl⟩
abbrev main_call1_v8 : Ref sig .tc := ⟨.hbm, 79, rfl⟩
abbrev main_call1_c_3 : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_v12 : Ref sig .tc := ⟨.hbm, 84, rfl⟩
abbrev main_call1_v13 : Ref sig .tc := ⟨.hbm, 85, rfl⟩
abbrev main_call1_v14 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_cst_4 : Ref sig .tc := ⟨.hbm, 90, rfl⟩
abbrev main_v42 : Ref sig .tc := ⟨.hbm, 91, rfl⟩
abbrev main_v43 : Ref sig .tc := ⟨.hbm, 92, rfl⟩
abbrev main_cst_5 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_cst_6 : Ref sig .tc := ⟨.hbm, 97, rfl⟩
abbrev main_v47 : Ref sig .tc := ⟨.hbm, 98, rfl⟩
abbrev main_v48 : Ref sig .tc := ⟨.hbm, 99, rfl⟩
abbrev main_cst_7 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_cst_8 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_cst_9 : Ref sig .tc := ⟨.hbm, 123, rfl⟩
abbrev main_v70 : Ref sig .tc := ⟨.hbm, 124, rfl⟩
abbrev main_v71 : Ref sig .tc := ⟨.hbm, 125, rfl⟩
abbrev main_cst_10 : Ref sig .tc := ⟨.hbm, 126, rfl⟩
abbrev main_v72 : Ref sig .tc := ⟨.hbm, 127, rfl⟩
abbrev main_v73 : Ref sig .tc := ⟨.hbm, 128, rfl⟩
abbrev main_cst_11 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_cst_12 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_cst_13 : Ref sig .tc := ⟨.hbm, 186, rfl⟩
abbrev main_v129 : Ref sig .tc := ⟨.hbm, 187, rfl⟩
abbrev main_v130 : Ref sig .tc := ⟨.hbm, 188, rfl⟩
abbrev main_cst_14 : Ref sig .tc := ⟨.hbm, 189, rfl⟩
abbrev main_v131 : Ref sig .tc := ⟨.hbm, 190, rfl⟩
abbrev main_v132 : Ref sig .tc := ⟨.hbm, 191, rfl⟩
abbrev main_cst_15 : Ref sig .tc := ⟨.hbm, 192, rfl⟩
abbrev main_v133 : Ref sig .tc := ⟨.hbm, 193, rfl⟩
abbrev main_v134 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_v138 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_v168 : Ref sig .tc := ⟨.hbm, 228, rfl⟩
abbrev main_v169 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_v179 : Ref sig .tc := ⟨.hbm, 239, rfl⟩
abbrev main_v180 : Ref sig .tc := ⟨.hbm, 240, rfl⟩
abbrev main_v181 : Ref sig .tc := ⟨.hbm, 241, rfl⟩
abbrev main_v182 : Ref sig .tc := ⟨.hbm, 242, rfl⟩
abbrev main_v183 : Ref sig .tc := ⟨.hbm, 243, rfl⟩
abbrev main_v184 : Ref sig .tc := ⟨.hbm, 244, rfl⟩
abbrev main_v185 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩

abbrev nD : Nat := 1
abbrev τ : Topo := Topo.v7x

variable {F : FTy → Type} [FloatOps F]
-- ==== Mod.lean ====
abbrev S16x1024 : Shape := ⟨2, ![16, 1024]⟩
abbrev S2x1024x9216 : Shape := ⟨3, ![2, 1024, 9216]⟩
abbrev S2x9216 : Shape := ⟨2, ![2, 9216]⟩
abbrev S2x1x9216 : Shape := ⟨3, ![2, 1, 9216]⟩
abbrev S2x16x9216 : Shape := ⟨3, ![2, 16, 9216]⟩
abbrev S1x1024x1152 : Shape := ⟨3, ![1, 1024, 1152]⟩
abbrev S1x1x1152 : Shape := ⟨3, ![1, 1, 1152]⟩
abbrev S1x16x1152 : Shape := ⟨3, ![1, 16, 1152]⟩
abbrev S1024x1152 : Shape := ⟨2, ![1024, 1152]⟩
abbrev S16x1152 : Shape := ⟨2, ![16, 1152]⟩
abbrev S1x1152 : Shape := ⟨2, ![1, 1152]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S2x1024x9216, .f32⟩
  | .hbm, ⟨2, _⟩ => ⟨S2x9216, .f32⟩
  | .hbm, ⟨3, _⟩ => ⟨S2x1x9216, .f32⟩
  | .hbm, ⟨4, _⟩ => ⟨S2x16x9216, .f32⟩
  | .local _ .vmem, ⟨0, _⟩ => ⟨S16x1024, .f32⟩
  | .local _ .vmem, ⟨1, _⟩ => ⟨S1x1024x1152, .f32⟩
  | .local _ .vmem, ⟨2, _⟩ => ⟨S1x1024x1152, .f32⟩
  | .local _ .vmem, ⟨3, _⟩ => ⟨S1x1x1152, .f32⟩
  | .local _ .vmem, ⟨4, _⟩ => ⟨S1x1x1152, .f32⟩
  | .local _ .vmem, ⟨5, _⟩ => ⟨S1x16x1152, .f32⟩
  | .local _ .vmem, ⟨6, _⟩ => ⟨S1x16x1152, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S16x1024 : Shape := ⟨2, ![16, 1024]⟩
abbrev S2x1024x9216 : Shape := ⟨3, ![2, 1024, 9216]⟩
abbrev S2x9216 : Shape := ⟨2, ![2, 9216]⟩
abbrev S_ : Shape := ⟨0, ![]⟩
abbrev S1x1024x9216 : Shape := ⟨3, ![1, 1024, 9216]⟩
abbrev S1024x9216 : Shape := ⟨2, ![1024, 9216]⟩
abbrev S16x9216 : Shape := ⟨2, ![16, 9216]⟩
abbrev S1x9216 : Shape := ⟨2, ![1, 9216]⟩
abbrev S9216 : Shape := ⟨1, ![9216]⟩
abbrev S1x16x9216 : Shape := ⟨3, ![1, 16, 9216]⟩
abbrev S2x16x9216 : Shape := ⟨3, ![2, 16, 9216]⟩

abbrev nBuf : Space → Nat
  | .hbm => 40
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S2x1024x9216, .f32⟩
  | .hbm, ⟨2, _⟩ => ⟨S2x9216, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x9216, .f32⟩
  | .hbm, ⟨13, _⟩ => ⟨S1024x9216, .f32⟩
  | .hbm, ⟨14, _⟩ => ⟨S16x9216, .f32⟩
  | .hbm, ⟨15, _⟩ => ⟨S1x9216, .f32⟩
  | .hbm, ⟨16, _⟩ => ⟨S9216, .f32⟩
  | .hbm, ⟨17, _⟩ => ⟨S1x9216, .f32⟩
  | .hbm, ⟨18, _⟩ => ⟨S16x9216, .f32⟩
  | .hbm, ⟨19, _⟩ => ⟨S16x9216, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024, .f32⟩
  | .hbm, ⟨29, _⟩ => ⟨S1x1024x9216, .f32⟩
  | .hbm, ⟨30, _⟩ => ⟨S1024x9216, .f32⟩
  | .hbm, ⟨31, _⟩ => ⟨S16x9216, .f32⟩
  | .hbm, ⟨32, _⟩ => ⟨S1x9216, .f32⟩
  | .hbm, ⟨33, _⟩ => ⟨S9216, .f32⟩
  | .hbm, ⟨34, _⟩ => ⟨S1x9216, .f32⟩
  | .hbm, ⟨35, _⟩ => ⟨S16x9216, .f32⟩
  | .hbm, ⟨36, _⟩ => ⟨S16x9216, .f32⟩
  | .hbm, ⟨37, _⟩ => ⟨S1x16x9216, .f32⟩
  | .hbm, ⟨38, _⟩ => ⟨S1x16x9216, .f32⟩
  | .hbm, ⟨39, _⟩ => ⟨S2x16x9216, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Ctx.lean ====
abbrev S9x2048x512 : Shape := ⟨3, ![9, 2048, 512]⟩
abbrev S9x2048x128 : Shape := ⟨3, ![9, 2048, 128]⟩
abbrev S1x256x512 : Shape := ⟨3, ![1, 256, 512]⟩
abbrev S1x256x128 : Shape := ⟨3, ![1, 256, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S256x512 : Shape := ⟨2, ![256, 512]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 10
  | .vmem => 16
  | .smem => 0
  | _ => 0

abbrev bufTy : (tb : Table) → Fin (tcTables nBuf tb) → BufTy
  | .hbm, ⟨0, _⟩ => ⟨S9x2048x512, .bf16⟩
  | .hbm, ⟨1, _⟩ => ⟨S9x2048x512, .bf16⟩
  | .hbm, ⟨2, _⟩ => ⟨S9x2048x512, .bf16⟩
  | .hbm, ⟨3, _⟩ => ⟨S9x2048x512, .bf16⟩
  | .hbm, ⟨4, _⟩ => ⟨S9x2048x128, .bf16⟩
  | .hbm, ⟨5, _⟩ => ⟨S9x2048x128, .bf16⟩
  | .hbm, ⟨6, _⟩ => ⟨S9x2048x512, .f32⟩
  | .hbm, ⟨7, _⟩ => ⟨S9x2048x512, .f32⟩
  | .hbm, ⟨8, _⟩ => ⟨S9x2048x512, .f32⟩
  | .hbm, ⟨9, _⟩ => ⟨S9x2048x512, .f32⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x128, .bf16⟩
  | .local _ .vmem, ⟨9, _⟩ => ⟨S1x256x128, .bf16⟩
  | .local _ .vmem, ⟨10, _⟩ => ⟨S1x256x128, .bf16⟩
  | .local _ .vmem, ⟨11, _⟩ => ⟨S1x256x128, .bf16⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S9x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  ![c8_i32.toNat, arg0.toNat, c0_i32.toNat]

def cc0_transform_1 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  ![c8_i32.toNat, arg0.toNat, c0_i32.toNat]

def cc0_transform_2 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  ![c8_i32.toNat, arg0.toNat, c0_i32.toNat]

def cc0_transform_3 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  ![c8_i32.toNat, arg0.toNat, c0_i32.toNat]

def cc0_transform_4 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  ![c8_i32.toNat, arg0.toNat, c0_i32.toNat]

def cc0_transform_5 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  ![c8_i32.toNat, arg0.toNat, c0_i32.toNat]

def cc0_transform_8 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  ![c8_i32.toNat, arg0.toNat, c0_i32.toNat]

def cc0_transform_9 (i : grid0.Coords) : Fin 3 → Nat :=
  let arg0 : BitVec 32 := BitVec.ofNat 32 (i 0).val
  let c8_i32 : BitVec 32 := 8#32
  let c0_i32 : BitVec 32 := 0#32
  let c0_i32_0 : BitVec 32 := 0#32
  ![c8_i32.toNat, arg0.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== CtxRefIdeal.lean ====
abbrev S9x2048x512 : Shape := ⟨3, ![9, 2048, 512]⟩
abbrev S9x2048x128 : Shape := ⟨3, ![9, 2048, 128]⟩
abbrev S1x2048x512 : Shape := ⟨3, ![1, 2048, 512]⟩
abbrev S2048x512 : Shape := ⟨2, ![2048, 512]⟩
abbrev S8x256x512 : Shape := ⟨3, ![8, 256, 512]⟩
abbrev S8x256x8x64 : Shape := ⟨4, ![8, 256, 8, 64]⟩
abbrev S8x8x256x64 : Shape := ⟨4, ![8, 8, 256, 64]⟩
abbrev S8x8x1x256x64 : Shape := ⟨5, ![8, 8, 1, 256, 64]⟩
abbrev S8x8x1x256x256 : Shape := ⟨5, ![8, 8, 1, 256, 256]⟩
abbrev S_ : Shape := ⟨0, ![]⟩
abbrev S8x8x1x256 : Shape := ⟨4, ![8, 8, 1, 256]⟩
abbrev S8x8x1x256x1 : Shape := ⟨5, ![8, 8, 1, 256, 1]⟩
abbrev S8x256x4x2x64 : Shape := ⟨5, ![8, 256, 4, 2, 64]⟩
abbrev S8x2x4x256x64 : Shape := ⟨5, ![8, 2, 4, 256, 64]⟩
abbrev S1x2048x128 : Shape := ⟨3, ![1, 2048, 128]⟩
abbrev S2048x128 : Shape := ⟨2, ![2048, 128]⟩
abbrev S8x256x128 : Shape := ⟨3, ![8, 256, 128]⟩
abbrev S8x256x2x64 : Shape := ⟨4, ![8, 256, 2, 64]⟩
abbrev S8x2x256x64 : Shape := ⟨4, ![8, 2, 256, 64]⟩
abbrev S8x2x4x256x256 : Shape := ⟨5, ![8, 2, 4, 256, 256]⟩
abbrev S8x2x4x256 : Shape := ⟨4, ![8, 2, 4, 256]⟩
abbrev S8x2x4x256x1 : Shape := ⟨5, ![8, 2, 4, 256, 1]⟩
abbrev S8x2048x512 : Shape := ⟨3, ![8, 2048, 512]⟩

abbrev nBuf : Space → Nat
  | .hbm => 88
  | .vmem => 0
  | .smem => 0
  | _ => 0

abbrev bufTy : (tb : Table) → Fin (tcTables nBuf tb) → BufTy
  | .hbm, ⟨0, _⟩ => ⟨S9x2048x512, .bf16⟩
  | .hbm, ⟨1, _⟩ => ⟨S9x2048x512, .bf16⟩
  | .hbm, ⟨2, _⟩ => ⟨S9x2048x512, .bf16⟩
  | .hbm, ⟨3, _⟩ => ⟨S9x2048x512, .bf16⟩
  | .hbm, ⟨4, _⟩ => ⟨S9x2048x128, .bf16⟩
  | .hbm, ⟨5, _⟩ => ⟨S9x2048x128, .bf16⟩
  | .hbm, ⟨6, _⟩ => ⟨S9x2048x512, .f32⟩
  | .hbm, ⟨7, _⟩ => ⟨S9x2048x512, .f32⟩
  | .hbm, ⟨8, _⟩ => ⟨S1x2048x512, .bf16⟩
  | .hbm, ⟨9, _⟩ => ⟨S2048x512, .bf16⟩
  | .hbm, ⟨10, _⟩ => ⟨S2048x512, .f32⟩
  | .hbm, ⟨11, _⟩ => ⟨S8x256x512, .f32⟩
  | .hbm, ⟨12, _⟩ => ⟨S8x256x8x64, .f32⟩
  | .hbm, ⟨13, _⟩ => ⟨S8x8x256x64, .f32⟩
  | .hbm, ⟨14, _⟩ => ⟨S8x8x1x256x64, .f32⟩
  | .hbm, ⟨15, _⟩ => ⟨S1x2048x512, .bf16⟩
  | .hbm, ⟨16, _⟩ => ⟨S2048x512, .bf16⟩
  | .hbm, ⟨17, _⟩ => ⟨S2048x512, .f32⟩
  | .hbm, ⟨18, _⟩ => ⟨S8x256x512, .f32⟩
  | .hbm, ⟨19, _⟩ => ⟨S8x256x8x64, .f32⟩
  | .hbm, ⟨20, _⟩ => ⟨S8x8x256x64, .f32⟩
  | .hbm, ⟨21, _⟩ => ⟨S1x2048x512, .bf16⟩
  | .hbm, ⟨22, _⟩ => ⟨S2048x512, .bf16⟩
  | .hbm, ⟨23, _⟩ => ⟨S2048x512, .f32⟩
  | .hbm, ⟨24, _⟩ => ⟨S8x256x512, .f32⟩
  | .hbm, ⟨25, _⟩ => ⟨S8x256x8x64, .f32⟩
  | .hbm, ⟨26, _⟩ => ⟨S8x8x256x64, .f32⟩
  | .hbm, ⟨27, _⟩ => ⟨S8x8x1x256x256, .f32⟩
  | .hbm, ⟨28, _⟩ => ⟨S_, .f32⟩
  | .hbm, ⟨29, _⟩ => ⟨S8x8x1x256, .f32⟩
  | .hbm, ⟨30, _⟩ => ⟨S_, .f32⟩
  | .hbm, ⟨31, _⟩ => ⟨S8x8x1x256, .f32⟩
  | .hbm, ⟨32, _⟩ => ⟨S8x8x1x256, .f32⟩
  | .hbm, ⟨33, _⟩ => ⟨S8x8x1x256x1, .f32⟩
  | .hbm, ⟨34, _⟩ => ⟨S8x8x1x256x256, .f32⟩
  | .hbm, ⟨35, _⟩ => ⟨S8x8x1x256x256, .f32⟩
  | .hbm, ⟨36, _⟩ => ⟨S8x8x1x256x256, .f32⟩
  | .hbm, ⟨37, _⟩ => ⟨S_, .f32⟩
  | .hbm, ⟨38, _⟩ => ⟨S8x8x1x256, .f32⟩
  | .hbm, ⟨39, _⟩ => ⟨S8x8x1x256x1, .f32⟩
  | .hbm, ⟨40, _⟩ => ⟨S8x8x1x256x256, .f32⟩
  | .hbm, ⟨41, _⟩ => ⟨S8x8x1x256x256, .f32⟩
  | .hbm, ⟨42, _⟩ => ⟨S8x8x1x256x64, .f32⟩
  | .hbm, ⟨43, _⟩ => ⟨S8x8x256x64, .f32⟩
  | .hbm, ⟨44, _⟩ => ⟨S1x2048x512, .bf16⟩
  | .hbm, ⟨45, _⟩ => ⟨S2048x512, .bf16⟩
  | .hbm, ⟨46, _⟩ => ⟨S2048x512, .f32⟩
  | .hbm, ⟨47, _⟩ => ⟨S8x256x512, .f32⟩
  | .hbm, ⟨48, _⟩ => ⟨S8x256x4x2x64, .f32⟩
  | .hbm, ⟨49, _⟩ => ⟨S8x2x4x256x64, .f32⟩
  | .hbm, ⟨50, _⟩ => ⟨S1x2048x128, .bf16⟩
  | .hbm, ⟨51, _⟩ => ⟨S2048x128, .bf16⟩
  | .hbm, ⟨52, _⟩ => ⟨S2048x128, .f32⟩
  | .hbm, ⟨53, _⟩ => ⟨S8x256x128, .f32⟩
  | .hbm, ⟨54, _⟩ => ⟨S8x256x2x64, .f32⟩
  | .hbm, ⟨55, _⟩ => ⟨S8x2x256x64, .f32⟩
  | .hbm, ⟨56, _⟩ => ⟨S1x2048x128, .bf16⟩
  | .hbm, ⟨57, _⟩ => ⟨S2048x128, .bf16⟩
  | .hbm, ⟨58, _⟩ => ⟨S2048x128, .f32⟩
  | .hbm, ⟨59, _⟩ => ⟨S8x256x128, .f32⟩
  | .hbm, ⟨60, _⟩ => ⟨S8x256x2x64, .f32⟩
  | .hbm, ⟨61, _⟩ => ⟨S8x2x256x64, .f32⟩
  | .hbm, ⟨62, _⟩ => ⟨S8x2x4x256x256, .f32⟩
  | .hbm, ⟨63, _⟩ => ⟨S_, .f32⟩
  | .hbm, ⟨64, _⟩ => ⟨S8x2x4x256, .f32⟩
  | .hbm, ⟨65, _⟩ => ⟨S_, .f32⟩
  | .hbm, ⟨66, _⟩ => ⟨S8x2x4x256, .f32⟩
  | .hbm, ⟨67, _⟩ => ⟨S8x2x4x256, .f32⟩
  | .hbm, ⟨68, _⟩ => ⟨S8x2x4x256x1, .f32⟩
  | .hbm, ⟨69, _⟩ => ⟨S8x2x4x256x256, .f32⟩
  | .hbm, ⟨70, _⟩ => ⟨S8x2x4x256x256, .f32⟩
  | .hbm, ⟨71, _⟩ => ⟨S8x2x4x256x256, .f32⟩
  | .hbm, ⟨72, _⟩ => ⟨S_, .f32⟩
  | .hbm, ⟨73, _⟩ => ⟨S8x2x4x256, .f32⟩
  | .hbm, ⟨74, _⟩ => ⟨S8x2x4x256x1, .f32⟩
  | .hbm, ⟨75, _⟩ => ⟨S8x2x4x256x256, .f32⟩
  | .hbm, ⟨76, _⟩ => ⟨S8x2x4x256x256, .f32⟩
  | .hbm, ⟨77, _⟩ => ⟨S8x2x4x256x64, .f32⟩
  | .hbm, ⟨78, _⟩ => ⟨S8x256x4x2x64, .f32⟩
  | .hbm, ⟨79, _⟩ => ⟨S8x256x512, .f32⟩
  | .hbm, ⟨80, _⟩ => ⟨S8x256x8x64, .f32⟩
  | .hbm, ⟨81, _⟩ => ⟨S8x256x512, .f32⟩
  | .hbm, ⟨82, _⟩ => ⟨S8x2048x512, .f32⟩
  | .hbm, ⟨83, _⟩ => ⟨S1x2048x512, .f32⟩
  | .hbm, ⟨84, _⟩ => ⟨S9x2048x512, .f32⟩
  | .hbm, ⟨85, _⟩ => ⟨S8x2048x512, .f32⟩
  | .hbm, ⟨86, _⟩ => ⟨S1x2048x512, .f32⟩
  | .hbm, ⟨87, _⟩ => ⟨S9x2048x512, .f32⟩
  | _, _ => ⟨S9x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_cst_0 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_2 : Ref sig .tc := ⟨.hbm, 63, rfl⟩
abbrev main_v52 : Ref sig .tc := ⟨.hbm, 64, rfl⟩
abbrev main_cst_3 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_4 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩

abbrev nD : Nat := 1
abbrev τ : Topo := Topo.v7x

variable {F : FTy → Type} [FloatOps F]
-- ==== Proof.Attn.Gather.lean ====
/- Where a gather reads its operand, one operand axis at a time. -/
module

public import Idealize.ShloMosaic.PureOps.ShapeOps

@[expose] public section

namespace Cert.Attn

open Idealize.ShloMosaic

variable {s si t : Shape} {w : Nat}

/-- An axis taken whole: the result's coordinate on the offset axis in its place. -/
theorem gather_whole (d : GatherDims s si t) (j : t.Idx) (idx : IVec si w) (a : Fin s.rank)
    (hs : a ∉ d.startIndexMap) (hb : d.operandBatchingDims = []) (hk : a ∈ d.sKept) :
    (d.operandIdx j idx a).val
      = (j (d.offsetDims[d.sKept.idxOf a]'(by rw [d.offset_length]; exact List.idxOf_lt_length_iff.2 hk))).val := by
  show d.start j idx a + d.batchCoord j a + d.offCoord j a = _
  have h1 : d.start j idx a = 0 := by unfold GatherDims.start; rw [dif_neg hs]
  rw [h1, d.batchCoord_eq_zero j a (by rw [hb]; exact List.not_mem_nil)]
  unfold GatherDims.offCoord
  rw [dif_pos hk, Nat.zero_add]

/-- An axis read at an index: the index's word, kept inside the axis. -/
theorem gather_read (d : GatherDims s si t) (j : t.Idx) (idx : IVec si w) (a : Fin s.rank)
    (hs : a ∈ d.startIndexMap) (hb : d.operandBatchingDims = []) (hk : a ∈ d.collapsedSliceDims) (i : si.Idx)
    (hi : ∀ b, (d.siIdx j ⟨d.startIndexMap.idxOf a, List.idxOf_lt_length_iff.2 hs⟩ b).val = (i b).val) :
    (d.operandIdx j idx a).val = min (idx i).toInt.toNat (s.size a - d.sliceSizes a) := by
  show d.start j idx a + d.batchCoord j a + d.offCoord j a = _
  rw [d.batchCoord_eq_zero j a (by rw [hb]; exact List.not_mem_nil),
    d.offCoord_eq_zero j a (fun h => ((d.mem_sKept a).mp h).1 hk)]
  unfold GatherDims.start
  rw [dif_pos hs, show d.siIdx j ⟨d.startIndexMap.idxOf a, List.idxOf_lt_length_iff.2 hs⟩ = i from funext fun b => Fin.ext (hi b)]
  rfl

end Cert.Attn

end
-- ==== Proof.Attn.Softmax.lean ====
/- Attention with one shared denominator, on the extended reals: dividing the weighted sum of the
   values by the sum of the weights is the same as weighting the values by the divided weights, and
   rows whose score is minus infinity may be left out. Nothing here mentions a program. -/
module

public import Idealize.ShloMosaic.Lib.Pipeline.ValueKit
public import Idealize.ShloMosaic.Lib.Pointwise

@[expose] public section

noncomputable section

namespace Cert.Attn

open Idealize.ShloMosaic

/-- A score: a real number, or minus infinity where it is masked. -/
def Score (x : EReal) : Prop := x ≠ ⊤

/-- A finite score. -/
def Fin' (x : EReal) : Prop := x ≠ ⊤ ∧ x ≠ ⊥

theorem Fin'.coe {x : EReal} (h : Fin' x) : ∃ r : ℝ, x = (r : EReal) :=
  ⟨x.toReal, (EReal.coe_toReal h.1 h.2).symm⟩

theorem Fin'.of_coe (r : ℝ) : Fin' (r : EReal) := ⟨EReal.coe_ne_top r, EReal.coe_ne_bot r⟩

theorem Fin'.add {x y : EReal} (hx : Fin' x) (hy : Fin' y) : Fin' (x + y) := by
  obtain ⟨a, rfl⟩ := hx.coe
  obtain ⟨b, rfl⟩ := hy.coe
  rw [← EReal.coe_add]; exact Fin'.of_coe _

theorem Fin'.mul {x y : EReal} (hx : Fin' x) (hy : Fin' y) : Fin' (x * y) := by
  obtain ⟨a, rfl⟩ := hx.coe
  obtain ⟨b, rfl⟩ := hy.coe
  rw [← EReal.coe_mul]; exact Fin'.of_coe _

theorem Fin'.sum {ι : Type} (s : Finset ι) (f : ι → EReal) (h : ∀ i, Fin' (f i)) :
    Fin' (∑ i ∈ s, f i) := by
  classical
  induction s using Finset.induction_on with
  | empty => rw [Finset.sum_empty]; exact Fin'.of_coe 0
  | insert a s ha ih => rw [Finset.sum_insert ha]; exact (h a).add ih

theorem Fin'.score {x : EReal} (h : Fin' x) : Score x := h.1

/-! ## The greatest score -/

/-- The greatest of finitely many scores, from minus infinity on. -/
def top {A : Type} [Fintype A] (s : A → EReal) : EReal := Finset.univ.fold max ⊥ s

theorem top_le {A : Type} [Fintype A] (s : A → EReal) (c : EReal) : top s ≤ c ↔ ∀ a, s a ≤ c := by
  unfold top
  rw [Finset.fold_max_le]
  simp

theorem le_top {A : Type} [Fintype A] (s : A → EReal) (a : A) : s a ≤ top s :=
  (top_le s _).1 le_rfl a

theorem top_lt {A : Type} [Fintype A] (s : A → EReal) (h : ∀ a, Score (s a)) : Score (top s) := by
  have : top s < ⊤ := by
    unfold top
    rw [Finset.fold_max_lt]
    exact ⟨bot_lt_top, fun a _ => lt_of_le_of_ne _root_.le_top (h a)⟩
  exact this.ne

/-- Rows at minus infinity do not count for the greatest score. -/
theorem top_of_embedding {A B : Type} [Fintype A] [Fintype B] (s : A → EReal) (f : B → A)
    (hout : ∀ a, (∀ b, f b ≠ a) → s a = ⊥) : top s = top (fun b => s (f b)) := by
  refine le_antisymm ((top_le _ _).2 fun a => ?_) ((top_le _ _).2 fun b => le_top s (f b))
  by_cases h : ∃ b, f b = a
  · obtain ⟨b, rfl⟩ := h
    exact le_top (fun b => s (f b)) b
  · rw [hout a fun b hb => h ⟨b, hb⟩]; exact bot_le

/-! ## Weights -/

/-- The weight of a score below a real reference is a nonnegative real number. -/
theorem weight_coe {x : EReal} (hx : Score x) (m : ℝ) :
    ∃ r : ℝ, 0 ≤ r ∧ Ideal.exp (x - (m : EReal)) = (r : EReal) := by
  induction x with
  | bot => exact ⟨0, le_rfl, by rw [EReal.bot_sub]; rfl⟩
  | top => exact absurd rfl hx
  | coe x => exact ⟨Real.exp (x - m), (Real.exp_pos _).le, by rw [← EReal.coe_sub]; rfl⟩

/-- The weight of a finite score is positive. -/
theorem weight_pos {x : EReal} (hx : Fin' x) (m : ℝ) :
    ∃ r : ℝ, 0 < r ∧ Ideal.exp (x - (m : EReal)) = (r : EReal) := by
  obtain ⟨a, rfl⟩ := hx.coe
  exact ⟨Real.exp (a - m), Real.exp_pos _, by rw [← EReal.coe_sub]; rfl⟩

/-- A masked row weighs nothing. -/
theorem weight_bot (m : ℝ) : Ideal.exp (⊥ - (m : EReal)) = 0 := by rw [EReal.bot_sub]; rfl

theorem sum_weight_coe {A : Type} [Fintype A] (s : A → EReal) (h : ∀ a, Score (s a)) (m : ℝ) :
    ∃ r : ℝ, 0 ≤ r ∧ ∑ a, Ideal.exp (s a - (m : EReal)) = (r : EReal) := by
  choose g hg0 hg using fun a => weight_coe (h a) m
  exact ⟨∑ a, g a, Finset.sum_nonneg fun a _ => hg0 a, by
    rw [Finset.sum_congr rfl fun a _ => hg a]; exact (map_sum (⟨⟨(↑), rfl⟩, EReal.coe_add⟩ : ℝ →+ EReal) g _).symm⟩

theorem sum_weight_pos {C : Type} [Fintype C] [Nonempty C] (t : C → EReal) (h : ∀ a, Fin' (t a)) (m : ℝ) :
    ∃ r : ℝ, 0 < r ∧ ∑ a, Ideal.exp (t a - (m : EReal)) = (r : EReal) := by
  choose g hg0 hg using fun a => weight_pos (h a) m
  exact ⟨∑ a, g a, Finset.sum_pos (fun a _ => hg0 a) Finset.univ_nonempty, by
    rw [Finset.sum_congr rfl fun a _ => hg a]; exact (map_sum (⟨⟨(↑), rfl⟩, EReal.coe_add⟩ : ℝ →+ EReal) g _).symm⟩

/-! ## Dividing a weighted sum -/

/-- A nonnegative real factor distributes over a finite sum. -/
theorem sum_mul_coe {A : Type} (s : Finset A) (g : A → EReal) (c : ℝ) (hc : 0 ≤ c) :
    (∑ a ∈ s, g a) * (c : EReal) = ∑ a ∈ s, g a * (c : EReal) := by
  classical
  induction s using Finset.induction_on with
  | empty => simp
  | insert a s ha ih =>
    rw [Finset.sum_insert ha, Finset.sum_insert ha, ← ih]
    exact EReal.right_distrib_of_nonneg_of_ne_top (EReal.coe_nonneg.2 hc) (EReal.coe_ne_top c) _ _

theorem div_pos_coe (x : EReal) (l : ℝ) (hl : 0 < l) :
    Ideal.div x (l : EReal) = x * ((l⁻¹ : ℝ) : EReal) := by
  unfold Ideal.div
  rw [if_neg (by exact_mod_cast hl.ne'), EReal.coe_inv]

/-- The attention of one query with a shared reference `m`: the rows `A` of one kind, of which only
    those reached by `f` are not masked, and the rows `C` of another. -/
theorem attention_at {A B C : Type} [Fintype A] [Fintype B] [Fintype C] [Nonempty C]
    (s v : A → EReal) (t w : C → EReal) (f : B → A) (hf : Function.Injective f)
    (hout : ∀ a, (∀ b, f b ≠ a) → s a = ⊥) (hs : ∀ a, Score (s a)) (ht : ∀ c, Fin' (t c)) (m : ℝ) :
    Ideal.div (∑ a, Ideal.exp (s a - (m : EReal)) * v a + ∑ c, Ideal.exp (t c - (m : EReal)) * w c)
        (∑ a, Ideal.exp (s a - (m : EReal)) + ∑ c, Ideal.exp (t c - (m : EReal)))
      = ∑ b, Ideal.div (Ideal.exp (s (f b) - (m : EReal)))
            (∑ b, Ideal.exp (s (f b) - (m : EReal)) + ∑ c, Ideal.exp (t c - (m : EReal))) * v (f b)
        + ∑ c, Ideal.div (Ideal.exp (t c - (m : EReal)))
            (∑ b, Ideal.exp (s (f b) - (m : EReal)) + ∑ c, Ideal.exp (t c - (m : EReal))) * w c := by
  classical
  have hz : ∀ a, (∀ b, f b ≠ a) → Ideal.exp (s a - (m : EReal)) = 0 := fun a h => by
    rw [hout a h, weight_bot]
  have e1 : ∑ a, Ideal.exp (s a - (m : EReal)) = ∑ b, Ideal.exp (s (f b) - (m : EReal)) :=
    (Finset.sum_of_injOn f hf.injOn (fun _ _ => Finset.mem_coe.2 (Finset.mem_univ _))
      (fun a _ h => hz a fun b hb => h ⟨b, by simp, hb⟩) fun _ _ => rfl).symm
  have e2 : ∑ a, Ideal.exp (s a - (m : EReal)) * v a = ∑ b, Ideal.exp (s (f b) - (m : EReal)) * v (f b) :=
    (Finset.sum_of_injOn f hf.injOn (fun _ _ => Finset.mem_coe.2 (Finset.mem_univ _))
      (fun a _ h => by rw [hz a fun b hb => h ⟨b, by simp, hb⟩, zero_mul]) fun _ _ => rfl).symm
  obtain ⟨r1, h1, k1⟩ := sum_weight_coe (fun b => s (f b)) (fun b => hs _) m
  obtain ⟨r2, h2, k2⟩ := sum_weight_pos t ht m
  rw [e1, e2, k1, k2, ← EReal.coe_add]
  have hl : 0 < r1 + r2 := by linarith
  have hi : 0 ≤ (r1 + r2)⁻¹ := (inv_pos.2 hl).le
  simp only [div_pos_coe _ _ hl]
  rw [EReal.right_distrib_of_nonneg_of_ne_top (EReal.coe_nonneg.2 hi) (EReal.coe_ne_top _),
    sum_mul_coe _ _ _ hi, sum_mul_coe _ _ _ hi]
  congr 1 <;> exact Finset.sum_congr rfl fun a _ => by rw [mul_right_comm]

/-- The greatest of all scores is a real number. -/
theorem top_coe {A C : Type} [Fintype A] [Fintype C] [Nonempty C]
    (s : A → EReal) (t : C → EReal) (hs : ∀ a, Score (s a)) (ht : ∀ c, Fin' (t c)) :
    ∃ m : ℝ, max (top s) (top t) = (m : EReal) := by
  have h1 : max (top s) (top t) ≠ ⊤ := by
    have a := lt_of_le_of_ne (_root_.le_top) (top_lt s hs)
    have b := lt_of_le_of_ne (_root_.le_top) (top_lt t fun c => (ht c).1)
    exact (max_lt a b).ne
  have h2 : max (top s) (top t) ≠ ⊥ := by
    obtain ⟨c⟩ := ‹Nonempty C›
    have : ⊥ < t c := lt_of_le_of_ne bot_le (ht c).2.symm
    exact (lt_of_lt_of_le this ((le_top t c).trans (le_max_right _ _))).ne'
  exact ⟨_, (EReal.coe_toReal h1 h2).symm⟩

/-- One query's attention over two kinds of rows, scores `s` and `t`, values `v` and `w`: weights below
    the greatest score, the weighted sum divided by the sum of the weights. -/
def divLast {A C : Type} [Fintype A] [Fintype C] (s v : A → EReal) (t w : C → EReal) : EReal :=
  Ideal.div (∑ a, Ideal.exp (s a - max (top s) (top t)) * v a + ∑ c, Ideal.exp (t c - max (top s) (top t)) * w c)
    (∑ a, Ideal.exp (s a - max (top s) (top t)) + ∑ c, Ideal.exp (t c - max (top s) (top t)))

/-- The same with every weight divided before it meets its value. -/
def divFirst {B C : Type} [Fintype B] [Fintype C] (s v : B → EReal) (t w : C → EReal) : EReal :=
  ∑ b, Ideal.div (Ideal.exp (s b - max (top s) (top t)))
      (∑ b, Ideal.exp (s b - max (top s) (top t)) + ∑ c, Ideal.exp (t c - max (top s) (top t))) * v b
  + ∑ c, Ideal.div (Ideal.exp (t c - max (top s) (top t)))
      (∑ b, Ideal.exp (s b - max (top s) (top t)) + ∑ c, Ideal.exp (t c - max (top s) (top t))) * w c

/-- Attention over masked rows `A` and rows `C` with the division last is attention over the rows
    that are not masked, reached by `f`, with every weight divided first. -/
theorem attention {A B C : Type} [Fintype A] [Fintype B] [Fintype C] [Nonempty C]
    (s v : A → EReal) (t w : C → EReal) (f : B → A) (hf : Function.Injective f)
    (hout : ∀ a, (∀ b, f b ≠ a) → s a = ⊥) (hs : ∀ a, Score (s a)) (ht : ∀ c, Fin' (t c)) :
    divLast s v t w = divFirst (fun b => s (f b)) (fun b => v (f b)) t w := by
  obtain ⟨m, hm⟩ := top_coe s t hs ht
  unfold divLast divFirst
  rw [← top_of_embedding s f hout, hm]
  exact attention_at s v t w f hf hout hs ht m

/-- Equal scores and values, equal attention. -/
theorem divFirst_congr {B C : Type} [Fintype B] [Fintype C] {s s' v v' : B → EReal} {t t' w w' : C → EReal}
    (h1 : ∀ b, s b = s' b) (h2 : ∀ b, v b = v' b) (h3 : ∀ c, t c = t' c) (h4 : ∀ c, w c = w' c) :
    divFirst s v t w = divFirst s' v' t' w' := by
  rw [funext h1, funext h2, funext h3, funext h4]

theorem divLast_congr {B C : Type} [Fintype B] [Fintype C] {s s' v v' : B → EReal} {t t' w w' : C → EReal}
    (h1 : ∀ b, s b = s' b) (h2 : ∀ b, v b = v' b) (h3 : ∀ c, t c = t' c) (h4 : ∀ c, w c = w' c) :
    divLast s v t w = divLast s' v' t' w' := by
  rw [funext h1, funext h2, funext h3, funext h4]

/-- The bit pattern of minus infinity, read ideally. -/
theorem ofBits_neg_inf : Ideal.ofBits FTy.f32 0xFF800000#32 = ⊥ := by
  unfold Ideal.ofBits
  decide +kernel

end Cert.Attn

end
-- ==== Proof.Na.Spec.lean ====
/- The neighbourhood attention written as sums over its arguments: what one entry of the result is in
   the kernel's order (bias table, 704 latent rows, division last). -/
module

public import Idealize.ShloMosaic.Lib.Pipeline.ValueKit
public import Idealize.ShloMosaic.Lib.Pointwise
public import proofs.«01_k».proof.Proof.Attn.Softmax

@[expose] public section

noncomputable section

namespace Cert.Na.Spec

open Idealize.ShloMosaic Cert.Attn

/-- The shapes of the queries, keys and values, of the bias table and of the position biases. -/
abbrev Sx : Shape := ⟨3, ![9, 2048, 512]⟩
abbrev St : Shape := ⟨4, ![3, 8, 256, 704]⟩
abbrev Sr : Shape := ⟨3, ![8, 15, 31]⟩

/-- The group of batch element `b`. -/
def grp (b : Fin 8) : Fin 9 := ⟨b.val, by omega⟩
/-- Column `d` of head `h`. -/
def col (h : Fin 8) (d : Fin 64) : Fin 512 := ⟨h.val * 64 + d.val, by omega⟩
/-- The head of a column. -/
def headOf (e : Fin 512) : Fin 8 := ⟨e.val / 64, by omega⟩
/-- The block of four grid rows of a token. -/
def blockOf (t : Fin 2048) : Fin 8 := ⟨t.val / 256, by omega⟩
/-- The token's place in its block. -/
def placeOf (t : Fin 2048) : Fin 256 := ⟨t.val % 256, by omega⟩
/-- The first grid row whose keys a block of queries reads. -/
def firstRow (q : Fin 8) : Nat := min (4 * q.val - 4) 21
/-- The bias table's page for a block of queries: first, inner, last. -/
def page (q : Fin 8) : Fin 3 := if q.val = 0 then 0 else if q.val = 7 then 2 else 1
/-- Latent row `a` of the 704 that a block of queries reads. -/
def keyAt (q : Fin 8) (a : Fin 704) : Fin 2048 := ⟨firstRow q * 64 + a.val, by unfold firstRow; omega⟩
/-- Context row `c` of batch element `b`. -/
def ctxAt (b : Fin 8) (c : Fin 256) : Fin 2048 := ⟨b.val * 256 + c.val, by omega⟩

variable (Q K V : FVec Ideal Sx .bf16) (T : FVec Ideal St .f32)

/-- The product of the query of token `t` with the key in row `r` of group `g`, head `h`. -/
def dot (b : Fin 8) (h : Fin 8) (t : Fin 2048) (g : Fin 9) (r : Fin 2048) : EReal :=
  ∑ d : Fin 64, Q (ix3 (grp b) t (col h d)) * K (ix3 g r (col h d))

/-- One entry of the result in the kernel's order. -/
def kernelOut (b : Fin 8) (t : Fin 2048) (e : Fin 512) : EReal :=
  divLast
    (fun a : Fin 704 => dot Q K b (headOf e) t (grp b) (keyAt (blockOf t) a)
      + T (ix4 (page (blockOf t)) (headOf e) (placeOf t) a))
    (fun a => V (ix3 (grp b) (keyAt (blockOf t) a) e))
    (fun c : Fin 256 => dot Q K b (headOf e) t 8 (ctxAt b c))
    (fun c => V (ix3 8 (ctxAt b c) e))

end Cert.Na.Spec

end
-- ==== Proof.Na.Window.lean ====
/- The attention window of a grid point, and the words the two programs compute it with: each word
   fact is checked over all grid rows or over all grid columns. -/
module

public import proofs.«01_k».proof.Proof.Na.Spec

@[expose] public section

set_option maxRecDepth 65536

noncomputable section

namespace Cert.Na.Spec

open Idealize.ShloMosaic

/-- The first row and the first column of the window of grid row `r`, grid column `c`. -/
@[reducible] def startRow (r : Nat) : Nat := min (r - 4) 24
@[reducible] def startCol (c : Nat) : Nat := min (c - 8) 48
/-- Key `(kr, kc)` lies in the window of query `(r, c)`: by rows and by columns. -/
@[reducible] def rowIn (r kr : Nat) : Prop := startRow r ≤ kr ∧ kr < startRow r + 8
@[reducible] def colIn (c kc : Nat) : Prop := startCol c ≤ kc ∧ kc < startCol c + 16
/-- The position bias of key `(kr, kc)` for query `(r, c)`. -/
def bias (R : FVec Ideal Sr .f32) (h : Fin 8) (r c kr kc : Nat) : EReal :=
  R (ix3 h (⟨min (kr + 7 - r) 14, by omega⟩ : Fin 15) (⟨min (kc + 15 - c) 30, by omega⟩ : Fin 31))

/-- The first grid row of a page's queries and of its keys, as words. -/
@[reducible] def qBase (p : Fin 3) : BitVec 32 := if p.val = 0 then 0#32 else if p.val = 1 then 4#32 else 28#32
@[reducible] def kBase (p : Fin 3) : BitVec 32 := if p.val = 0 then 0#32 else if p.val = 1 then 0#32 else 21#32

theorem div_word : ∀ a : Fin 2048, IntOp.divsi ArithUnit.host (BitVec.ofNat 32 a.val) 64#32 = BitVec.ofNat 32 (a.val / 64) := by
  decide +kernel
theorem rem_word : ∀ a : Fin 2048, IntOp.remsi ArithUnit.host (BitVec.ofNat 32 a.val) 64#32 = BitVec.ofNat 32 (a.val % 64) := by
  decide +kernel

@[reducible] def clampW (lo x hi : BitVec 32) : BitVec 32 := IntOp.minsi (IntOp.maxsi x lo) hi
@[reducible] def wrapW (x n : BitVec 32) : BitVec 32 := Scalar.select (IntOp.cmpi .slt x 0#32) (IntOp.addi x n) x

/-- The kernel's row test: query row `x` of the block, key row `y` of the eleven. -/
theorem row_test : ∀ (i : Fin 8) (x : Fin 4) (y : Fin 11),
    IntOp.andi
      (IntOp.cmpi .sge (IntOp.addi (kBase (page i)) (BitVec.ofNat 32 y.val))
        (clampW 0#32 (IntOp.subi (IntOp.addi (qBase (page i)) (BitVec.ofNat 32 x.val)) 4#32) 24#32))
      (IntOp.cmpi .slt (IntOp.addi (kBase (page i)) (BitVec.ofNat 32 y.val))
        (IntOp.addi (clampW 0#32 (IntOp.subi (IntOp.addi (qBase (page i)) (BitVec.ofNat 32 x.val)) 4#32) 24#32) 8#32))
    = if rowIn (4 * i.val + x.val) (firstRow i + y.val) then 1#1 else 0#1 := by
  decide +kernel

/-- The kernel's column test. -/
theorem col_test : ∀ c k : Fin 64,
    IntOp.andi
      (IntOp.cmpi .sge (BitVec.ofNat 32 k.val) (clampW 0#32 (IntOp.subi (BitVec.ofNat 32 c.val) 8#32) 48#32))
      (IntOp.cmpi .slt (BitVec.ofNat 32 k.val)
        (IntOp.addi (clampW 0#32 (IntOp.subi (BitVec.ofNat 32 c.val) 8#32) 48#32) 16#32))
    = if colIn c.val k.val then 1#1 else 0#1 := by
  decide +kernel

/-- The kernel's bias row. -/
theorem row_index : ∀ (i : Fin 8) (x : Fin 4) (y : Fin 11),
    min (wrapW (clampW 0#32 (IntOp.subi (IntOp.addi (IntOp.subi (IntOp.addi (kBase (page i)) (BitVec.ofNat 32 y.val))
      (IntOp.addi (qBase (page i)) (BitVec.ofNat 32 x.val))) 8#32) 1#32) 14#32) 15#32).toInt.toNat 14
    = min (firstRow i + y.val + 7 - (4 * i.val + x.val)) 14 := by
  decide +kernel

/-- The kernel's bias column. -/
theorem col_index : ∀ c k : Fin 64,
    min (wrapW (clampW 0#32 (IntOp.subi (IntOp.addi (IntOp.subi (BitVec.ofNat 32 k.val) (BitVec.ofNat 32 c.val)) 16#32) 1#32)
      30#32) 31#32).toInt.toNat 30 = min (k.val + 15 - c.val) 30 := by
  decide +kernel

theorem zero_times (x w : BitVec 32) : IntOp.addi w (IntOp.muli 0#32 x) = w := by
  simp [IntOp.addi, IntOp.muli]

end Cert.Na.Spec

end
-- ==== Proof.Na.Ref.lean ====
/- The reference's arrays read at indices: queries, keys, values, the window, the position biases. -/
module

public import proofs.«01_k».proof.Proof.Gen.NaRefIdeal.Read
public import proofs.«01_k».proof.Proof.Attn.Gather
public import proofs.«01_k».proof.Proof.Na.Window

@[expose] public section

set_option maxRecDepth 65536
set_option maxHeartbeats 1000000

noncomputable section

namespace Cert.Na.Ref

open Idealize.ShloMosaic Cert.Attn Cert.Na.Spec
open Cert.NaRefIdeal Cert.NaRefIdeal.Gen Cert.NaRefIdeal.Read

/-- The token at grid row `r`, grid column `c`. -/
def tok (r : Fin 32) (c : Fin 64) : Fin 2048 := ⟨r.val * 64 + c.val, by omega⟩
/-- The grid row of neighbour row `n` of queries in grid row `r`. -/
def nbr (r : Fin 32) (n : Fin 8) : Fin 32 := ⟨startRow r.val + n.val, by unfold startRow; omega⟩

/-- The reference's key rows, bias rows, bias columns and window test, as words. -/
@[reducible] def rowW (r n : Nat) : BitVec 32 :=
  IntOp.addi (IntOp.minsi 24#32 (IntOp.maxsi 0#32 (IntOp.subi (BitVec.ofNat 32 r) 4#32))) (BitVec.ofNat 32 n)
theorem key_row : ∀ (r : Fin 32) (n : Fin 8), min (wrapW (rowW r.val n.val) 32#32).toInt.toNat 31 = startRow r.val + n.val := by
  decide +kernel
theorem bias_row : ∀ (r : Fin 32) (n : Fin 8),
    min (wrapW (IntOp.subi (IntOp.addi (IntOp.subi (rowW r.val n.val) (BitVec.ofNat 32 r.val)) 8#32) 1#32) 15#32).toInt.toNat 14
      = min (startRow r.val + n.val + 7 - r.val) 14 := by
  decide +kernel
theorem bias_col : ∀ c k : Fin 64,
    min (wrapW (IntOp.minsi 30#32 (IntOp.maxsi 0#32 (IntOp.subi (IntOp.addi (IntOp.subi (BitVec.ofNat 32 k.val)
      (BitVec.ofNat 32 c.val)) 16#32) 1#32))) 31#32).toInt.toNat 30 = min (k.val + 15 - c.val) 30 := by
  decide +kernel
theorem col_window : ∀ c k : Fin 64,
    IntOp.andi
      (IntOp.cmpi .sge (BitVec.ofNat 32 k.val) (IntOp.minsi 48#32 (IntOp.maxsi 0#32 (IntOp.subi (BitVec.ofNat 32 c.val) 8#32))))
      (IntOp.cmpi .slt (BitVec.ofNat 32 k.val)
        (IntOp.addi (IntOp.minsi 48#32 (IntOp.maxsi 0#32 (IntOp.subi (BitVec.ofNat 32 c.val) 8#32))) 16#32))
    = if colIn c.val k.val then 1#1 else 0#1 := by
  decide +kernel

variable (x0 x1 x2 : FVec Ideal Sx .bf16) (x3 : FVec Ideal Sr .f32)

/-- The queries, keys and values by grid row and column, and the context's keys and values. -/
theorem q_grid (b h : Fin 8) (r : Fin 32) (c d : Fin 64) :
    val_main_v24 (F := Ideal) x0 (ix5 b h r c d) = x0 (ix3 (grp b) (tok r c) (col h d)) := by
  pointwise [val_main_v0, val_main_v1, val_main_v2, val_main_v3, val_main_v24]
  rfl
theorem k_grid (b h : Fin 8) (r : Fin 32) (c d : Fin 64) :
    val_main_v25 (F := Ideal) x1 (ix5 b h r c d) = x1 (ix3 (grp b) (tok r c) (col h d)) := q_grid x1 b h r c d
theorem v_grid (b h : Fin 8) (r : Fin 32) (c d : Fin 64) :
    val_main_v26 (F := Ideal) x2 (ix5 b h r c d) = x2 (ix3 (grp b) (tok r c) (col h d)) := q_grid x2 b h r c d
theorem kc_rows (b h : Fin 8) (c : Fin 256) (d : Fin 64) :
    val_main_v17 (F := Ideal) x1 (ix4 b h c d) = x1 (ix3 8 (ctxAt b c) (col h d)) := by
  pointwise [val_main_v12, val_main_v13, val_main_v14, val_main_v15, val_main_v16, val_main_v17]
  rfl
theorem vc_rows (b h : Fin 8) (c : Fin 256) (d : Fin 64) :
    val_main_v23 (F := Ideal) x2 (ix4 b h c d) = x2 (ix3 8 (ctxAt b c) (col h d)) := kc_rows x2 b h c d

theorem row_word (r : Fin 32) (n : Fin 8) : val_main_v42 (F := Ideal) (ix3 r n (0 : Fin 1)) = wrapW (rowW r.val n.val) 32#32 := by
  pointwise [val_main_v27, val_main_v28, val_main_v29, val_main_v30, val_main_v31, val_main_v32, val_main_v33, val_main_v34, val_main_v35, val_main_v36, val_main_c, val_main_c_0, val_main_c_1, val_main_call0_v0, val_main_call0_v1, val_main_call0_v2, val_main_call0_v3, val_main_call0_v4, val_main_v37, val_main_v38, val_main_v39, val_main_v40, val_main_v41, val_main_v42, val_main_c_2, val_main_c_3]
  rfl
theorem in_window (c k : Fin 64) : val_main_v67 (F := Ideal) (ix2 c k) = if colIn c.val k.val then 1#1 else 0#1 := by
  rw [← col_window]
  pointwise [val_main_v51, val_main_v52, val_main_v53, val_main_v54, val_main_c_6, val_main_c_7, val_main_c_8, val_main_call1_v0, val_main_call1_v1, val_main_call1_v2, val_main_call1_v3, val_main_call1_v4, val_main_v55, val_main_v56, val_main_v57, val_main_v58, val_main_v59, val_main_v60, val_main_v61, val_main_v62, val_main_v63, val_main_v64, val_main_v65, val_main_v66, val_main_v67, val_main_c_9]
  rfl
theorem index0 (r : Fin 32) (c : Fin 64) (n : Fin 8) (k : Fin 64) :
    val_main_v101 (F := Ideal) (ix5 r c n k (0 : Fin 2))
      = wrapW (IntOp.subi (IntOp.addi (IntOp.subi (rowW r.val n.val) (BitVec.ofNat 32 r.val)) 8#32) 1#32) 15#32 := by
  pointwise [val_main_v27, val_main_v28, val_main_v29, val_main_v30, val_main_v31, val_main_v32, val_main_v33, val_main_v34, val_main_v35, val_main_v36, val_main_c, val_main_c_0, val_main_c_1, val_main_call0_v0, val_main_call0_v1, val_main_call0_v2, val_main_call0_v3, val_main_call0_v4, val_main_v68, val_main_v69, val_main_v70, val_main_v81, val_main_v82, val_main_v83, val_main_v84, val_main_v85, val_main_v87, val_main_v88, val_main_v89, val_main_v90, val_main_v91, val_main_c_14, val_main_c_15, val_main_c_16, val_main_c_17, val_main_v97, val_main_v99, val_main_v101]
  rfl
theorem index1 (r : Fin 32) (c : Fin 64) (n : Fin 8) (k : Fin 64) :
    val_main_v101 (F := Ideal) (ix5 r c n k (1 : Fin 2))
      = wrapW (IntOp.minsi 30#32 (IntOp.maxsi 0#32 (IntOp.subi (IntOp.addi (IntOp.subi (BitVec.ofNat 32 k.val)
      (BitVec.ofNat 32 c.val)) 16#32) 1#32))) 31#32 := by
  pointwise [val_main_v71, val_main_v72, val_main_v73, val_main_v74, val_main_v75, val_main_v76, val_main_v77, val_main_v78, val_main_v79, val_main_v80, val_main_v86, val_main_v92, val_main_v93, val_main_v94, val_main_v95, val_main_v96, val_main_c_10, val_main_c_11, val_main_c_12, val_main_c_13, val_main_c_18, val_main_c_19, val_main_call2_v0, val_main_call2_v1, val_main_call2_v2, val_main_call2_v3, val_main_call2_v4, val_main_v51, val_main_v98, val_main_v100, val_main_v101]
  rfl

/-- The neighbour rows gathered out of the keys or the values. -/
theorem gathered (x : FVec Ideal S8x8x32x64x64 .f32) (b h : Fin 8) (r : Fin 32) (n : Fin 8) (k d : Fin 64) :
    Host.gather gather_S8x8x32x64x64_S32x8x1_S8x8x32x8x64x64_0145_2_n_n_2_2_8816464 x (val_main_v42 (F := Ideal)) (ix6 b h r n k d)
      = x (ix5 b h (nbr r n) k d) := by
  unfold Host.gather
  congr 1
  funext a
  refine Fin.ext ?_
  fin_cases a
  · exact (gather_whole _ _ _ _ (by decide) rfl (by decide)).trans rfl
  · exact (gather_whole _ _ _ _ (by decide) rfl (by decide)).trans rfl
  · refine (gather_read _ _ _ _ (by decide) rfl (by decide) (ix3 r n (0 : Fin 1)) ?_).trans ?_
    · intro a; fin_cases a <;> rfl
    · rw [row_word]; exact key_row r n
  · exact (gather_whole _ _ _ _ (by decide) rfl (by decide)).trans rfl
  · exact (gather_whole _ _ _ _ (by decide) rfl (by decide)).trans rfl

theorem k_nbr (b h : Fin 8) (r : Fin 32) (n : Fin 8) (k d : Fin 64) :
    val_main_v43 (F := Ideal) x1 (ix6 b h r n k d) = x1 (ix3 (grp b) (tok (nbr r n) k) (col h d)) :=
  (gathered _ b h r n k d).trans (k_grid x1 b h _ k d)
theorem v_nbr (b h : Fin 8) (r : Fin 32) (n : Fin 8) (k d : Fin 64) :
    val_main_v50 (F := Ideal) x2 (ix6 b h r n k d) = x2 (ix3 (grp b) (tok (nbr r n) k) (col h d)) :=
  (gathered _ b h r n k d).trans (v_grid x2 b h _ k d)

/-- The position biases gathered. -/
theorem bias_at (h : Fin 8) (r : Fin 32) (c : Fin 64) (n : Fin 8) (k : Fin 64) :
    val_main_v102 (F := Ideal) x3 (ix5 h r c n k) = bias x3 h r.val c.val (nbr r n).val k.val := by
  unfold val_main_v102 Host.gather bias
  congr 1
  funext a
  refine Fin.ext ?_
  fin_cases a
  · exact (gather_whole _ _ _ _ (by decide) rfl (by decide)).trans rfl
  · refine (gather_read _ _ _ _ (by decide) rfl (by decide) (ix5 r c n k (0 : Fin 2)) ?_).trans ?_
    · intro a; fin_cases a <;> rfl
    · rw [index0]; exact bias_row r n
  · refine (gather_read _ _ _ _ (by decide) rfl (by decide) (ix5 r c n k (1 : Fin 2)) ?_).trans ?_
    · intro a; fin_cases a <;> rfl
    · rw [index1]; exact bias_col c k

/-- The score of a neighbour, and of a context row. -/
theorem score_at (b h : Fin 8) (r : Fin 32) (c : Fin 64) (n : Fin 8) (k : Fin 64) :
    val_main_v108 (F := Ideal) x0 x1 x3 (ix6 b h r c n k)
      = if colIn c.val k.val then dot x0 x1 b h (tok r c) (grp b) (tok (nbr r n) k) + bias x3 h r.val c.val (nbr r n).val k.val
        else ⊥ := by
  pointwise [val_main_v108, val_main_v106, val_main_v105, val_main_v104, val_main_v107, val_main_call3_v0, val_main_call3_v1, val_main_call3_v2, val_main_cst, val_main_v103]
  rw [in_window, bias_at, show id (constant (F := Ideal) S_ .f32 0xFF800000#32) ix0 = ⊥ from ofBits_neg_inf]
  simp only [q_grid, k_nbr]
  by_cases hc : colIn c.val k.val
  · rw [if_pos hc, if_pos hc]; rfl
  · rw [if_neg hc, if_neg hc]; rfl
theorem ctx_score_at (b h : Fin 8) (r : Fin 32) (c : Fin 64) (j : Fin 256) :
    val_main_v110 (F := Ideal) x0 x1 (ix5 b h r c j) = dot x0 x1 b h (tok r c) 8 (ctxAt b j) := by
  pointwise [val_main_v110]
  simp only [q_grid, kc_rows]
  rfl

end Cert.Na.Ref

end
-- ==== Proof.Na.RefOut.lean ====
/- The reference's result read at an index: softmax over the window and the context, division first. -/
module

public import proofs.«01_k».proof.Proof.Na.Ref

@[expose] public section

set_option maxRecDepth 65536
set_option maxHeartbeats 1000000

noncomputable section

namespace Cert.Na.Ref

open Idealize.ShloMosaic Cert.Attn Cert.Na.Spec
open Cert.NaRefIdeal Cert.NaRefIdeal.Gen Cert.NaRefIdeal.Read

variable (x0 x1 x2 : FVec Ideal Sx .bf16) (x3 : FVec Ideal Sr .f32)

/-- The score of neighbour `(n, k)` of the query at grid place `(r, c)`, and of a context row. -/
def near (b h : Fin 8) (r : Fin 32) (c : Fin 64) (p : Fin 8 × Fin 64) : EReal :=
  if colIn c.val p.2.val then
    dot x0 x1 b h (tok r c) (grp b) (tok (nbr r p.1) p.2) + bias x3 h r.val c.val (nbr r p.1).val p.2.val
  else ⊥
def far (b h : Fin 8) (r : Fin 32) (c : Fin 64) (j : Fin 256) : EReal := dot x0 x1 b h (tok r c) 8 (ctxAt b j)

/-- The places of the neighbours and of the context rows among the 768. -/
def nearAt (p : Fin 8 × Fin 64) : Fin 768 := ⟨p.1.val * 64 + p.2.val, by omega⟩
def farAt (j : Fin 256) : Fin 768 := ⟨512 + j.val, by omega⟩

theorem sum_joined (g : Fin 768 → EReal) : ∑ j, g j = ∑ p, g (nearAt p) + ∑ j, g (farAt j) := by
  rw [show ∑ j, g j = ∑ j : Fin (512 + 256), g j from rfl, Fin.sum_univ_add]
  refine congrArg₂ (· + ·) (((finProdFinEquiv (m := 8) (n := 64)).sum_comp fun i => g (Fin.castAdd 256 i)).symm.trans ?_) rfl
  refine Finset.sum_congr rfl fun p _ => congrArg g (Fin.ext ?_)
  show p.2.val + 64 * p.1.val = p.1.val * 64 + p.2.val
  omega

theorem max_joined (g : Fin 768 → EReal) :
    Finset.univ.fold max ⊥ g = max (top fun p => g (nearAt p)) (top fun j => g (farAt j)) := by
  show top g = _
  refine le_antisymm ((top_le _ _).2 fun j => ?_) (max_le ((top_le _ _).2 fun p => le_top g _) ((top_le _ _).2 fun p => le_top g _))
  by_cases hj : j.val < 512
  · refine le_trans (le_of_eq (congrArg g (Fin.ext ?_))) (le_trans (le_top (fun p => g (nearAt p)) (⟨j.val / 64, by omega⟩, ⟨j.val % 64, by omega⟩)) (le_max_left _ _))
    show j.val = j.val / 64 * 64 + j.val % 64
    omega
  · refine le_trans (le_of_eq (congrArg g (Fin.ext ?_))) (le_trans (le_top (fun p => g (farAt p)) ⟨j.val - 512, by omega⟩) (le_max_right _ _))
    show j.val = 512 + (j.val - 512)
    omega

theorem joined_at (b h : Fin 8) (r : Fin 32) (c : Fin 64) (j : Fin 768) :
    val_main_v111 (F := Ideal) x0 x1 x3 (ix5 b h r c j)
      = if hj : j.val < 512 then val_main_v108 (F := Ideal) x0 x1 x3 (ix6 b h r c ⟨j.val / 64, by omega⟩ ⟨j.val % 64, by omega⟩)
        else val_main_v110 (F := Ideal) x0 x1 (ix5 b h r c ⟨j.val - 512, by omega⟩) := by
  pointwise [val_main_v111, val_main_v109]
theorem joined_near (b h : Fin 8) (r : Fin 32) (c : Fin 64) (p : Fin 8 × Fin 64) :
    val_main_v111 (F := Ideal) x0 x1 x3 (ix5 b h r c (nearAt p)) = near x0 x1 x3 b h r c p := by
  rw [joined_at, dif_pos (show (nearAt p).val < 512 by show p.1.val * 64 + p.2.val < 512; omega)]
  refine Eq.trans ?_ (score_at x0 x1 x3 b h r c p.1 p.2)
  congr 2 <;> refine Fin.ext ?_
  · show (p.1.val * 64 + p.2.val) / 64 = p.1.val; omega
  · show (p.1.val * 64 + p.2.val) % 64 = p.2.val; omega
theorem joined_far (b h : Fin 8) (r : Fin 32) (c : Fin 64) (j : Fin 256) :
    val_main_v111 (F := Ideal) x0 x1 x3 (ix5 b h r c (farAt j)) = far x0 x1 b h r c j := by
  rw [joined_at, dif_neg (show ¬ (farAt j).val < 512 by show ¬ 512 + j.val < 512; omega)]
  refine Eq.trans ?_ (ctx_score_at x0 x1 b h r c j)
  congr 2
  refine Fin.ext ?_
  show 512 + j.val - 512 = j.val; omega

/-- The greatest along the last axis. -/
theorem max_of (x : FVec Ideal S8x8x32x64x768 .f32) (i : FVec Ideal S_ .f32) (b h : Fin 8) (r : Fin 32) (c : Fin 64) :
    Host.reduce FloatOps.maximumf x i reducesTo_S8x8x32x64x768_S8x8x32x64_d4 h_S_ (ix4 b h r c)
      = Finset.univ.fold max (i (Shape.Idx.first h_S_)) (fun j : Fin 768 => x (ix5 b h r c j)) := by
  pointwise
theorem greatest (b h : Fin 8) (r : Fin 32) (c : Fin 64) :
    val_main_v114 (F := Ideal) x0 x1 x3 (ix4 b h r c) = max (top (near x0 x1 x3 b h r c)) (top (far x0 x1 b h r c)) := by
  have e : val_main_v112 (F := Ideal) x0 x1 x3 (ix4 b h r c) = max (top (near x0 x1 x3 b h r c)) (top (far x0 x1 b h r c)) := by
    unfold val_main_v112
    rw [max_of, show val_main_cst_20 (F := Ideal) (Shape.Idx.first h_S_) = ⊥ from ofBits_neg_inf, max_joined]
    simp only [joined_near, joined_far]
  rw [val_main_v114_apply, e]
  rw [show val_main_v113 (F := Ideal) (ix4 b h r c) = ⊥ from ofBits_neg_inf]
  exact max_eq_right bot_le

/-- The sum of the weights, and the weights. -/
theorem summed (b h : Fin 8) (r : Fin 32) (c : Fin 64) :
    val_main_v119 (F := Ideal) x0 x1 x3 (ix4 b h r c)
      = ∑ j : Fin 768, Ideal.exp (val_main_v111 (F := Ideal) x0 x1 x3 (ix5 b h r c j) - val_main_v114 (F := Ideal) x0 x1 x3 (ix4 b h r c)) := by
  pointwise [val_main_v115, val_main_v116, val_main_v117, val_main_v118, val_main_v119, val_main_cst_22]
theorem weight_at (b h : Fin 8) (r : Fin 32) (c : Fin 64) (j : Fin 768) :
    val_main_v122 (F := Ideal) x0 x1 x3 (ix5 b h r c j)
      = Ideal.div (Ideal.exp (val_main_v111 (F := Ideal) x0 x1 x3 (ix5 b h r c j) - val_main_v114 (F := Ideal) x0 x1 x3 (ix4 b h r c)))
      (val_main_v119 (F := Ideal) x0 x1 x3 (ix4 b h r c)) := by
  pointwise [val_main_v115, val_main_v116, val_main_v117, val_main_v118, val_main_v120, val_main_v121, val_main_v122]

/-- The two products of weights and values. -/
theorem dot_near (x : FVec Ideal S8x8x32x64x8x64 .f32) (y : FVec Ideal S8x8x32x8x64x64 .f32) (b h : Fin 8) (r : Fin 32) (c d : Fin 64) :
    Host.dotGeneral dot_S8x8x32x64x8x64_S8x8x32x8x64x64_S8x8x32x64x64_54_43_3_5_012_012 none x y (ix5 b h r c d)
      = ∑ k : Fin 64, ∑ n : Fin 8, x (ix6 b h r c n k) * y (ix6 b h r n k d) := by
  pointwise
theorem near_weight (b h : Fin 8) (r : Fin 32) (c : Fin 64) (n : Fin 8) (k : Fin 64) :
    val_main_v124 (F := Ideal) x0 x1 x3 (ix6 b h r c n k) = val_main_v122 (F := Ideal) x0 x1 x3 (ix5 b h r c (nearAt (n, k))) := by
  unfold nearAt
  pointwise [val_main_v123, val_main_v124]
theorem far_sum (b h : Fin 8) (r : Fin 32) (c d : Fin 64) :
    val_main_v127 (F := Ideal) x0 x1 x2 x3 (ix5 b h r c d)
      = ∑ j : Fin 256, val_main_v125 (F := Ideal) x0 x1 x3 (ix5 b h r c j) * val_main_v23 (F := Ideal) x2 (ix4 b h j d) := by
  pointwise [val_main_v127]
theorem far_weight (b h : Fin 8) (r : Fin 32) (c : Fin 64) (j : Fin 256) :
    val_main_v125 (F := Ideal) x0 x1 x3 (ix5 b h r c j) = val_main_v122 (F := Ideal) x0 x1 x3 (ix5 b h r c (farAt j)) := by
  unfold farAt
  pointwise [val_main_v125]

/-- The attention of one query, by grid place. -/
theorem attended (b h : Fin 8) (r : Fin 32) (c d : Fin 64) :
    val_main_v128 (F := Ideal) x0 x1 x2 x3 (ix5 b h r c d)
      = divFirst (near x0 x1 x3 b h r c) (fun p => x2 (ix3 (grp b) (tok (nbr r p.1) p.2) (col h d)))
          (far x0 x1 b h r c) (fun j => x2 (ix3 8 (ctxAt b j) (col h d))) := by
  have e : val_main_v126 (F := Ideal) x0 x1 x2 x3 (ix5 b h r c d)
      = ∑ p : Fin 8 × Fin 64, val_main_v122 (F := Ideal) x0 x1 x3 (ix5 b h r c (nearAt p)) * x2 (ix3 (grp b) (tok (nbr r p.1) p.2) (col h d)) := by
    unfold val_main_v126
    rw [dot_near, Finset.sum_comm, Fintype.sum_prod_type]
    simp only [near_weight, v_nbr]
  rw [val_main_v128_apply, e, far_sum]
  simp only [far_weight, weight_at, vc_rows, summed, sum_joined, joined_near, joined_far, greatest]
  rfl

/-- The result at a batch element's token and column. -/
theorem result_at (b : Fin 8) (t : Fin 2048) (e : Fin 512) :
    val_main_v133 (F := Ideal) x0 x1 x2 x3 (ix3 (grp b) t e)
      = divFirst (near x0 x1 x3 b (headOf e) ⟨t.val / 64, by omega⟩ ⟨t.val % 64, by omega⟩)
          (fun p => x2 (ix3 (grp b) (tok (nbr ⟨t.val / 64, by omega⟩ p.1) p.2) e))
          (far x0 x1 b (headOf e) ⟨t.val / 64, by omega⟩ ⟨t.val % 64, by omega⟩) (fun j => x2 (ix3 8 (ctxAt b j) e)) := by
  have hb : (grp b).val < 8 := b.isLt
  have e1 : val_main_v133 (F := Ideal) x0 x1 x2 x3 (ix3 (grp b) t e)
      = val_main_v128 (F := Ideal) x0 x1 x2 x3 (ix5 b (headOf e) (⟨t.val / 64, by omega⟩ : Fin 32) (⟨t.val % 64, by omega⟩ : Fin 64) (⟨e.val % 64, by omega⟩ : Fin 64)) := by
    pointwise [val_main_v129, val_main_v130, val_main_v131, val_main_v132, val_main_v133]
    rw [dif_pos hb]
    rfl
  have e2 : col (headOf e) (⟨e.val % 64, by omega⟩ : Fin 64) = e := Fin.ext (by show e.val / 64 * 64 + e.val % 64 = e.val; omega)
  rw [e1, attended, e2]

end Cert.Na.Ref

end
-- ==== Proof.Na.Table.lean ====
/- The bias table that the kernel's host lines build, named: three pages of 256 queries by 704 keys. -/
module

public import proofs.«01_k».proof.Proof.Gen.NaIdeal.Value
public import proofs.«01_k».proof.Proof.Na.Spec
public import Idealize.ShloMosaic.Lib.Claim

@[expose] public section

set_option maxRecDepth 65536
set_option maxHeartbeats 1000000

noncomputable section

namespace Cert.Na.Table

open Idealize.ShloMosaic Idealize.ShloMosaic.TcCoe Idealize.SL.Sem
open Idealize.ShloMosaic.StableHlo
open Cert.NaIdeal Cert.NaIdeal.Gen

/-- A clamp of integers, as the host's clamp reads. -/
def clamp {s : Shape} (lo x hi : IVec s 32) : IVec s 32 := minsi (maxsi x lo) hi

def all256 (n : BitVec 32) : IVec S256 32 := broadcastInDim S256 ![] bcast_S_S256 (constantI S_ 32 n)
def all704 (n : BitVec 32) : IVec S704 32 := broadcastInDim S704 ![] bcast_S_S704 (constantI S_ 32 n)
def allQ (n : BitVec 32) : IVec S256x1 32 := broadcastInDim S256x1 ![] bcast_S_S256x1 (constantI S_ 32 n)
def allK (n : BitVec 32) : IVec S1x704 32 := broadcastInDim S1x704 ![] bcast_S_S1x704 (constantI S_ 32 n)
def allQK (n : BitVec 32) : IVec S256x704 32 := broadcastInDim S256x704 ![] bcast_S_S256x704 (constantI S_ 32 n)
def overK {w : Nat} (x : IVec S256x1 w) : IVec S256x704 w := broadcastInDim S256x704 ![0, 1] bcast_S256x1_S256x704_0_1 x
def overQ {w : Nat} (x : IVec S1x704 w) : IVec S256x704 w := broadcastInDim S256x704 ![0, 1] bcast_S1x704_S256x704_0_1 x

/-- The grid rows and columns of a page's queries, whose first grid row is `A`. -/
def qRow (A : BitVec 32) : IVec S256x1 32 :=
  broadcastInDim S256x1 ![0] bcast_S256_S256x1_0 (addi (all256 A) (Host.divsi (iotaInDim S256 32 0) (all256 64#32)))
def qCol : IVec S256x1 32 := broadcastInDim S256x1 ![0] bcast_S256_S256x1_0 (Host.remsi (iotaInDim S256 32 0) (all256 64#32))
/-- The grid rows and columns of a page's keys, whose first grid row is `B`. -/
def kRow (B : BitVec 32) : IVec S1x704 32 :=
  broadcastInDim S1x704 ![1] bcast_S704_S1x704_1 (addi (all704 B) (Host.divsi (iotaInDim S704 32 0) (all704 64#32)))
def kCol : IVec S1x704 32 := broadcastInDim S1x704 ![1] bcast_S704_S1x704_1 (Host.remsi (iotaInDim S704 32 0) (all704 64#32))

/-- The first row and the first column of each query's window. -/
def winRow (A : BitVec 32) : IVec S256x1 32 := clamp (allQ 0#32) (subi (qRow A) (allQ 4#32)) (allQ 24#32)
def winCol : IVec S256x1 32 := clamp (allQ 0#32) (subi qCol (allQ 8#32)) (allQ 48#32)

/-- Which keys lie in each query's window. -/
def valid (A B : BitVec 32) : IVec S256x704 1 :=
  andi (andi (andi (cmpi .sge (overQ (kRow B)) (overK (winRow A)))
      (cmpi .slt (overQ (kRow B)) (overK (addi (winRow A) (allQ 8#32)))))
      (cmpi .sge (overQ kCol) (overK winCol)))
      (cmpi .slt (overQ kCol) (overK (addi winCol (allQ 16#32))))

/-- The row and the column of the position bias of each pair. -/
def rowIx (A B : BitVec 32) : IVec S256x704 32 :=
  addi (clamp (allQK 0#32) (subi (addi (subi (overQ (kRow B)) (overK (qRow A))) (allQK 8#32)) (allQK 1#32)) (allQK 14#32))
    (overQ (muli (allK 0#32) kCol))
def colIx (B : BitVec 32) : IVec S256x704 32 :=
  addi (clamp (allQK 0#32) (subi (addi (subi (overQ kCol) (overK qCol)) (allQK 16#32)) (allQK 1#32)) (allQK 30#32))
    (overQ (muli (allK 0#32) (kRow B)))

/-- Three pages, one upon the other. -/
def stack {w : Nat} (x y z : IVec S256x704 w) : IVec S3x256x704 w :=
  concatenate S3x256x704 0
    [⟨S1x256x704, broadcastInDim S1x256x704 ![1, 2] bcast_S256x704_S1x256x704_1_2 x⟩,
     ⟨S1x256x704, broadcastInDim S1x256x704 ![1, 2] bcast_S256x704_S1x256x704_1_2 y⟩,
     ⟨S1x256x704, broadcastInDim S1x256x704 ![1, 2] bcast_S256x704_S1x256x704_1_2 z⟩]
    concatenates_S1x256x704_S1x256x704_S1x256x704_S3x256x704_d0

def all3 (n : BitVec 32) : IVec S3x256x704 32 := broadcastInDim S3x256x704 ![] bcast_S_S3x256x704 (constantI S_ 32 n)
/-- A negative index counts from the end. -/
def wrap (x : IVec S3x256x704 32) (n : BitVec 32) : IVec S3x256x704 32 :=
  select (cmpi .slt x (all3 0#32)) (addi x (all3 n)) x

/-- The pairs of indices at which the position biases are read. -/
def indices (r c : IVec S3x256x704 32) : IVec S3x256x704x2 32 :=
  concatenate S3x256x704x2 3
    [⟨S3x256x704x1, broadcastInDim S3x256x704x1 ![0, 1, 2] bcast_S3x256x704_S3x256x704x1_0_1_2 (wrap r 15#32)⟩,
     ⟨S3x256x704x1, broadcastInDim S3x256x704x1 ![0, 1, 2] bcast_S3x256x704_S3x256x704x1_0_1_2 (wrap c 31#32)⟩]
    concatenates_S3x256x704x1_S3x256x704x1_S3x256x704x2_d3

/-- The table from the three stacks. -/
def tableOf (rpb : FVec Ideal S8x15x31 .f32) (v : IVec S3x256x704 1) (r c : IVec S3x256x704 32) :
    FVec Ideal S3x8x256x704 .f32 :=
  transpose S3x8x256x704 [1, 0, 2, 3]
    (select (broadcastInDim S8x3x256x704 ![0, 1, 2, 3] bcast_S1x3x256x704_S8x3x256x704_0_1_2_3
        (broadcastInDim S1x3x256x704 ![1, 2, 3] bcast_S3x256x704_S1x3x256x704_1_2_3 v))
      (Host.gather gather_S8x15x31_S3x256x704x2_S8x3x256x704_0_12_n_n_12_3_811 rpb (indices r c))
      (broadcastInDim S8x3x256x704 ![] bcast_S_S8x3x256x704 (id (constant (F := Ideal) S_ .f32 0xFF800000#32))))
    transposes_S8x3x256x704_S3x8x256x704_1_0_2_3

/-- The table over the position biases. -/
def table (rpb : FVec Ideal S8x15x31 .f32) : FVec Ideal S3x8x256x704 .f32 :=
  tableOf rpb (stack (valid 0#32 0#32) (valid 4#32 0#32) (valid 28#32 21#32))
    (stack (rowIx 0#32 0#32) (rowIx 4#32 0#32) (rowIx 28#32 21#32)) (stack (colIx 0#32) (colIx 0#32) (colIx 21#32))

/-- Host lines run one part after the other. -/
theorem after_parts (xs ys : List (HloOp τ sig (Elt Ideal))) (G : Valuation τ sig (Elt Ideal)) :
    after (xs ++ ys) G = after ys (after xs G) := by
  induction xs generalizing G with
  | nil => rfl
  | cons x xs ih => exact ih _

/-- The host lines up to the three pages' arrays, the lines that stack them, and the rest. -/
def pageOps : List (HloOp τ sig (Elt Ideal)) := hostOps0.take 297
def stackOps : List (HloOp τ sig (Elt Ideal)) := (hostOps0.drop 297).take 12
def lastOps : List (HloOp τ sig (Elt Ideal)) := hostOps0.drop 309 ++ hostOps0_1 ++ hostOps0_2

variable (G : Valuation τ sig (Elt Ideal))

/-- What the first lines leave in the nine arrays and the biases. -/
theorem pages : after pageOps G main_arg3 = G main_arg3
    ∧ after pageOps G main_v46 = valid 0#32 0#32 ∧ after pageOps G main_v121 = valid 4#32 0#32
    ∧ after pageOps G main_v196 = valid 28#32 21#32 ∧ after pageOps G main_v60 = rowIx 0#32 0#32
    ∧ after pageOps G main_v135 = rowIx 4#32 0#32 ∧ after pageOps G main_v210 = rowIx 28#32 21#32
    ∧ after pageOps G main_v74 = colIx 0#32 ∧ after pageOps G main_v149 = colIx 0#32
    ∧ after pageOps G main_v224 = colIx 21#32 := by
  refine ⟨?_, ?_, ?_, ?_, ?_, ?_, ?_, ?_, ?_, ?_⟩ <;>
  · simp only [pageOps, hostOps0, List.take_succ_cons, List.take_zero]
    after_results_simp
    try rfl

/-- Three pages put one upon the other, each known. -/
theorem stack_of {w : Nat} {X Y Z : IVec S1x256x704 w} {x y z : IVec S256x704 w}
    (hX : X = broadcastInDim S1x256x704 ![1, 2] bcast_S256x704_S1x256x704_1_2 x)
    (hY : Y = broadcastInDim S1x256x704 ![1, 2] bcast_S256x704_S1x256x704_1_2 y)
    (hZ : Z = broadcastInDim S1x256x704 ![1, 2] bcast_S256x704_S1x256x704_1_2 z) :
    concatenate S3x256x704 0 [⟨S1x256x704, X⟩, ⟨S1x256x704, Y⟩, ⟨S1x256x704, Z⟩]
      concatenates_S1x256x704_S1x256x704_S1x256x704_S3x256x704_d0 = stack x y z := by
  subst hX; subst hY; subst hZ; rfl

/-- What the next lines make of any nine arrays. -/
theorem stacked : after stackOps G main_arg3 = G main_arg3
    ∧ after stackOps G main_v236 = stack (G main_v46) (G main_v121) (G main_v196)
    ∧ after stackOps G main_v228 = stack (G main_v60) (G main_v135) (G main_v210)
    ∧ after stackOps G main_v232 = stack (G main_v74) (G main_v149) (G main_v224) := by
  simp only [stackOps, hostOps0, List.drop_succ_cons, List.drop_zero, List.take_succ_cons, List.take_zero]
  refine ⟨?_, ?_, ?_, ?_⟩
  · after_results_simp
  all_goals
    after_results_simp
    refine stack_of ?_ ?_ ?_ <;>
    · simp only [Matrix.cons_val_zero, Matrix.cons_val_one, Matrix.cons_val]
      after_results_simp

/-- What the last lines make of any three stacks. -/
theorem last : after lastOps G main_v253 = tableOf (G main_arg3) (G main_v236) (G main_v228) (G main_v232) := by
  simp only [lastOps, hostOps0, hostOps0_1, hostOps0_2, List.drop_succ_cons, List.drop_zero, List.nil_append,
    List.cons_append, TRef.binary, TRef.ternary, TRef.unary, TRef.toBuf, TRef.ofBuf, cast_eq]
  after_results_simp
  after_results_loop
  rfl

variable (m : (ℓ : Loc nD τ sig) → Buf (Elt Ideal) ℓ)

/-- What the region finds in the table's buffer. -/
theorem entry (c : Dev nD) : V m c main_v253 = table (m ((c : Thread nD τ).loc main_arg3)) := by
  have e : List.flatten [hostOps0, hostOps0_1, hostOps0_2] = pageOps ++ (stackOps ++ lastOps) := by
    have h : (hostOps0 : List (HloOp τ sig (Elt Ideal))) = hostOps0.take 297 ++ ((hostOps0.drop 297).take 12 ++ hostOps0.drop 309) := by
      rw [show (309 : ℕ) = 297 + 12 from rfl, ← List.drop_drop, List.take_append_drop, List.take_append_drop]
    rw [pageOps, stackOps, lastOps]
    simp only [List.flatten_cons, List.flatten_nil, List.append_nil]
    conv_lhs => rw [h]
    simp only [List.append_assoc]
  obtain ⟨h, h0, h1, h2, h3, h4, h5, h6, h7, h8⟩ := pages (fun b => m (c, b))
  obtain ⟨g, g0, g1, g2⟩ := stacked (after pageOps (fun b => m (c, b)))
  show after (List.flatten [hostOps0, hostOps0_1, hostOps0_2]) (fun b => m (c, b)) main_v253 = _
  rw [e, after_parts, after_parts, last, g, g0, g1, g2, h, h0, h1, h2, h3, h4, h5, h6, h7, h8]
  rfl

end Cert.Na.Table

end
-- ==== Proof.Na.TableAt.lean ====
/- The bias table read at an index: the position bias of a pair inside the window, −∞ outside. -/
module

public import proofs.«01_k».proof.Proof.Na.Table
public import proofs.«01_k».proof.Proof.Attn.Gather
public import proofs.«01_k».proof.Proof.Na.Window

@[expose] public section

set_option maxRecDepth 65536
set_option maxHeartbeats 1000000

noncomputable section

namespace Cert.Na.Table

open Idealize.ShloMosaic Idealize.ShloMosaic.TcCoe Idealize.SL.Sem
open Cert.NaIdeal Cert.NaIdeal.Gen Cert.Attn Cert.Na.Spec

/-- The biases gathered at pairs of indices. -/
theorem gathered (x : FVec Ideal S8x15x31 .f32) (idx : IVec S3x256x704x2 32) (h : Fin 8) (p : Fin 3) (q : Fin 256) (a : Fin 704) :
    Host.gather gather_S8x15x31_S3x256x704x2_S8x3x256x704_0_12_n_n_12_3_811 x idx (ix4 h p q a)
      = x (ix3 h ⟨min (idx (ix4 p q a (0 : Fin 2))).toInt.toNat 14, by omega⟩
          ⟨min (idx (ix4 p q a (1 : Fin 2))).toInt.toNat 30, by omega⟩) := by
  unfold Host.gather
  congr 1
  funext b
  refine Fin.ext ?_
  fin_cases b
  · refine (gather_whole _ _ _ _ (by decide) rfl (by decide)).trans ?_
    rfl
  · refine (gather_read _ _ _ _ (by decide) rfl (by decide) (ix4 p q a (0 : Fin 2)) ?_).trans ?_
    · intro b; fin_cases b <;> rfl
    · rfl
  · refine (gather_read _ _ _ _ (by decide) rfl (by decide) (ix4 p q a (1 : Fin 2)) ?_).trans ?_
    · intro b; fin_cases b <;> rfl
    · rfl

/-- The stack read on a page. -/
theorem stack_at {w : Nat} (x y z : IVec S256x704 w) (p : Fin 3) (q : Fin 256) (a : Fin 704) :
    stack x y z (ix3 p q a) = if p.val = 0 then x (ix2 q a) else if p.val = 1 then y (ix2 q a) else z (ix2 q a) := by
  fin_cases p <;> pointwise [stack]

theorem indices_at0 (r c : IVec S3x256x704 32) (p : Fin 3) (q : Fin 256) (a : Fin 704) :
    indices r c (ix4 p q a (0 : Fin 2)) = wrap r 15#32 (ix3 p q a) := by
  pointwise [indices]
theorem indices_at1 (r c : IVec S3x256x704 32) (p : Fin 3) (q : Fin 256) (a : Fin 704) :
    indices r c (ix4 p q a (1 : Fin 2)) = wrap c 31#32 (ix3 p q a) := by
  pointwise [indices]

/-- The test, the bias row and the bias column of a pair of block `i`'s page. -/
theorem valid_at (i : Fin 8) (q : Fin 256) (a : Fin 704) :
    valid (qBase (page i)) (kBase (page i)) (ix2 q a)
      = if rowIn (4 * i.val + q.val / 64) (firstRow i + a.val / 64) ∧ colIn (q.val % 64) (a.val % 64) then 1#1 else 0#1 := by
  have e := row_test i ⟨q.val / 64, by omega⟩ ⟨a.val / 64, by omega⟩
  have e' := col_test ⟨q.val % 64, by omega⟩ ⟨a.val % 64, by omega⟩
  have ha := div_word ⟨a.val, by omega⟩
  have hq := div_word ⟨q.val, by omega⟩
  have ha' := rem_word ⟨a.val, by omega⟩
  have hq' := rem_word ⟨q.val, by omega⟩
  simp only at e e' ha hq ha' hq'
  have assoc : ∀ x y z w : BitVec 1, IntOp.andi (IntOp.andi (IntOp.andi x y) z) w = IntOp.andi (IntOp.andi x y) (IntOp.andi z w) := by
    decide
  pointwise [valid, overQ, overK, kRow, kCol, qRow, qCol, winRow, winCol, clamp, all256, all704, allQ, allK]
  rw [ha, hq, ha', hq', assoc, e, e']
  split <;> split <;> simp_all [IntOp.andi]

theorem row_at (i : Fin 8) (q : Fin 256) (a : Fin 704) :
    min (wrapW (rowIx (qBase (page i)) (kBase (page i)) (ix2 q a)) 15#32).toInt.toNat 14
      = min (firstRow i + a.val / 64 + 7 - (4 * i.val + q.val / 64)) 14 := by
  have e := row_index i ⟨q.val / 64, by omega⟩ ⟨a.val / 64, by omega⟩
  have ha := div_word ⟨a.val, by omega⟩
  have hq := div_word ⟨q.val, by omega⟩
  simp only at e ha hq
  refine Eq.trans ?_ e
  have hw : rowIx (qBase (page i)) (kBase (page i)) (ix2 q a)
      = clampW 0#32 (IntOp.subi (IntOp.addi (IntOp.subi (IntOp.addi (kBase (page i)) (BitVec.ofNat 32 (a.val / 64)))
        (IntOp.addi (qBase (page i)) (BitVec.ofNat 32 (q.val / 64)))) 8#32) 1#32) 14#32 := by
    pointwise [rowIx, overQ, overK, kRow, kCol, qRow, qCol, clamp, all256, all704, allQ, allK, allQK]
    rw [zero_times, ha, hq]
  rw [hw]

theorem col_at (B : BitVec 32) (q : Fin 256) (a : Fin 704) :
    min (wrapW (colIx B (ix2 q a)) 31#32).toInt.toNat 30 = min (a.val % 64 + 15 - q.val % 64) 30 := by
  have e := col_index ⟨q.val % 64, by omega⟩ ⟨a.val % 64, by omega⟩
  have ha := rem_word ⟨a.val, by omega⟩
  have hq := rem_word ⟨q.val, by omega⟩
  simp only at e ha hq
  refine Eq.trans ?_ e
  have hw : colIx B (ix2 q a) = clampW 0#32 (IntOp.subi (IntOp.addi (IntOp.subi (BitVec.ofNat 32 (a.val % 64))
      (BitVec.ofNat 32 (q.val % 64))) 16#32) 1#32) 30#32 := by
    pointwise [colIx, overQ, overK, kRow, kCol, qRow, qCol, clamp, all256, all704, allQ, allK, allQK]
    rw [zero_times, ha, hq]
  rw [hw]

theorem tableOf_at (rpb : FVec Ideal S8x15x31 .f32) (v : IVec S3x256x704 1) (r c : IVec S3x256x704 32)
    (p : Fin 3) (h : Fin 8) (q : Fin 256) (a : Fin 704) :
    tableOf rpb v r c (ix4 p h q a) = if v (ix3 p q a) = 1#1 then
      rpb (ix3 h (⟨min (wrapW (r (ix3 p q a)) 15#32).toInt.toNat 14, by omega⟩ : Fin 15)
          (⟨min (wrapW (c (ix3 p q a)) 31#32).toInt.toNat 30, by omega⟩ : Fin 31)) else ⊥ := by
  have e := gathered rpb (indices r c) h p q a
  simp only [indices_at0 r c, indices_at1 r c] at e
  pointwise [tableOf]
  rw [e]
  pointwise [wrap, all3]
  rw [show id (constant (F := Ideal) S_ .f32 0xFF800000#32) ix0 = ⊥ from ofBits_neg_inf]
  rfl

/-- The table at a pair of block `i`'s page: the pair's position bias inside the window. -/
theorem table_at (rpb : FVec Ideal S8x15x31 .f32) (i : Fin 8) (h : Fin 8) (q : Fin 256) (a : Fin 704) :
    table rpb (ix4 (page i) h q a)
      = if rowIn (4 * i.val + q.val / 64) (firstRow i + a.val / 64) ∧ colIn (q.val % 64) (a.val % 64)
        then bias rpb h (4 * i.val + q.val / 64) (q.val % 64) (firstRow i + a.val / 64) (a.val % 64) else ⊥ := by
  have page3 : ∀ {w : Nat} (x : BitVec 32 → BitVec 32 → IVec S256x704 w) (p : Fin 3),
      stack (x 0#32 0#32) (x 4#32 0#32) (x 28#32 21#32) (ix3 p q a) = x (qBase p) (kBase p) (ix2 q a) := by
    intro w x p
    rw [stack_at]
    fin_cases p <;> rfl
  unfold table
  rw [tableOf_at, page3 valid, valid_at]
  simp only [page3 rowIx, page3 (fun _ => colIx), row_at, col_at]
  split <;> simp_all [bias]

end Cert.Na.Table

end
-- ==== Proof.Na.Equation.lean ====
/- The kernel's attention over 704 masked rows is the reference's over the 512 of the window. -/
module

public import proofs.«01_k».proof.Proof.Na.RefOut
public import proofs.«01_k».proof.Proof.Na.TableAt

@[expose] public section

noncomputable section

namespace Cert.Na.Equation

open Idealize.ShloMosaic Cert.Attn Cert.Na.Spec Cert.Na.Ref

variable (x0 x1 x2 : FVec Ideal Sx .bf16) (x3 : FVec Ideal Sr .f32)

/-- The grid row and column of a token. -/
def rowOf (t : Fin 2048) : Fin 32 := ⟨t.val / 64, by omega⟩
def colOf (t : Fin 2048) : Fin 64 := ⟨t.val % 64, by omega⟩

/-- The place among the 704 latent rows of neighbour `(n, k)`. -/
def place (t : Fin 2048) (p : Fin 8 × Fin 64) : Fin 704 :=
  ⟨(startRow (t.val / 64) + p.1.val - firstRow (blockOf t)) * 64 + p.2.val, by
    show (min (t.val / 64 - 4) 24 + p.1.val - min (4 * (t.val / 256) - 4) 21) * 64 + p.2.val < 704
    omega⟩

theorem place_row (t : Fin 2048) (p : Fin 8 × Fin 64) :
    firstRow (blockOf t) + (place t p).val / 64 = startRow (t.val / 64) + p.1.val := by
  show min (4 * (t.val / 256) - 4) 21
    + ((min (t.val / 64 - 4) 24 + p.1.val - min (4 * (t.val / 256) - 4) 21) * 64 + p.2.val) / 64
    = min (t.val / 64 - 4) 24 + p.1.val
  omega
theorem place_col (t : Fin 2048) (p : Fin 8 × Fin 64) : (place t p).val % 64 = p.2.val := by
  show ((startRow (t.val / 64) + p.1.val - firstRow (blockOf t)) * 64 + p.2.val) % 64 = p.2.val
  omega

theorem place_injective (t : Fin 2048) : Function.Injective (place t) := by
  intro p p' e
  have h := place_row t p
  have h' := place_row t p'
  have g := place_col t p
  have g' := place_col t p'
  rw [e] at h g
  exact Prod.ext (Fin.ext (by omega)) (Fin.ext (by omega))

/-- A latent row that is no neighbour's place lies outside the window's rows. -/
theorem outside (t : Fin 2048) (a : Fin 704) (h : ∀ p, place t p ≠ a) :
    ¬ rowIn (t.val / 64) (firstRow (blockOf t) + a.val / 64) := by
  rintro ⟨h1, h2⟩
  refine h (⟨firstRow (blockOf t) + a.val / 64 - startRow (t.val / 64), by omega⟩, ⟨a.val % 64, by omega⟩) (Fin.ext ?_)
  show (startRow (t.val / 64) + (firstRow (blockOf t) + a.val / 64 - startRow (t.val / 64)) - firstRow (blockOf t)) * 64
    + a.val % 64 = a.val
  omega

theorem key_place (t : Fin 2048) (p : Fin 8 × Fin 64) : keyAt (blockOf t) (place t p) = tok (nbr (rowOf t) p.1) p.2 := by
  have h := place_row t p
  have g := place_col t p
  refine Fin.ext ?_
  show firstRow (blockOf t) * 64 + (place t p).val = (startRow (t.val / 64) + p.1.val) * 64 + p.2.val
  omega

/-- The table for the query of token `t`. -/
theorem table_token (h : Fin 8) (t : Fin 2048) (a : Fin 704) :
    Table.table x3 (ix4 (page (blockOf t)) h (placeOf t) a)
      = if rowIn (t.val / 64) (firstRow (blockOf t) + a.val / 64) ∧ colIn (t.val % 64) (a.val % 64)
        then bias x3 h (t.val / 64) (t.val % 64) (firstRow (blockOf t) + a.val / 64) (a.val % 64) else ⊥ := by
  rw [Table.table_at]
  rw [show 4 * (blockOf t).val + (placeOf t).val / 64 = t.val / 64 from by
      show 4 * (t.val / 256) + t.val % 256 / 64 = t.val / 64; omega,
    show (placeOf t).val % 64 = t.val % 64 from by show t.val % 256 % 64 = t.val % 64; omega]

theorem dot_finite (h0 : ∀ i, Fin' (x0 i)) (h1 : ∀ i, Fin' (x1 i)) (b h : Fin 8) (t : Fin 2048) (g : Fin 9) (r : Fin 2048) :
    Fin' (dot x0 x1 b h t g r) :=
  Fin'.sum _ _ fun d => (h0 _).mul (h1 _)

/-- The two results agree at every token of every batch element. -/
theorem agree (h0 : ∀ i, Fin' (x0 i)) (h1 : ∀ i, Fin' (x1 i)) (h3 : ∀ i, Fin' (x3 i)) (b : Fin 8) (t : Fin 2048) (e : Fin 512) :
    kernelOut x0 x1 x2 (Table.table x3) b t e
      = Cert.NaRefIdeal.Read.val_main_v133 (F := Ideal) x0 x1 x2 x3 (ix3 (grp b) t e) := by
  have ht : tok ⟨t.val / 64, by omega⟩ ⟨t.val % 64, by omega⟩ = t :=
    Fin.ext (by show t.val / 64 * 64 + t.val % 64 = t.val; omega)
  rw [result_at]
  unfold kernelOut
  rw [attention _ _ _ _ (place t) (place_injective t)]
  · refine congr (congr (congr (congrArg divFirst (funext fun p => ?_)) (funext fun p => ?_)) (funext fun j => ?_)) rfl
    · show _ = if colIn (t.val % 64) p.2.val then dot x0 x1 b (headOf e) (tok ⟨t.val / 64, by omega⟩ ⟨t.val % 64, by omega⟩) (grp b)
          (tok (nbr (rowOf t) p.1) p.2) + bias x3 (headOf e) (t.val / 64) (t.val % 64) (startRow (t.val / 64) + p.1.val) p.2.val else ⊥
      rw [table_token, place_row, place_col, key_place, ht]
      by_cases hc : colIn (t.val % 64) p.2.val
      · rw [if_pos hc, if_pos ⟨⟨by omega, by omega⟩, hc⟩]
      · rw [if_neg hc, if_neg (fun h => hc h.2), EReal.add_bot]
    · show _ = x2 (ix3 (grp b) (tok (nbr (rowOf t) p.1) p.2) e)
      rw [key_place]
    · show _ = dot x0 x1 b (headOf e) (tok ⟨t.val / 64, by omega⟩ ⟨t.val % 64, by omega⟩) 8 (ctxAt b j)
      rw [ht]
  · intro a ha
    rw [table_token, if_neg (fun h => outside t a ha h.1), EReal.add_bot]
  · intro a
    rw [table_token]
    split
    · exact ((dot_finite x0 x1 h0 h1 _ _ _ _ _).add (h3 _)).score
    · rw [EReal.add_bot]; exact bot_ne_top
  · intro c
    exact dot_finite x0 x1 h0 h1 _ _ _ _ _

end Cert.Na.Equation

end
-- ==== Proof.Na.Payload.lean ====
/- What one point of the neighbourhood attention's kernel writes, entry by entry: for each of the two
   heads of its lanes the attention of one query over 704 latent rows and 256 context rows. -/
module

public import proofs.«01_k».proof.Proof.Gen.NaIdeal.Value
public import proofs.«01_k».proof.Proof.Attn.Softmax

@[expose] public section

set_option maxRecDepth 16384

noncomputable section

namespace Cert.Na.Kernel

open Idealize.ShloMosaic Idealize.ShloMosaic.TcCoe Idealize.SL.Sem
open Cert.NaIdeal Cert.NaIdeal.Gen Cert.Attn

/-! ## A product over the lanes of one head -/

/-- Lane `d` of head `hh` among the 128 lanes of a pair. -/
def lane (hh : Fin 2) (d : Fin 64) : Fin 128 := ⟨hh.val * 64 + d.val, by omega⟩

theorem sum_lanes (g : Fin 128 → EReal) :
    ∑ x, g x = ∑ d, g (lane 0 d) + ∑ d, g (lane 1 d) := by
  rw [show (∑ x, g x) = ∑ x : Fin (64 + 64), g x from rfl, Fin.sum_univ_add]
  congr 1 <;> refine Finset.sum_congr rfl fun d _ => congrArg g (Fin.ext ?_)

theorem slt_low (d : Fin 64) : IntOp.cmpi CmpIPredicate.slt (BitVec.ofNat 32 (lane 0 d).val) 64#32 = 1#1 := by
  revert d; decide +kernel

theorem slt_high (d : Fin 64) : IntOp.cmpi CmpIPredicate.slt (BitVec.ofNat 32 (lane 1 d).val) 64#32 = 0#1 := by
  revert d; decide +kernel

/-- The product with the upper head's lanes set to zero. -/
theorem sum_low (g : Fin 128 → EReal) :
    ∑ x : Fin 128, Scalar.select (IntOp.cmpi CmpIPredicate.slt (BitVec.ofNat 32 x.val) 64#32) (g x) (0 : EReal)
      = ∑ d, g (lane 0 d) := by
  rw [sum_lanes]
  simp only [slt_low, slt_high]
  simp [Scalar.select]

/-- The product with the lower head's lanes set to zero. -/
theorem sum_high (g : Fin 128 → EReal) :
    ∑ x : Fin 128, Scalar.select (IntOp.cmpi CmpIPredicate.slt (BitVec.ofNat 32 x.val) 64#32) (0 : EReal) (g x)
      = ∑ d, g (lane 1 d) := by
  rw [sum_lanes]
  simp only [slt_low, slt_high]
  simp [Scalar.select]

/-! ## The two heads -/

/-- The attention of query row `i` for head `hh` of the point's lanes, at lane `l` of the values: `q` the
    queries, `kw`, `vw` the latent rows' keys and values, `kc`, `vc` the context rows', `b` the biases. -/
def head (q : FVec Ideal S1x256x128 .bf16) (kw vw : FVec Ideal S1x704x128 .bf16)
    (kc vc : FVec Ideal S1x256x128 .bf16) (b : FVec Ideal S1x1x256x704 .f32)
    (hh : Fin 2) (i : Fin 256) (l : Fin 128) : EReal :=
  divLast
    (fun a : Fin 704 => ∑ d : Fin 64, q (ix3 0 i (lane hh d)) * kw (ix3 0 a (lane hh d)) + b (ix4 0 0 i a))
    (fun a => vw (ix3 0 a l))
    (fun c : Fin 256 => ∑ d : Fin 64, q (ix3 0 i (lane hh d)) * kc (ix3 0 c (lane hh d)))
    (fun c => vc (ix3 0 c l))

variable (q : FVec Ideal S1x256x128 .bf16) (kw vw : FVec Ideal S1x704x128 .bf16)
    (kc vc : FVec Ideal S1x256x128 .bf16) (b : FVec Ideal S1x1x256x704 .f32)

theorem lower_at (i : Fin 256) (l : Fin 128) :
    k0_pay13 (F := Ideal) (k0_pay3 vw) (k0_pay5 vc) (k0_pay10 kw q b) (k0_pay11 kc q) (k0_pay12 kw q b) (ix2 i l)
      = head q kw vw kc vc b 0 i l := by
  pointwise [k0_pay13, k0_pay3, k0_pay5, k0_pay12, k0_pay10, k0_pay11, k0_pay9, k0_pay2, k0_pay4, k0_pay6, k0_pay7, k0_pay8]
  have e := ofBits_neg_inf
  simp only [sum_low]
  unfold head divLast top
  rw [← e]

theorem upper_at (i : Fin 256) (l : Fin 128) :
    Ideal.div (k0_pay20 (F := Ideal) (k0_pay2 kw) (k0_pay3 vw) (k0_pay4 kc) (k0_pay6 q) k0_pay7 k0_pay8 b (ix2 i l)
        + ∑ c : Fin 256, k0_pay21 (F := Ideal) (k0_pay2 kw) (k0_pay4 kc) (k0_pay6 q) k0_pay7 k0_pay8 b (ix2 i c) * vc (ix3 0 c l))
      (k0_pay19 (F := Ideal) (k0_pay2 kw) (k0_pay4 kc) (k0_pay6 q) k0_pay7 k0_pay8 b (ix2 i 0)
        + k0_pay22 (F := Ideal) (k0_pay2 kw) (k0_pay4 kc) (k0_pay6 q) k0_pay7 k0_pay8 b (ix2 i 0))
      = head q kw vw kc vc b 1 i l := by
  pointwise [k0_pay14, k0_pay15, k0_pay16, k0_pay17, k0_pay18, k0_pay19, k0_pay20, k0_pay21, k0_pay22, k0_pay3, k0_pay2, k0_pay4, k0_pay6, k0_pay7, k0_pay8]
  have e := ofBits_neg_inf
  simp only [sum_high]
  unfold head divLast top
  rw [← e]

/-- The stored block: the lower head on the lower lanes, the upper head on the upper lanes. -/
theorem stored_at (b0 b1 : FVec Ideal S1x1x256x704 .f32) (i : Fin 256) (l : Fin 128) :
    k0_pay1 (F := Ideal) (k0_pay5 vc) k0_pay7
      (k0_pay13 (k0_pay3 vw) (k0_pay5 vc) (k0_pay10 kw q b0) (k0_pay11 kc q) (k0_pay12 kw q b0))
      (k0_pay19 (k0_pay2 kw) (k0_pay4 kc) (k0_pay6 q) k0_pay7 k0_pay8 b1)
      (k0_pay20 (k0_pay2 kw) (k0_pay3 vw) (k0_pay4 kc) (k0_pay6 q) k0_pay7 k0_pay8 b1)
      (k0_pay21 (k0_pay2 kw) (k0_pay4 kc) (k0_pay6 q) k0_pay7 k0_pay8 b1)
      (k0_pay22 (k0_pay2 kw) (k0_pay4 kc) (k0_pay6 q) k0_pay7 k0_pay8 b1) (ix3 0 i l)
      = if l.val < 64 then head q kw vw kc vc b0 0 i l else head q kw vw kc vc b1 1 i l := by
  rw [← lower_at, ← upper_at]
  pointwise [k0_pay1, k0_pay5, k0_pay7]
  have e : ∀ l : Fin 128, IntOp.cmpi CmpIPredicate.slt (BitVec.ofNat 32 l.val) 64#32 = if l.val < 64 then 1#1 else 0#1 := by
    decide +kernel
  rw [e l]
  split <;> simp [Scalar.select]

end Cert.Na.Kernel

end
-- ==== Proof.Na.Final.lean ====
/- The kernel's result array after the run, entry by entry. -/
module

public import proofs.«01_k».proof.Proof.Na.Payload
public import proofs.«01_k».proof.Proof.Na.Spec

@[expose] public section

set_option maxRecDepth 16384

noncomputable section

namespace Cert.Na.Kernel

open Idealize.ShloMosaic Idealize.ShloMosaic.TcCoe Idealize.SL.Sem
open Idealize.ShloMosaic.Pipeline (Dat)
open Cert.NaIdeal Cert.NaIdeal.Gen Cert.Attn Cert.Na.Spec

variable (m : (ℓ : Loc nD τ sig) → Buf (Elt Ideal) ℓ)

/-- Where each grid point reads and writes. -/
theorem idx : ∀ t : Fin cfg0.N,
    win0_0.index t = ![t.val / 32, t.val % 8, t.val / 8 % 4]
    ∧ win0_1.index t = ![t.val / 32, 0, t.val / 8 % 4]
    ∧ win0_2.index t = ![t.val / 32, 0, t.val / 8 % 4]
    ∧ win0_3.index t = ![8, t.val / 32, t.val / 8 % 4]
    ∧ win0_4.index t = ![8, t.val / 32, t.val / 8 % 4]
    ∧ win0_5.index t = ![(page ⟨t.val % 8, Nat.mod_lt _ (by omega)⟩).val, t.val / 8 % 4, 0, 0]
    ∧ win0_6.index t = ![t.val / 32, t.val % 8, t.val / 8 % 4] := (by decide +kernel : ∀ t : Fin grid0.N, _)

/-- The first latent row of the keys and values a grid point loads. -/
theorem off : ∀ t : Fin cfg0.N,
    k0_off1 (grid0.coords t) = ![0, firstRow ⟨t.val % 8, Nat.mod_lt _ (by omega)⟩ * 64, 0] :=
  (by decide +kernel : ∀ t : Fin grid0.N, _)

/-! ## What each block holds -/

theorem q_at (c : Dev nD) (t : Fin cfg0.N) (i : Fin 256) (l : Fin 128) (g : Fin 9) (r : Fin 2048) (e : Fin 512)
    (hg : g.val = t.val / 32) (hr : r.val = t.val % 8 * 256 + i.val) (he : e.val = t.val / 8 % 4 * 128 + l.val) :
    (show FVec Ideal S1x256x128 .bf16 from iblk m c 0 t) (ix3 0 i l) = m ((c : Thread nD τ).loc main_arg0) (ix3 g r e) := by
  blk_ext [iblk, V, (idx t).1]

theorem k_at (c : Dev nD) (t : Fin cfg0.N) (i : Fin 2048) (l : Fin 128) (g : Fin 9) (e : Fin 512)
    (hg : g.val = t.val / 32) (he : e.val = t.val / 8 % 4 * 128 + l.val) :
    (show FVec Ideal S1x2048x128 .bf16 from iblk m c 1 t) (ix3 0 i l) = m ((c : Thread nD τ).loc main_arg1) (ix3 g i e) := by
  blk_ext [iblk, V, (idx t).2.1]

theorem v_at (c : Dev nD) (t : Fin cfg0.N) (i : Fin 2048) (l : Fin 128) (g : Fin 9) (e : Fin 512)
    (hg : g.val = t.val / 32) (he : e.val = t.val / 8 % 4 * 128 + l.val) :
    (show FVec Ideal S1x2048x128 .bf16 from iblk m c 2 t) (ix3 0 i l) = m ((c : Thread nD τ).loc main_arg2) (ix3 g i e) := by
  blk_ext [iblk, V, (idx t).2.2.1]

theorem kc_at (c : Dev nD) (t : Fin cfg0.N) (i : Fin 256) (l : Fin 128) (r : Fin 2048) (e : Fin 512)
    (hr : r.val = t.val / 32 * 256 + i.val) (he : e.val = t.val / 8 % 4 * 128 + l.val) :
    (show FVec Ideal S1x256x128 .bf16 from iblk m c 3 t) (ix3 0 i l) = m ((c : Thread nD τ).loc main_arg1) (ix3 8 r e) := by
  blk_ext [iblk, V, (idx t).2.2.2.1]

theorem vc_at (c : Dev nD) (t : Fin cfg0.N) (i : Fin 256) (l : Fin 128) (r : Fin 2048) (e : Fin 512)
    (hr : r.val = t.val / 32 * 256 + i.val) (he : e.val = t.val / 8 % 4 * 128 + l.val) :
    (show FVec Ideal S1x256x128 .bf16 from iblk m c 4 t) (ix3 0 i l) = m ((c : Thread nD τ).loc main_arg2) (ix3 8 r e) := by
  blk_ext [iblk, V, (idx t).2.2.2.2.1]

/-- The 704 rows loaded from a block of keys or values. -/
theorem ld_at (c : Dev nD) (t : Fin cfg0.N) (x : FVec Ideal S1x2048x128 .bf16) (a : Fin 704) (l : Fin 128) (q : Fin 8)
    (hq : q.val = t.val % 8) :
    (show FVec Ideal S1x704x128 .bf16 from View.ld (Val := Elt Ideal) (e' := .bf16) x (Rect.unit (s := S1x2048x128) (k0_off1 (grid0.coords t)) S1x704x128.size (k0_off1_inb (grid0.coords t)))) (ix3 0 a l) = x (ix3 0 (keyAt q a) l) := by
  have hq' : q = ⟨t.val % 8, Nat.mod_lt _ (by omega)⟩ := Fin.ext hq
  have h := off t
  rw [← hq'] at h
  unfold keyAt
  pointwise
  blk_ext [h]

/-- One page of biases for a point's two heads. -/
theorem b_at (c : Dev nD) (t : Fin cfg0.N) (hh : Fin 2) (i : Fin 256) (a : Fin 704) (q : Fin 8) (h : Fin 8)
    (hq : q.val = t.val % 8) (hk : h.val = t.val / 8 % 4 * 2 + hh.val) :
    (show FVec Ideal S1x2x256x704 .f32 from iblk m c 5 t) (ix4 0 hh i a) = (show FVec Ideal S3x8x256x704 .f32 from V m c main_v253) (ix4 (page q) h i a) := by
  have hq' : q = ⟨t.val % 8, Nat.mod_lt _ (by omega)⟩ := Fin.ext hq
  have h := (idx t).2.2.2.2.2.1
  rw [← hq'] at h
  generalize page q = p at h ⊢
  blk_ext [iblk, h]

theorem point (c : Dev nD) (t : Fin cfg0.N) (i : Fin 256) (l : Fin 128) (hh : Fin 2)
    (hl : l.val / 64 = hh.val) (b : FVec Ideal S1x1x256x704 .f32)
    (hb : ∀ a, b (ix4 0 0 i a) = (show FVec Ideal S1x2x256x704 .f32 from iblk m c 5 t) (ix4 0 hh i a))
    (g : Fin 8) (hg : g.val = t.val / 32) (r : Fin 2048) (hr : r.val = t.val % 8 * 256 + i.val)
    (e : Fin 512) (he : e.val = t.val / 8 % 4 * 128 + l.val) :
    head (iblk m c 0 t) (View.ld (iblk m c 1 t) (Rect.unit (s := S1x2048x128) (k0_off1 (grid0.coords t)) S1x704x128.size (k0_off1_inb (grid0.coords t))))
      (View.ld (iblk m c 2 t) (Rect.unit (s := S1x2048x128) (k0_off1 (grid0.coords t)) S1x704x128.size (k0_off1_inb (grid0.coords t))))
      (iblk m c 3 t) (iblk m c 4 t) b hh i l
    = kernelOut (m ((c : Thread nD τ).loc main_arg0)) (m ((c : Thread nD τ).loc main_arg1)) (m ((c : Thread nD τ).loc main_arg2))
        (V m c main_v253) g r e := by
  have hq : (blockOf r).val = t.val % 8 := by show r.val / 256 = t.val % 8; omega
  have hd : ∀ d : Fin 64, (col (headOf e) d).val = t.val / 8 % 4 * 128 + (lane hh d).val := fun d => by
    show e.val / 64 * 64 + d.val = t.val / 8 % 4 * 128 + (hh.val * 64 + d.val); omega
  have hp : placeOf r = i := Fin.ext (by show r.val % 256 = i.val; omega)
  have hc : ∀ a : Fin 256, (ctxAt g a).val = t.val / 32 * 256 + a.val := fun a => by
    show g.val * 256 + a.val = _; omega
  unfold head kernelOut dot
  refine divLast_congr (fun a => ?_) (fun a => ?_) (fun a => ?_) (fun a => ?_)
  · refine congrArg₂ (· + ·) (Finset.sum_congr rfl fun d _ => congrArg₂ (· * ·) ?_ ?_) ?_
    · exact q_at m c t i (lane hh d) (grp g) r _ hg hr (hd d)
    · exact (ld_at c t _ a (lane hh d) (blockOf r) hq).trans (k_at m c t _ _ (grp g) _ hg (hd d))
    · rw [hp]
      exact (hb a).trans (b_at m c t hh i a (blockOf r) (headOf e) hq (by show e.val / 64 = _; omega))
  · exact (ld_at c t _ a l (blockOf r) hq).trans (v_at m c t _ _ (grp g) _ hg he)
  · refine Finset.sum_congr rfl fun d _ => congrArg₂ (· * ·) ?_ ?_
    · exact q_at m c t i (lane hh d) (grp g) r _ hg hr (hd d)
    · exact kc_at m c t a (lane hh d) _ _ (hc a) (hd d)
  · exact vc_at m c t a l _ _ (hc a) he

/-- The biases of one head of a point, loaded from its page. -/
theorem b0_at (x : FVec Ideal S1x2x256x704 .f32) (i : Fin 256) (a : Fin 704) :
    (show FVec Ideal S1x1x256x704 .f32 from View.ld (Val := Elt Ideal) (e' := .f32) x (Rect.unit (s := S1x2x256x704) ![0, 0, 0, 0] S1x1x256x704.size inb_S1x2x256x704_S1x1x256x704_0_0_0_0)) (ix4 0 0 i a)
      = x (ix4 0 0 i a) := by
  pointwise

theorem b1_at (x : FVec Ideal S1x2x256x704 .f32) (i : Fin 256) (a : Fin 704) :
    (show FVec Ideal S1x1x256x704 .f32 from View.ld (Val := Elt Ideal) (e' := .f32) x (Rect.unit (s := S1x2x256x704) ![0, 1, 0, 0] S1x1x256x704.size inb_S1x2x256x704_S1x1x256x704_0_1_0_0)) (ix4 0 0 i a)
      = x (ix4 0 1 i a) := by
  pointwise

/-- What a point's body leaves at row `i`, lane `l` of its block. -/
theorem block_at (c : Dev nD) (t : Fin cfg0.N) (i : Fin 256) (l : Fin 128)
    (g : Fin 8) (hg : g.val = t.val / 32) (r : Fin 2048) (hr : r.val = t.val % 8 * 256 + i.val)
    (e : Fin 512) (he : e.val = t.val / 8 % 4 * 128 + l.val) (j : S1x256x128.Idx) (hj : j = ix3 0 i l) :
    outsAt0 m c t j = kernelOut (m ((c : Thread nD τ).loc main_arg0)) (m ((c : Thread nD τ).loc main_arg1)) (m ((c : Thread nD τ).loc main_arg2))
        (V m c main_v253) g r e := by
  subst hj
  unfold outsAt0
  frame_out
  refine (stored_at _ _ _ _ _ _ _ i l).trans ?_
  split
  · next h => exact point m c t i l 0 (by show l.val / 64 = 0; omega) _ (fun a => b0_at _ i a) g hg r hr e he
  · next h => exact point m c t i l 1 (by show l.val / 64 = 1; omega) _ (fun a => b1_at _ i a) g hg r hr e he

/-- The result array in its written groups; the last group keeps what it held. -/
def result (c : Dev nD) : FVec Ideal S9x2048x512 .f32 := fun i =>
  kernelOut (m ((c : Thread nD τ).loc main_arg0)) (m ((c : Thread nD τ).loc main_arg1)) (m ((c : Thread nD τ).loc main_arg2))
    (V m c main_v253) ⟨(i 0).val % 8, Nat.mod_lt _ (by omega)⟩ (i 1) (i 2)

theorem emb_at (t : Fin cfg0.N) (i : Fin 256) (l : Fin 128) (g : Fin 9) (r : Fin 2048) (e : Fin 512)
    (hg : g.val = t.val / 32) (hr : r.val = t.val % 8 * 256 + i.val) (he : e.val = t.val / 8 % 4 * 128 + l.val)
    (y : S1x256x128.Idx) (h1 : (y 1).val = i.val) (h2 : (y 2).val = l.val) :
    ((View.whole main_v254).slice (win0_6.rect t)).emb y = (ix3 g r e : S9x2048x512.Idx) := by
  blk_ext [(idx t).2.2.2.2.2.2]

theorem final (c : Dev nD) : (dats m 0 c).arrAt 6 (cfgs 0).N
    = fun i => if (i 0 : ℕ) < 8 then result m c i else V m c main_v254 i := by
  refine (dats m 0 c).arrAt_eq_of_coversWhere 6 _ (fun β => (β 0 : ℕ) < 8) (by decide +kernel) (fun t hf y => ?_)
    (fun j => by blk_simp [Pipeline.Window.cell_apply]; try omega)
  blk_simp; rw [after0_6]
  have ht : t.val < 256 := lt_of_lt_of_eq t.isLt N_0
  have h1 : (y 1).val < 256 := (y 1).isLt
  have h2 : (y 2).val < 128 := (y 2).isLt
  rw [emb_at t ⟨(y 1).val, h1⟩ ⟨(y 2).val, h2⟩ ⟨t.val / 32, by omega⟩ ⟨t.val % 8 * 256 + (y 1).val, by omega⟩
    ⟨t.val / 8 % 4 * 128 + (y 2).val, by omega⟩ rfl rfl rfl y rfl rfl]
  exact block_at m c t ⟨(y 1).val, h1⟩ ⟨(y 2).val, h2⟩ _ (by show (t.val / 32) % 8 = _; omega) _ rfl _ rfl y (by blk_ext)

end Cert.Na.Kernel

end
-- ==== Proof.Na.Pre.lean ====
/- What the precondition says: the queries, the keys and the relative biases are finite. -/
module

public import proofs.«01_k».proof.Pre_finite_scores
public import proofs.«01_k».proof.On_latent_groups
public import proofs.«01_k».proof.Proof.Attn.Softmax

@[expose] public section

noncomputable section

namespace Cert.Na.Pre

open Idealize.ShloMosaic Cert.Attn

/-- The precondition's shape facts. -/
instance preFacts : Cert.Pre_finite_scores.Facts where
  bitsLt_bf16_f32 := by decide
  bcast_S_S9x2048x512 := by decide
  bcast_S_S8x15x31 := by decide

/-- The bit pattern of plus infinity, read ideally. -/
theorem ofBits_pos_inf : Ideal.ofBits FTy.f32 0x7F800000#32 = ⊤ := by
  unfold Ideal.ofBits
  decide +kernel

/-- Two comparisons that both hold put a value strictly between the infinities. -/
theorem fin_of_words (x : EReal)
    (h : IntOp.andi (FloatOps.cmpf (F := Ideal) (φ := .f32) .ogt x (⊥ : EReal)) (FloatOps.cmpf (F := Ideal) (φ := .f32) .olt x (⊤ : EReal)) = 1#1) : Fin' x := by
  constructor
  · rintro rfl; simp [FloatOps.cmpf, Ideal.cmp, IntOp.andi] at h
  · rintro rfl; simp [FloatOps.cmpf, Ideal.cmp, IntOp.andi] at h

variable (x0 x1 x2 : FVec Ideal ⟨3, ![9, 2048, 512]⟩ .bf16) (x3 : FVec Ideal ⟨3, ![8, 15, 31]⟩ .f32)

theorem fin_q (h : (Cert.Pre_finite_scores.fn (F := Ideal) x0 x1 x2 x3).1 = fun _ => 1#1) (i) : Fin' (x0 i) := by
  have hi := congrFun h i
  apply fin_of_words
  rw [← ofBits_neg_inf, ← ofBits_pos_inf]
  exact hi

theorem fin_k (h : (Cert.Pre_finite_scores.fn (F := Ideal) x0 x1 x2 x3).2.1 = fun _ => 1#1) (i) : Fin' (x1 i) := by
  have hi := congrFun h i
  apply fin_of_words
  rw [← ofBits_neg_inf, ← ofBits_pos_inf]
  exact hi

theorem fin_rpb (h : (Cert.Pre_finite_scores.fn (F := Ideal) x0 x1 x2 x3).2.2 = fun _ => 1#1) (i) : Fin' (x3 i) := by
  have hi := congrFun h i
  apply fin_of_words
  rw [← ofBits_neg_inf, ← ofBits_pos_inf]
  exact hi

/-- The mask selects the eight groups of latent tokens. -/
theorem group_lt [Cert.On_latent_groups.Facts] (i : (⟨3, ![9, 2048, 512]⟩ : Shape).Idx)
    (h : Cert.On_latent_groups.fn (F := Ideal) x0 x1 x2 x3 i = 1#1) : (i 0 : ℕ) < 8 := by
  have key : ∀ a : Fin 9, IntOp.cmpi .slt (BitVec.ofNat 32 a.val) 8#32 = 1#1 → a.val < 8 := by decide +kernel
  exact key (i 0) h

end Cert.Na.Pre

end
-- ==== Proof.Na.Claims.lean ====
/- The claims about the neighbourhood attention. -/
module

public import proofs.«01_k».proof.Defs
public import proofs.«01_k».proof.Proof.Gen.Na.Frame
public import proofs.«01_k».proof.Proof.Gen.NaIdeal.Value
public import proofs.«01_k».proof.Proof.Gen.NaRefIdeal.Run
public import proofs.«01_k».proof.Proof.Gen.NaRefIdeal.Read
public import proofs.«01_k».proof.Proof.Gen.On_latent_groups
public import proofs.«01_k».proof.Proof.Na.Equation
public import proofs.«01_k».proof.Proof.Na.Final
public import proofs.«01_k».proof.Proof.Na.Table
public import proofs.«01_k».proof.Proof.Na.Pre

@[expose] public section

noncomputable section

namespace Cert.Na.Claims

open Idealize.ShloMosaic Idealize.ShloMosaic.TcCoe Idealize.SL.Sem Cert.Attn Cert.Na.Spec Cert.Na.Kernel

theorem frame : Cert.quiescent_Na := fun m g _ => Cert.Na.Gen.frame m g

theorem frame_ideal : Cert.quiescent_NaIdeal := fun m g _ => Cert.NaIdeal.Gen.frame m g

theorem frame_ideal_pre : Cert.quiescent_NaIdeal_pre_finite_scores := fun m g _ => Cert.NaIdeal.Gen.frame m g

theorem frame_ref : Cert.quiescent_NaRefIdeal := by
  intro m g _
  exact (θ_run _ _ _).mono (fun r h => ⟨fun c => (h c).2, sem_eq_zero_of_no_sems (by decide) r.2⟩)
    (Cert.NaRefIdeal.Value.run m g)

theorem frame_ref_pre : Cert.quiescent_NaRefIdeal_pre_finite_scores := fun m g _ => frame_ref m g trivial

/-- At an element of the eight latent groups the kernel's array is the reference's. -/
theorem selected (m : (ℓ : Loc Cert.NaIdeal.nD Cert.NaIdeal.τ Cert.NaIdeal.sig) → Buf (Elt Ideal) ℓ)
    (hpre : Cert.Pre_NaIdeal_finite_scores m) (c : Dev Cert.NaIdeal.nD) (i : (⟨3, ![9, 2048, 512]⟩ : Shape).Idx)
    (h : (i 0 : ℕ) < 8) :
    (show FVec Ideal ⟨3, ![9, 2048, 512]⟩ .bf16 from
      (Cert.NaIdeal.Gen.dats m 0 c).arrAt 6 (Cert.NaIdeal.cfgs 0).N) i
    = Cert.NaRefIdeal.Read.val_main_v133 (F := Ideal) (m ((c : Thread Cert.NaIdeal.nD Cert.NaIdeal.τ).loc Cert.NaIdeal.main_arg0))
        (m ((c : Thread Cert.NaIdeal.nD Cert.NaIdeal.τ).loc Cert.NaIdeal.main_arg1))
        (m ((c : Thread Cert.NaIdeal.nD Cert.NaIdeal.τ).loc Cert.NaIdeal.main_arg2))
        (m ((c : Thread Cert.NaIdeal.nD Cert.NaIdeal.τ).loc Cert.NaIdeal.main_arg3)) i := by
  obtain ⟨hq, hk, hr⟩ := hpre c
  rw [final m c]
  show (if (i 0 : ℕ) < 8 then result m c i else _) = _
  rw [if_pos h]
  unfold result
  rw [Cert.Na.Table.entry m c]
  refine (Cert.Na.Equation.agree _ _ _ _ (Cert.Na.Pre.fin_q _ _ _ _ hq) (Cert.Na.Pre.fin_k _ _ _ _ hk)
      (Cert.Na.Pre.fin_rpb _ _ _ _ hr) ⟨(i 0).val % 8, _⟩ (i 1) (i 2)).trans (congrArg _ ?_)
  funext a
  fin_cases a
  · exact Fin.ext (Nat.mod_eq_of_lt h)
  · rfl
  · rfl

theorem algebraic : Cert.algebraic_NaIdeal_NaRefIdeal_on_latent_groups_pre_finite_scores := by
  intro m g m' g' hpre hagree
  refine ⟨fun c => Cert.NaRefIdeal.Read.val_main_v133 (F := Ideal) (m ((c : Thread Cert.NaIdeal.nD Cert.NaIdeal.τ).loc Cert.NaIdeal.main_arg0))
        (m ((c : Thread Cert.NaIdeal.nD Cert.NaIdeal.τ).loc Cert.NaIdeal.main_arg1))
        (m ((c : Thread Cert.NaIdeal.nD Cert.NaIdeal.τ).loc Cert.NaIdeal.main_arg2))
        (m ((c : Thread Cert.NaIdeal.nD Cert.NaIdeal.τ).loc Cert.NaIdeal.main_arg3)), ?_, ?_⟩
  · refine (θ_run _ _ _).mono (fun r h c => ?_) (Cert.NaIdeal.Value.run_blocks m g)
    obtain ⟨h0, h1, h2, h3, h4⟩ := h c
    refine ⟨fun i hi => ?_, h1, h2, h3, h4⟩
    rw [h0]
    exact selected m hpre c i (Cert.Na.Pre.group_lt _ _ _ _ i hi)
  · refine (θ_run _ _ _).mono (fun r h c => ?_) (Cert.NaRefIdeal.Value.run m' g')
    obtain ⟨h0, h1, h2, h3, h4⟩ := h c
    obtain ⟨e0, e1, e2, e3⟩ := hagree c
    refine ⟨fun i _ => ?_, h1.trans ?_, h2.trans ?_, h3.trans ?_, h4.trans ?_⟩
    · rw [h0, Cert.NaRefIdeal.Read.val_main_v133_eq, e0, e1, e2, e3]
    all_goals first | rfl | assumption

end Cert.Na.Claims

end
-- ==== Proof.Ffn.Spec.lean ====
/- A feed-forward half as one formula per entry: the modulated norm of a token, its gated product with the
   first matrix, the product with the second, and the residual. -/
module

public import Idealize.ShloMosaic.Lib.Pipeline.ValueKit
public import Idealize.ShloMosaic.Lib.Pointwise

@[expose] public section

noncomputable section

namespace Cert.Ffn

open Idealize.ShloMosaic

/-- A token times the reciprocal root of its mean square. -/
def rms (x : Fin 1024 → EReal) (k : Fin 1024) : EReal :=
  x k * Ideal.rsqrt (Ideal.div (∑ a, x a * x a) (Ideal.ofBits .f32 0x44800000#32) + Ideal.ofBits .f32 0x358637BD#32)

/-- The token, normed with gain `g`, scaled by `1 + sc` and shifted by `sh`. -/
def hidden (x g sc sh : Fin 1024 → EReal) (k : Fin 1024) : EReal :=
  rms x k * g k * (1 + sc k) + sh k

/-- `g · σ(g) · a`. -/
def gate (a g : EReal) : EReal := g * Ideal.logistic g * a

/-- Entry `j` of the gated product: column `j` of the first matrix, gated by column `2816 + j`. -/
def gated (h : Fin 1024 → EReal) (w : Fin 1024 → Fin 5632 → EReal) (j : Fin 2816) : EReal :=
  gate (∑ k, h k * w k ⟨j.val, by omega⟩) (∑ k, h k * w k ⟨2816 + j.val, by omega⟩)

/-- The half's result for one token at channel `n`. -/
def half (x g sh sc ga : Fin 1024 → EReal) (w13 : Fin 1024 → Fin 5632 → EReal) (w2 : Fin 2816 → Fin 1024 → EReal)
    (n : Fin 1024) : EReal :=
  x n + Ideal.ofBits .f32 0x3F000000#32 * ga n * ∑ j, gated (hidden x g sc sh) w13 j * w2 j n

end Cert.Ffn

end
-- ==== Proof.Ffn.Payload.lean ====
/- What one point of the feed-forward kernel stores, entry by entry. -/
module

public import proofs.«01_k».proof.Proof.Gen.FfnFirstIdeal.Value
public import proofs.«01_k».proof.Proof.Ffn.Spec

@[expose] public section

set_option maxRecDepth 16384

noncomputable section

namespace Cert.Ffn.Kernel

open Idealize.ShloMosaic Idealize.ShloMosaic.TcCoe Idealize.SL.Sem
open Cert.FfnFirstIdeal Cert.FfnFirstIdeal.Gen

variable (x0 : FVec Ideal S1x512x1024 .f32) (x1 : FVec Ideal S1x1x3072 .f32) (x2 : FVec Ideal S1x1024 .f32)
  (x3 : FVec Ideal S22x1024x256 .bf16) (x4 : FVec Ideal S2816x1024 .bf16)

/-- The modulated norm of row `i`. -/
theorem hidden_at (i : Fin 512) (k : Fin 1024) :
    k0_pay6 (F := Ideal) x0 x1 x2 (ix2 i k) = hidden (fun k => x0 (ix3 0 i k)) (fun k => x2 (ix2 0 k))
      (fun k => x1 (ix3 0 0 ⟨1024 + k.val, by omega⟩)) (fun k => x1 (ix3 0 0 ⟨k.val, by omega⟩)) k := by
  pointwise [k0_pay6, k0_pay4, k0_pay3]
  rfl

/-- One chunk of the gated product. -/
theorem chunk_at (h : FVec Ideal S512x1024 .bf16) (wa wg : FVec Ideal S1x1024x256 .bf16) (i : Fin 512) (q : Fin 256) :
    k0_pay9 (F := Ideal) h wa wg (ix2 i q) = gate (∑ k, h (ix2 i k) * wa (ix3 0 k q)) (∑ k, h (ix2 i k) * wg (ix3 0 k q)) := by
  pointwise [k0_pay9]
  rfl

/-- Slab `c` of the chunked matrix. -/
theorem slab_at (c : ℕ) (hc : c < 22) (inb) (k : Fin 1024) (q : Fin 256) :
    (show FVec Ideal S1x1024x256 .bf16 from
      View.ld (Val := Elt Ideal) (e' := .bf16) x3 (Rect.unit (s := S22x1024x256) ![c, 0, 0] ![1, 1024, 256] inb)) (ix3 0 k q)
      = x3 (ix3 ⟨c, hc⟩ k q) := by
  pointwise

/-- The gated product of the modulated rows `h` with the chunked matrix. -/
def act (h : FVec Ideal S512x1024 .bf16) : FVec Ideal S512x2816 .bf16 := fun y =>
  gate (∑ k, h (ix2 (y 0) k) * x3 (ix3 ⟨(y 1).val / 256, by have : (y 1).val < 2816 := (y 1).isLt; omega⟩ k ⟨(y 1).val % 256, Nat.mod_lt _ (by omega)⟩))
    (∑ k, h (ix2 (y 0) k) * x3 (ix3 ⟨11 + (y 1).val / 256, by have : (y 1).val < 2816 := (y 1).isLt; omega⟩ k ⟨(y 1).val % 256, Nat.mod_lt _ (by omega)⟩))

/-- Chunk `c` is the gated product on its 256 columns. -/
theorem piece_at (h : FVec Ideal S512x1024 .bf16) (c d o : ℕ) (hc : c < 11) (hd : d = 11 + c) (ho : o = c * 256) (ia ig io)
    (y : S512x256.Idx) :
    k0_pay9 (F := Ideal) h
      (View.ld (Val := Elt Ideal) (e' := .bf16) x3 (Rect.unit (s := S22x1024x256) ![c, 0, 0] ![1, 1024, 256] ia))
      (View.ld (Val := Elt Ideal) (e' := .bf16) x3 (Rect.unit (s := S22x1024x256) ![d, 0, 0] ![1, 1024, 256] ig)) y
      = act x3 h ((Rect.unit (s := S512x2816) ![0, o] ![512, 256] io).emb y) := by
  subst hd ho
  obtain ⟨i, q, rfl⟩ : ∃ (i : Fin 512) (q : Fin 256), y = ix2 i q := ⟨y 0, y 1, by funext a; fin_cases a <;> rfl⟩
  refine (chunk_at h _ _ i q).trans ?_
  have e0 : (Rect.unit (s := S512x2816) ![0, c * 256] ![512, 256] io).emb (ix2 i q) 0 = i :=
    Fin.ext (by show 0 + 1 * i.val = i.val; omega)
  have e1 : ((Rect.unit (s := S512x2816) ![0, c * 256] ![512, 256] io).emb (ix2 i q) 1).val = c * 256 + q.val := by
    show c * 256 + 1 * q.val = _; omega
  have ed : (c * 256 + q.val) / 256 = c := by omega
  have em : (c * 256 + q.val) % 256 = q.val := by omega
  unfold act
  refine congrArg₂ gate ?_ ?_
  · refine Finset.sum_congr rfl fun k _ => congrArg₂ (· * ·) (by rw [e0]) ((slab_at x3 c (by omega) ia k q).trans ?_)
    exact congrArg₂ (fun a b => x3 (ix3 a k b)) (Fin.ext (by show c = _ / 256; rw [e1, ed])) (Fin.ext (by show q.val = _ % 256; rw [e1, em]))
  · refine Finset.sum_congr rfl fun k _ => congrArg₂ (· * ·) (by rw [e0]) ((slab_at x3 (11 + c) (by omega) ig k q).trans ?_)
    exact congrArg₂ (fun a b => x3 (ix3 a k b)) (Fin.ext (by show 11 + c = 11 + _ / 256; rw [e1, ed])) (Fin.ext (by show q.val = _ % 256; rw [e1, em]))

theorem columns_inb (c : ℕ) (hc : c < 11) (a) :
    (![0, c * 256] : Fin S512x2816.rank → ℕ) a + (![512, 256] : Fin S512x2816.rank → ℕ) a ≤ S512x2816.size a := by
  fin_cases a
  · exact Nat.le_refl 512
  · show c * 256 + 256 ≤ 2816; omega

theorem slab_inb (c : ℕ) (hc : c < 22) (a) :
    (![c, 0, 0] : Fin S22x1024x256.rank → ℕ) a + (![1, 1024, 256] : Fin S22x1024x256.rank → ℕ) a ≤ S22x1024x256.size a := by
  fin_cases a
  · show c + 1 ≤ 22; omega
  · exact Nat.le_refl 1024
  · exact Nat.le_refl 256

/-- The store of chunk `c`. -/
def piece (h : FVec Ideal S512x1024 .bf16) (c : ℕ) (hc : c < 11) : View.Piece (Elt Ideal) S512x2816 .bf16 :=
  ⟨Rect.unit (s := S512x2816) ![0, c * 256] ![512, 256] (columns_inb c hc),
    k0_pay9 (F := Ideal) h
      (View.ld (Val := Elt Ideal) (e' := .bf16) x3 (Rect.unit (s := S22x1024x256) ![c, 0, 0] ![1, 1024, 256] (slab_inb c (by omega))))
      (View.ld (Val := Elt Ideal) (e' := .bf16) x3 (Rect.unit (s := S22x1024x256) ![11 + c, 0, 0] ![1, 1024, 256] (slab_inb (11 + c) (by omega))))⟩

/-- The eleven stores, the last first. -/
def pieces (h : FVec Ideal S512x1024 .bf16) : List (View.Piece (Elt Ideal) S512x2816 .bf16) :=
  [piece x3 h 10 (by decide), piece x3 h 9 (by decide), piece x3 h 8 (by decide), piece x3 h 7 (by decide),
   piece x3 h 6 (by decide), piece x3 h 5 (by decide), piece x3 h 4 (by decide), piece x3 h 3 (by decide),
   piece x3 h 2 (by decide), piece x3 h 1 (by decide), piece x3 h 0 (by decide)]

theorem mem_pieces (h : FVec Ideal S512x1024 .bf16) (q) : q ∈ pieces x3 h ↔ ∃ c hc, q = piece x3 h c hc := by
  constructor
  · intro hq
    simp only [pieces, List.mem_cons, List.not_mem_nil, or_false] at hq
    rcases hq with e | e | e | e | e | e | e | e | e | e | e <;> exact ⟨_, _, e⟩
  · rintro ⟨c, hc, rfl⟩
    interval_cases c <;> simp [pieces]

/-- The whole buffer read back after the eleven stores is the gated product. -/
theorem read_pieces {sig' : RefSig} {κ : Kind} {sp : Space} (v : View sig' κ sp S512x2816 .bf16)
    (h : FVec Ideal S512x1024 .bf16) (inb) :
    v.readCov (Val := Elt Ideal) (pieces x3 h) (Rect.unit (s := S512x2816) ![0, 0] ![512, 2816] inb).toLoadRect = act x3 h := by
  rw [View.readCov_eq_canon']
  funext j
  have ej : (Rect.unit (s := S512x2816) ![0, 0] ![512, 2816] inb).toLoadRect.idx j = j := by
    funext a; apply Fin.ext
    fin_cases a
    · show 0 + 1 * (j 0).val = (j 0).val; omega
    · show 0 + 1 * (j 1).val = (j 1).val; omega
  have e0 : (j 0).val < 512 := (j 0).isLt
  have e1 : (j 1).val < 2816 := (j 1).isLt
  have hG : ∀ q ∈ pieces x3 h, ∀ y, q.2 y = act x3 h (q.1.emb y) := by
    intro q hq y
    obtain ⟨c, hc, rfl⟩ := (mem_pieces x3 h q).1 hq
    exact piece_at x3 h c (11 + c) (c * 256) hc rfl rfl (slab_inb c (by omega)) (slab_inb (11 + c) (by omega)) (columns_inb c hc) y
  have hy : ∃ q ∈ pieces x3 h, j ∈ q.1.set := by
    have hc : (j 1).val / 256 < 11 := by omega
    refine ⟨piece x3 h ((j 1).val / 256) hc, (mem_pieces x3 h _).2 ⟨_, hc, rfl⟩, (Rect.mem_set_unit (inb := columns_inb _ hc)).mpr fun a => ?_⟩
    fin_cases a
    · exact ⟨Nat.zero_le _, e0.trans_le (Nat.le_refl _)⟩
    · exact ⟨by show (j 1).val / 256 * 256 ≤ (j 1).val; omega, by show (j 1).val < (j 1).val / 256 * 256 + 256; omega⟩
  rw [ej]
  exact View.canon_apply_of_pieces (act x3 h) (pieces x3 h) hG j hy

/-- Row `i` of the block a point leaves, from the gated product `u`. -/
theorem out_at (u : FVec Ideal S512x2816 .bf16) (i : Fin 512) (n : Fin 1024) :
    k0_pay2 (F := Ideal) (k0_pay3 x0) (k0_pay5 x1) u x4 (ix3 0 i n)
      = x0 (ix3 0 i n) + Ideal.ofBits .f32 0x3F000000#32 * x1 (ix3 0 0 ⟨2048 + n.val, by omega⟩) * ∑ j, u (ix2 i j) * x4 (ix2 j n) := by
  pointwise [k0_pay2, k0_pay3, k0_pay5, k0_pay4]

/-- The block a point leaves, row by row, where `w` is the first matrix in its 22 chunks of columns. -/
theorem stored_at {sig' : RefSig} {κ : Kind} {sp : Space} (v : View sig' κ sp S512x2816 .bf16) (inb)
    (w : Fin 1024 → Fin 5632 → EReal)
    (hw : ∀ (a : Fin 22) (k : Fin 1024) (q : Fin 256) (j : Fin 5632), j.val = a.val * 256 + q.val → x3 (ix3 a k q) = w k j)
    (i : Fin 512) (n : Fin 1024) :
    k0_pay2 (F := Ideal) (k0_pay3 x0) (k0_pay5 x1)
        (v.readCov (Val := Elt Ideal) (pieces x3 (k0_pay6 x0 x1 x2)) (Rect.unit (s := S512x2816) ![0, 0] ![512, 2816] inb).toLoadRect)
        x4 (ix3 0 i n)
      = half (fun k => x0 (ix3 0 i k)) (fun k => x2 (ix2 0 k)) (fun k => x1 (ix3 0 0 ⟨k.val, by omega⟩))
          (fun k => x1 (ix3 0 0 ⟨1024 + k.val, by omega⟩)) (fun k => x1 (ix3 0 0 ⟨2048 + k.val, by omega⟩))
          w (fun j n => x4 (ix2 j n)) n := by
  rw [read_pieces, out_at]
  unfold half
  refine congrArg (_ + _ * ·) (Finset.sum_congr rfl fun j _ => congrArg (· * _) ?_)
  show gate _ _ = gated _ _ _
  have hj : j.val < 2816 := j.isLt
  unfold gated
  refine congrArg₂ gate (Finset.sum_congr rfl fun k _ => congrArg₂ (· * ·) (hidden_at x0 x1 x2 i k) (hw _ _ _ _ ?_))
    (Finset.sum_congr rfl fun k _ => congrArg₂ (· * ·) (hidden_at x0 x1 x2 i k) (hw _ _ _ _ ?_))
  · show j.val = j.val / 256 * 256 + j.val % 256; omega
  · show 2816 + j.val = (11 + j.val / 256) * 256 + j.val % 256; omega

end Cert.Ffn.Kernel

end
-- ==== Proof.Ffn.FirstFinal.lean ====
/- The first feed-forward kernel's result array after the run, entry by entry. -/
module

public import proofs.«01_k».proof.Proof.Ffn.Payload

@[expose] public section

set_option maxRecDepth 16384

noncomputable section

namespace Cert.Ffn.First

open Idealize.ShloMosaic Idealize.ShloMosaic.TcCoe Idealize.SL.Sem
open Cert.FfnFirstIdeal Cert.FfnFirstIdeal.Gen

variable (m : (ℓ : Loc nD τ sig) → Buf (Elt Ideal) ℓ)

/-- Where each grid point reads and writes. -/
theorem idx : ∀ t : Fin cfg0.N,
    win0_0.index t = ![t.val / 4, t.val % 4, 0]
    ∧ win0_1.index t = ![t.val / 4, 0, 0]
    ∧ win0_2.index t = ![0, 0]
    ∧ win0_3.index t = ![0, 0, 0]
    ∧ win0_4.index t = ![0, 0]
    ∧ win0_6.index t = ![t.val / 4, t.val % 4, 0] := (by decide +kernel : ∀ t : Fin grid0.N, _)

theorem x_at (c : Dev nD) (t : Fin cfg0.N) (i : Fin 512) (k : Fin 1024) (a : Fin 9) (r : Fin 2048)
    (ha : a.val = t.val / 4) (hr : r.val = t.val % 4 * 512 + i.val) :
    (show FVec Ideal S1x512x1024 .f32 from iblk m c 0 t) (ix3 0 i k) = m ((c : Thread nD τ).loc main_arg0) (ix3 a r k) := by
  blk_ext [iblk, V, (idx t).1]

theorem mod_at (c : Dev nD) (t : Fin cfg0.N) (k : Fin 3072) (a : Fin 16) (e : Fin 9216)
    (ha : a.val = t.val / 4) (he : e.val = k.val) :
    (show FVec Ideal S1x1x3072 .f32 from iblk m c 1 t) (ix3 0 0 k) = m ((c : Thread nD τ).loc main_arg1) (ix3 a 0 e) := by
  blk_ext [iblk, V, (idx t).2.1]

theorem gain_at (c : Dev nD) (t : Fin cfg0.N) (k : Fin 1024) :
    (show FVec Ideal S1x1024 .f32 from iblk m c 2 t) (ix2 0 k) = m ((c : Thread nD τ).loc main_arg2) (ix1 k) := by
  have h : (show FVec Ideal S1x1024 .f32 from V m c main_v4) (ix2 0 k) = m ((c : Thread nD τ).loc main_arg2) (ix1 k) := by
    entry_read
    pointwise
  refine Eq.trans ?_ h
  blk_ext [iblk, (idx t).2.2.1]

theorem w13_at (c : Dev nD) (t : Fin cfg0.N) (a : Fin 22) (k : Fin 1024) (q : Fin 256) (j : Fin 5632)
    (hj : j.val = a.val * 256 + q.val) :
    (show FVec Ideal S22x1024x256 .bf16 from iblk m c 3 t) (ix3 a k q) = m ((c : Thread nD τ).loc main_arg3) (ix2 k j) := by
  have h : (show FVec Ideal S22x1024x256 .bf16 from V m c main_v2) (ix3 a k q) = m ((c : Thread nD τ).loc main_arg3) (ix2 k j) := by
    entry_read
    pointwise
    blk_ext
  refine Eq.trans ?_ h
  blk_ext [iblk, (idx t).2.2.2.1]

theorem w2_at (c : Dev nD) (t : Fin cfg0.N) (j : Fin 2816) (n : Fin 1024) :
    (show FVec Ideal S2816x1024 .bf16 from iblk m c 4 t) (ix2 j n) = m ((c : Thread nD τ).loc main_arg4) (ix2 j n) := by
  have h : (show FVec Ideal S2816x1024 .bf16 from V m c main_v3) (ix2 j n) = m ((c : Thread nD τ).loc main_arg4) (ix2 j n) := by
    entry_read
    pointwise
  refine Eq.trans ?_ h
  blk_ext [iblk, (idx t).2.2.2.2.1]

/-- The result array. -/
def result (c : Dev nD) : FVec Ideal S9x2048x1024 .f32 := fun i =>
  half (fun k => m ((c : Thread nD τ).loc main_arg0) (ix3 (i 0) (i 1) k)) (fun k => m ((c : Thread nD τ).loc main_arg2) (ix1 k))
    (fun k => m ((c : Thread nD τ).loc main_arg1) (ix3 (Fin.castLE (by decide) (i 0 : Fin 9)) 0 ⟨k.val, by omega⟩))
    (fun k => m ((c : Thread nD τ).loc main_arg1) (ix3 (Fin.castLE (by decide) (i 0 : Fin 9)) 0 ⟨1024 + k.val, by omega⟩))
    (fun k => m ((c : Thread nD τ).loc main_arg1) (ix3 (Fin.castLE (by decide) (i 0 : Fin 9)) 0 ⟨2048 + k.val, by omega⟩))
    (fun k j => m ((c : Thread nD τ).loc main_arg3) (ix2 k j)) (fun j n => m ((c : Thread nD τ).loc main_arg4) (ix2 j n)) (i 2)

/-- What a point's body leaves at row `i`, channel `n` of its block. -/
theorem block_at (c : Dev nD) (t : Fin cfg0.N) (i : Fin 512) (n : Fin 1024) (a : Fin 9) (r : Fin 2048)
    (ha : a.val = t.val / 4) (hr : r.val = t.val % 4 * 512 + i.val) (j : S1x512x1024.Idx) (hj : j = ix3 0 i n) :
    outsAt0 m c t j = result m c (ix3 a r n) := by
  subst hj
  unfold outsAt0
  frame_out
  refine (Kernel.stored_at _ _ _ _ _ _ _ (fun k j => m ((c : Thread nD τ).loc main_arg3) (ix2 k j)) (fun _ k q j hj => w13_at m c t _ k q j hj) i n).trans ?_
  show half _ _ _ _ _ _ _ _ = half _ _ _ _ _ _ _ _
  congr 1
  · exact funext fun k => x_at m c t i k a r ha hr
  · exact funext fun k => gain_at m c t k
  · exact funext fun k => mod_at m c t _ _ _ ha rfl
  · exact funext fun k => mod_at m c t _ _ _ ha rfl
  · exact funext fun k => mod_at m c t _ _ _ ha rfl
  · exact funext fun j => funext fun n => w2_at m c t j n

theorem emb_at (t : Fin cfg0.N) (i : Fin 512) (n : Fin 1024) (a : Fin 9) (r : Fin 2048)
    (ha : a.val = t.val / 4) (hr : r.val = t.val % 4 * 512 + i.val)
    (y : S1x512x1024.Idx) (h1 : (y 1).val = i.val) (h2 : (y 2).val = n.val) :
    ((View.whole main_v6).slice (win0_6.rect t)).emb y = (ix3 a r n : S9x2048x1024.Idx) := by
  blk_ext [(idx t).2.2.2.2.2]

theorem final (c : Dev nD) : (dats m 0 c).arrAt 6 (cfgs 0).N = result m c := by
  refine (dats m 0 c).arrAt_eq_of_covers 6 _ (by decide +kernel) (fun t hf y => ?_)
  blk_simp; rw [after0_6]
  have ht : t.val < 36 := lt_of_lt_of_eq t.isLt N_0
  have h1 : (y 1).val < 512 := (y 1).isLt
  have h2 : (y 2).val < 1024 := (y 2).isLt
  rw [emb_at t ⟨(y 1).val, h1⟩ ⟨(y 2).val, h2⟩ ⟨t.val / 4, by omega⟩ ⟨t.val % 4 * 512 + (y 1).val, by omega⟩
    rfl rfl y rfl rfl]
  exact block_at m c t ⟨(y 1).val, h1⟩ ⟨(y 2).val, h2⟩ _ _ rfl rfl y (by blk_ext)

end Cert.Ffn.First

end
-- ==== Proof.Ffn.FirstRef.lean ====
/- The reference of the first feed-forward half, entry by entry. -/
module

public import proofs.«01_k».proof.Proof.Gen.FfnFirstRefIdeal.Read
public import proofs.«01_k».proof.Proof.Ffn.Spec

@[expose] public section

set_option maxRecDepth 16384
noncomputable section

namespace Cert.Ffn.FirstRef
open Idealize.ShloMosaic Idealize.ShloMosaic.TcCoe Idealize.SL.Sem
open Cert.FfnFirstRefIdeal Cert.FfnFirstRefIdeal.Read

variable (x : FVec Ideal S9x2048x1024 .f32) (md : FVec Ideal S16x1x9216 .f32) (g : FVec Ideal S1024 .f32)
  (w13 : FVec Ideal S1024x5632 .f32) (w2 : FVec Ideal S2816x1024 .f32)

/-- The modulated norm. -/
theorem hidden_at (a : Fin 9) (r : Fin 2048) (k : Fin 1024) :
    val_main_v28 (F := Ideal) x md g (ix3 a r k)
      = hidden (fun k => x (ix3 a r k)) (fun k => g (ix1 k)) (fun k => md (ix3 ⟨a.val, by omega⟩ 0 ⟨1024 + k.val, by omega⟩))
          (fun k => md (ix3 ⟨a.val, by omega⟩ 0 ⟨k.val, by omega⟩)) k := by
  pointwise [val_main_v0, val_main_v1, val_main_v2, val_main_v3, val_main_v4, val_main_v5, val_main_v6, val_main_v7, val_main_v8, val_main_v9, val_main_v10, val_main_cst, val_main_v11, val_main_v12, val_main_cst_0, val_main_v13, val_main_v14, val_main_cst_1, val_main_v15, val_main_v16, val_main_v17, val_main_v18, val_main_v19, val_main_v20, val_main_v21, val_main_v22, val_main_cst_2, val_main_v23, val_main_v24, val_main_v25, val_main_v26, val_main_v27, val_main_v28]
  rfl

/-- The gated product. -/
theorem gated_at (a : Fin 9) (r : Fin 2048) (j : Fin 2816) :
    val_main_v35 (F := Ideal) x md g w13 (ix3 a r j)
      = gated (fun k => val_main_v28 (F := Ideal) x md g (ix3 a r k)) (fun k j => w13 (ix2 k j)) j := by
  pointwise [val_main_v35, val_main_v34, val_main_v33, val_main_v32, val_main_v31, val_main_call0_v0, val_main_call0_v1, val_main_call0_cst, val_main_call0_v2, val_main_call0_v3, val_main_call0_cst_0, val_main_call0_v4, val_main_call0_v5]
  rfl

/-- The second product and the residual. -/
theorem out_at (a : Fin 9) (r : Fin 2048) (n : Fin 1024) :
    val_main_v39 (F := Ideal) x md g w13 w2 (ix3 a r n)
      = x (ix3 a r n) + Ideal.ofBits .f32 0x3F000000#32 * md (ix3 ⟨a.val, by omega⟩ 0 ⟨2048 + n.val, by omega⟩)
          * ∑ j, val_main_v35 (F := Ideal) x md g w13 (ix3 a r j) * w2 (ix2 j n) := by
  pointwise [val_main_v39, val_main_v38, val_main_v37, val_main_v36, val_main_v30, val_main_v29, val_main_v3, val_main_v0, val_main_cst_3]

/-- The reference's result, entry by entry. -/
theorem result_at (a : Fin 9) (r : Fin 2048) (n : Fin 1024) :
    val_main_v39 (F := Ideal) x md g w13 w2 (ix3 a r n)
      = half (fun k => x (ix3 a r k)) (fun k => g (ix1 k)) (fun k => md (ix3 ⟨a.val, by omega⟩ 0 ⟨k.val, by omega⟩))
          (fun k => md (ix3 ⟨a.val, by omega⟩ 0 ⟨1024 + k.val, by omega⟩)) (fun k => md (ix3 ⟨a.val, by omega⟩ 0 ⟨2048 + k.val, by omega⟩))
          (fun k j => w13 (ix2 k j)) (fun j n => w2 (ix2 j n)) n := by
  rw [out_at]
  simp only [gated_at, hidden_at]
  rfl

end Cert.Ffn.FirstRef
end
-- ==== Proof.Ffn.FirstClaims.lean ====
/- The claims about the first feed-forward half. -/
module

public import proofs.«01_k».proof.Defs
public import proofs.«01_k».proof.Proof.Gen.FfnFirst.Frame
public import proofs.«01_k».proof.Proof.Gen.FfnFirstRefIdeal.Run
public import proofs.«01_k».proof.Proof.Ffn.FirstFinal
public import proofs.«01_k».proof.Proof.Ffn.FirstRef

@[expose] public section

noncomputable section

namespace Cert.Ffn.First

open Idealize.ShloMosaic Idealize.ShloMosaic.TcCoe Idealize.SL.Sem

theorem frame : Cert.quiescent_FfnFirst := fun m g _ => Cert.FfnFirst.Gen.frame m g

theorem frame_ideal : Cert.quiescent_FfnFirstIdeal := fun m g _ => Cert.FfnFirstIdeal.Gen.frame m g

theorem frame_ref : Cert.quiescent_FfnFirstRefIdeal := fun m g _ =>
  (θ_run _ _ _).mono (fun r h => ⟨fun c => (h c).2, sem_eq_zero_of_no_sems (by decide) r.2⟩)
    (Cert.FfnFirstRefIdeal.Value.run m g)

theorem algebraic : Cert.algebraic_FfnFirstIdeal_FfnFirstRefIdeal := by
  intro m g m' g' _ hagree
  refine ⟨fun c => result m c, ?_, ?_⟩
  · refine (θ_run _ _ _).mono (fun r h c => ?_) (Cert.FfnFirstIdeal.Value.run_blocks m g)
    obtain ⟨h0, hk⟩ := h c
    exact ⟨h0.trans (final m c), hk⟩
  · refine (θ_run _ _ _).mono (fun r h c => ?_) (Cert.FfnFirstRefIdeal.Value.run m' g')
    obtain ⟨h0, hk⟩ := h c
    obtain ⟨e0, e1, e2, e3, e4⟩ := hagree c
    refine ⟨h0.trans ?_, hk⟩
    rw [Cert.FfnFirstRefIdeal.Read.val_main_v39_eq, e0, e1, e2, e3, e4]
    funext i
    refine Eq.trans (congrArg _ ?_) (FirstRef.result_at _ _ _ _ _ (i 0) (i 1) (i 2))
    funext a; fin_cases a <;> rfl

end Cert.Ffn.First

end
-- ==== Proof.Ffn.SecondFinal.lean ====
/- The second feed-forward kernel's result array after the run, entry by entry. -/
module

public import proofs.«01_k».proof.Proof.Gen.FfnSecondIdeal.Value
public import proofs.«01_k».proof.Proof.Ffn.Payload

@[expose] public section

set_option maxRecDepth 16384

noncomputable section

namespace Cert.Ffn.Second

open Idealize.ShloMosaic Idealize.ShloMosaic.TcCoe Idealize.SL.Sem
open Cert.FfnSecondIdeal Cert.FfnSecondIdeal.Gen

variable (m : (ℓ : Loc nD τ sig) → Buf (Elt Ideal) ℓ)

/-- Where each grid point reads and writes. -/
theorem idx : ∀ t : Fin cfg0.N,
    win0_0.index t = ![t.val / 4, t.val % 4, 0]
    ∧ win0_1.index t = ![t.val / 4, 0, 2]
    ∧ win0_2.index t = ![0, 0]
    ∧ win0_3.index t = ![0, 0, 0]
    ∧ win0_4.index t = ![0, 0]
    ∧ win0_6.index t = ![t.val / 4, t.val % 4, 0] := (by decide +kernel : ∀ t : Fin grid0.N, _)

theorem x_at (c : Dev nD) (t : Fin cfg0.N) (i : Fin 512) (k : Fin 1024) (a : Fin 9) (r : Fin 2048)
    (ha : a.val = t.val / 4) (hr : r.val = t.val % 4 * 512 + i.val) :
    (show FVec Ideal S1x512x1024 .f32 from iblk m c 0 t) (ix3 0 i k) = m ((c : Thread nD τ).loc main_arg0) (ix3 a r k) := by
  blk_ext [iblk, V, (idx t).1]

theorem mod_at (c : Dev nD) (t : Fin cfg0.N) (k : Fin 3072) (a : Fin 16) (e : Fin 9216)
    (ha : a.val = t.val / 4) (he : e.val = 6144 + k.val) :
    (show FVec Ideal S1x1x3072 .f32 from iblk m c 1 t) (ix3 0 0 k) = m ((c : Thread nD τ).loc main_arg1) (ix3 a 0 e) := by
  blk_ext [iblk, V, (idx t).2.1]

theorem gain_at (c : Dev nD) (t : Fin cfg0.N) (k : Fin 1024) :
    (show FVec Ideal S1x1024 .f32 from iblk m c 2 t) (ix2 0 k) = m ((c : Thread nD τ).loc main_arg2) (ix1 k) := by
  have h : (show FVec Ideal S1x1024 .f32 from V m c main_v4) (ix2 0 k) = m ((c : Thread nD τ).loc main_arg2) (ix1 k) := by
    entry_read
    pointwise
  refine Eq.trans ?_ h
  blk_ext [iblk, (idx t).2.2.1]

theorem w13_at (c : Dev nD) (t : Fin cfg0.N) (a : Fin 22) (k : Fin 1024) (q : Fin 256) (j : Fin 5632)
    (hj : j.val = a.val * 256 + q.val) :
    (show FVec Ideal S22x1024x256 .bf16 from iblk m c 3 t) (ix3 a k q) = m ((c : Thread nD τ).loc main_arg3) (ix2 k j) := by
  have h : (show FVec Ideal S22x1024x256 .bf16 from V m c main_v2) (ix3 a k q) = m ((c : Thread nD τ).loc main_arg3) (ix2 k j) := by
    entry_read
    pointwise
    blk_ext
  refine Eq.trans ?_ h
  blk_ext [iblk, (idx t).2.2.2.1]

theorem w2_at (c : Dev nD) (t : Fin cfg0.N) (j : Fin 2816) (n : Fin 1024) :
    (show FVec Ideal S2816x1024 .bf16 from iblk m c 4 t) (ix2 j n) = m ((c : Thread nD τ).loc main_arg4) (ix2 j n) := by
  have h : (show FVec Ideal S2816x1024 .bf16 from V m c main_v3) (ix2 j n) = m ((c : Thread nD τ).loc main_arg4) (ix2 j n) := by
    entry_read
    pointwise
  refine Eq.trans ?_ h
  blk_ext [iblk, (idx t).2.2.2.2.1]

/-- The result array. -/
def result (c : Dev nD) : FVec Ideal S9x2048x1024 .f32 := fun i =>
  half (fun k => m ((c : Thread nD τ).loc main_arg0) (ix3 (i 0) (i 1) k)) (fun k => m ((c : Thread nD τ).loc main_arg2) (ix1 k))
    (fun k => m ((c : Thread nD τ).loc main_arg1) (ix3 (Fin.castLE (by decide) (i 0 : Fin 9)) 0 ⟨6144 + k.val, by omega⟩))
    (fun k => m ((c : Thread nD τ).loc main_arg1) (ix3 (Fin.castLE (by decide) (i 0 : Fin 9)) 0 ⟨7168 + k.val, by omega⟩))
    (fun k => m ((c : Thread nD τ).loc main_arg1) (ix3 (Fin.castLE (by decide) (i 0 : Fin 9)) 0 ⟨8192 + k.val, by omega⟩))
    (fun k j => m ((c : Thread nD τ).loc main_arg3) (ix2 k j)) (fun j n => m ((c : Thread nD τ).loc main_arg4) (ix2 j n)) (i 2)

/-- What a point's body leaves at row `i`, channel `n` of its block. -/
theorem block_at (c : Dev nD) (t : Fin cfg0.N) (i : Fin 512) (n : Fin 1024) (a : Fin 9) (r : Fin 2048)
    (ha : a.val = t.val / 4) (hr : r.val = t.val % 4 * 512 + i.val) (j : S1x512x1024.Idx) (hj : j = ix3 0 i n) :
    outsAt0 m c t j = result m c (ix3 a r n) := by
  subst hj
  unfold outsAt0
  frame_out
  refine (Kernel.stored_at _ _ _ _ _ _ _ (fun k j => m ((c : Thread nD τ).loc main_arg3) (ix2 k j)) (fun _ k q j hj => w13_at m c t _ k q j hj) i n).trans ?_
  show half _ _ _ _ _ _ _ _ = half _ _ _ _ _ _ _ _
  congr 1
  · exact funext fun k => x_at m c t i k a r ha hr
  · exact funext fun k => gain_at m c t k
  · exact funext fun k => mod_at m c t _ _ _ ha rfl
  · exact funext fun k => mod_at m c t _ _ _ ha (by show 7168 + _ = 6144 + (1024 + _); omega)
  · exact funext fun k => mod_at m c t _ _ _ ha (by show 8192 + _ = 6144 + (2048 + _); omega)
  · exact funext fun j => funext fun n => w2_at m c t j n

theorem emb_at (t : Fin cfg0.N) (i : Fin 512) (n : Fin 1024) (a : Fin 9) (r : Fin 2048)
    (ha : a.val = t.val / 4) (hr : r.val = t.val % 4 * 512 + i.val)
    (y : S1x512x1024.Idx) (h1 : (y 1).val = i.val) (h2 : (y 2).val = n.val) :
    ((View.whole main_v6).slice (win0_6.rect t)).emb y = (ix3 a r n : S9x2048x1024.Idx) := by
  blk_ext [(idx t).2.2.2.2.2]

theorem final (c : Dev nD) : (dats m 0 c).arrAt 6 (cfgs 0).N = result m c := by
  refine (dats m 0 c).arrAt_eq_of_covers 6 _ (by decide +kernel) (fun t hf y => ?_)
  blk_simp; rw [after0_6]
  have ht : t.val < 36 := lt_of_lt_of_eq t.isLt N_0
  have h1 : (y 1).val < 512 := (y 1).isLt
  have h2 : (y 2).val < 1024 := (y 2).isLt
  rw [emb_at t ⟨(y 1).val, h1⟩ ⟨(y 2).val, h2⟩ ⟨t.val / 4, by omega⟩ ⟨t.val % 4 * 512 + (y 1).val, by omega⟩
    rfl rfl y rfl rfl]
  exact block_at m c t ⟨(y 1).val, h1⟩ ⟨(y 2).val, h2⟩ _ _ rfl rfl y (by blk_ext)

end Cert.Ffn.Second

end
-- ==== Proof.Ffn.SecondRef.lean ====
/- The reference of the second feed-forward half, entry by entry. -/
module

public import proofs.«01_k».proof.Proof.Gen.FfnSecondRefIdeal.Read
public import proofs.«01_k».proof.Proof.Ffn.Spec

@[expose] public section

set_option maxRecDepth 16384
noncomputable section

namespace Cert.Ffn.SecondRef
open Idealize.ShloMosaic Idealize.ShloMosaic.TcCoe Idealize.SL.Sem
open Cert.FfnSecondRefIdeal Cert.FfnSecondRefIdeal.Read

variable (x : FVec Ideal S9x2048x1024 .f32) (md : FVec Ideal S16x1x9216 .f32) (g : FVec Ideal S1024 .f32)
  (w13 : FVec Ideal S1024x5632 .f32) (w2 : FVec Ideal S2816x1024 .f32)

/-- The modulated norm. -/
theorem hidden_at (a : Fin 9) (r : Fin 2048) (k : Fin 1024) :
    val_main_v28 (F := Ideal) x md g (ix3 a r k)
      = hidden (fun k => x (ix3 a r k)) (fun k => g (ix1 k)) (fun k => md (ix3 ⟨a.val, by omega⟩ 0 ⟨7168 + k.val, by omega⟩))
          (fun k => md (ix3 ⟨a.val, by omega⟩ 0 ⟨6144 + k.val, by omega⟩)) k := by
  pointwise [val_main_v0, val_main_v1, val_main_v2, val_main_v3, val_main_v4, val_main_v5, val_main_v6, val_main_v7, val_main_v8, val_main_v9, val_main_v10, val_main_cst, val_main_v11, val_main_v12, val_main_cst_0, val_main_v13, val_main_v14, val_main_cst_1, val_main_v15, val_main_v16, val_main_v17, val_main_v18, val_main_v19, val_main_v20, val_main_v21, val_main_v22, val_main_cst_2, val_main_v23, val_main_v24, val_main_v25, val_main_v26, val_main_v27, val_main_v28]
  rfl

/-- The gated product. -/
theorem gated_at (a : Fin 9) (r : Fin 2048) (j : Fin 2816) :
    val_main_v35 (F := Ideal) x md g w13 (ix3 a r j)
      = gated (fun k => val_main_v28 (F := Ideal) x md g (ix3 a r k)) (fun k j => w13 (ix2 k j)) j := by
  pointwise [val_main_v35, val_main_v34, val_main_v33, val_main_v32, val_main_v31, val_main_call0_v0, val_main_call0_v1, val_main_call0_cst, val_main_call0_v2, val_main_call0_v3, val_main_call0_cst_0, val_main_call0_v4, val_main_call0_v5]
  rfl

/-- The second product and the residual. -/
theorem out_at (a : Fin 9) (r : Fin 2048) (n : Fin 1024) :
    val_main_v39 (F := Ideal) x md g w13 w2 (ix3 a r n)
      = x (ix3 a r n) + Ideal.ofBits .f32 0x3F000000#32 * md (ix3 ⟨a.val, by omega⟩ 0 ⟨8192 + n.val, by omega⟩)
          * ∑ j, val_main_v35 (F := Ideal) x md g w13 (ix3 a r j) * w2 (ix2 j n) := by
  pointwise [val_main_v39, val_main_v38, val_main_v37, val_main_v36, val_main_v30, val_main_v29, val_main_v9, val_main_v0, val_main_cst_3]

/-- The reference's result, entry by entry. -/
theorem result_at (a : Fin 9) (r : Fin 2048) (n : Fin 1024) :
    val_main_v39 (F := Ideal) x md g w13 w2 (ix3 a r n)
      = half (fun k => x (ix3 a r k)) (fun k => g (ix1 k)) (fun k => md (ix3 ⟨a.val, by omega⟩ 0 ⟨6144 + k.val, by omega⟩))
          (fun k => md (ix3 ⟨a.val, by omega⟩ 0 ⟨7168 + k.val, by omega⟩)) (fun k => md (ix3 ⟨a.val, by omega⟩ 0 ⟨8192 + k.val, by omega⟩))
          (fun k j => w13 (ix2 k j)) (fun j n => w2 (ix2 j n)) n := by
  rw [out_at]
  simp only [gated_at, hidden_at]
  rfl

end Cert.Ffn.SecondRef
end
-- ==== Proof.Ffn.SecondClaims.lean ====
/- The claims about the second feed-forward half. -/
module

public import proofs.«01_k».proof.Defs
public import proofs.«01_k».proof.Proof.Gen.FfnSecond.Frame
public import proofs.«01_k».proof.Proof.Gen.FfnSecondRefIdeal.Run
public import proofs.«01_k».proof.Proof.Ffn.SecondFinal
public import proofs.«01_k».proof.Proof.Ffn.SecondRef

@[expose] public section

noncomputable section

namespace Cert.Ffn.Second

open Idealize.ShloMosaic Idealize.ShloMosaic.TcCoe Idealize.SL.Sem

theorem frame : Cert.quiescent_FfnSecond := fun m g _ => Cert.FfnSecond.Gen.frame m g

theorem frame_ideal : Cert.quiescent_FfnSecondIdeal := fun m g _ => Cert.FfnSecondIdeal.Gen.frame m g

theorem frame_ref : Cert.quiescent_FfnSecondRefIdeal := fun m g _ =>
  (θ_run _ _ _).mono (fun r h => ⟨fun c => (h c).2, sem_eq_zero_of_no_sems (by decide) r.2⟩)
    (Cert.FfnSecondRefIdeal.Value.run m g)

theorem algebraic : Cert.algebraic_FfnSecondIdeal_FfnSecondRefIdeal := by
  intro m g m' g' _ hagree
  refine ⟨fun c => result m c, ?_, ?_⟩
  · refine (θ_run _ _ _).mono (fun r h c => ?_) (Cert.FfnSecondIdeal.Value.run_blocks m g)
    obtain ⟨h0, hk⟩ := h c
    exact ⟨h0.trans (final m c), hk⟩
  · refine (θ_run _ _ _).mono (fun r h c => ?_) (Cert.FfnSecondRefIdeal.Value.run m' g')
    obtain ⟨h0, hk⟩ := h c
    obtain ⟨e0, e1, e2, e3, e4⟩ := hagree c
    refine ⟨h0.trans ?_, hk⟩
    rw [Cert.FfnSecondRefIdeal.Read.val_main_v39_eq, e0, e1, e2, e3, e4]
    funext i
    refine Eq.trans (congrArg _ ?_) (SecondRef.result_at _ _ _ _ _ (i 0) (i 1) (i 2))
    funext a; fin_cases a <;> rfl

end Cert.Ffn.Second

end
-- ==== Proof.Ffn.LastFinal.lean ====
/- The last feed-forward kernel's result array after the run, entry by entry. -/
module

public import proofs.«01_k».proof.Proof.Gen.FfnLastIdeal.Value
public import proofs.«01_k».proof.Proof.Ffn.Payload

@[expose] public section

set_option maxRecDepth 16384

noncomputable section

namespace Cert.Ffn.Last

open Idealize.ShloMosaic Idealize.ShloMosaic.TcCoe Idealize.SL.Sem
open Cert.FfnLastIdeal Cert.FfnLastIdeal.Gen

variable (m : (ℓ : Loc nD τ sig) → Buf (Elt Ideal) ℓ)

/-- Where each grid point reads and writes. -/
theorem idx : ∀ t : Fin cfg0.N,
    win0_0.index t = ![t.val / 4, t.val % 4, 0]
    ∧ win0_1.index t = ![t.val / 4, 0, 2]
    ∧ win0_2.index t = ![0, 0]
    ∧ win0_3.index t = ![0, 0, 0]
    ∧ win0_4.index t = ![0, 0]
    ∧ win0_5.index t = ![0, 0]
    ∧ win0_6.index t = ![t.val / 4, t.val % 4, 0] := (by decide +kernel : ∀ t : Fin grid0.N, _)

theorem x_at (c : Dev nD) (t : Fin cfg0.N) (i : Fin 512) (k : Fin 1024) (a : Fin 8) (r : Fin 2048)
    (ha : a.val = t.val / 4) (hr : r.val = t.val % 4 * 512 + i.val) :
    (show FVec Ideal S1x512x1024 .f32 from iblk m c 0 t) (ix3 0 i k) = m ((c : Thread nD τ).loc main_arg0) (ix3 a r k) := by
  blk_ext [iblk, V, (idx t).1]

theorem mod_at (c : Dev nD) (t : Fin cfg0.N) (k : Fin 3072) (a : Fin 16) (e : Fin 9216)
    (ha : a.val = t.val / 4) (he : e.val = 6144 + k.val) :
    (show FVec Ideal S1x1x3072 .f32 from iblk m c 1 t) (ix3 0 0 k) = m ((c : Thread nD τ).loc main_arg1) (ix3 a 0 e) := by
  blk_ext [iblk, V, (idx t).2.1]

theorem gain_at (c : Dev nD) (t : Fin cfg0.N) (k : Fin 1024) :
    (show FVec Ideal S1x1024 .f32 from iblk m c 2 t) (ix2 0 k) = m ((c : Thread nD τ).loc main_arg2) (ix1 k) := by
  have h : (show FVec Ideal S1x1024 .f32 from V m c main_v4) (ix2 0 k) = m ((c : Thread nD τ).loc main_arg2) (ix1 k) := by
    entry_read
    pointwise
  refine Eq.trans ?_ h
  blk_ext [iblk, (idx t).2.2.1]

theorem w13_at (c : Dev nD) (t : Fin cfg0.N) (a : Fin 22) (k : Fin 1024) (q : Fin 256) (j : Fin 5632)
    (hj : j.val = a.val * 256 + q.val) :
    (show FVec Ideal S22x1024x256 .bf16 from iblk m c 3 t) (ix3 a k q) = m ((c : Thread nD τ).loc main_arg3) (ix2 k j) := by
  have h : (show FVec Ideal S22x1024x256 .bf16 from V m c main_v2) (ix3 a k q) = m ((c : Thread nD τ).loc main_arg3) (ix2 k j) := by
    entry_read
    pointwise
    blk_ext
  refine Eq.trans ?_ h
  blk_ext [iblk, (idx t).2.2.2.1]

theorem w2_at (c : Dev nD) (t : Fin cfg0.N) (j : Fin 2816) (n : Fin 1024) :
    (show FVec Ideal S2816x1024 .bf16 from iblk m c 4 t) (ix2 j n) = m ((c : Thread nD τ).loc main_arg4) (ix2 j n) := by
  have h : (show FVec Ideal S2816x1024 .bf16 from V m c main_v3) (ix2 j n) = m ((c : Thread nD τ).loc main_arg4) (ix2 j n) := by
    entry_read
    pointwise
  refine Eq.trans ?_ h
  blk_ext [iblk, (idx t).2.2.2.2.1]

theorem last_gain_at (c : Dev nD) (t : Fin cfg0.N) (k : Fin 1024) :
    (show FVec Ideal S1x1024 .f32 from iblk m c 5 t) (ix2 0 k) = m ((c : Thread nD τ).loc main_arg5) (ix1 k) := by
  have h : (show FVec Ideal S1x1024 .f32 from V m c main_v5) (ix2 0 k) = m ((c : Thread nD τ).loc main_arg5) (ix1 k) := by
    entry_read
    pointwise
  refine Eq.trans ?_ h
  blk_ext [iblk, (idx t).2.2.2.2.2.1]

/-- The final norm of the half's rows, which this program's last payload takes after the residual. -/
theorem normed_at (x0 : FVec Ideal S512x1024 .f32) (x1 : FVec Ideal S1x1024 .f32) (u : FVec Ideal S512x2816 .bf16)
    (x4 : FVec Ideal S2816x1024 .bf16) (x5 : FVec Ideal S1x1024 .f32) (i : Fin 512) (n : Fin 1024) :
    k0_pay2 (F := Ideal) x0 x1 u x4 x5 (ix3 0 i n)
      = rms (fun k => Cert.FfnFirstIdeal.Gen.k0_pay2 (F := Ideal) x0 x1 u x4 (ix3 0 i k)) n * x5 (ix2 0 n) := by
  unfold rms
  pointwise [k0_pay2, Cert.FfnFirstIdeal.Gen.k0_pay2]

/-- The rows after the residual, before the final norm. -/
def rows (c : Dev nD) : FVec Ideal S8x2048x1024 .f32 := fun i =>
  half (fun k => m ((c : Thread nD τ).loc main_arg0) (ix3 (i 0) (i 1) k)) (fun k => m ((c : Thread nD τ).loc main_arg2) (ix1 k))
    (fun k => m ((c : Thread nD τ).loc main_arg1) (ix3 (Fin.castLE (by decide) (i 0 : Fin 8)) 0 ⟨6144 + k.val, by omega⟩))
    (fun k => m ((c : Thread nD τ).loc main_arg1) (ix3 (Fin.castLE (by decide) (i 0 : Fin 8)) 0 ⟨7168 + k.val, by omega⟩))
    (fun k => m ((c : Thread nD τ).loc main_arg1) (ix3 (Fin.castLE (by decide) (i 0 : Fin 8)) 0 ⟨8192 + k.val, by omega⟩))
    (fun k j => m ((c : Thread nD τ).loc main_arg3) (ix2 k j)) (fun j n => m ((c : Thread nD τ).loc main_arg4) (ix2 j n)) (i 2)

/-- The result array: each row normed with the final gain. -/
def result (c : Dev nD) : FVec Ideal S8x2048x1024 .f32 := fun i =>
  rms (fun k => rows m c (ix3 (i 0) (i 1) k)) (i 2) * m ((c : Thread nD τ).loc main_arg5) (ix1 (i 2))

/-- What a point's body leaves at row `i`, channel `n` of its block. -/
theorem block_at (c : Dev nD) (t : Fin cfg0.N) (i : Fin 512) (n : Fin 1024) (a : Fin 8) (r : Fin 2048)
    (ha : a.val = t.val / 4) (hr : r.val = t.val % 4 * 512 + i.val) (j : S1x512x1024.Idx) (hj : j = ix3 0 i n) :
    outsAt0 m c t j = result m c (ix3 a r n) := by
  subst hj
  unfold outsAt0
  frame_out
  refine (normed_at _ _ _ _ _ i n).trans ?_
  show _ = rms _ _ * _
  refine congrArg₂ (· * ·) (congrArg (rms · n) (funext fun n => ?_)) (last_gain_at m c t n)
  refine (Kernel.stored_at _ _ _ _ _ _ _ (fun k j => m ((c : Thread nD τ).loc main_arg3) (ix2 k j)) (fun _ k q j hj => w13_at m c t _ k q j hj) i n).trans ?_
  show half _ _ _ _ _ _ _ _ = half _ _ _ _ _ _ _ _
  congr 1
  · exact funext fun k => x_at m c t i k a r ha hr
  · exact funext fun k => gain_at m c t k
  · exact funext fun k => mod_at m c t _ _ _ ha rfl
  · exact funext fun k => mod_at m c t _ _ _ ha (by show 7168 + _ = 6144 + (1024 + _); omega)
  · exact funext fun k => mod_at m c t _ _ _ ha (by show 8192 + _ = 6144 + (2048 + _); omega)
  · exact funext fun j => funext fun n => w2_at m c t j n

theorem emb_at (t : Fin cfg0.N) (i : Fin 512) (n : Fin 1024) (a : Fin 8) (r : Fin 2048)
    (ha : a.val = t.val / 4) (hr : r.val = t.val % 4 * 512 + i.val)
    (y : S1x512x1024.Idx) (h1 : (y 1).val = i.val) (h2 : (y 2).val = n.val) :
    ((View.whole main_v6).slice (win0_6.rect t)).emb y = (ix3 a r n : S8x2048x1024.Idx) := by
  blk_ext [(idx t).2.2.2.2.2.2]

theorem final (c : Dev nD) : (dats m 0 c).arrAt 6 (cfgs 0).N = result m c := by
  refine (dats m 0 c).arrAt_eq_of_covers 6 _ (by decide +kernel) (fun t hf y => ?_)
  blk_simp; rw [after0_6]
  have ht : t.val < 32 := lt_of_lt_of_eq t.isLt N_0
  have h1 : (y 1).val < 512 := (y 1).isLt
  have h2 : (y 2).val < 1024 := (y 2).isLt
  rw [emb_at t ⟨(y 1).val, h1⟩ ⟨(y 2).val, h2⟩ ⟨t.val / 4, by omega⟩ ⟨t.val % 4 * 512 + (y 1).val, by omega⟩
    rfl rfl y rfl rfl]
  exact block_at m c t ⟨(y 1).val, h1⟩ ⟨(y 2).val, h2⟩ _ _ rfl rfl y (by blk_ext)

end Cert.Ffn.Last

end
-- ==== Proof.Ffn.LastRef.lean ====
/- The reference of the last feed-forward half, entry by entry. -/
module

public import proofs.«01_k».proof.Proof.Gen.FfnLastRefIdeal.Read
public import proofs.«01_k».proof.Proof.Ffn.Spec

@[expose] public section

set_option maxRecDepth 16384
noncomputable section

namespace Cert.Ffn.LastRef
open Idealize.ShloMosaic Idealize.ShloMosaic.TcCoe Idealize.SL.Sem
open Cert.FfnLastRefIdeal Cert.FfnLastRefIdeal.Read

variable (x : FVec Ideal S8x2048x1024 .f32) (md : FVec Ideal S16x1x9216 .f32) (g : FVec Ideal S1024 .f32)
  (w13 : FVec Ideal S1024x5632 .f32) (w2 : FVec Ideal S2816x1024 .f32) (gf : FVec Ideal S1024 .f32)

/-- The modulated norm. -/
theorem hidden_at (a : Fin 8) (r : Fin 2048) (k : Fin 1024) :
    val_main_v28 (F := Ideal) x md g (ix3 a r k)
      = hidden (fun k => x (ix3 a r k)) (fun k => g (ix1 k)) (fun k => md (ix3 ⟨a.val, by omega⟩ 0 ⟨7168 + k.val, by omega⟩))
          (fun k => md (ix3 ⟨a.val, by omega⟩ 0 ⟨6144 + k.val, by omega⟩)) k := by
  pointwise [val_main_v0, val_main_v1, val_main_v2, val_main_v3, val_main_v4, val_main_v5, val_main_v6, val_main_v7, val_main_v8, val_main_v9, val_main_v10, val_main_cst, val_main_v11, val_main_v12, val_main_cst_0, val_main_v13, val_main_v14, val_main_cst_1, val_main_v15, val_main_v16, val_main_v17, val_main_v18, val_main_v19, val_main_v20, val_main_v21, val_main_v22, val_main_cst_2, val_main_v23, val_main_v24, val_main_v25, val_main_v26, val_main_v27, val_main_v28]
  rfl

/-- The gated product. -/
theorem gated_at (a : Fin 8) (r : Fin 2048) (j : Fin 2816) :
    val_main_v35 (F := Ideal) x md g w13 (ix3 a r j)
      = gated (fun k => val_main_v28 (F := Ideal) x md g (ix3 a r k)) (fun k j => w13 (ix2 k j)) j := by
  pointwise [val_main_v35, val_main_v34, val_main_v33, val_main_v32, val_main_v31, val_main_call0_v0, val_main_call0_v1, val_main_call0_cst, val_main_call0_v2, val_main_call0_v3, val_main_call0_cst_0, val_main_call0_v4, val_main_call0_v5]
  rfl

/-- The second product and the residual. -/
theorem out_at (a : Fin 8) (r : Fin 2048) (n : Fin 1024) :
    val_main_v39 (F := Ideal) x md g w13 w2 (ix3 a r n)
      = x (ix3 a r n) + Ideal.ofBits .f32 0x3F000000#32 * md (ix3 ⟨a.val, by omega⟩ 0 ⟨8192 + n.val, by omega⟩)
          * ∑ j, val_main_v35 (F := Ideal) x md g w13 (ix3 a r j) * w2 (ix2 j n) := by
  pointwise [val_main_v39, val_main_v38, val_main_v37, val_main_v36, val_main_v30, val_main_v29, val_main_v9, val_main_v0, val_main_cst_3]

/-- The rows after the residual. -/
theorem rows_at (a : Fin 8) (r : Fin 2048) (n : Fin 1024) :
    val_main_v39 (F := Ideal) x md g w13 w2 (ix3 a r n)
      = half (fun k => x (ix3 a r k)) (fun k => g (ix1 k)) (fun k => md (ix3 ⟨a.val, by omega⟩ 0 ⟨6144 + k.val, by omega⟩))
          (fun k => md (ix3 ⟨a.val, by omega⟩ 0 ⟨7168 + k.val, by omega⟩)) (fun k => md (ix3 ⟨a.val, by omega⟩ 0 ⟨8192 + k.val, by omega⟩))
          (fun k j => w13 (ix2 k j)) (fun j n => w2 (ix2 j n)) n := by
  rw [out_at]
  simp only [gated_at, hidden_at]
  rfl

/-- The reference's result, entry by entry. -/
theorem result_at (a : Fin 8) (r : Fin 2048) (n : Fin 1024) :
    val_main_v52 (F := Ideal) x md g w13 w2 gf (ix3 a r n)
      = rms (fun k => val_main_v39 (F := Ideal) x md g w13 w2 (ix3 a r k)) n * gf (ix1 n) := by
  unfold rms
  pointwise [val_main_v52, val_main_v51, val_main_v50, val_main_v49, val_main_v48, val_main_v47, val_main_v46, val_main_v45,
    val_main_v44, val_main_v43, val_main_v42, val_main_v41, val_main_v40, val_main_cst_4, val_main_cst_5, val_main_cst_6]

end Cert.Ffn.LastRef
end
-- ==== Proof.Ffn.LastClaims.lean ====
/- The claims about the last feed-forward half. -/
module

public import proofs.«01_k».proof.Defs
public import proofs.«01_k».proof.Proof.Gen.FfnLast.Frame
public import proofs.«01_k».proof.Proof.Gen.FfnLastRefIdeal.Run
public import proofs.«01_k».proof.Proof.Ffn.LastFinal
public import proofs.«01_k».proof.Proof.Ffn.LastRef

@[expose] public section

noncomputable section

namespace Cert.Ffn.Last

open Idealize.ShloMosaic Idealize.ShloMosaic.TcCoe Idealize.SL.Sem

theorem frame : Cert.quiescent_FfnLast := fun m g _ => Cert.FfnLast.Gen.frame m g

theorem frame_ideal : Cert.quiescent_FfnLastIdeal := fun m g _ => Cert.FfnLastIdeal.Gen.frame m g

theorem frame_ref : Cert.quiescent_FfnLastRefIdeal := fun m g _ =>
  (θ_run _ _ _).mono (fun r h => ⟨fun c => (h c).2, sem_eq_zero_of_no_sems (by decide) r.2⟩)
    (Cert.FfnLastRefIdeal.Value.run m g)

theorem algebraic : Cert.algebraic_FfnLastIdeal_FfnLastRefIdeal := by
  intro m g m' g' _ hagree
  refine ⟨fun c => result m c, ?_, ?_⟩
  · refine (θ_run _ _ _).mono (fun r h c => ?_) (Cert.FfnLastIdeal.Value.run_blocks m g)
    obtain ⟨h0, hk⟩ := h c
    exact ⟨h0.trans (final m c), hk⟩
  · refine (θ_run _ _ _).mono (fun r h c => ?_) (Cert.FfnLastRefIdeal.Value.run m' g')
    obtain ⟨h0, hk⟩ := h c
    obtain ⟨e0, e1, e2, e3, e4, e5⟩ := hagree c
    refine ⟨h0.trans ?_, hk⟩
    rw [Cert.FfnLastRefIdeal.Read.val_main_v52_eq, e0, e1, e2, e3, e4, e5]
    funext i
    refine Eq.trans (congrArg _ ?_) ((LastRef.result_at _ _ _ _ _ _ (i 0) (i 1) (i 2)).trans ?_)
    · funext a; fin_cases a <;> rfl
    · exact congrArg (rms · _ * _) (funext fun k => LastRef.rows_at _ _ _ _ _ (i 0) (i 1) k)

end Cert.Ffn.Last

end
-- ==== Proof.Gqa.Payload.lean ====
/- What one point of the grouped-query attention's kernel writes, entry by entry: for each of the eight heads of
   its queries the attention of one query over 2048 latent rows and 256 context rows. -/
module

public import proofs.«01_k».proof.Proof.Gen.GqaIdeal.Value
public import proofs.«01_k».proof.Proof.Na.Payload

@[expose] public section

set_option maxRecDepth 16384

noncomputable section

namespace Cert.Gqa.Kernel

open Idealize.ShloMosaic Idealize.ShloMosaic.TcCoe Idealize.SL.Sem
open Cert.GqaIdeal Cert.GqaIdeal.Gen Cert.Attn Cert.Na.Kernel

/-! ## The softmax of stacked queries -/

/-- The attention of 512 stacked rows `s`: keys `k`, `kc`, values `v`, `vc`. -/
def soft (s : FVec Ideal S512x128 .bf16) (k v : FVec Ideal S2048x128 .bf16) (kc vc : FVec Ideal S256x128 .bf16) :
    FVec Ideal S512x128 .f32 :=
  have a : FVec Ideal S512x2048 .f32 := matmul dot_S512x128_S2048x128_S512x2048_1_1_0_0_n_n none s k (constant S512x2048 .f32 0x00000000#32)
  have b : FVec Ideal S512x256 .f32 := matmul dot_S512x128_S256x128_S512x256_1_1_0_0_n_n none s kc (constant S512x256 .f32 0x00000000#32)
  have m : FVec Ideal S512x1 .f32 := maximumf
    (shapeCast S512x1 (multiReduction .maximumf [1] S512 a 0xFF800000#32 reduces_S512x2048_S512 (.inl rfl) rfl) shapeCasts_S512_S512x1)
    (shapeCast S512x1 (multiReduction .maximumf [1] S512 b 0xFF800000#32 reduces_S512x256_S512 (.inl rfl) rfl) shapeCasts_S512_S512x1)
  have p : FVec Ideal S512x2048 .f32 := exp (subf a (broadcastTo S512x2048 m broadcasts_S512x1_S512x2048))
  have r : FVec Ideal S512x256 .f32 := exp (subf b (broadcastTo S512x256 m broadcasts_S512x1_S512x256))
  divf
    (addf
      (matmul dot_S512x2048_S2048x128_S512x128_1_0_0_1_n_n none (truncf .bf16 p bitsLt_bf16_f32) v (constant S512x128 .f32 0x00000000#32))
      (matmul dot_S512x256_S256x128_S512x128_1_0_0_1_n_n none (truncf .bf16 r bitsLt_bf16_f32) vc (constant S512x128 .f32 0x00000000#32)))
    (broadcastTo S512x128
      (addf
        (shapeCast S512x1 (multiReduction .add [1] S512 p 0x00000000#32 reduces_S512x2048_S512 (.inl rfl) rfl) shapeCasts_S512_S512x1)
        (shapeCast S512x1 (multiReduction .add [1] S512 r 0x00000000#32 reduces_S512x256_S512 (.inl rfl) rfl) shapeCasts_S512_S512x1))
      broadcasts_S512x1_S512x128)

theorem soft_at (s : FVec Ideal S512x128 .bf16) (k v : FVec Ideal S2048x128 .bf16) (kc vc : FVec Ideal S256x128 .bf16)
    (p : Fin 512) (l : Fin 128) :
    soft s k v kc vc (ix2 p l) = divLast (fun a : Fin 2048 => ∑ x, s (ix2 p x) * k (ix2 a x)) (fun a => v (ix2 a l))
      (fun c : Fin 256 => ∑ x, s (ix2 p x) * kc (ix2 c x)) (fun c => vc (ix2 c l)) := by
  pointwise [soft]
  have e := ofBits_neg_inf
  unfold divLast top
  rw [← e]

variable (q : FVec Ideal S1x128x512 .bf16) (k v : FVec Ideal S1x2048x128 .bf16) (kc vc : FVec Ideal S1x256x128 .bf16)

/-- The stacked queries of the upper heads. -/
def stackHigh : FVec Ideal S512x128 .bf16 :=
  concatenate S512x128 0 [⟨S128x128, select k0_pay14 (k0_pay15 (F := Ideal)) (k0_pay10 q)⟩, ⟨S128x128, select k0_pay14 (k0_pay15 (F := Ideal)) (k0_pay11 q)⟩,
    ⟨S128x128, select k0_pay14 (k0_pay15 (F := Ideal)) (k0_pay12 q)⟩, ⟨S128x128, select k0_pay14 (k0_pay15 (F := Ideal)) (k0_pay13 q)⟩]
    concatenates_S128x128_S128x128_S128x128_S128x128_S512x128_d0

theorem lower_eq : k0_pay23 (F := Ideal) (k0_pay8 v) (k0_pay9 vc) (k0_pay18 q kc) (k0_pay19 q k kc) (k0_pay21 q k kc) (k0_pay22 q k kc)
    = soft (k0_pay16 q) (k0_pay6 k) (k0_pay8 v) (k0_pay7 kc) (k0_pay9 vc) := rfl

theorem upper_eq : k0_pay24 (F := Ideal) (k0_pay6 k) (k0_pay7 kc) (k0_pay8 v) (k0_pay9 vc) (k0_pay10 q) (k0_pay11 q) (k0_pay12 q) (k0_pay13 q)
      k0_pay14 (k0_pay15 (F := Ideal))
    = soft (stackHigh q) (k0_pay6 k) (k0_pay8 v) (k0_pay7 kc) (k0_pay9 vc) := rfl

/-- Column `x` of row `p` of the stack, in the queries. -/
def at' (p : Fin 512) (x : Fin 128) : EReal := q (ix3 0 ⟨p.val % 128, by omega⟩ ⟨p.val / 128 * 128 + x.val, by omega⟩)

theorem low_at (p : Fin 512) (x : Fin 128) :
    k0_pay16 (F := Ideal) q (ix2 p x)
      = Scalar.select (IntOp.cmpi CmpIPredicate.slt (BitVec.ofNat 32 x.val) 64#32) (at' q p x) (0 : EReal) := by
  have hp : p.val < 512 := p.isLt
  pointwise [k0_pay16, k0_pay10, k0_pay11, k0_pay12, k0_pay13, k0_pay14, k0_pay15, k0_pay5]
  unfold at'
  split_ifs <;> refine congrArg₂ (Scalar.select _) (congrArg q ?_) rfl <;> blk_ext

theorem high_at (p : Fin 512) (x : Fin 128) :
    stackHigh q (ix2 p x)
      = Scalar.select (IntOp.cmpi CmpIPredicate.slt (BitVec.ofNat 32 x.val) 64#32) (0 : EReal) (at' q p x) := by
  have hp : p.val < 512 := p.isLt
  pointwise [stackHigh, k0_pay10, k0_pay11, k0_pay12, k0_pay13, k0_pay14, k0_pay15, k0_pay5]
  unfold at'
  split_ifs <;> refine congrArg (Scalar.select _ _) (congrArg q ?_) <;> blk_ext

theorem low_sum (p : Fin 512) (f : Fin 128 → EReal) :
    ∑ x, k0_pay16 (F := Ideal) q (ix2 p x) * f x = ∑ d, at' q p (lane 0 d) * f (lane 0 d) := by
  rw [sum_lanes]
  simp only [low_at, slt_low, slt_high]
  simp [Scalar.select]

theorem high_sum (p : Fin 512) (f : Fin 128 → EReal) :
    ∑ x, stackHigh q (ix2 p x) * f x = ∑ d, at' q p (lane 1 d) * f (lane 1 d) := by
  rw [sum_lanes]
  simp only [high_at, slt_low, slt_high]
  simp [Scalar.select]

/-- The attention of stack row `p` for key head `hh`, at lane `l` of the values. -/
def head (hh : Fin 2) (p : Fin 512) (l : Fin 128) : EReal :=
  divLast (fun a : Fin 2048 => ∑ d : Fin 64, at' q p (lane hh d) * k (ix3 0 a (lane hh d))) (fun a => v (ix3 0 a l))
    (fun c : Fin 256 => ∑ d : Fin 64, at' q p (lane hh d) * kc (ix3 0 c (lane hh d))) (fun c => vc (ix3 0 c l))

theorem rows_at (x : FVec Ideal S1x2048x128 .bf16) (a : Fin 2048) (l : Fin 128) : k0_pay6 (F := Ideal) x (ix2 a l) = x (ix3 0 a l) := by
  pointwise [k0_pay6]
theorem rows_at' (x : FVec Ideal S1x256x128 .bf16) (a : Fin 256) (l : Fin 128) : k0_pay7 (F := Ideal) x (ix2 a l) = x (ix3 0 a l) := by
  pointwise [k0_pay7]

theorem lower_at (p : Fin 512) (l : Fin 128) :
    soft (k0_pay16 (F := Ideal) q) (k0_pay6 k) (k0_pay8 v) (k0_pay7 kc) (k0_pay9 vc) (ix2 p l) = head q k v kc vc 0 p l := by
  rw [soft_at]
  refine divLast_congr (fun a => ?_) (fun a => rows_at v a l) (fun a => ?_) (fun a => rows_at' vc a l)
  · exact (low_sum q p _).trans (Finset.sum_congr rfl fun d _ => by rw [rows_at])
  · exact (low_sum q p _).trans (Finset.sum_congr rfl fun d _ => by rw [rows_at'])

theorem upper_at (p : Fin 512) (l : Fin 128) :
    soft (stackHigh q) (k0_pay6 k) (k0_pay8 v) (k0_pay7 kc) (k0_pay9 vc) (ix2 p l) = head q k v kc vc 1 p l := by
  rw [soft_at]
  refine divLast_congr (fun a => ?_) (fun a => rows_at v a l) (fun a => ?_) (fun a => rows_at' vc a l)
  · exact (high_sum q p _).trans (Finset.sum_congr rfl fun d _ => by rw [rows_at])
  · exact (high_sum q p _).trans (Finset.sum_congr rfl fun d _ => by rw [rows_at'])

/-! ## The stored block -/

/-- The block a point leaves. -/
def block : FVec Ideal S1x128x512 .f32 := fun y =>
  head q k v kc vc ⟨(y 2).val % 128 / 64, by omega⟩
    ⟨(y 2).val / 128 * 128 + (y 1).val, by have h1 : (y 1).val < 128 := (y 1).isLt; have h2 : (y 2).val < 512 := (y 2).isLt; omega⟩
    ⟨(y 2).val % 128, by omega⟩

/-- Column block `g` of the result: lower lanes from the lower heads, upper lanes from the upper heads. -/
def merged (g : Fin 4) : FVec Ideal S1x128x128 .f32 := fun y =>
  Scalar.select (IntOp.cmpi CmpIPredicate.slt (BitVec.ofNat 32 (y 2).val) 64#32)
    (head q k v kc vc 0 ⟨g.val * 128 + (y 1).val, by have h : (y 1).val < 128 := (y 1).isLt; omega⟩ (y 2))
    (head q k v kc vc 1 ⟨g.val * 128 + (y 1).val, by have h : (y 1).val < 128 := (y 1).isLt; omega⟩ (y 2))

theorem merged_at (g : Fin 4) (o : ℕ) (ho : o = g.val * 128) (inb) (y : S1x128x128.Idx) :
    merged q k v kc vc g y = block q k v kc vc ((Rect.unit (s := S1x128x512) ![0, 0, o] S1x128x128.size inb).emb y) := by
  subst ho
  have h1 : (y 1).val < 128 := (y 1).isLt
  have h2 : (y 2).val < 128 := (y 2).isLt
  have e1 : ((Rect.unit (s := S1x128x512) ![0, 0, g.val * 128] S1x128x128.size inb).emb y 1).val = (y 1).val := by
    show 0 + 1 * (y 1).val = _; omega
  have e2 : ((Rect.unit (s := S1x128x512) ![0, 0, g.val * 128] S1x128x128.size inb).emb y 2).val = g.val * 128 + (y 2).val := by
    show g.val * 128 + 1 * (y 2).val = _; omega
  have e : ∀ l : Fin 128, IntOp.cmpi CmpIPredicate.slt (BitVec.ofNat 32 l.val) 64#32 = if l.val < 64 then 1#1 else 0#1 := by
    decide +kernel
  unfold merged block
  rw [show IntOp.cmpi CmpIPredicate.slt (BitVec.ofNat 32 (y 2).val) 64#32 = _ from e (y 2)]
  by_cases h : (y 2).val < 64
  · rw [if_pos h]
    show head _ _ _ _ _ _ _ _ = _
    congr 1 <;> refine Fin.ext ?_
    · show 0 = _ % 128 / 64; omega
    · show g.val * 128 + (y 1).val = _ / 128 * 128 + _; omega
    · show _ = _ % 128; omega
  · rw [if_neg h]
    show head _ _ _ _ _ _ _ _ = _
    congr 1 <;> refine Fin.ext ?_
    · show 1 = _ % 128 / 64; omega
    · show g.val * 128 + (y 1).val = _ / 128 * 128 + _; omega
    · show _ = _ % 128; omega

end Cert.Gqa.Kernel

end
-- ==== Proof.Gqa.Store.lean ====
/- The block a point of the grouped-query attention's kernel leaves: its four stores, one per column block. -/
module

public import proofs.«01_k».proof.Proof.Gqa.Payload

@[expose] public section

set_option maxRecDepth 16384

noncomputable section

namespace Cert.Gqa.Kernel

open Idealize.ShloMosaic Idealize.ShloMosaic.TcCoe Idealize.SL.Sem
open Cert.GqaIdeal Cert.GqaIdeal.Gen Cert.Attn Cert.Na.Kernel

variable (q : FVec Ideal S1x128x512 .bf16) (k v : FVec Ideal S1x2048x128 .bf16) (kc vc : FVec Ideal S1x256x128 .bf16)

/-- What the kernel stores in column block `g`, from row `o` of the two stacks on. -/
theorem store (g : Fin 4) (o : ℕ) (ho : o = g.val * 128) (sl sc) :
    shapeCast S1x128x128 (select k0_pay14
        (extractStridedSlice S128x128 ![o, 0] (soft (k0_pay16 (F := Ideal) q) (k0_pay6 k) (k0_pay8 v) (k0_pay7 kc) (k0_pay9 vc)) sl)
        (extractStridedSlice S128x128 ![o, 0] (soft (stackHigh q) (k0_pay6 k) (k0_pay8 v) (k0_pay7 kc) (k0_pay9 vc)) sl)) sc
      = merged q k v kc vc g := by
  subst ho
  funext y
  obtain ⟨i, l, rfl⟩ : ∃ (i : Fin 128) (l : Fin 128), y = ix3 0 i l := ⟨y 1, y 2, by blk_ext⟩
  pointwise [k0_pay14]
  rw [lower_at, upper_at]
  rfl

/-- The four stores are the block. -/
theorem stored (y : S1x128x512.Idx) : out0_5 (F := Ideal) q k v kc vc y = block q k v kc vc y := by
  have h0 : View.ld (Val := Elt Ideal) (e' := .bf16) q r0_0 = q := View.ld_unit_lit _ _ (by decide)
  have h1 : ∀ x : FVec Ideal S1x2048x128 .bf16, View.ld (Val := Elt Ideal) (e' := .bf16) x r0_1 = x := fun x => View.ld_unit_lit _ _ (by decide)
  have h2 : ∀ x : FVec Ideal S1x256x128 .bf16, View.ld (Val := Elt Ideal) (e' := .bf16) x r0_2 = x := fun x => View.ld_unit_lit _ _ (by decide)
  unfold out0_5
  refine View.canon_apply_of_pieces (Val := Elt Ideal) (e := .f32) (block q k v kc vc) _ (fun p hp y => ?_) y (cover0_5 _ _ _ _ y)
  unfold k0_pay42 k0_pay41 k0_pay40 k0_pay39 k0_pay38 k0_pay37 k0_pay36 k0_pay35 k0_pay34 k0_pay33 k0_pay32 k0_pay31 k0_pay30 k0_pay29 k0_pay28 at hp
  rw [h0, h1, h1, h2, h2, lower_eq, upper_eq] at hp
  simp only [List.mem_cons, List.not_mem_nil, or_false] at hp
  rcases hp with rfl | rfl | rfl | rfl
  · exact (congrFun (store q k v kc vc 3 384 rfl _ _) y).trans (merged_at q k v kc vc 3 384 rfl inb_S1x128x512_S1x128x128_0_0_384 y)
  · exact (congrFun (store q k v kc vc 2 256 rfl _ _) y).trans (merged_at q k v kc vc 2 256 rfl inb_S1x128x512_S1x128x128_0_0_256 y)
  · exact (congrFun (store q k v kc vc 1 128 rfl _ _) y).trans (merged_at q k v kc vc 1 128 rfl inb_S1x128x512_S1x128x128_0_0_128 y)
  · exact (congrFun (store q k v kc vc 0 0 rfl _ _) y).trans (merged_at q k v kc vc 0 0 rfl inb_S1x128x512_S1x128x128_0_0_0 y)

end Cert.Gqa.Kernel

end
-- ==== Proof.Gqa.Spec.lean ====
/- The grouped-query attention written as sums over its arguments. -/
module

public import proofs.«01_k».proof.Proof.Na.Spec

@[expose] public section

noncomputable section

namespace Cert.Gqa.Spec

open Idealize.ShloMosaic Cert.Attn Cert.Na.Spec

/-- The shape of the keys and values. -/
abbrev Sk : Shape := ⟨3, ![9, 2048, 128]⟩

/-- The key head of a query column, and lane `d` of it among the keys. -/
def keyLane (e : Fin 512) (d : Fin 64) : Fin 128 := ⟨e.val % 128 / 64 * 64 + d.val, by omega⟩
/-- The column of the values that meets a query column. -/
def valueLane (e : Fin 512) : Fin 128 := ⟨e.val % 128, by omega⟩

variable (Q : FVec Ideal Sx .bf16) (K V : FVec Ideal Sk .bf16)

/-- The product of the query of token `t` with the key in row `r` of group `g`, for the head of column `e`. -/
def dot (b : Fin 8) (e : Fin 512) (t : Fin 2048) (g : Fin 9) (r : Fin 2048) : EReal :=
  ∑ d : Fin 64, Q (ix3 (grp b) t (col (headOf e) d)) * K (ix3 g r (keyLane e d))

/-- One entry of the result with the division last. -/
def kernelOut (b : Fin 8) (t : Fin 2048) (e : Fin 512) : EReal :=
  divLast (fun a : Fin 2048 => dot Q K b e t (grp b) a) (fun a => V (ix3 (grp b) a (valueLane e)))
    (fun c : Fin 256 => dot Q K b e t 8 (ctxAt b c)) (fun c => V (ix3 8 (ctxAt b c) (valueLane e)))

/-- The same with every weight divided first. -/
def refOut (b : Fin 8) (t : Fin 2048) (e : Fin 512) : EReal :=
  divFirst (fun a : Fin 2048 => dot Q K b e t (grp b) a) (fun a => V (ix3 (grp b) a (valueLane e)))
    (fun c : Fin 256 => dot Q K b e t 8 (ctxAt b c)) (fun c => V (ix3 8 (ctxAt b c) (valueLane e)))

theorem dot_finite (h0 : ∀ i, Fin' (Q i)) (h1 : ∀ i, Fin' (K i)) (b : Fin 8) (e : Fin 512) (t : Fin 2048) (g : Fin 9) (r : Fin 2048) :
    Fin' (dot Q K b e t g r) :=
  Fin'.sum _ _ fun d => (h0 _).mul (h1 _)

/-- For finite queries and keys the two orders agree. -/
theorem agree (h0 : ∀ i, Fin' (Q i)) (h1 : ∀ i, Fin' (K i)) (b : Fin 8) (t : Fin 2048) (e : Fin 512) :
    kernelOut Q K V b t e = refOut Q K V b t e :=
  attention _ _ _ _ id Function.injective_id (fun a h => absurd rfl (h a))
    (fun a => (dot_finite Q K h0 h1 b e t _ a).score) fun c => dot_finite Q K h0 h1 b e t _ _

end Cert.Gqa.Spec

end
-- ==== Proof.Gqa.Final.lean ====
/- The grouped-query kernel's result array after the run, entry by entry. -/
module

public import proofs.«01_k».proof.Proof.Gqa.Store
public import proofs.«01_k».proof.Proof.Gqa.Spec

@[expose] public section

set_option maxRecDepth 16384

noncomputable section

namespace Cert.Gqa.Kernel

open Idealize.ShloMosaic Idealize.ShloMosaic.TcCoe Idealize.SL.Sem
open Cert.GqaIdeal Cert.GqaIdeal.Gen Cert.Attn Cert.Na.Kernel Cert.Gqa.Spec
open Cert.Na.Spec (grp col headOf ctxAt)

variable (m : (ℓ : Loc nD τ sig) → Buf (Elt Ideal) ℓ)

/-- Where each grid point reads and writes. -/
theorem idx : ∀ t : Fin cfg0.N,
    win0_0.index t = ![t.val / 16, t.val % 16, 0]
    ∧ win0_1.index t = ![t.val / 16, 0, 0]
    ∧ win0_2.index t = ![t.val / 16, 0, 0]
    ∧ win0_3.index t = ![8, t.val / 16, 0]
    ∧ win0_4.index t = ![8, t.val / 16, 0]
    ∧ win0_5.index t = ![t.val / 16, t.val % 16, 0] := (by decide +kernel : ∀ t : Fin grid0.N, _)

theorem q_at (c : Dev nD) (t : Fin cfg0.N) (i : Fin 128) (e : Fin 512) (g : Fin 9) (r : Fin 2048)
    (hg : g.val = t.val / 16) (hr : r.val = t.val % 16 * 128 + i.val) :
    (show FVec Ideal S1x128x512 .bf16 from iblk m c 0 t) (ix3 0 i e) = m ((c : Thread nD τ).loc main_arg0) (ix3 g r e) := by
  blk_ext [iblk, V, (idx t).1]

theorem k_at (c : Dev nD) (t : Fin cfg0.N) (a : Fin 2048) (l : Fin 128) (g : Fin 9) (hg : g.val = t.val / 16) :
    (show FVec Ideal S1x2048x128 .bf16 from iblk m c 1 t) (ix3 0 a l) = m ((c : Thread nD τ).loc main_arg1) (ix3 g a l) := by
  blk_ext [iblk, V, (idx t).2.1]

theorem v_at (c : Dev nD) (t : Fin cfg0.N) (a : Fin 2048) (l : Fin 128) (g : Fin 9) (hg : g.val = t.val / 16) :
    (show FVec Ideal S1x2048x128 .bf16 from iblk m c 2 t) (ix3 0 a l) = m ((c : Thread nD τ).loc main_arg2) (ix3 g a l) := by
  blk_ext [iblk, V, (idx t).2.2.1]

theorem kc_at (c : Dev nD) (t : Fin cfg0.N) (a : Fin 256) (l : Fin 128) (r : Fin 2048) (hr : r.val = t.val / 16 * 256 + a.val) :
    (show FVec Ideal S1x256x128 .bf16 from iblk m c 3 t) (ix3 0 a l) = m ((c : Thread nD τ).loc main_arg1) (ix3 8 r l) := by
  blk_ext [iblk, V, (idx t).2.2.2.1]

theorem vc_at (c : Dev nD) (t : Fin cfg0.N) (a : Fin 256) (l : Fin 128) (r : Fin 2048) (hr : r.val = t.val / 16 * 256 + a.val) :
    (show FVec Ideal S1x256x128 .bf16 from iblk m c 4 t) (ix3 0 a l) = m ((c : Thread nD τ).loc main_arg2) (ix3 8 r l) := by
  blk_ext [iblk, V, (idx t).2.2.2.2.1]

/-- What a point's body leaves at row `i`, column `e` of its block. -/
theorem block_at (c : Dev nD) (t : Fin cfg0.N) (i : Fin 128) (e : Fin 512) (g : Fin 8) (hg : g.val = t.val / 16)
    (r : Fin 2048) (hr : r.val = t.val % 16 * 128 + i.val) (j : S1x128x512.Idx) (hj : j = ix3 0 i e) :
    out0_5 (iblk m c 0 t) (iblk m c 1 t) (iblk m c 2 t) (iblk m c 3 t) (iblk m c 4 t) j
      = kernelOut (m ((c : Thread nD τ).loc main_arg0)) (m ((c : Thread nD τ).loc main_arg1)) (m ((c : Thread nD τ).loc main_arg2)) g r e := by
  subst hj
  refine (stored _ _ _ _ _ _).trans ?_
  have hp : (e.val / 128 * 128 + i.val) % 128 = i.val := by omega
  have hc : ∀ a : Fin 256, (ctxAt g a).val = t.val / 16 * 256 + a.val := fun a => by
    show g.val * 256 + a.val = _; omega
  have hq : ∀ d : Fin 64, at' (iblk m c 0 t) ⟨e.val / 128 * 128 + i.val, by omega⟩ (lane ⟨e.val % 128 / 64, by omega⟩ d)
      = m ((c : Thread nD τ).loc main_arg0) (ix3 (grp g) r (col (headOf e) d)) := fun d => by
    unfold at'
    refine q_at m c t _ _ (grp g) r hg (by rw [hr]; exact congrArg _ hp.symm) |>.trans ?_
    refine congrArg (fun x => m ((c : Thread nD τ).loc main_arg0) (ix3 (grp g) r x)) (Fin.ext ?_)
    show (e.val / 128 * 128 + i.val) / 128 * 128 + (e.val % 128 / 64 * 64 + d.val) = e.val / 64 * 64 + d.val
    omega
  show head _ _ _ _ _ _ _ _ = _
  unfold head kernelOut dot
  refine divLast_congr (fun a => ?_) (fun a => ?_) (fun a => ?_) (fun a => ?_)
  · exact Finset.sum_congr rfl fun d _ => congrArg₂ (· * ·) (hq d) (k_at m c t a _ (grp g) hg)
  · exact v_at m c t a _ (grp g) hg
  · exact Finset.sum_congr rfl fun d _ => congrArg₂ (· * ·) (hq d) (kc_at m c t a _ _ (hc a))
  · exact vc_at m c t a _ _ (hc a)

/-- The result array in its written groups; the last group keeps what it held. -/
def result (c : Dev nD) : FVec Ideal S9x2048x512 .f32 := fun i =>
  kernelOut (m ((c : Thread nD τ).loc main_arg0)) (m ((c : Thread nD τ).loc main_arg1)) (m ((c : Thread nD τ).loc main_arg2))
    ⟨(i 0).val % 8, Nat.mod_lt _ (by omega)⟩ (i 1) (i 2)

theorem emb_at (t : Fin cfg0.N) (i : Fin 128) (e : Fin 512) (g : Fin 9) (r : Fin 2048)
    (hg : g.val = t.val / 16) (hr : r.val = t.val % 16 * 128 + i.val)
    (y : S1x128x512.Idx) (h1 : (y 1).val = i.val) (h2 : (y 2).val = e.val) :
    ((View.whole main_v0).slice (win0_5.rect t)).emb y = (ix3 g r e : S9x2048x512.Idx) := by
  blk_ext [(idx t).2.2.2.2.2]

theorem final (c : Dev nD) : (dats m 0 c).arrAt 5 (cfgs 0).N
    = fun i => if (i 0 : ℕ) < 8 then result m c i else V m c main_v0 i := by
  refine (dats m 0 c).arrAt_eq_of_coversWhere 5 _ (fun β => (β 0 : ℕ) < 8) (by decide +kernel) (fun t hf y => ?_)
    (fun j => by blk_simp [Pipeline.Window.cell_apply]; try omega)
  blk_simp; rw [after0_5]
  have ht : t.val < 128 := lt_of_lt_of_eq t.isLt N_0
  have h1 : (y 1).val < 128 := (y 1).isLt
  have h2 : (y 2).val < 512 := (y 2).isLt
  rw [emb_at t ⟨(y 1).val, h1⟩ ⟨(y 2).val, h2⟩ ⟨t.val / 16, by omega⟩ ⟨t.val % 16 * 128 + (y 1).val, by omega⟩ rfl rfl y rfl rfl]
  exact block_at m c t ⟨(y 1).val, h1⟩ ⟨(y 2).val, h2⟩ _ (by show (t.val / 16) % 8 = _; omega) _ rfl y (by blk_ext)

end Cert.Gqa.Kernel

end
-- ==== Proof.Gqa.Ref.lean ====
/- The reference's grouped-query attention read at an index: softmax over the latent and the context rows, every
   weight divided before it meets its value. -/
module

public import proofs.«01_k».proof.Proof.Gen.GqaRefIdeal.Read
public import proofs.«01_k».proof.Proof.Gqa.Spec

@[expose] public section

set_option maxRecDepth 65536

noncomputable section

namespace Cert.Gqa.Ref

open Idealize.ShloMosaic Cert.Attn Cert.Na.Spec Cert.Gqa.Spec
open Cert.GqaRefIdeal Cert.GqaRefIdeal.Gen Cert.GqaRefIdeal.Read

variable (x0 : FVec Ideal Sx .bf16) (x1 x2 : FVec Ideal Sk .bf16)

/-- Lane `d` of key head `k`, and the query column of group `g`, key head `k`, lane `d`. -/
def lane (k : Fin 2) (d : Fin 64) : Fin 128 := ⟨k.val * 64 + d.val, by omega⟩
def column (g : Fin 4) (k : Fin 2) (d : Fin 64) : Fin 512 := ⟨g.val * 128 + k.val * 64 + d.val, by omega⟩

/-- The place of a latent row and of a context row among the 2304. -/
def near (a : Fin 2048) : Fin 2304 := ⟨a.val, by omega⟩
def far (c : Fin 256) : Fin 2304 := ⟨2048 + c.val, by omega⟩

theorem sum_joined (f : Fin 2304 → EReal) : ∑ j, f j = ∑ a, f (near a) + ∑ c, f (far c) :=
  Fin.sum_univ_add (a := 2048) (b := 256) f

theorem max_joined (f : Fin 2304 → EReal) :
    Finset.univ.fold max ⊥ f = max (top fun a => f (near a)) (top fun c => f (far c)) := by
  show top f = _
  refine le_antisymm ((top_le _ _).2 fun j => ?_) (max_le ((top_le _ _).2 fun p => le_top f _) ((top_le _ _).2 fun p => le_top f _))
  by_cases hj : j.val < 2048
  · exact le_trans (le_top (fun a => f (near a)) ⟨j.val, hj⟩) (le_max_left _ _)
  · refine le_trans (le_of_eq (congrArg f (Fin.ext ?_))) (le_trans (le_top (fun c => f (far c)) ⟨j.val - 2048, by omega⟩) (le_max_right _ _))
    show j.val = 2048 + (j.val - 2048)
    omega

/-! ## Queries, keys and values -/

theorem q_at (b : Fin 8) (k : Fin 2) (g : Fin 4) (t : Fin 2048) (d : Fin 64) :
    val_main_v25 (F := Ideal) x0 (ix5 b k g t d) = x0 (ix3 (grp b) t (column g k d)) := by
  pointwise [val_main_v22, val_main_v23, val_main_v24, val_main_v25]
  first | rfl | (refine congrArg x0 ?_; unfold column grp; blk_ext)

theorem k_near (b : Fin 8) (k : Fin 2) (a : Fin 2048) (d : Fin 64) :
    val_main_v10 (F := Ideal) x1 (ix4 b k (near a) d) = x1 (ix3 (grp b) a (lane k d)) := by
  have h : (near a).val < 2048 := a.isLt
  pointwise [val_main_v0, val_main_v1, val_main_v2, val_main_v3, val_main_v10]
  rw [dif_pos h]
  first | rfl | (refine congrArg x1 ?_; unfold near grp lane; blk_ext)

theorem k_far (b : Fin 8) (k : Fin 2) (c : Fin 256) (d : Fin 64) :
    val_main_v10 (F := Ideal) x1 (ix4 b k (far c) d) = x1 (ix3 8 (ctxAt b c) (lane k d)) := by
  have h : ¬ (far c).val < 2048 := by show ¬ 2048 + c.val < 2048; omega
  pointwise [val_main_v4, val_main_v5, val_main_v6, val_main_v7, val_main_v8, val_main_v9, val_main_v10]
  rw [dif_neg h]
  first | rfl | (refine congrArg x1 ?_; unfold far ctxAt lane; blk_ext)

theorem v_near (b : Fin 8) (k : Fin 2) (a : Fin 2048) (d : Fin 64) :
    val_main_v21 (F := Ideal) x2 (ix4 b k (near a) d) = x2 (ix3 (grp b) a (lane k d)) := k_near x2 b k a d
theorem v_far (b : Fin 8) (k : Fin 2) (c : Fin 256) (d : Fin 64) :
    val_main_v21 (F := Ideal) x2 (ix4 b k (far c) d) = x2 (ix3 8 (ctxAt b c) (lane k d)) := k_far x2 b k c d

/-! ## Scores and weights -/

theorem score_at (b : Fin 8) (k : Fin 2) (g : Fin 4) (t : Fin 2048) (j : Fin 2304) :
    val_main_v26 (F := Ideal) x0 x1 (ix5 b k g t j)
      = ∑ d : Fin 64, x0 (ix3 (grp b) t (column g k d)) * val_main_v10 (F := Ideal) x1 (ix4 b k j d) := by
  pointwise [val_main_v26]
  simp only [q_at]

/-- The greatest along the last axis. -/
theorem max_of (x : FVec Ideal S8x2x4x2048x2304 .f32) (i : FVec Ideal S_ .f32) (b : Fin 8) (k : Fin 2) (g : Fin 4) (t : Fin 2048) :
    Host.reduce FloatOps.maximumf x i reducesTo_S8x2x4x2048x2304_S8x2x4x2048_d4 h_S_ (ix4 b k g t)
      = Finset.univ.fold max (i (Shape.Idx.first h_S_)) (fun j : Fin 2304 => x (ix5 b k g t j)) := by
  pointwise

theorem greatest (b : Fin 8) (k : Fin 2) (g : Fin 4) (t : Fin 2048) :
    val_main_v29 (F := Ideal) x0 x1 (ix4 b k g t)
      = max (top fun a => val_main_v26 (F := Ideal) x0 x1 (ix5 b k g t (near a))) (top fun c => val_main_v26 (F := Ideal) x0 x1 (ix5 b k g t (far c))) := by
  have e : val_main_v27 (F := Ideal) x0 x1 (ix4 b k g t)
      = max (top fun a => val_main_v26 (F := Ideal) x0 x1 (ix5 b k g t (near a))) (top fun c => val_main_v26 (F := Ideal) x0 x1 (ix5 b k g t (far c))) := by
    unfold val_main_v27
    rw [max_of, show val_main_cst (F := Ideal) (Shape.Idx.first h_S_) = ⊥ from ofBits_neg_inf, max_joined]
  rw [val_main_v29_apply, e, show val_main_v28 (F := Ideal) (ix4 b k g t) = ⊥ from ofBits_neg_inf]
  exact max_eq_right bot_le

theorem summed (b : Fin 8) (k : Fin 2) (g : Fin 4) (t : Fin 2048) :
    val_main_v34 (F := Ideal) x0 x1 (ix4 b k g t)
      = ∑ j : Fin 2304, Ideal.exp (val_main_v26 (F := Ideal) x0 x1 (ix5 b k g t j) - val_main_v29 (F := Ideal) x0 x1 (ix4 b k g t)) := by
  pointwise [val_main_v30, val_main_v31, val_main_v32, val_main_v33, val_main_v34, val_main_cst_1]

theorem weight_at (b : Fin 8) (k : Fin 2) (g : Fin 4) (t : Fin 2048) (j : Fin 2304) :
    val_main_v37 (F := Ideal) x0 x1 (ix5 b k g t j)
      = Ideal.div (Ideal.exp (val_main_v26 (F := Ideal) x0 x1 (ix5 b k g t j) - val_main_v29 (F := Ideal) x0 x1 (ix4 b k g t)))
          (val_main_v34 (F := Ideal) x0 x1 (ix4 b k g t)) := by
  pointwise [val_main_v30, val_main_v31, val_main_v32, val_main_v33, val_main_v35, val_main_v36, val_main_v37]

theorem product_at (b : Fin 8) (k : Fin 2) (g : Fin 4) (t : Fin 2048) (d : Fin 64) :
    val_main_v38 (F := Ideal) x0 x1 x2 (ix5 b k g t d)
      = ∑ j : Fin 2304, val_main_v37 (F := Ideal) x0 x1 (ix5 b k g t j) * val_main_v21 (F := Ideal) x2 (ix4 b k j d) := by
  pointwise [val_main_v38]

/-- The attention of one query. -/
theorem attended (b : Fin 8) (k : Fin 2) (g : Fin 4) (t : Fin 2048) (d : Fin 64) :
    val_main_v38 (F := Ideal) x0 x1 x2 (ix5 b k g t d)
      = divFirst (fun a : Fin 2048 => ∑ d : Fin 64, x0 (ix3 (grp b) t (column g k d)) * x1 (ix3 (grp b) a (lane k d)))
          (fun a => x2 (ix3 (grp b) a (lane k d)))
          (fun c : Fin 256 => ∑ d : Fin 64, x0 (ix3 (grp b) t (column g k d)) * x1 (ix3 8 (ctxAt b c) (lane k d)))
          (fun c => x2 (ix3 8 (ctxAt b c) (lane k d))) := by
  rw [product_at, sum_joined]
  simp only [weight_at, summed, sum_joined, greatest, score_at, k_near, k_far, v_near, v_far]
  rfl

/-- The result at a batch element's token and column. -/
theorem result_at (b : Fin 8) (t : Fin 2048) (e : Fin 512) :
    val_main_v42 (F := Ideal) x0 x1 x2 (ix3 (grp b) t e) = refOut x0 x1 x2 b t e := by
  have hb : (grp b).val < 8 := b.isLt
  have e1 : val_main_v42 (F := Ideal) x0 x1 x2 (ix3 (grp b) t e)
      = val_main_v38 (F := Ideal) x0 x1 x2 (ix5 b (⟨e.val % 128 / 64, by omega⟩ : Fin 2) (⟨e.val / 128, by omega⟩ : Fin 4) t (⟨e.val % 64, by omega⟩ : Fin 64)) := by
    pointwise [val_main_v39, val_main_v40, val_main_v41, val_main_cst_2, val_main_v42]
    rw [dif_pos hb]
    refine congrArg (val_main_v38 (F := Ideal) x0 x1 x2) ?_
    unfold grp
    blk_ext
  have e2 : lane (⟨e.val % 128 / 64, by omega⟩ : Fin 2) (⟨e.val % 64, by omega⟩ : Fin 64) = valueLane e :=
    Fin.ext (by show e.val % 128 / 64 * 64 + e.val % 64 = e.val % 128; omega)
  have e3 : ∀ d, column (⟨e.val / 128, by omega⟩ : Fin 4) (⟨e.val % 128 / 64, by omega⟩ : Fin 2) d = col (headOf e) d := fun d =>
    Fin.ext (by show e.val / 128 * 128 + e.val % 128 / 64 * 64 + d.val = e.val / 64 * 64 + d.val; omega)
  rw [e1, attended, e2]
  simp only [e3]
  rfl

end Cert.Gqa.Ref

end
-- ==== Proof.Gqa.Pre.lean ====
/- What the precondition of the grouped-query attention says: the queries and the keys are finite. -/
module

public import proofs.«01_k».proof.Pre_gqa_finite_scores
public import proofs.«01_k».proof.On_gqa_latent_groups
public import proofs.«01_k».proof.Proof.Na.Pre

@[expose] public section

noncomputable section

namespace Cert.Gqa.Pre

open Idealize.ShloMosaic Cert.Attn

/-- The precondition's shape facts. -/
instance preFacts : Cert.Pre_gqa_finite_scores.Facts where
  bitsLt_bf16_f32 := by decide
  bcast_S_S9x2048x512 := by decide
  bcast_S_S9x2048x128 := by decide

variable (x0 : FVec Ideal ⟨3, ![9, 2048, 512]⟩ .bf16) (x1 x2 : FVec Ideal ⟨3, ![9, 2048, 128]⟩ .bf16)

theorem fin_q (h : (Cert.Pre_gqa_finite_scores.fn (F := Ideal) x0 x1 x2).1 = fun _ => 1#1) (i) : Fin' (x0 i) := by
  have hi := congrFun h i
  apply Cert.Na.Pre.fin_of_words
  rw [← ofBits_neg_inf, ← Cert.Na.Pre.ofBits_pos_inf]
  exact hi

theorem fin_k (h : (Cert.Pre_gqa_finite_scores.fn (F := Ideal) x0 x1 x2).2 = fun _ => 1#1) (i) : Fin' (x1 i) := by
  have hi := congrFun h i
  apply Cert.Na.Pre.fin_of_words
  rw [← ofBits_neg_inf, ← Cert.Na.Pre.ofBits_pos_inf]
  exact hi

/-- The mask selects the eight groups of latent tokens. -/
theorem group_lt [Cert.On_gqa_latent_groups.Facts] (i : (⟨3, ![9, 2048, 512]⟩ : Shape).Idx)
    (h : Cert.On_gqa_latent_groups.fn (F := Ideal) x0 x1 x2 i = 1#1) : (i 0 : ℕ) < 8 := by
  have key : ∀ a : Fin 9, IntOp.cmpi .slt (BitVec.ofNat 32 a.val) 8#32 = 1#1 → a.val < 8 := by decide +kernel
  exact key (i 0) h

end Cert.Gqa.Pre

end
-- ==== Proof.Gqa.Claims.lean ====
/- The claims about the grouped-query attention. -/
module

public import proofs.«01_k».proof.Defs
public import proofs.«01_k».proof.Proof.Gen.Gqa.Frame
public import proofs.«01_k».proof.Proof.Gen.GqaIdeal.Value
public import proofs.«01_k».proof.Proof.Gen.GqaRefIdeal.Run
public import proofs.«01_k».proof.Proof.Gen.GqaRefIdeal.Read
public import proofs.«01_k».proof.Proof.Gen.On_gqa_latent_groups
public import proofs.«01_k».proof.Proof.Gqa.Final
public import proofs.«01_k».proof.Proof.Gqa.Ref
public import proofs.«01_k».proof.Proof.Gqa.Pre

@[expose] public section

noncomputable section

namespace Cert.Gqa.Claims

open Idealize.ShloMosaic Idealize.ShloMosaic.TcCoe Idealize.SL.Sem Cert.Attn Cert.Gqa.Kernel
open Cert.Na.Spec (grp)

theorem frame : Cert.quiescent_Gqa := fun m g _ => Cert.Gqa.Gen.frame m g

theorem frame_ideal : Cert.quiescent_GqaIdeal := fun m g _ => Cert.GqaIdeal.Gen.frame m g

theorem frame_ideal_pre : Cert.quiescent_GqaIdeal_pre_gqa_finite_scores := fun m g _ => Cert.GqaIdeal.Gen.frame m g

theorem frame_ref : Cert.quiescent_GqaRefIdeal := by
  intro m g _
  exact (θ_run _ _ _).mono (fun r h => ⟨fun c => (h c).2, sem_eq_zero_of_no_sems (by decide) r.2⟩)
    (Cert.GqaRefIdeal.Value.run m g)

theorem frame_ref_pre : Cert.quiescent_GqaRefIdeal_pre_gqa_finite_scores := fun m g _ => frame_ref m g trivial

/-- At an element of the eight latent groups the kernel's array is the reference's. -/
theorem selected (m : (ℓ : Loc Cert.GqaIdeal.nD Cert.GqaIdeal.τ Cert.GqaIdeal.sig) → Buf (Elt Ideal) ℓ)
    (hpre : Cert.Pre_GqaIdeal_gqa_finite_scores m) (c : Dev Cert.GqaIdeal.nD) (i : (⟨3, ![9, 2048, 512]⟩ : Shape).Idx)
    (h : (i 0 : ℕ) < 8) :
    (show FVec Ideal ⟨3, ![9, 2048, 512]⟩ .f32 from
      (Cert.GqaIdeal.Gen.dats m 0 c).arrAt 5 (Cert.GqaIdeal.cfgs 0).N) i
    = Cert.GqaRefIdeal.Read.val_main_v42 (F := Ideal) (m ((c : Thread Cert.GqaIdeal.nD Cert.GqaIdeal.τ).loc Cert.GqaIdeal.main_arg0))
        (m ((c : Thread Cert.GqaIdeal.nD Cert.GqaIdeal.τ).loc Cert.GqaIdeal.main_arg1))
        (m ((c : Thread Cert.GqaIdeal.nD Cert.GqaIdeal.τ).loc Cert.GqaIdeal.main_arg2)) i := by
  obtain ⟨hq, hk⟩ := hpre c
  rw [final m c]
  show (if (i 0 : ℕ) < 8 then result m c i else _) = _
  rw [if_pos h]
  unfold result
  refine (Cert.Gqa.Spec.agree _ _ _ (Cert.Gqa.Pre.fin_q _ _ _ hq) (Cert.Gqa.Pre.fin_k _ _ _ hk)
      ⟨(i 0).val % 8, _⟩ (i 1) (i 2)).trans ?_
  refine (Cert.Gqa.Ref.result_at _ _ _ ⟨(i 0).val % 8, _⟩ (i 1) (i 2)).symm.trans (congrArg _ ?_)
  funext a
  fin_cases a
  · exact Fin.ext (Nat.mod_eq_of_lt h)
  · rfl
  · rfl

theorem algebraic : Cert.algebraic_GqaIdeal_GqaRefIdeal_on_gqa_latent_groups_pre_gqa_finite_scores := by
  intro m g m' g' hpre hagree
  refine ⟨fun c => Cert.GqaRefIdeal.Read.val_main_v42 (F := Ideal) (m ((c : Thread Cert.GqaIdeal.nD Cert.GqaIdeal.τ).loc Cert.GqaIdeal.main_arg0))
        (m ((c : Thread Cert.GqaIdeal.nD Cert.GqaIdeal.τ).loc Cert.GqaIdeal.main_arg1))
        (m ((c : Thread Cert.GqaIdeal.nD Cert.GqaIdeal.τ).loc Cert.GqaIdeal.main_arg2)), ?_, ?_⟩
  · refine (θ_run _ _ _).mono (fun r h c => ?_) (Cert.GqaIdeal.Value.run_blocks m g)
    obtain ⟨h0, h1, h2, h3⟩ := h c
    refine ⟨fun i hi => ?_, h1, h2, h3⟩
    rw [h0]
    exact selected m hpre c i (Cert.Gqa.Pre.group_lt _ _ _ i hi)
  · refine (θ_run _ _ _).mono (fun r h c => ?_) (Cert.GqaRefIdeal.Value.run m' g')
    obtain ⟨h0, h1, h2, h3⟩ := h c
    obtain ⟨e0, e1, e2⟩ := hagree c
    refine ⟨fun i _ => ?_, h1.trans ?_, h2.trans ?_, h3.trans ?_⟩
    · rw [h0, Cert.GqaRefIdeal.Read.val_main_v42_eq, e0, e1, e2]
    all_goals first | rfl | assumption

end Cert.Gqa.Claims

end
-- ==== Proof.Out.Spec.lean ====
/- The projection after the attentions as one formula per entry: the norm of each attention's output, their product
   with the two halves of the matrix, and the gated residual. -/
module

public import Idealize.ShloMosaic.Lib.Pipeline.ValueKit
public import Idealize.ShloMosaic.Lib.Pointwise

@[expose] public section

noncomputable section

namespace Cert.Out

open Idealize.ShloMosaic

/-- A row of an attention's output over its root mean square, times the gain `g`. -/
def normed (x g : Fin 512 → EReal) (k : Fin 512) : EReal :=
  x k * Ideal.rsqrt (Ideal.div (∑ a, x a * x a) (Ideal.ofBits .f32 0x44000000#32) + Ideal.ofBits .f32 0x358637BD#32) * g k

/-- The call's result for one token at channel `n`. -/
def projected (x : Fin 1024 → EReal) (oa ob ga gb : Fin 512 → EReal) (gate : Fin 1024 → EReal)
    (w : Fin 1024 → Fin 1024 → EReal) (n : Fin 1024) : EReal :=
  x n + gate n * ((∑ k : Fin 512, normed oa ga k * w ⟨k.val, by omega⟩ n) + ∑ k : Fin 512, normed ob gb k * w ⟨512 + k.val, by omega⟩ n)

/-- A sum over both halves of the concatenated row. -/
theorem sum_halves (f : Fin 1024 → EReal) :
    ∑ k, f k = (∑ k : Fin 512, f ⟨k.val, by omega⟩) + ∑ k : Fin 512, f ⟨512 + k.val, by omega⟩ :=
  Fin.sum_univ_add (a := 512) (b := 512) f

end Cert.Out

end
-- ==== Proof.Out.Payload.lean ====
/- What one point of the projection kernel stores, entry by entry. -/
module

public import proofs.«01_k».proof.Proof.Gen.OutFirstIdeal.Value
public import proofs.«01_k».proof.Proof.Out.Spec

@[expose] public section

set_option maxRecDepth 16384

noncomputable section

namespace Cert.Out.Kernel

open Idealize.ShloMosaic Idealize.ShloMosaic.TcCoe Idealize.SL.Sem
open Cert.OutFirstIdeal Cert.OutFirstIdeal.Gen

variable (x0 : FVec Ideal S1x512x1024 .f32) (x1 x2 : FVec Ideal S1x512x512 .f32) (x3 : FVec Ideal S1x1x3072 .f32)
  (x4 x5 : FVec Ideal S1x512 .f32) (x6 : FVec Ideal S1024x1024 .bf16)

theorem first_at (i : Fin 512) (k : Fin 512) :
    k0_pay3 (F := Ideal) x1 x4 (ix2 i k) = normed (fun k => x1 (ix3 0 i k)) (fun k => x4 (ix2 0 k)) k := by
  pointwise [k0_pay3]
  rfl

theorem second_at (i : Fin 512) (k : Fin 512) :
    k0_pay4 (F := Ideal) x2 x5 (ix2 i k) = normed (fun k => x2 (ix3 0 i k)) (fun k => x5 (ix2 0 k)) k := by
  pointwise [k0_pay4]
  rfl

/-- Half of the matrix, from row `o` on. -/
theorem half_at (o : ℕ) (ho : o + 512 ≤ 1024) (inb) (k : Fin 512) (n : Fin 1024) :
    (show FVec Ideal S512x1024 .bf16 from
      View.ld (Val := Elt Ideal) (e' := .bf16) x6 (Rect.unit (s := S1024x1024) ![o, 0] ![512, 1024] inb)) (ix2 k n)
      = x6 (ix2 ⟨o + k.val, by omega⟩ n) := by
  pointwise

theorem store_at (a b : FVec Ideal S512x512 .bf16) (wa wb : FVec Ideal S512x1024 .bf16) (i : Fin 512) (n : Fin 1024) :
    k0_pay1 (F := Ideal) (k0_pay2 x3) a b wa wb x0 (ix3 0 i n)
      = x0 (ix3 0 i n) + x3 (ix3 0 0 ⟨2048 + n.val, by omega⟩)
          * ((∑ k, a (ix2 i k) * wa (ix2 k n)) + ∑ k, b (ix2 i k) * wb (ix2 k n)) := by
  pointwise [k0_pay1, k0_pay2]

/-- The block a point leaves. -/
theorem stored_at (ia ib) (i : Fin 512) (n : Fin 1024) :
    k0_pay1 (F := Ideal) (k0_pay2 x3) (k0_pay3 x1 x4) (k0_pay4 x2 x5)
        (View.ld (Val := Elt Ideal) (e' := .bf16) x6 (Rect.unit (s := S1024x1024) ![0, 0] ![512, 1024] ia))
        (View.ld (Val := Elt Ideal) (e' := .bf16) x6 (Rect.unit (s := S1024x1024) ![512, 0] ![512, 1024] ib)) x0 (ix3 0 i n)
      = projected (fun k => x0 (ix3 0 i k)) (fun k => x1 (ix3 0 i k)) (fun k => x2 (ix3 0 i k)) (fun k => x4 (ix2 0 k))
          (fun k => x5 (ix2 0 k)) (fun k => x3 (ix3 0 0 ⟨2048 + k.val, by omega⟩)) (fun k n => x6 (ix2 k n)) n := by
  refine (store_at _ _ _ _ _ _ i n).trans ?_
  unfold projected
  refine congrArg (_ + _ * ·) (congrArg₂ (· + ·) (Finset.sum_congr rfl fun k _ => congrArg₂ (· * ·) (first_at x1 x4 i k) ?_)
    (Finset.sum_congr rfl fun k _ => congrArg₂ (· * ·) (second_at x2 x5 i k) ?_))
  · exact (half_at x6 0 (by omega) ia k n).trans (congrArg (fun a => x6 (ix2 a n)) (Fin.ext (Nat.zero_add _)))
  · exact half_at x6 512 (by omega) ib k n

end Cert.Out.Kernel

end
-- ==== Proof.Out.FirstFinal.lean ====
/- The first projection kernel's result array after the run, entry by entry. -/
module

public import proofs.«01_k».proof.Proof.Gen.OutFirstIdeal.Value
public import proofs.«01_k».proof.Proof.Out.Payload

@[expose] public section

set_option maxRecDepth 16384

noncomputable section

namespace Cert.Out.First

open Idealize.ShloMosaic Idealize.ShloMosaic.TcCoe Idealize.SL.Sem
open Cert.OutFirstIdeal Cert.OutFirstIdeal.Gen

variable (m : (ℓ : Loc nD τ sig) → Buf (Elt Ideal) ℓ)

/-- Where each grid point reads and writes. -/
theorem idx : ∀ t : Fin cfg0.N,
    win0_0.index t = ![t.val / 4, t.val % 4, 0]
    ∧ win0_1.index t = ![t.val / 4, t.val % 4, 0]
    ∧ win0_2.index t = ![t.val / 4, t.val % 4, 0]
    ∧ win0_3.index t = ![t.val / 4, 0, 1]
    ∧ win0_4.index t = ![0, 0]
    ∧ win0_5.index t = ![0, 0]
    ∧ win0_6.index t = ![0, 0]
    ∧ win0_7.index t = ![t.val / 4, t.val % 4, 0] := (by decide +kernel : ∀ t : Fin grid0.N, _)

theorem x_at (c : Dev nD) (t : Fin cfg0.N) (i : Fin 512) (k : Fin 1024) (a : Fin 9) (r : Fin 2048)
    (ha : a.val = t.val / 4) (hr : r.val = t.val % 4 * 512 + i.val) :
    (show FVec Ideal S1x512x1024 .f32 from iblk m c 0 t) (ix3 0 i k) = m ((c : Thread nD τ).loc main_arg0) (ix3 a r k) := by
  blk_ext [iblk, V, (idx t).1]

theorem oa_at (c : Dev nD) (t : Fin cfg0.N) (i : Fin 512) (k : Fin 512) (a : Fin 9) (r : Fin 2048)
    (ha : a.val = t.val / 4) (hr : r.val = t.val % 4 * 512 + i.val) :
    (show FVec Ideal S1x512x512 .f32 from iblk m c 1 t) (ix3 0 i k) = m ((c : Thread nD τ).loc main_arg1) (ix3 a r k) := by
  blk_ext [iblk, V, (idx t).2.1]

theorem ob_at (c : Dev nD) (t : Fin cfg0.N) (i : Fin 512) (k : Fin 512) (a : Fin 9) (r : Fin 2048)
    (ha : a.val = t.val / 4) (hr : r.val = t.val % 4 * 512 + i.val) :
    (show FVec Ideal S1x512x512 .f32 from iblk m c 2 t) (ix3 0 i k) = m ((c : Thread nD τ).loc main_arg2) (ix3 a r k) := by
  blk_ext [iblk, V, (idx t).2.2.1]

theorem mod_at (c : Dev nD) (t : Fin cfg0.N) (k : Fin 3072) (a : Fin 16) (e : Fin 9216)
    (ha : a.val = t.val / 4) (he : e.val = 3072 + k.val) :
    (show FVec Ideal S1x1x3072 .f32 from iblk m c 3 t) (ix3 0 0 k) = m ((c : Thread nD τ).loc main_arg3) (ix3 a 0 e) := by
  blk_ext [iblk, V, (idx t).2.2.2.1]

theorem ga_at (c : Dev nD) (t : Fin cfg0.N) (k : Fin 512) :
    (show FVec Ideal S1x512 .f32 from iblk m c 4 t) (ix2 0 k) = m ((c : Thread nD τ).loc main_arg4) (ix1 k) := by
  have h : (show FVec Ideal S1x512 .f32 from V m c main_v1) (ix2 0 k) = m ((c : Thread nD τ).loc main_arg4) (ix1 k) := by
    entry_read
    pointwise
  refine Eq.trans ?_ h
  blk_ext [iblk, (idx t).2.2.2.2.1]

theorem gb_at (c : Dev nD) (t : Fin cfg0.N) (k : Fin 512) :
    (show FVec Ideal S1x512 .f32 from iblk m c 5 t) (ix2 0 k) = m ((c : Thread nD τ).loc main_arg5) (ix1 k) := by
  have h : (show FVec Ideal S1x512 .f32 from V m c main_v2) (ix2 0 k) = m ((c : Thread nD τ).loc main_arg5) (ix1 k) := by
    entry_read
    pointwise
  refine Eq.trans ?_ h
  blk_ext [iblk, (idx t).2.2.2.2.2.1]

theorem w_at (c : Dev nD) (t : Fin cfg0.N) (k n : Fin 1024) :
    (show FVec Ideal S1024x1024 .bf16 from iblk m c 6 t) (ix2 k n) = m ((c : Thread nD τ).loc main_arg6) (ix2 k n) := by
  have h : (show FVec Ideal S1024x1024 .bf16 from V m c main_v0) (ix2 k n) = m ((c : Thread nD τ).loc main_arg6) (ix2 k n) := by
    entry_read
    pointwise
  refine Eq.trans ?_ h
  blk_ext [iblk, (idx t).2.2.2.2.2.2.1]

/-- The result array. -/
def result (c : Dev nD) : FVec Ideal S9x2048x1024 .f32 := fun i =>
  projected (fun k => m ((c : Thread nD τ).loc main_arg0) (ix3 (Fin.castLE (by decide) (i 0 : Fin 9)) (i 1) k))
    (fun k => m ((c : Thread nD τ).loc main_arg1) (ix3 (Fin.castLE (by decide) (i 0 : Fin 9)) (i 1) k))
    (fun k => m ((c : Thread nD τ).loc main_arg2) (ix3 (Fin.castLE (by decide) (i 0 : Fin 9)) (i 1) k))
    (fun k => m ((c : Thread nD τ).loc main_arg4) (ix1 k)) (fun k => m ((c : Thread nD τ).loc main_arg5) (ix1 k))
    (fun k => m ((c : Thread nD τ).loc main_arg3) (ix3 (Fin.castLE (by decide) (i 0 : Fin 9)) 0 ⟨5120 + k.val, by omega⟩))
    (fun k n => m ((c : Thread nD τ).loc main_arg6) (ix2 k n)) (i 2)

/-- What a point's body leaves at row `i`, channel `n` of its block. -/
theorem block_at (c : Dev nD) (t : Fin cfg0.N) (i : Fin 512) (n : Fin 1024) (a : Fin 9) (r : Fin 2048)
    (ha : a.val = t.val / 4) (hr : r.val = t.val % 4 * 512 + i.val) (j : S1x512x1024.Idx) (hj : j = ix3 0 i n) :
    out0_7 (iblk m c 0 t) (iblk m c 1 t) (iblk m c 2 t) (iblk m c 3 t) (iblk m c 4 t) (iblk m c 5 t) (iblk m c 6 t) j = result m c (ix3 a r n) := by
  subst hj
  unfold out0_7
  frame_out
  refine (Kernel.stored_at _ _ _ _ _ _ _ _ _ i n).trans ?_
  show projected _ _ _ _ _ _ _ _ = projected _ _ _ _ _ _ _ _
  congr 1
  · exact funext fun k => x_at m c t i k _ r ha hr
  · exact funext fun k => oa_at m c t i k _ r ha hr
  · exact funext fun k => ob_at m c t i k _ r ha hr
  · exact funext fun k => ga_at m c t k
  · exact funext fun k => gb_at m c t k
  · exact funext fun k => mod_at m c t _ _ _ ha (by show 5120 + _ = 3072 + (2048 + _); omega)
  · exact funext fun k => funext fun n => w_at m c t k n

theorem emb_at (t : Fin cfg0.N) (i : Fin 512) (n : Fin 1024) (a : Fin 9) (r : Fin 2048)
    (ha : a.val = t.val / 4) (hr : r.val = t.val % 4 * 512 + i.val)
    (y : S1x512x1024.Idx) (h1 : (y 1).val = i.val) (h2 : (y 2).val = n.val) :
    ((View.whole main_v3).slice (win0_7.rect t)).emb y = (ix3 a r n : S9x2048x1024.Idx) := by
  blk_ext [(idx t).2.2.2.2.2.2.2]

theorem final (c : Dev nD) : (dats m 0 c).arrAt 7 (cfgs 0).N = result m c := by
  refine (dats m 0 c).arrAt_eq_of_covers 7 _ (by decide +kernel) (fun t hf y => ?_)
  blk_simp; rw [after0_7]
  have ht : t.val < 36 := lt_of_lt_of_eq t.isLt N_0
  have h1 : (y 1).val < 512 := (y 1).isLt
  have h2 : (y 2).val < 1024 := (y 2).isLt
  rw [emb_at t ⟨(y 1).val, h1⟩ ⟨(y 2).val, h2⟩ ⟨t.val / 4, by omega⟩ ⟨t.val % 4 * 512 + (y 1).val, by omega⟩
    rfl rfl y rfl rfl]
  exact block_at m c t ⟨(y 1).val, h1⟩ ⟨(y 2).val, h2⟩ _ _ rfl rfl y (by blk_ext)

end Cert.Out.First

end
-- ==== Proof.Out.FirstRef.lean ====
/- The reference of the first projection, entry by entry. -/
module

public import proofs.«01_k».proof.Proof.Gen.OutFirstRefIdeal.Read
public import proofs.«01_k».proof.Proof.Out.Spec

@[expose] public section

set_option maxRecDepth 16384
noncomputable section

namespace Cert.Out.FirstRef
open Idealize.ShloMosaic Idealize.ShloMosaic.TcCoe Idealize.SL.Sem
open Cert.OutFirstRefIdeal Cert.OutFirstRefIdeal.Read

variable (x : FVec Ideal S9x2048x1024 .f32) (oa ob : FVec Ideal S9x2048x512 .f32) (md : FVec Ideal S16x1x9216 .f32)
  (ga gb : FVec Ideal S512 .f32) (w : FVec Ideal S1024x1024 .f32)

theorem first_at (a : Fin 9) (r : Fin 2048) (k : Fin 512) :
    val_main_v22 (F := Ideal) oa ga (ix3 a r k) = normed (fun k => oa (ix3 ⟨a.val, by omega⟩ r k)) (fun k => ga (ix1 k)) k := by
  pointwise [val_main_v10, val_main_cst, val_main_v11, val_main_v12, val_main_cst_0, val_main_v13, val_main_v14, val_main_cst_1, val_main_v15, val_main_v16, val_main_v17, val_main_v18, val_main_v19, val_main_v20, val_main_v21, val_main_v22, val_main_cst_2, val_main_cst_3, val_main_v26, val_main_cst_4, val_main_v28]
  rfl

theorem second_at (a : Fin 9) (r : Fin 2048) (k : Fin 512) :
    val_main_v35 (F := Ideal) ob gb (ix3 a r k) = normed (fun k => ob (ix3 ⟨a.val, by omega⟩ r k)) (fun k => gb (ix1 k)) k := by
  pointwise [val_main_cst, val_main_cst_0, val_main_v13, val_main_cst_1, val_main_v15, val_main_v23, val_main_cst_2, val_main_v24, val_main_v25, val_main_cst_3, val_main_v26, val_main_v27, val_main_cst_4, val_main_v28, val_main_v29, val_main_v30, val_main_v31, val_main_v32, val_main_v33, val_main_v34, val_main_v35]
  rfl

/-- The first half of the concatenated row. -/
theorem low_at (a : Fin 9) (r : Fin 2048) (k : Fin 512) :
    val_main_v36 (F := Ideal) oa ob ga gb (ix3 a r ⟨k.val, by omega⟩) = val_main_v22 (F := Ideal) oa ga (ix3 a r k) := by
  unfold val_main_v36
  have h : k.val < 512 := k.isLt
  pointwise
  blk_ext

/-- The second half of the concatenated row. -/
theorem high_at (a : Fin 9) (r : Fin 2048) (k : Fin 512) :
    val_main_v36 (F := Ideal) oa ob ga gb (ix3 a r ⟨512 + k.val, by omega⟩) = val_main_v35 (F := Ideal) ob gb (ix3 a r k) := by
  unfold val_main_v36
  pointwise
  blk_ext

/-- The product and the residual. -/
theorem out_at (a : Fin 9) (r : Fin 2048) (n : Fin 1024) :
    val_main_v40 (F := Ideal) x oa ob md ga gb w (ix3 a r n)
      = x (ix3 ⟨a.val, by omega⟩ r n) + md (ix3 ⟨a.val, by omega⟩ 0 ⟨5120 + n.val, by omega⟩)
          * ∑ k, val_main_v36 (F := Ideal) oa ob ga gb (ix3 a r k) * w (ix2 k n) := by
  pointwise [val_main_v37, val_main_v38, val_main_v39, val_main_v40, val_main_v0, val_main_v1, val_main_v2, val_main_v3, val_main_v4, val_main_v5, val_main_v6, val_main_v7, val_main_v8, val_main_v9]

/-- The reference's result, entry by entry. -/
theorem result_at (a : Fin 9) (r : Fin 2048) (n : Fin 1024) :
    val_main_v40 (F := Ideal) x oa ob md ga gb w (ix3 a r n)
      = projected (fun k => x (ix3 ⟨a.val, by omega⟩ r k)) (fun k => oa (ix3 ⟨a.val, by omega⟩ r k))
          (fun k => ob (ix3 ⟨a.val, by omega⟩ r k)) (fun k => ga (ix1 k)) (fun k => gb (ix1 k))
          (fun k => md (ix3 ⟨a.val, by omega⟩ 0 ⟨5120 + k.val, by omega⟩)) (fun k n => w (ix2 k n)) n := by
  rw [out_at, sum_halves]
  simp only [low_at, high_at, first_at, second_at]
  rfl

end Cert.Out.FirstRef
end
-- ==== Proof.Out.FirstClaims.lean ====
/- The claims about the first projection. -/
module

public import proofs.«01_k».proof.Defs
public import proofs.«01_k».proof.Proof.Gen.OutFirst.Frame
public import proofs.«01_k».proof.Proof.Gen.OutFirstRefIdeal.Run
public import proofs.«01_k».proof.Proof.Out.FirstFinal
public import proofs.«01_k».proof.Proof.Out.FirstRef

@[expose] public section

noncomputable section

namespace Cert.Out.First

open Idealize.ShloMosaic Idealize.ShloMosaic.TcCoe Idealize.SL.Sem

theorem frame : Cert.quiescent_OutFirst := fun m g _ => Cert.OutFirst.Gen.frame m g

theorem frame_ideal : Cert.quiescent_OutFirstIdeal := fun m g _ => Cert.OutFirstIdeal.Gen.frame m g

theorem frame_ref : Cert.quiescent_OutFirstRefIdeal := fun m g _ =>
  (θ_run _ _ _).mono (fun r h => ⟨fun c => (h c).2, sem_eq_zero_of_no_sems (by decide) r.2⟩)
    (Cert.OutFirstRefIdeal.Value.run m g)

theorem algebraic : Cert.algebraic_OutFirstIdeal_OutFirstRefIdeal := by
  intro m g m' g' _ hagree
  refine ⟨fun c => result m c, ?_, ?_⟩
  · refine (θ_run _ _ _).mono (fun r h c => ?_) (Cert.OutFirstIdeal.Value.run_blocks m g)
    obtain ⟨h0, hk⟩ := h c
    exact ⟨h0.trans (final m c), hk⟩
  · refine (θ_run _ _ _).mono (fun r h c => ?_) (Cert.OutFirstRefIdeal.Value.run m' g')
    obtain ⟨h0, hk⟩ := h c
    obtain ⟨e0, e1, e2, e3, e4, e5, e6⟩ := hagree c
    refine ⟨h0.trans ?_, hk⟩
    rw [Cert.OutFirstRefIdeal.Read.val_main_v40_eq, e0, e1, e2, e3, e4, e5, e6]
    funext i
    refine Eq.trans (congrArg _ ?_) (FirstRef.result_at _ _ _ _ _ _ _ (i 0) (i 1) (i 2))
    funext a; fin_cases a <;> rfl

end Cert.Out.First

end
-- ==== Proof.Out.LastFinal.lean ====
/- The last projection kernel's result array after the run, entry by entry. -/
module

public import proofs.«01_k».proof.Proof.Gen.OutLastIdeal.Value
public import proofs.«01_k».proof.Proof.Out.Payload

@[expose] public section

set_option maxRecDepth 16384

noncomputable section

namespace Cert.Out.Last

open Idealize.ShloMosaic Idealize.ShloMosaic.TcCoe Idealize.SL.Sem
open Cert.OutLastIdeal Cert.OutLastIdeal.Gen

variable (m : (ℓ : Loc nD τ sig) → Buf (Elt Ideal) ℓ)

/-- Where each grid point reads and writes. -/
theorem idx : ∀ t : Fin cfg0.N,
    win0_0.index t = ![t.val / 4, t.val % 4, 0]
    ∧ win0_1.index t = ![t.val / 4, t.val % 4, 0]
    ∧ win0_2.index t = ![t.val / 4, t.val % 4, 0]
    ∧ win0_3.index t = ![t.val / 4, 0, 1]
    ∧ win0_4.index t = ![0, 0]
    ∧ win0_5.index t = ![0, 0]
    ∧ win0_6.index t = ![0, 0]
    ∧ win0_7.index t = ![t.val / 4, t.val % 4, 0] := (by decide +kernel : ∀ t : Fin grid0.N, _)

theorem x_at (c : Dev nD) (t : Fin cfg0.N) (i : Fin 512) (k : Fin 1024) (a : Fin 9) (r : Fin 2048)
    (ha : a.val = t.val / 4) (hr : r.val = t.val % 4 * 512 + i.val) :
    (show FVec Ideal S1x512x1024 .f32 from iblk m c 0 t) (ix3 0 i k) = m ((c : Thread nD τ).loc main_arg0) (ix3 a r k) := by
  blk_ext [iblk, V, (idx t).1]

theorem oa_at (c : Dev nD) (t : Fin cfg0.N) (i : Fin 512) (k : Fin 512) (a : Fin 9) (r : Fin 2048)
    (ha : a.val = t.val / 4) (hr : r.val = t.val % 4 * 512 + i.val) :
    (show FVec Ideal S1x512x512 .f32 from iblk m c 1 t) (ix3 0 i k) = m ((c : Thread nD τ).loc main_arg1) (ix3 a r k) := by
  blk_ext [iblk, V, (idx t).2.1]

theorem ob_at (c : Dev nD) (t : Fin cfg0.N) (i : Fin 512) (k : Fin 512) (a : Fin 9) (r : Fin 2048)
    (ha : a.val = t.val / 4) (hr : r.val = t.val % 4 * 512 + i.val) :
    (show FVec Ideal S1x512x512 .f32 from iblk m c 2 t) (ix3 0 i k) = m ((c : Thread nD τ).loc main_arg2) (ix3 a r k) := by
  blk_ext [iblk, V, (idx t).2.2.1]

theorem mod_at (c : Dev nD) (t : Fin cfg0.N) (k : Fin 3072) (a : Fin 16) (e : Fin 9216)
    (ha : a.val = t.val / 4) (he : e.val = 3072 + k.val) :
    (show FVec Ideal S1x1x3072 .f32 from iblk m c 3 t) (ix3 0 0 k) = m ((c : Thread nD τ).loc main_arg3) (ix3 a 0 e) := by
  blk_ext [iblk, V, (idx t).2.2.2.1]

theorem ga_at (c : Dev nD) (t : Fin cfg0.N) (k : Fin 512) :
    (show FVec Ideal S1x512 .f32 from iblk m c 4 t) (ix2 0 k) = m ((c : Thread nD τ).loc main_arg4) (ix1 k) := by
  have h : (show FVec Ideal S1x512 .f32 from V m c main_v1) (ix2 0 k) = m ((c : Thread nD τ).loc main_arg4) (ix1 k) := by
    entry_read
    pointwise
  refine Eq.trans ?_ h
  blk_ext [iblk, (idx t).2.2.2.2.1]

theorem gb_at (c : Dev nD) (t : Fin cfg0.N) (k : Fin 512) :
    (show FVec Ideal S1x512 .f32 from iblk m c 5 t) (ix2 0 k) = m ((c : Thread nD τ).loc main_arg5) (ix1 k) := by
  have h : (show FVec Ideal S1x512 .f32 from V m c main_v2) (ix2 0 k) = m ((c : Thread nD τ).loc main_arg5) (ix1 k) := by
    entry_read
    pointwise
  refine Eq.trans ?_ h
  blk_ext [iblk, (idx t).2.2.2.2.2.1]

theorem w_at (c : Dev nD) (t : Fin cfg0.N) (k n : Fin 1024) :
    (show FVec Ideal S1024x1024 .bf16 from iblk m c 6 t) (ix2 k n) = m ((c : Thread nD τ).loc main_arg6) (ix2 k n) := by
  have h : (show FVec Ideal S1024x1024 .bf16 from V m c main_v0) (ix2 k n) = m ((c : Thread nD τ).loc main_arg6) (ix2 k n) := by
    entry_read
    pointwise
  refine Eq.trans ?_ h
  blk_ext [iblk, (idx t).2.2.2.2.2.2.1]

/-- The result array. -/
def result (c : Dev nD) : FVec Ideal S8x2048x1024 .f32 := fun i =>
  projected (fun k => m ((c : Thread nD τ).loc main_arg0) (ix3 (Fin.castLE (by decide) (i 0 : Fin 8)) (i 1) k))
    (fun k => m ((c : Thread nD τ).loc main_arg1) (ix3 (Fin.castLE (by decide) (i 0 : Fin 8)) (i 1) k))
    (fun k => m ((c : Thread nD τ).loc main_arg2) (ix3 (Fin.castLE (by decide) (i 0 : Fin 8)) (i 1) k))
    (fun k => m ((c : Thread nD τ).loc main_arg4) (ix1 k)) (fun k => m ((c : Thread nD τ).loc main_arg5) (ix1 k))
    (fun k => m ((c : Thread nD τ).loc main_arg3) (ix3 (Fin.castLE (by decide) (i 0 : Fin 8)) 0 ⟨5120 + k.val, by omega⟩))
    (fun k n => m ((c : Thread nD τ).loc main_arg6) (ix2 k n)) (i 2)

/-- What a point's body leaves at row `i`, channel `n` of its block. -/
theorem block_at (c : Dev nD) (t : Fin cfg0.N) (i : Fin 512) (n : Fin 1024) (a : Fin 8) (r : Fin 2048)
    (ha : a.val = t.val / 4) (hr : r.val = t.val % 4 * 512 + i.val) (j : S1x512x1024.Idx) (hj : j = ix3 0 i n) :
    out0_7 (iblk m c 0 t) (iblk m c 1 t) (iblk m c 2 t) (iblk m c 3 t) (iblk m c 4 t) (iblk m c 5 t) (iblk m c 6 t) j = result m c (ix3 a r n) := by
  subst hj
  unfold out0_7
  frame_out
  refine (Kernel.stored_at _ _ _ _ _ _ _ _ _ i n).trans ?_
  show projected _ _ _ _ _ _ _ _ = projected _ _ _ _ _ _ _ _
  congr 1
  · exact funext fun k => x_at m c t i k _ r ha hr
  · exact funext fun k => oa_at m c t i k _ r ha hr
  · exact funext fun k => ob_at m c t i k _ r ha hr
  · exact funext fun k => ga_at m c t k
  · exact funext fun k => gb_at m c t k
  · exact funext fun k => mod_at m c t _ _ _ ha (by show 5120 + _ = 3072 + (2048 + _); omega)
  · exact funext fun k => funext fun n => w_at m c t k n

theorem emb_at (t : Fin cfg0.N) (i : Fin 512) (n : Fin 1024) (a : Fin 8) (r : Fin 2048)
    (ha : a.val = t.val / 4) (hr : r.val = t.val % 4 * 512 + i.val)
    (y : S1x512x1024.Idx) (h1 : (y 1).val = i.val) (h2 : (y 2).val = n.val) :
    ((View.whole main_v3).slice (win0_7.rect t)).emb y = (ix3 a r n : S8x2048x1024.Idx) := by
  blk_ext [(idx t).2.2.2.2.2.2.2]

theorem final (c : Dev nD) : (dats m 0 c).arrAt 7 (cfgs 0).N = result m c := by
  refine (dats m 0 c).arrAt_eq_of_covers 7 _ (by decide +kernel) (fun t hf y => ?_)
  blk_simp; rw [after0_7]
  have ht : t.val < 32 := lt_of_lt_of_eq t.isLt N_0
  have h1 : (y 1).val < 512 := (y 1).isLt
  have h2 : (y 2).val < 1024 := (y 2).isLt
  rw [emb_at t ⟨(y 1).val, h1⟩ ⟨(y 2).val, h2⟩ ⟨t.val / 4, by omega⟩ ⟨t.val % 4 * 512 + (y 1).val, by omega⟩
    rfl rfl y rfl rfl]
  exact block_at m c t ⟨(y 1).val, h1⟩ ⟨(y 2).val, h2⟩ _ _ rfl rfl y (by blk_ext)

end Cert.Out.Last

end
-- ==== Proof.Out.LastRef.lean ====
/- The reference of the last projection, entry by entry. -/
module

public import proofs.«01_k».proof.Proof.Gen.OutLastRefIdeal.Read
public import proofs.«01_k».proof.Proof.Out.Spec

@[expose] public section

set_option maxRecDepth 16384
noncomputable section

namespace Cert.Out.LastRef
open Idealize.ShloMosaic Idealize.ShloMosaic.TcCoe Idealize.SL.Sem
open Cert.OutLastRefIdeal Cert.OutLastRefIdeal.Read

variable (x : FVec Ideal S9x2048x1024 .f32) (oa ob : FVec Ideal S9x2048x512 .f32) (md : FVec Ideal S16x1x9216 .f32)
  (ga gb : FVec Ideal S512 .f32) (w : FVec Ideal S1024x1024 .f32)

theorem first_at (a : Fin 8) (r : Fin 2048) (k : Fin 512) :
    val_main_v25 (F := Ideal) oa ga (ix3 a r k) = normed (fun k => oa (ix3 ⟨a.val, by omega⟩ r k)) (fun k => ga (ix1 k)) k := by
  pointwise [val_main_v1, val_main_v13, val_main_cst, val_main_v14, val_main_v15, val_main_cst_0, val_main_v16, val_main_v17, val_main_cst_1, val_main_v18, val_main_v19, val_main_v20, val_main_v21, val_main_v22, val_main_v23, val_main_v24, val_main_v25, val_main_cst_2, val_main_cst_3, val_main_v29, val_main_cst_4, val_main_v31]
  rfl

theorem second_at (a : Fin 8) (r : Fin 2048) (k : Fin 512) :
    val_main_v38 (F := Ideal) ob gb (ix3 a r k) = normed (fun k => ob (ix3 ⟨a.val, by omega⟩ r k)) (fun k => gb (ix1 k)) k := by
  pointwise [val_main_v2, val_main_cst, val_main_cst_0, val_main_v16, val_main_cst_1, val_main_v18, val_main_v26, val_main_cst_2, val_main_v27, val_main_v28, val_main_cst_3, val_main_v29, val_main_v30, val_main_cst_4, val_main_v31, val_main_v32, val_main_v33, val_main_v34, val_main_v35, val_main_v36, val_main_v37, val_main_v38]
  rfl

/-- The first half of the concatenated row. -/
theorem low_at (a : Fin 8) (r : Fin 2048) (k : Fin 512) :
    val_main_v39 (F := Ideal) oa ob ga gb (ix3 a r ⟨k.val, by omega⟩) = val_main_v25 (F := Ideal) oa ga (ix3 a r k) := by
  unfold val_main_v39
  have h : k.val < 512 := k.isLt
  pointwise
  blk_ext

/-- The second half of the concatenated row. -/
theorem high_at (a : Fin 8) (r : Fin 2048) (k : Fin 512) :
    val_main_v39 (F := Ideal) oa ob ga gb (ix3 a r ⟨512 + k.val, by omega⟩) = val_main_v38 (F := Ideal) ob gb (ix3 a r k) := by
  unfold val_main_v39
  pointwise
  blk_ext

/-- The product and the residual. -/
theorem out_at (a : Fin 8) (r : Fin 2048) (n : Fin 1024) :
    val_main_v43 (F := Ideal) x oa ob md ga gb w (ix3 a r n)
      = x (ix3 ⟨a.val, by omega⟩ r n) + md (ix3 ⟨a.val, by omega⟩ 0 ⟨5120 + n.val, by omega⟩)
          * ∑ k, val_main_v39 (F := Ideal) oa ob ga gb (ix3 a r k) * w (ix2 k n) := by
  pointwise [val_main_v40, val_main_v41, val_main_v42, val_main_v43, val_main_v0, val_main_v3, val_main_v4, val_main_v5, val_main_v6, val_main_v7, val_main_v8, val_main_v9, val_main_v10, val_main_v11, val_main_v12]

/-- The reference's result, entry by entry. -/
theorem result_at (a : Fin 8) (r : Fin 2048) (n : Fin 1024) :
    val_main_v43 (F := Ideal) x oa ob md ga gb w (ix3 a r n)
      = projected (fun k => x (ix3 ⟨a.val, by omega⟩ r k)) (fun k => oa (ix3 ⟨a.val, by omega⟩ r k))
          (fun k => ob (ix3 ⟨a.val, by omega⟩ r k)) (fun k => ga (ix1 k)) (fun k => gb (ix1 k))
          (fun k => md (ix3 ⟨a.val, by omega⟩ 0 ⟨5120 + k.val, by omega⟩)) (fun k n => w (ix2 k n)) n := by
  rw [out_at, sum_halves]
  simp only [low_at, high_at, first_at, second_at]
  rfl

end Cert.Out.LastRef
end
-- ==== Proof.Out.LastClaims.lean ====
/- The claims about the last projection. -/
module

public import proofs.«01_k».proof.Defs
public import proofs.«01_k».proof.Proof.Gen.OutLast.Frame
public import proofs.«01_k».proof.Proof.Gen.OutLastRefIdeal.Run
public import proofs.«01_k».proof.Proof.Out.LastFinal
public import proofs.«01_k».proof.Proof.Out.LastRef

@[expose] public section

noncomputable section

namespace Cert.Out.Last

open Idealize.ShloMosaic Idealize.ShloMosaic.TcCoe Idealize.SL.Sem

theorem frame : Cert.quiescent_OutLast := fun m g _ => Cert.OutLast.Gen.frame m g

theorem frame_ideal : Cert.quiescent_OutLastIdeal := fun m g _ => Cert.OutLastIdeal.Gen.frame m g

theorem frame_ref : Cert.quiescent_OutLastRefIdeal := fun m g _ =>
  (θ_run _ _ _).mono (fun r h => ⟨fun c => (h c).2, sem_eq_zero_of_no_sems (by decide) r.2⟩)
    (Cert.OutLastRefIdeal.Value.run m g)

theorem algebraic : Cert.algebraic_OutLastIdeal_OutLastRefIdeal := by
  intro m g m' g' _ hagree
  refine ⟨fun c => result m c, ?_, ?_⟩
  · refine (θ_run _ _ _).mono (fun r h c => ?_) (Cert.OutLastIdeal.Value.run_blocks m g)
    obtain ⟨h0, hk⟩ := h c
    exact ⟨h0.trans (final m c), hk⟩
  · refine (θ_run _ _ _).mono (fun r h c => ?_) (Cert.OutLastRefIdeal.Value.run m' g')
    obtain ⟨h0, hk⟩ := h c
    obtain ⟨e0, e1, e2, e3, e4, e5, e6⟩ := hagree c
    refine ⟨h0.trans ?_, hk⟩
    rw [Cert.OutLastRefIdeal.Read.val_main_v43_eq, e0, e1, e2, e3, e4, e5, e6]
    funext i
    refine Eq.trans (congrArg _ ?_) (LastRef.result_at _ _ _ _ _ _ _ (i 0) (i 1) (i 2))
    funext a; fin_cases a <;> rfl

end Cert.Out.Last

end
-- ==== Proof.In.Spec.lean ====
/- The input projection as formulas per entry: the modulated norm of a token, its product with the matrix, the norm of a
   head and its turn by an angle; and the kernel's order of the last two. -/
module

public import proofs.«01_k».proof.Proof.Attn.Softmax

@[expose] public section

noncomputable section

namespace Cert.In.Spec

open Idealize.ShloMosaic Cert.Attn

/-- A token over its root mean square, times the gain `g`, scaled and shifted. -/
def hidden (x g shift scale : Fin 1024 → EReal) (k : Fin 1024) : EReal :=
  x k * Ideal.rsqrt (Ideal.div (∑ a, x a * x a) (Ideal.ofBits .f32 0x44800000#32) + Ideal.ofBits .f32 0x358637BD#32) * g k
    * (1 + scale k) + shift k

/-- Column `n` of a token's product with the matrix. -/
def proj (h : Fin 1024 → EReal) (w : Fin 1024 → Fin 2304 → EReal) (n : Fin 2304) : EReal := ∑ k, h k * w k n

/-- A head over its root mean square, times the gain `g`. -/
def headNorm (v g : Fin 64 → EReal) (d : Fin 64) : EReal :=
  v d * Ideal.rsqrt (Ideal.div (∑ a, v a * v a) (Ideal.ofBits .f32 0x42800000#32) + Ideal.ofBits .f32 0x358637BD#32) * g d

/-- The lane 16 above, and the lane 16 below. -/
def up (d : Fin 64) : Fin 64 := ⟨(d.val + 16) % 64, Nat.mod_lt _ (by omega)⟩
def down (d : Fin 64) : Fin 64 := ⟨(d.val + 48) % 64, Nat.mod_lt _ (by omega)⟩

/-- The turn of each pair of lanes by an angle with cosine `C` and sine `S`. -/
def turn (n C S : Fin 64 → EReal) (d : Fin 64) : EReal :=
  if d.val % 32 < 16 then n d * C d - n (up d) * S d else n d * C d + n (down d) * S d

/-- An angle's table over the lanes: the row's in the lower half, the column's in the upper one, one frequency per pair. -/
def lanes (row col : Fin 16 → EReal) (d : Fin 64) : EReal :=
  if d.val < 32 then row ⟨d.val % 16, Nat.mod_lt _ (by omega)⟩ else col ⟨d.val % 16, Nat.mod_lt _ (by omega)⟩

/-- A turned head, quarter by quarter. -/
theorem turn_of_quarters (n t : Fin 64 → EReal) (c s c' s' : Fin 16 → EReal)
    (h0 : ∀ j : Fin 16, t ⟨j.val, by omega⟩ = n ⟨j.val, by omega⟩ * c j - n ⟨16 + j.val, by omega⟩ * s j)
    (h1 : ∀ j : Fin 16, t ⟨16 + j.val, by omega⟩ = n ⟨16 + j.val, by omega⟩ * c j + n ⟨j.val, by omega⟩ * s j)
    (h2 : ∀ j : Fin 16, t ⟨32 + j.val, by omega⟩ = n ⟨32 + j.val, by omega⟩ * c' j - n ⟨48 + j.val, by omega⟩ * s' j)
    (h3 : ∀ j : Fin 16, t ⟨48 + j.val, by omega⟩ = n ⟨48 + j.val, by omega⟩ * c' j + n ⟨32 + j.val, by omega⟩ * s' j)
    (d : Fin 64) : t d = turn n (lanes c c') (lanes s s') d := by
  obtain ⟨d, hd⟩ := d
  unfold turn lanes up down
  have e16 : (d % 16) < 16 := Nat.mod_lt _ (by omega)
  by_cases hl : d < 32 <;> by_cases hm : d % 32 < 16 <;> simp only [hl, hm, if_true, if_false]
  · have := h0 ⟨d % 16, e16⟩
    simp only [show d % 16 = d by omega, show (d + 16) % 64 = 16 + d by omega] at this ⊢
    exact this
  · have := h1 ⟨d % 16, e16⟩
    simp only [show 16 + d % 16 = d by omega, show (d + 48) % 64 = d % 16 by omega] at this ⊢
    exact this
  · have := h2 ⟨d % 16, e16⟩
    simp only [show 32 + d % 16 = d by omega, show (d + 16) % 64 = 48 + d % 16 by omega] at this ⊢
    exact this
  · have := h3 ⟨d % 16, e16⟩
    simp only [show 48 + d % 16 = d by omega, show (d + 48) % 64 = 32 + d % 16 by omega] at this ⊢
    exact this

/-- The kernel's norm of a head: the squares in two summands, the mean by a product. -/
def kerNorm (v g : Fin 64 → EReal) (d : Fin 64) : EReal :=
  v d * Ideal.rsqrt (((∑ a, v a * v a) + ∑ a, (v a * v a - v a * v a)) * Ideal.ofBits .f32 0x3C800000#32
    + Ideal.ofBits .f32 0x358637BD#32) * g d

/-- The kernel's turn, the sign in the sine. -/
def kerTurn (y c s : Fin 64 → EReal) (d : Fin 64) : EReal :=
  y d * c d + (if d.val % 32 < 16 then y (up d) else y (down d)) * s d

theorem word_64 : Ideal.ofBits .f32 0x42800000#32 = ((64 : ℝ) : EReal) := by
  simp [Ideal.ofBits, Ideal.ieee, -EReal.coe_mul]; norm_num

theorem word_1_64 : Ideal.ofBits .f32 0x3C800000#32 = (((64 : ℝ)⁻¹ : ℝ) : EReal) := by
  simp [Ideal.ofBits, Ideal.ieee, -EReal.coe_mul]; norm_num

theorem word_8 : Ideal.ofBits .f32 0x3E000000#32 = (((8 : ℝ)⁻¹ : ℝ) : EReal) := by
  simp [Ideal.ofBits, Ideal.ieee, -EReal.coe_mul]; norm_num

theorem word_1024 : Ideal.ofBits .f32 0x44800000#32 = ((1024 : ℝ) : EReal) := by
  simp [Ideal.ofBits, Ideal.ieee, -EReal.coe_mul]; norm_num

theorem word_eps : ∃ r : ℝ, 0 < r ∧ Ideal.ofBits .f32 0x358637BD#32 = (r : EReal) := by
  refine ⟨8796093 * 2 ^ (-43 : ℤ), by positivity, ?_⟩
  simp [Ideal.ofBits, Ideal.ieee, -EReal.coe_mul]

theorem div_coe (x : EReal) (r : ℝ) (hr : r ≠ 0) : Ideal.div x (r : EReal) = x * ((r⁻¹ : ℝ) : EReal) := by
  unfold Ideal.div
  rw [if_neg (by exact_mod_cast hr), EReal.coe_inv]

/-- A finite head: the kernel's norm is the plain one. -/
theorem kerNorm_eq (v g : Fin 64 → EReal) (hv : ∀ a, Fin' (v a)) (d : Fin 64) : kerNorm v g d = headNorm v g d := by
  unfold kerNorm headNorm
  have h0 : ∀ a, v a * v a - v a * v a = 0 := fun a => by
    obtain ⟨r, h⟩ := (hv a).coe
    rw [h, ← EReal.coe_mul, ← EReal.coe_sub, sub_self]; rfl
  rw [Finset.sum_congr rfl fun a _ => h0 a, Finset.sum_const_zero, add_zero, word_64, div_coe _ _ (by norm_num), word_1_64]

/-- The gain's factor `k` taken out of the norm. -/
theorem kerNorm_scaled (v g : Fin 64 → EReal) (hv : ∀ a, Fin' (v a)) (k : EReal) (d : Fin 64) :
    kerNorm v (fun a => g a * k) d = headNorm v g d * k := by
  rw [kerNorm_eq v _ hv]
  unfold headNorm
  rw [mul_assoc, mul_assoc, mul_assoc]

/-- A nonnegative real factor taken out of the turn. -/
theorem kerTurn_eq (n C S : Fin 64 → EReal) (k : ℝ) (hk : 0 ≤ k) (d : Fin 64) :
    kerTurn (fun a => n a * (k : EReal)) C (fun a => if a.val % 32 < 16 then - S a else S a) d = turn n C S d * (k : EReal) := by
  unfold kerTurn turn
  have dist : ∀ a b : EReal, (a + b) * (k : EReal) = a * k + b * k := fun a b =>
    EReal.right_distrib_of_nonneg_of_ne_top (EReal.coe_nonneg.2 hk) (EReal.coe_ne_top k) a b
  by_cases h : d.val % 32 < 16
  · simp only [h, if_true]
    rw [sub_eq_add_neg, dist, mul_neg, neg_mul, mul_right_comm, mul_right_comm (n (up d))]
  · simp only [h, if_false]
    rw [dist, mul_right_comm, mul_right_comm (n (down d))]

/-- Without a turn. -/
theorem kerTurn_still (y : Fin 64 → EReal) (d : Fin 64) :
    kerTurn y (fun _ => 1) (fun _ => 0) d = y d := by
  unfold kerTurn
  rw [mul_one, mul_zero, add_zero]

/-- The same turn without a factor. -/
theorem kerTurn_plain (n C S : Fin 64 → EReal) (d : Fin 64) :
    kerTurn n C (fun a => if a.val % 32 < 16 then - S a else S a) d = turn n C S d := by
  have h := kerTurn_eq n C S 1 zero_le_one d
  simpa only [EReal.coe_one, mul_one] using h

theorem square_nonneg (x : EReal) : 0 ≤ x * x := by
  induction x with
  | bot => rw [EReal.bot_mul_bot]; exact le_top
  | top => rw [EReal.top_mul_top]; exact le_top
  | coe r => rw [← EReal.coe_mul]; exact EReal.coe_nonneg.2 (mul_self_nonneg r)

/-- A token over its root mean square is finite, the token finite or not: an infinite one has the root 0. -/
theorem token_finite (x : Fin 1024 → EReal) (k : Fin 1024) : Fin' (x k * Ideal.rsqrt
    (Ideal.div (∑ a, x a * x a) (Ideal.ofBits .f32 0x44800000#32) + Ideal.ofBits .f32 0x358637BD#32)) := by
  obtain ⟨e, he, hw⟩ := word_eps
  rw [word_1024, div_coe _ _ (by norm_num), hw]
  by_cases hx : ∀ a, Fin' (x a)
  · choose r hr using fun a => (hx a).coe
    have hsum : (∑ a, x a * x a) = ((∑ a, r a * r a : ℝ) : EReal) := by
      rw [Finset.sum_congr rfl fun a _ => by rw [hr a, ← EReal.coe_mul]]
      exact (map_sum (⟨⟨(↑), rfl⟩, EReal.coe_add⟩ : ℝ →+ EReal) (fun a => r a * r a) _).symm
    have hpos : 0 < (∑ a, r a * r a) * (1024 : ℝ)⁻¹ + e :=
      add_pos_of_nonneg_of_pos (mul_nonneg (Finset.sum_nonneg fun a _ => mul_self_nonneg _) (by norm_num)) he
    refine (hx k).mul ?_
    rw [hsum, ← EReal.coe_mul, ← EReal.coe_add]
    show Fin' (if _ < 0 then ⊥ else if _ = 0 then ⊤ else ((_ : ℝ) : EReal))
    rw [if_neg hpos.not_gt, if_neg hpos.ne']
    exact Fin'.of_coe _
  · push Not at hx
    obtain ⟨a, ha⟩ := hx
    have hsq : x a * x a = ⊤ := by
      induction h : x a with
      | bot => exact EReal.bot_mul_bot
      | top => exact EReal.top_mul_top
      | coe r => exact absurd (h ▸ Fin'.of_coe r) ha
    have hsum : (∑ a, x a * x a) = ⊤ := by
      refine top_le_iff.1 ?_
      rw [← hsq]
      exact Finset.single_le_sum (f := fun a => x a * x a) (fun a _ => square_nonneg _) (Finset.mem_univ a)
    rw [hsum, EReal.top_mul_coe_of_pos (by norm_num), EReal.top_add_coe]
    show Fin' (x k * 0)
    rw [mul_zero]
    exact Fin'.of_coe 0

/-- The modulated norm of a token is finite when the gain, the shift and the scale are. -/
theorem hidden_finite (x g shift scale : Fin 1024 → EReal) (hg : ∀ a, Fin' (g a))
    (hs : ∀ a, Fin' (shift a)) (hc : ∀ a, Fin' (scale a)) (k : Fin 1024) : Fin' (hidden x g shift scale k) :=
  (((token_finite x k).mul (hg k)).mul ((Fin'.of_coe 1 : Fin' (1 : EReal)).add (hc k))).add (hs k)

theorem proj_finite (h : Fin 1024 → EReal) (w : Fin 1024 → Fin 2304 → EReal) (n : Fin 2304) (hh : ∀ k, Fin' (h k))
    (hw : ∀ k, Fin' (w k n)) : Fin' (proj h w n) :=
  Fin'.sum _ _ fun k => (hh k).mul (hw k)

end Cert.In.Spec

end
-- ==== Proof.In.Ref.lean ====
/- The reference of the input projection, entry by entry. -/
module

public import proofs.«01_k».proof.Proof.Gen.InRefIdeal.Read
public import proofs.«01_k».proof.Proof.In.Spec

@[expose] public section

set_option maxRecDepth 16384
noncomputable section

namespace Cert.In.Ref
open Idealize.ShloMosaic Idealize.ShloMosaic.TcCoe Idealize.SL.Sem
open Cert.InRefIdeal Cert.InRefIdeal.Read Cert.In.Spec

variable (x : FVec Ideal S9x2048x1024 .f32) (md : FVec Ideal S16x1x9216 .f32) (g : FVec Ideal S1024 .f32)
  (w : FVec Ideal S1024x2304 .f32) (gq gk : FVec Ideal S64 .f32)

/-- The modulated norm. -/
theorem hidden_at (b : Fin 9) (r : Fin 2048) (k : Fin 1024) :
    val_main_v28 (F := Ideal) x md g (ix3 b r k) = hidden (fun k => x (ix3 b r k)) (fun k => g (ix1 k))
      (fun k => md (ix3 ⟨b.val, by omega⟩ 0 ⟨3072 + k.val, by omega⟩)) (fun k => md (ix3 ⟨b.val, by omega⟩ 0 ⟨4096 + k.val, by omega⟩)) k := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_cst, val_main_cst_0, val_main_cst_1, val_main_cst_10, val_main_cst_11, val_main_cst_12, val_main_cst_13, val_main_cst_14, val_main_cst_15, val_main_cst_2, val_main_cst_4, val_main_cst_5, val_main_cst_6, val_main_cst_7, val_main_cst_8, val_main_cst_9]
  rfl

/-- The projected columns. -/
theorem proj_at (b : Fin 9) (r : Fin 2048) (n : Fin 2304) :
    val_main_v29 (F := Ideal) x md g w (ix3 b r n)
      = proj (fun k => val_main_v28 (F := Ideal) x md g (ix3 b r k)) (fun k n => w (ix2 k n)) n := by
  pointwise [val_main_v29]
  rfl

/-- The turns' tables of the token in row `r` of its group. -/
def cosine (r : Fin 2048) : Fin 64 → EReal :=
  lanes (fun j => val_main_v61 (F := Ideal) (ix2 r j)) (fun j => val_main_v63 (F := Ideal) (ix2 r j))
def sine (r : Fin 2048) : Fin 64 → EReal :=
  lanes (fun j => val_main_v62 (F := Ideal) (ix2 r j)) (fun j => val_main_v64 (F := Ideal) (ix2 r j))

/-! The query heads. -/

theorem query_norm_at (b : Fin 9) (e : Fin 8) (r : Fin 2048) (d : Fin 64) :
    val_main_v81 (F := Ideal) x md g w gq (ix4 b e r d)
      = headNorm (fun a => val_main_v33 (F := Ideal) x md g w (ix3 b r ⟨e.val * 64 + a.val, by omega⟩)) (fun a => gq (ix1 a)) d := by
  pointwise [val_main_v67, val_main_v68, val_main_v69, val_main_v70, val_main_v71, val_main_v72, val_main_v73, val_main_v74, val_main_v75, val_main_v76, val_main_v77, val_main_v78, val_main_v79, val_main_v80, val_main_v81, val_main_cst, val_main_cst_0, val_main_cst_1, val_main_cst_10, val_main_cst_11, val_main_cst_12, val_main_cst_13, val_main_cst_14, val_main_cst_15, val_main_cst_2, val_main_cst_4, val_main_cst_5, val_main_cst_6, val_main_cst_7, val_main_cst_8, val_main_cst_9]
  rfl

/-- The four quarters of a turned head. -/
theorem query_quarter0_at (b : Fin 8) (e : Fin 8) (r : Fin 2048) (j : Fin 16) :
    val_main_v119 (F := Ideal) x md g w gq (ix4 b e r ⟨j.val, by omega⟩)
      = val_main_v81 (F := Ideal) x md g w gq (ix4 ⟨b.val, by omega⟩ e r ⟨j.val, by omega⟩) * val_main_v61 (F := Ideal) (ix2 r j)
        - val_main_v81 (F := Ideal) x md g w gq (ix4 ⟨b.val, by omega⟩ e r ⟨16 + j.val, by omega⟩) * val_main_v62 (F := Ideal) (ix2 r j) := by
  have h : j.val < 32 := by omega
  pointwise [val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119]
  rw [dif_pos h]

theorem query_quarter1_at (b : Fin 8) (e : Fin 8) (r : Fin 2048) (j : Fin 16) :
    val_main_v119 (F := Ideal) x md g w gq (ix4 b e r ⟨16 + j.val, by omega⟩)
      = val_main_v81 (F := Ideal) x md g w gq (ix4 ⟨b.val, by omega⟩ e r ⟨16 + j.val, by omega⟩) * val_main_v61 (F := Ideal) (ix2 r j)
        + val_main_v81 (F := Ideal) x md g w gq (ix4 ⟨b.val, by omega⟩ e r ⟨j.val, by omega⟩) * val_main_v62 (F := Ideal) (ix2 r j) := by
  have h : 16 + j.val < 32 := by omega
  pointwise [val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119]
  rw [dif_pos h]

theorem query_quarter2_at (b : Fin 8) (e : Fin 8) (r : Fin 2048) (j : Fin 16) :
    val_main_v119 (F := Ideal) x md g w gq (ix4 b e r ⟨32 + j.val, by omega⟩)
      = val_main_v81 (F := Ideal) x md g w gq (ix4 ⟨b.val, by omega⟩ e r ⟨32 + j.val, by omega⟩) * val_main_v63 (F := Ideal) (ix2 r j)
        - val_main_v81 (F := Ideal) x md g w gq (ix4 ⟨b.val, by omega⟩ e r ⟨48 + j.val, by omega⟩) * val_main_v64 (F := Ideal) (ix2 r j) := by
  pointwise [val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119]
  simp only [show 32 + (16 + j.val) = 48 + j.val by omega]

theorem query_quarter3_at (b : Fin 8) (e : Fin 8) (r : Fin 2048) (j : Fin 16) :
    val_main_v119 (F := Ideal) x md g w gq (ix4 b e r ⟨48 + j.val, by omega⟩)
      = val_main_v81 (F := Ideal) x md g w gq (ix4 ⟨b.val, by omega⟩ e r ⟨48 + j.val, by omega⟩) * val_main_v63 (F := Ideal) (ix2 r j)
        + val_main_v81 (F := Ideal) x md g w gq (ix4 ⟨b.val, by omega⟩ e r ⟨32 + j.val, by omega⟩) * val_main_v64 (F := Ideal) (ix2 r j) := by
  pointwise [val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119]
  simp only [show ¬ 48 + j.val < 16 by omega, show ¬ 48 + j.val < 32 by omega, show 48 + j.val - 32 - 16 = j.val by omega, show ¬ 48 + j.val - 32 < 16 by omega,
    dif_neg, not_false_eq_true, show 32 + (16 + j.val) = 48 + j.val by omega]

theorem query_turn_at (b : Fin 8) (e : Fin 8) (r : Fin 2048) (d : Fin 64) :
    val_main_v119 (F := Ideal) x md g w gq (ix4 b e r d)
      = turn (fun a => val_main_v81 (F := Ideal) x md g w gq (ix4 ⟨b.val, by omega⟩ e r a)) (cosine r) (sine r) d :=
  turn_of_quarters _ (fun a => val_main_v119 (F := Ideal) x md g w gq (ix4 b e r a)) _ _ _ _
    (query_quarter0_at x md g w gq b e r) (query_quarter1_at x md g w gq b e r) (query_quarter2_at x md g w gq b e r)
    (query_quarter3_at x md g w gq b e r) d

theorem query_latent_at (b : Fin 8) (r : Fin 2048) (n : Fin 512) :
    val_main_v123 (F := Ideal) x md g w gq (ix3 ⟨b.val, by omega⟩ r n)
      = val_main_v119 (F := Ideal) x md g w gq (ix4 b ⟨n.val / 64, by omega⟩ r ⟨n.val % 64, by omega⟩) := by
  pointwise [val_main_v120, val_main_v121, val_main_v122, val_main_v123]

theorem query_context_at (r : Fin 2048) (n : Fin 512) :
    val_main_v123 (F := Ideal) x md g w gq (ix3 ⟨8, by omega⟩ r n)
      = val_main_v81 (F := Ideal) x md g w gq (ix4 8 ⟨n.val / 64, by omega⟩ r ⟨n.val % 64, by omega⟩) := by
  pointwise [val_main_v120, val_main_v121, val_main_v122, val_main_v123]

/-! The key heads. -/

theorem key_norm_at (b : Fin 9) (e : Fin 2) (r : Fin 2048) (d : Fin 64) :
    val_main_v140 (F := Ideal) x md g w gk (ix4 b e r d)
      = headNorm (fun a => val_main_v34 (F := Ideal) x md g w (ix3 b r ⟨e.val * 64 + a.val, by omega⟩)) (fun a => gk (ix1 a)) d := by
  pointwise [val_main_v126, val_main_v127, val_main_v128, val_main_v129, val_main_v130, val_main_v131, val_main_v132, val_main_v133, val_main_v134, val_main_v135, val_main_v136, val_main_v137, val_main_v138, val_main_v139, val_main_v140, val_main_cst, val_main_cst_0, val_main_cst_1, val_main_cst_10, val_main_cst_11, val_main_cst_12, val_main_cst_13, val_main_cst_14, val_main_cst_15, val_main_cst_2, val_main_cst_4, val_main_cst_5, val_main_cst_6, val_main_cst_7, val_main_cst_8, val_main_cst_9]
  rfl

/-- The four quarters of a turned head. -/
theorem key_quarter0_at (b : Fin 8) (e : Fin 2) (r : Fin 2048) (j : Fin 16) :
    val_main_v178 (F := Ideal) x md g w gk (ix4 b e r ⟨j.val, by omega⟩)
      = val_main_v140 (F := Ideal) x md g w gk (ix4 ⟨b.val, by omega⟩ e r ⟨j.val, by omega⟩) * val_main_v61 (F := Ideal) (ix2 r j)
        - val_main_v140 (F := Ideal) x md g w gk (ix4 ⟨b.val, by omega⟩ e r ⟨16 + j.val, by omega⟩) * val_main_v62 (F := Ideal) (ix2 r j) := by
  have h : j.val < 32 := by omega
  pointwise [val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178]
  rw [dif_pos h]

theorem key_quarter1_at (b : Fin 8) (e : Fin 2) (r : Fin 2048) (j : Fin 16) :
    val_main_v178 (F := Ideal) x md g w gk (ix4 b e r ⟨16 + j.val, by omega⟩)
      = val_main_v140 (F := Ideal) x md g w gk (ix4 ⟨b.val, by omega⟩ e r ⟨16 + j.val, by omega⟩) * val_main_v61 (F := Ideal) (ix2 r j)
        + val_main_v140 (F := Ideal) x md g w gk (ix4 ⟨b.val, by omega⟩ e r ⟨j.val, by omega⟩) * val_main_v62 (F := Ideal) (ix2 r j) := by
  have h : 16 + j.val < 32 := by omega
  pointwise [val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178]
  rw [dif_pos h]

theorem key_quarter2_at (b : Fin 8) (e : Fin 2) (r : Fin 2048) (j : Fin 16) :
    val_main_v178 (F := Ideal) x md g w gk (ix4 b e r ⟨32 + j.val, by omega⟩)
      = val_main_v140 (F := Ideal) x md g w gk (ix4 ⟨b.val, by omega⟩ e r ⟨32 + j.val, by omega⟩) * val_main_v63 (F := Ideal) (ix2 r j)
        - val_main_v140 (F := Ideal) x md g w gk (ix4 ⟨b.val, by omega⟩ e r ⟨48 + j.val, by omega⟩) * val_main_v64 (F := Ideal) (ix2 r j) := by
  pointwise [val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178]
  simp only [show 32 + (16 + j.val) = 48 + j.val by omega]

theorem key_quarter3_at (b : Fin 8) (e : Fin 2) (r : Fin 2048) (j : Fin 16) :
    val_main_v178 (F := Ideal) x md g w gk (ix4 b e r ⟨48 + j.val, by omega⟩)
      = val_main_v140 (F := Ideal) x md g w gk (ix4 ⟨b.val, by omega⟩ e r ⟨48 + j.val, by omega⟩) * val_main_v63 (F := Ideal) (ix2 r j)
        + val_main_v140 (F := Ideal) x md g w gk (ix4 ⟨b.val, by omega⟩ e r ⟨32 + j.val, by omega⟩) * val_main_v64 (F := Ideal) (ix2 r j) := by
  pointwise [val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178]
  simp only [show ¬ 48 + j.val < 16 by omega, show ¬ 48 + j.val < 32 by omega, show 48 + j.val - 32 - 16 = j.val by omega, show ¬ 48 + j.val - 32 < 16 by omega,
    dif_neg, not_false_eq_true, show 32 + (16 + j.val) = 48 + j.val by omega]

theorem key_turn_at (b : Fin 8) (e : Fin 2) (r : Fin 2048) (d : Fin 64) :
    val_main_v178 (F := Ideal) x md g w gk (ix4 b e r d)
      = turn (fun a => val_main_v140 (F := Ideal) x md g w gk (ix4 ⟨b.val, by omega⟩ e r a)) (cosine r) (sine r) d :=
  turn_of_quarters _ (fun a => val_main_v178 (F := Ideal) x md g w gk (ix4 b e r a)) _ _ _ _
    (key_quarter0_at x md g w gk b e r) (key_quarter1_at x md g w gk b e r) (key_quarter2_at x md g w gk b e r)
    (key_quarter3_at x md g w gk b e r) d

theorem key_latent_at (b : Fin 8) (r : Fin 2048) (n : Fin 128) :
    val_main_v182 (F := Ideal) x md g w gk (ix3 ⟨b.val, by omega⟩ r n)
      = val_main_v178 (F := Ideal) x md g w gk (ix4 b ⟨n.val / 64, by omega⟩ r ⟨n.val % 64, by omega⟩) := by
  pointwise [val_main_v179, val_main_v180, val_main_v181, val_main_v182]

theorem key_context_at (r : Fin 2048) (n : Fin 128) :
    val_main_v182 (F := Ideal) x md g w gk (ix3 ⟨8, by omega⟩ r n)
      = val_main_v140 (F := Ideal) x md g w gk (ix4 8 ⟨n.val / 64, by omega⟩ r ⟨n.val % 64, by omega⟩) := by
  pointwise [val_main_v179, val_main_v180, val_main_v181, val_main_v182]

end Cert.In.Ref
end
-- ==== Proof.In.Payload.lean ====
/- What one point of the input projection stores, entry by entry. -/
module

public import proofs.«01_k».proof.Proof.Gen.InIdeal.Value
public import proofs.«01_k».proof.Proof.In.Spec

@[expose] public section

set_option maxRecDepth 16384

noncomputable section

namespace Cert.In.Kernel

open Idealize.ShloMosaic Idealize.ShloMosaic.TcCoe Idealize.SL.Sem
open Cert.InIdeal Cert.InIdeal.Gen Cert.In.Spec

/-- Lane `d` of head `q` of a 128-lane block. -/
def lane (q : Fin 2) (d : Fin 64) : Fin 128 := ⟨q.val * 64 + d.val, by omega⟩

section Norm
variable (x0 : FVec Ideal S1x512x1024 .f32) (x1 : FVec Ideal S1x1x3072 .f32) (x2 : FVec Ideal S1x1024 .f32)

theorem hidden_at (i : Fin 512) (k : Fin 1024) :
    k0_pay2 (F := Ideal) x0 x1 x2 (ix2 i k) = hidden (fun k => x0 (ix3 0 i k)) (fun k => x2 (ix2 0 k))
      (fun k => x1 (ix3 0 0 ⟨k.val, by omega⟩)) (fun k => x1 (ix3 0 0 ⟨1024 + k.val, by omega⟩)) k := by
  pointwise [k0_pay2]
  rfl

theorem qa_at (w : FVec Ideal S1024x512 .bf16) (i : Fin 512) (n : Fin 512) :
    k0_pay3 (F := Ideal) x0 x1 x2 w (ix3 0 i n) = (∑ k, k0_pay2 (F := Ideal) x0 x1 x2 (ix2 i k) * w (ix2 k n))
      * Ideal.ofBits .f32 0x3E000000#32 := by
  pointwise [k0_pay3]

theorem ka_at (h : FVec Ideal S512x1024 .bf16) (w : FVec Ideal S1024x512 .bf16) (i : Fin 512) (n : Fin 512) :
    k0_pay4 (F := Ideal) h w (ix3 0 i n) = ∑ k, h (ix2 i k) * w (ix2 k n) := by
  pointwise [k0_pay4]

theorem va_at (h : FVec Ideal S512x1024 .bf16) (w : FVec Ideal S1024x512 .bf16) (i : Fin 512) (n : Fin 512) :
    k0_pay5 (F := Ideal) h w (ix3 0 i n) = ∑ k, h (ix2 i k) * w (ix2 k n) := by
  pointwise [k0_pay5]

theorem vb_at (h : FVec Ideal S512x1024 .bf16) (w : FVec Ideal S1024x128 .bf16) (i : Fin 512) (n : Fin 128) :
    k0_pay6 (F := Ideal) h w (ix3 0 i n) = ∑ k, h (ix2 i k) * w (ix2 k n) := by
  pointwise [k0_pay6]

end Norm

section Heads
variable (h : FVec Ideal S512x1024 .bf16) (c s : FVec Ideal S512x128 .f32) (o : FVec Ideal S128x128 .bf16)
  (m : IVec S512x128 1) (g : FVec Ideal S1x128 .f32) (w : FVec Ideal S1024x128 .bf16)

/-- The five head blocks are one function of the projected columns. -/
theorem first_eq (v65 v66 : IVec S512x128 32) (g : FVec Ideal S1x128 .f32) :
    k0_pay15 h c s o v65 v66 g w = k0_pay20 h c s o (k0_pay12 v65 v66) (k0_pay13 g) w := rfl
theorem second_eq : k0_pay17 c s o m g (k0_pay16 h w) = k0_pay20 h c s o m g w := rfl
theorem third_eq : k0_pay19 c s m g (k0_pay18 h o w) = k0_pay20 h c s o m g w := rfl
theorem key_eq : k0_pay1 h c s o m g w = k0_pay20 h c s o m g w := rfl

/-- A normed lane before its turn. -/
def normedLane (P : Fin 128 → EReal) (o : FVec Ideal S128x128 .bf16) (g : FVec Ideal S1x128 .f32) (l : Fin 128) : EReal :=
  P l * Ideal.rsqrt (((∑ a, P a * P a * o (ix2 a l)) + ∑ a, (P a * P a - P a * P a) * o (ix2 a l))
    * Ideal.ofBits .f32 0x3C800000#32 + Ideal.ofBits .f32 0x358637BD#32) * g (ix2 0 l)

theorem block_at (i : Fin 512) (l : Fin 128) (P : Fin 128 → EReal) (hP : ∀ n, P n = ∑ k, h (ix2 i k) * w (ix2 k n)) :
    k0_pay20 h c s o m g w (ix3 0 i l) = normedLane P o g l * c (ix2 i l)
      + (if m (ix2 i l) = 1#1 then normedLane P o g ⟨(l.val + 128 - 16) % 128, by omega⟩
          else normedLane P o g ⟨(l.val + 128 - 112) % 128, by omega⟩) * s (ix2 i l) := by
  obtain rfl : P = fun n => ∑ k, h (ix2 i k) * w (ix2 k n) := funext hP
  pointwise [k0_pay20, normedLane]
  rfl

/-- The lanes' mask: set where the partner lies 16 below. -/
theorem mask_at (i : Fin 512) (q : Fin 2) (d : Fin 64) :
    (k0_pay12 k0_pay10 k0_pay11 (ix2 i (lane q d)) = 1#1) ↔ ¬ d.val % 32 < 16 := by
  have e : k0_pay12 k0_pay10 k0_pay11 (ix2 i (lane q d)) = IntOp.cmpi .ne (IntOp.andi (BitVec.ofNat 32 (lane q d).val) 16#32) 0#32 := by
    pointwise [k0_pay12, k0_pay10, k0_pay11]
  rw [e]
  clear e
  revert q d
  decide +kernel

/-- The ones of a head sum its lanes. -/
theorem ones_sum (ho : ∀ a b, o (ix2 a b) = if a.val / 64 = b.val / 64 then 1 else 0) (X : Fin 128 → EReal) (q : Fin 2) (d : Fin 64) :
    (∑ a, X a * o (ix2 a (lane q d))) = ∑ a, X (lane q a) := by
  simp only [ho, mul_ite, mul_one, mul_zero]
  rw [← Finset.sum_filter]
  have hmem : ∀ a : Fin 128, a ∈ Finset.univ.filter (fun a : Fin 128 => a.val / 64 = (lane q d).val / 64) ↔ a.val / 64 = q.val := fun a =>
    ⟨fun h => (Finset.mem_filter.1 h).2.trans (by show (q.val * 64 + d.val) / 64 = q.val; omega),
      fun h => Finset.mem_filter.2 ⟨Finset.mem_univ _, h.trans (by show q.val = (q.val * 64 + d.val) / 64; omega)⟩⟩
  have hpart : ∀ a : Fin 128, a.val / 64 = q.val → lane q ⟨a.val % 64, Nat.mod_lt _ (by omega)⟩ = a := fun a h =>
    Fin.ext (by show q.val * 64 + a.val % 64 = a.val; omega)
  refine Finset.sum_bij' (fun a _ => ⟨a.val % 64, Nat.mod_lt _ (by omega)⟩) (fun a _ => lane q a) (fun a _ => Finset.mem_univ _)
    (fun a _ => (hmem _).2 (by show (q.val * 64 + a.val) / 64 = q.val; omega)) (fun a ha => hpart a ((hmem a).1 ha))
    (fun a _ => Fin.ext (by show (q.val * 64 + a.val) % 64 = a.val; omega)) (fun a ha => congrArg X (hpart a ((hmem a).1 ha)).symm)

theorem normedLane_eq (ho : ∀ a b, o (ix2 a b) = if a.val / 64 = b.val / 64 then 1 else 0) (P : Fin 128 → EReal) (q : Fin 2)
    (d : Fin 64) : normedLane P o g (lane q d) = kerNorm (fun a => P (lane q a)) (fun a => g (ix2 0 (lane q a))) d := by
  unfold normedLane kerNorm
  rw [ones_sum o ho (fun a => P a * P a), ones_sum o ho (fun a => P a * P a - P a * P a)]

/-- A stored lane: the kernel's norm and turn of its head. -/
theorem head_at (ho : ∀ a b, o (ix2 a b) = if a.val / 64 = b.val / 64 then 1 else 0) (i : Fin 512) (q : Fin 2) (d : Fin 64) :
    k0_pay20 h c s o (k0_pay12 k0_pay10 k0_pay11) g w (ix3 0 i (lane q d))
      = kerTurn (kerNorm (fun a => ∑ k, h (ix2 i k) * w (ix2 k (lane q a))) (fun a => g (ix2 0 (lane q a))))
          (fun a => c (ix2 i (lane q a))) (fun a => s (ix2 i (lane q a))) d := by
  rw [block_at h c s o _ g w i (lane q d) _ fun _ => rfl]
  unfold kerTurn
  by_cases hd : d.val % 32 < 16
  · rw [if_pos hd, if_neg (fun hm => (mask_at i q d).1 hm hd),
      show (⟨((lane q d).val + 128 - 112) % 128, by omega⟩ : Fin 128) = lane q (up d) from Fin.ext (by simp only [lane, up]; omega),
      normedLane_eq o g ho, normedLane_eq o g ho]
  · rw [if_neg hd, if_pos ((mask_at i q d).2 hd),
      show (⟨((lane q d).val + 128 - 16) % 128, by omega⟩ : Fin 128) = lane q (down d) from Fin.ext (by simp only [lane, down]; omega),
      normedLane_eq o g ho, normedLane_eq o g ho]

end Heads

end Cert.In.Kernel

end
-- ==== Proof.In.Tables.lean ====
/- The tables the input projection's host code prepares, entry by entry, in the reference's tables. -/
module

public import proofs.«01_k».proof.Proof.Gen.InIdeal.Value
public import proofs.«01_k».proof.Proof.In.Ref
public import proofs.«01_k».proof.Proof.In.Payload

@[expose] public section

set_option maxRecDepth 65536
set_option maxHeartbeats 1000000

noncomputable section

namespace Cert.In.Tables

open Idealize.ShloMosaic Idealize.ShloMosaic.TcCoe Idealize.SL.Sem Idealize.ShloMosaic.StableHlo
open Cert.InIdeal Cert.InIdeal.Gen Cert.In.Kernel Cert.In.Ref

variable (m : (ℓ : Loc nD τ sig) → Buf (Elt Ideal) ℓ)

/-! The host's layout of a table: four quarters side by side, twice, and a group without turns below. -/

def quads (a b c e : FVec Ideal S2048x16 .f32) : FVec Ideal S2048x64 .f32 :=
  concatenate S2048x64 1 [⟨S2048x16, a⟩, ⟨S2048x16, b⟩, ⟨S2048x16, c⟩, ⟨S2048x16, e⟩]
    concatenates_S2048x16_S2048x16_S2048x16_S2048x16_S2048x64_d1

def twice (x : FVec Ideal S2048x64 .f32) : FVec Ideal S2048x128 .f32 :=
  shapeCast S2048x128 (broadcastInDim S1x2048x2x64 ![0, 1, 2, 3] bcast_S1x2048x1x64_S1x2048x2x64_0_1_2_3
    (shapeCast S1x2048x1x64 x shapeCasts_S2048x64_S1x2048x1x64)) shapeCasts_S1x2048x2x64_S2048x128

def stack (x : FVec Ideal S2048x128 .f32) (z : BitVec 32) : FVec Ideal S2x2048x128 .f32 :=
  concatenate S2x2048x128 0 [⟨S1x2048x128, broadcastInDim S1x2048x128 ![1, 2] bcast_S2048x128_S1x2048x128_1_2 x⟩,
    ⟨S1x2048x128, broadcastInDim S1x2048x128 ![1, 2] bcast_S2048x128_S1x2048x128_1_2
      (broadcastInDim S2048x128 ![] bcast_S_S2048x128 (constant (F := Ideal) S_ .f32 z))⟩] concatenates_S1x2048x128_S1x2048x128_S2x2048x128_d0

def gains (x : FVec Ideal S64 .f32) : FVec Ideal S1x128 .f32 :=
  shapeCast S1x128 (shapeCast S128 (broadcastInDim S2x64 ![0, 1] bcast_S1x64_S2x64_0_1 (shapeCast S1x64 x shapeCasts_S64_S1x64))
    shapeCasts_S2x64_S128) shapeCasts_S128_S1x128

def headOf : IVec S128 32 := Host.divsi (iotaInDim S128 32 0) (broadcastInDim S128 ![] bcast_S_S128 (constantI S_ 32 64#32))

def ones : FVec Ideal S128x128 .bf16 :=
  uitofp .bf16 (cmpi .eq (broadcastInDim S128x128 ![0, 1] bcast_S128x1_S128x128_0_1 (broadcastInDim S128x1 ![0] bcast_S128_S128x1_0 headOf))
    (broadcastInDim S128x128 ![0, 1] bcast_S1x128_S128x128_0_1 (broadcastInDim S1x128 ![1] bcast_S128_S1x128_1 headOf)))

theorem quads_at (a b c e : FVec Ideal S2048x16 .f32) (r : Fin 2048) (d : Fin 64) :
    quads a b c e (ix2 r d) = if d.val < 32 then (if d.val % 32 < 16 then a else b) (ix2 r ⟨d.val % 16, by omega⟩)
      else (if d.val % 32 < 16 then c else e) (ix2 r ⟨d.val % 16, by omega⟩) := by
  unfold quads
  pointwise
  by_cases h0 : d.val < 16
  · simp only [dif_pos h0, show d.val < 32 by omega, show d.val % 32 < 16 by omega, if_true, show d.val % 16 = d.val by omega]
  by_cases h1 : d.val < 32
  · simp only [dif_neg h0, h1, show d.val - 16 < 16 by omega, dif_pos, show ¬ d.val % 32 < 16 by omega, if_true, if_false,
      show d.val % 16 = d.val - 16 by omega]
  by_cases h2 : d.val < 48
  · simp only [dif_neg h0, h1, show ¬ d.val - 16 < 16 by omega, show d.val - 16 - 16 < 16 by omega, dif_pos, dif_neg, not_false_eq_true,
      show d.val % 32 < 16 by omega, if_true, if_false, show d.val % 16 = d.val - 16 - 16 by omega]
  · simp only [dif_neg h0, h1, show ¬ d.val - 16 < 16 by omega, show ¬ d.val - 16 - 16 < 16 by omega, dif_neg, not_false_eq_true,
      show ¬ d.val % 32 < 16 by omega, if_false, show d.val % 16 = d.val - 16 - 16 - 16 by omega]

theorem twice_at (x : FVec Ideal S2048x64 .f32) (r : Fin 2048) (q : Fin 2) (d : Fin 64) :
    twice x (ix2 r (lane q d)) = x (ix2 r d) := by
  pointwise [twice, lane]

theorem stack_latent (x : FVec Ideal S2048x128 .f32) (z : BitVec 32) (r : Fin 2048) (l : Fin 128) :
    stack x z (ix3 0 r l) = x (ix2 r l) := by
  pointwise [stack]
theorem stack_context (x : FVec Ideal S2048x128 .f32) (z : BitVec 32) (r : Fin 2048) (l : Fin 128) :
    stack x z (ix3 1 r l) = Ideal.ofBits .f32 z := by
  pointwise [stack]

theorem gains_at (x : FVec Ideal S64 .f32) (q : Fin 2) (d : Fin 64) : gains x (ix2 0 (lane q d)) = x (ix1 d) := by
  pointwise [gains, lane]

theorem uitofp_one : FloatOps.uitofp (F := Ideal) FTy.bf16 (1#1) = (1 : EReal) := by
  show (((1 : ℕ) : ℝ) : EReal) = 1
  norm_num
theorem uitofp_zero : FloatOps.uitofp (F := Ideal) FTy.bf16 (0#1) = (0 : EReal) := by
  show (((0 : ℕ) : ℝ) : EReal) = 0
  norm_num

theorem ones_at (a b : Fin 128) : ones (ix2 a b) = if a.val / 64 = b.val / 64 then 1 else 0 := by
  have hd : ∀ a : Fin 128, IntOp.divsi .host (BitVec.ofNat 32 a.val) 64#32 = BitVec.ofNat 32 (a.val / 64) := by decide +kernel
  have hc : ∀ p q : Fin 2, IntOp.cmpi .eq (BitVec.ofNat 32 p.val) (BitVec.ofNat 32 q.val) = if p.val = q.val then 1#1 else 0#1 := by
    decide +kernel
  pointwise [ones, headOf]
  rw [hd, hd, hc ⟨a.val / 64, by omega⟩ ⟨b.val / 64, by omega⟩]
  split
  · exact uitofp_one
  · exact uitofp_zero

variable (m : (ℓ : Loc nD τ sig) → Buf (Elt Ideal) ℓ)

theorem w_at (c : Dev nD) (k : Fin 1024) (n : Fin 2304) :
    (show FVec Ideal S1024x2304 .bf16 from V m c main_v64) (ix2 k n) = m ((c : Thread nD τ).loc main_arg3) (ix2 k n) := rfl

theorem g_at (c : Dev nD) (k : Fin 1024) :
    (show FVec Ideal S1x1024 .f32 from V m c main_v65) (ix2 0 k) = m ((c : Thread nD τ).loc main_arg2) (ix1 k) := by
  have e : (show FVec Ideal S1x1024 .f32 from V m c main_v65)
      = shapeCast S1x1024 (show FVec Ideal S1024 .f32 from m ((c : Thread nD τ).loc main_arg2)) shapeCasts_S1024_S1x1024 := rfl
  rw [e]
  pointwise

theorem gq_table (c : Dev nD) : (show FVec Ideal S1x128 .f32 from V m c main_v59) = gains (m ((c : Thread nD τ).loc main_arg4)) := rfl
theorem gk_table (c : Dev nD) : (show FVec Ideal S1x128 .f32 from V m c main_v63) = gains (m ((c : Thread nD τ).loc main_arg5)) := rfl
theorem ones_table (c : Dev nD) : (show FVec Ideal S128x128 .bf16 from V m c main_v55) = ones := rfl

/-! The angles' tables: the host's lines up to the cosines and sines, and the layout after them. -/

theorem after_parts (xs ys : List (HloOp τ sig (Elt Ideal))) (G : Valuation τ sig (Elt Ideal)) :
    after (xs ++ ys) G = after ys (after xs G) := by
  induction xs generalizing G with
  | nil => rfl
  | cons x xs ih => exact ih _

def layoutOps : List (HloOp τ sig (Elt Ideal)) := hostOps0_4.drop 29

theorem layout_parts (c : Dev nD) : ∃ G : Valuation τ sig (Elt Ideal), ∀ b, V m c b = after layoutOps G b := by
  have e : List.flatten [hostOps0, hostOps0_1, hostOps0_2, hostOps0_3, hostOps0_4]
      = (hostOps0 ++ (hostOps0_1 ++ (hostOps0_2 ++ (hostOps0_3 ++ hostOps0_4.take 29)))) ++ layoutOps := by
    have h : (hostOps0_4 : List (HloOp τ sig (Elt Ideal))) = hostOps0_4.take 29 ++ layoutOps := (List.take_append_drop 29 _).symm
    simp only [List.flatten_cons, List.flatten_nil, List.append_nil]
    conv_lhs => rw [h]
    simp only [List.append_assoc]
  refine ⟨after (hostOps0 ++ (hostOps0_1 ++ (hostOps0_2 ++ (hostOps0_3 ++ hostOps0_4.take 29)))) (fun b => m (c, b)), fun b => ?_⟩
  show after (List.flatten [hostOps0, hostOps0_1, hostOps0_2, hostOps0_3, hostOps0_4]) (fun b => m (c, b)) b = _
  rw [e, after_parts]

variable (G : Valuation τ sig (Elt Ideal))

theorem layout_cosine : after layoutOps G main_v42
    = stack (twice (quads (G main_v25) (G main_v25) (G main_v27) (G main_v27))) 0x3F800000#32 := rfl

theorem layout_sine : after layoutOps G main_v46
    = stack (twice (quads (Host.negf (show FVec Ideal S2048x16 .f32 from G main_v26)) (G main_v26)
        (Host.negf (show FVec Ideal S2048x16 .f32 from G main_v28)) (G main_v28))) 0x00000000#32 := by
  simp only [layoutOps, hostOps0_4, List.drop_succ_cons, List.drop_zero]
  after_results_simp
  rfl

theorem layout_keeps : after layoutOps G main_v25 = G main_v25 ∧ after layoutOps G main_v26 = G main_v26
    ∧ after layoutOps G main_v27 = G main_v27 ∧ after layoutOps G main_v28 = G main_v28 := ⟨rfl, rfl, rfl, rfl⟩

theorem row_cosine (c : Dev nD) : V m c main_v25 = Cert.InRefIdeal.Read.val_main_v61 (F := Ideal) := by
  entry_read
  rfl
theorem row_sine (c : Dev nD) : V m c main_v26 = Cert.InRefIdeal.Read.val_main_v62 (F := Ideal) := by
  entry_read
  rfl
theorem column_cosine (c : Dev nD) : V m c main_v27 = Cert.InRefIdeal.Read.val_main_v63 (F := Ideal) := by
  entry_read
  rfl
theorem column_sine (c : Dev nD) : V m c main_v28 = Cert.InRefIdeal.Read.val_main_v64 (F := Ideal) := by
  entry_read
  rfl

end Cert.In.Tables

end
-- ==== Proof.In.Angles.lean ====
/- The turns' tables over the lanes: the reference's angles for latent tokens, no turn for the context's. -/
module

public import proofs.«01_k».proof.Proof.In.Tables

@[expose] public section

set_option maxRecDepth 16384

noncomputable section

namespace Cert.In.Tables

open Idealize.ShloMosaic Idealize.ShloMosaic.TcCoe Idealize.SL.Sem Idealize.ShloMosaic.StableHlo
open Cert.InIdeal Cert.InIdeal.Gen Cert.In.Kernel Cert.In.Ref Cert.In.Spec

variable (m : (ℓ : Loc nD τ sig) → Buf (Elt Ideal) ℓ)

/-- The cosines' table from the reference's. -/
theorem cosine_table (c : Dev nD) : (show FVec Ideal S2x2048x128 .f32 from V m c main_v42)
    = stack (twice (quads (Cert.InRefIdeal.Read.val_main_v61 (F := Ideal)) (Cert.InRefIdeal.Read.val_main_v61 (F := Ideal))
        (Cert.InRefIdeal.Read.val_main_v63 (F := Ideal)) (Cert.InRefIdeal.Read.val_main_v63 (F := Ideal)))) 0x3F800000#32 := by
  obtain ⟨G, hG⟩ := layout_parts m c
  obtain ⟨k0, k1, k2, k3⟩ := layout_keeps G
  have e0 := (k0.symm.trans (hG main_v25).symm).trans (row_cosine m c)
  have e2 := (k2.symm.trans (hG main_v27).symm).trans (column_cosine m c)
  refine ((hG main_v42).trans (layout_cosine G)).trans ?_
  rw [e0, e2]

/-- The sines' table from the reference's. -/
theorem sine_table (c : Dev nD) : (show FVec Ideal S2x2048x128 .f32 from V m c main_v46)
    = stack (twice (quads (Host.negf (Cert.InRefIdeal.Read.val_main_v62 (F := Ideal))) (Cert.InRefIdeal.Read.val_main_v62 (F := Ideal))
        (Host.negf (Cert.InRefIdeal.Read.val_main_v64 (F := Ideal))) (Cert.InRefIdeal.Read.val_main_v64 (F := Ideal)))) 0x00000000#32 := by
  obtain ⟨G, hG⟩ := layout_parts m c
  obtain ⟨k0, k1, k2, k3⟩ := layout_keeps G
  have e1 := (k1.symm.trans (hG main_v26).symm).trans (row_sine m c)
  have e3 := (k3.symm.trans (hG main_v28).symm).trans (column_sine m c)
  refine ((hG main_v46).trans (layout_sine G)).trans ?_
  rw [e1, e3]

theorem cosine_at (c : Dev nD) (r : Fin 2048) (q : Fin 2) (d : Fin 64) :
    (show FVec Ideal S2x2048x128 .f32 from V m c main_v42) (ix3 0 r (lane q d)) = cosine r d := by
  rw [cosine_table, stack_latent, twice_at, quads_at]
  simp only [ite_self]
  unfold cosine lanes
  split <;> rfl

theorem cosine_context (c : Dev nD) (r : Fin 2048) (q : Fin 2) (d : Fin 64) :
    (show FVec Ideal S2x2048x128 .f32 from V m c main_v42) (ix3 1 r (lane q d)) = 1 := by
  rw [cosine_table, stack_context]
  exact Ideal.ofBits_one_f32

theorem sine_at (c : Dev nD) (r : Fin 2048) (q : Fin 2) (d : Fin 64) :
    (show FVec Ideal S2x2048x128 .f32 from V m c main_v46) (ix3 0 r (lane q d)) = if d.val % 32 < 16 then - sine r d else sine r d := by
  rw [sine_table, stack_latent, twice_at, quads_at]
  unfold sine lanes
  by_cases h0 : d.val < 32 <;> by_cases h1 : d.val % 32 < 16 <;> simp only [h0, h1, if_true, if_false] <;> rfl

theorem sine_context (c : Dev nD) (r : Fin 2048) (q : Fin 2) (d : Fin 64) :
    (show FVec Ideal S2x2048x128 .f32 from V m c main_v46) (ix3 1 r (lane q d)) = 0 := by
  rw [sine_table, stack_context]
  simp [Ideal.ofBits, Ideal.ieee]

end Cert.In.Tables

end
-- ==== Proof.In.Store.lean ====
/- The six blocks a point of the input projection leaves, as functions of the blocks it reads. -/
module

public import proofs.«01_k».proof.Proof.In.Payload

@[expose] public section

set_option maxRecDepth 16384

noncomputable section

namespace Cert.In.Kernel

open Idealize.ShloMosaic Idealize.ShloMosaic.TcCoe Idealize.SL.Sem
open Cert.InIdeal Cert.InIdeal.Gen Cert.In.Spec

variable (x0 : FVec Ideal S1x512x1024 .f32) (x1 : FVec Ideal S1x1x3072 .f32) (x2 : FVec Ideal S1x1024 .f32)
  (x3 : FVec Ideal S1024x2304 .bf16) (x4 : FVec Ideal S128x128 .bf16) (x5 x6 : FVec Ideal S1x128 .f32) (x7 x8 : FVec Ideal S1x512x128 .f32)

/-- Column `n` of the product of the block's token `i`. -/
def col (i : Fin 512) (n : Fin 2304) : EReal :=
  proj (hidden (fun k => x0 (ix3 0 i k)) (fun k => x2 (ix2 0 k)) (fun k => x1 (ix3 0 0 ⟨k.val, by omega⟩))
    (fun k => x1 (ix3 0 0 ⟨1024 + k.val, by omega⟩))) (fun k n => x3 (ix2 k n)) n

/-- The matrix's columns from `o` on. -/
theorem wide_at (o : ℕ) (ho : o + 512 ≤ 2304) (inb) (k : Fin 1024) (n : Fin 512) :
    (show FVec Ideal S1024x512 .bf16 from
      View.ld (Val := Elt Ideal) (e' := .bf16) x3 (Rect.unit (s := S1024x2304) ![0, o] S1024x512.size inb)) (ix2 k n)
      = x3 (ix2 k ⟨o + n.val, by omega⟩) := by
  pointwise
theorem narrow_at (o : ℕ) (ho : o + 128 ≤ 2304) (inb) (k : Fin 1024) (n : Fin 128) :
    (show FVec Ideal S1024x128 .bf16 from
      View.ld (Val := Elt Ideal) (e' := .bf16) x3 (Rect.unit (s := S1024x2304) ![0, o] S1024x128.size inb)) (ix2 k n)
      = x3 (ix2 k ⟨o + n.val, by omega⟩) := by
  pointwise

theorem wide_col (o : ℕ) (ho : o + 512 ≤ 2304) (inb) (i : Fin 512) (n : Fin 512) :
    (∑ k, k0_pay2 (F := Ideal) x0 x1 x2 (ix2 i k) * (show FVec Ideal S1024x512 .bf16 from
      View.ld (Val := Elt Ideal) (e' := .bf16) x3 (Rect.unit (s := S1024x2304) ![0, o] S1024x512.size inb)) (ix2 k n))
      = col x0 x1 x2 x3 i ⟨o + n.val, by omega⟩ :=
  Finset.sum_congr rfl fun k _ => congrArg₂ (· * ·) (hidden_at x0 x1 x2 i k) (wide_at x3 o ho inb k n)
theorem narrow_col (o : ℕ) (ho : o + 128 ≤ 2304) (inb) (i : Fin 512) (n : Fin 128) :
    (∑ k, k0_pay2 (F := Ideal) x0 x1 x2 (ix2 i k) * (show FVec Ideal S1024x128 .bf16 from
      View.ld (Val := Elt Ideal) (e' := .bf16) x3 (Rect.unit (s := S1024x2304) ![0, o] S1024x128.size inb)) (ix2 k n))
      = col x0 x1 x2 x3 i ⟨o + n.val, by omega⟩ :=
  Finset.sum_congr rfl fun k _ => congrArg₂ (· * ·) (hidden_at x0 x1 x2 i k) (narrow_at x3 o ho inb k n)

theorem ld_x0 : View.ld (Val := Elt Ideal) (e' := .f32) x0 r0_0 = x0 := View.ld_unit_lit _ _ (by decide)
theorem ld_x1 : View.ld (Val := Elt Ideal) (e' := .f32) x1 r0_1 = x1 := View.ld_unit_lit _ _ (by decide)
theorem ld_x2 : View.ld (Val := Elt Ideal) (e' := .f32) x2 r0_2 = x2 := View.ld_unit_lit _ _ (by decide)
theorem ld_x4 : View.ld (Val := Elt Ideal) (e' := .bf16) x4 r0_9 = x4 := View.ld_unit_lit _ _ (by decide)
theorem ld_gain (x : FVec Ideal S1x128 .f32) : View.ld (Val := Elt Ideal) (e' := .f32) x r0_10 = x := View.ld_unit_lit _ _ (by decide)
theorem ld_turn (x : FVec Ideal S1x512x128 .f32) : View.ld (Val := Elt Ideal) (e' := .f32) x r0_8 = x := View.ld_unit_lit _ _ (by decide)

/-! The context attention's operands: three column blocks as they are, the queries scaled. -/

theorem qa_stored (i n : Fin 512) : out0_9 (F := Ideal) x0 x1 x2 x3 x4 x5 x6 x7 x8 (ix3 0 i n)
    = col x0 x1 x2 x3 i ⟨0 + n.val, by omega⟩ * Ideal.ofBits .f32 0x3E000000#32 := by
  unfold out0_9
  rw [View.canon_cons_unit_lit _ _ _ (by decide), ld_x0, ld_x1, ld_x2, qa_at, wide_col x0 x1 x2 x3 0 (by omega)]

theorem ka_stored (i n : Fin 512) : out0_10 (F := Ideal) x0 x1 x2 x3 x4 x5 x6 x7 x8 (ix3 0 i n)
    = col x0 x1 x2 x3 i ⟨512 + n.val, by omega⟩ := by
  unfold out0_10 k0_pay21
  rw [View.canon_cons_unit_lit _ _ _ (by decide), ld_x0, ld_x1, ld_x2, ka_at, wide_col x0 x1 x2 x3 512 (by omega)]

theorem va_stored (i n : Fin 512) : out0_11 (F := Ideal) x0 x1 x2 x3 x4 x5 x6 x7 x8 (ix3 0 i n)
    = col x0 x1 x2 x3 i ⟨1024 + n.val, by omega⟩ := by
  unfold out0_11 k0_pay21
  rw [View.canon_cons_unit_lit _ _ _ (by decide), ld_x0, ld_x1, ld_x2, va_at, wide_col x0 x1 x2 x3 1024 (by omega)]

theorem vb_stored (i : Fin 512) (n : Fin 128) : out0_14 (F := Ideal) x0 x1 x2 x3 x4 x5 x6 x7 x8 (ix3 0 i n)
    = col x0 x1 x2 x3 i ⟨2176 + n.val, by omega⟩ := by
  unfold out0_14 k0_pay21
  rw [View.canon_cons_unit_lit _ _ _ (by decide), ld_x0, ld_x1, ld_x2, vb_at, narrow_col x0 x1 x2 x3 2176 (by omega)]

/-! The heads. -/

/-- Head `e` of the columns from `o` on, normed and turned, with the gains `g`. -/
def headOut (o : ℕ) (g : Fin 64 → EReal) (i : Fin 512) (e : ℕ) (he : o + e * 64 + 64 ≤ 2304) (d : Fin 64) : EReal :=
  kerTurn (kerNorm (fun a => col x0 x1 x2 x3 i ⟨o + e * 64 + a.val, by omega⟩) g)
    (fun a => x7 (ix3 0 i (lane ⟨e % 2, by omega⟩ a))) (fun a => x8 (ix3 0 i (lane ⟨e % 2, by omega⟩ a))) d

theorem headOut_congr {o : ℕ} {g g' : Fin 64 → EReal} {i i' : Fin 512} {e e' : ℕ} {he he'} {d d' : Fin 64} (hg : g = g') (hi : i = i')
    (h : e = e') (hd : d = d') : headOut x0 x1 x2 x3 x7 x8 o g i e he d = headOut x0 x1 x2 x3 x7 x8 o g' i' e' he' d' := by
  subst hg; subst hi; subst h; subst hd; rfl

theorem turn_at (x : FVec Ideal S1x512x128 .f32) (i : Fin 512) (l : Fin 128) : k0_pay7 (F := Ideal) x (ix2 i l) = x (ix3 0 i l) := by
  pointwise [k0_pay7]
theorem turn_at' (x : FVec Ideal S1x512x128 .f32) (i : Fin 512) (l : Fin 128) : k0_pay8 (F := Ideal) x (ix2 i l) = x (ix3 0 i l) := by
  pointwise [k0_pay8]
theorem ones_read (a b : Fin 128) : k0_pay9 (F := Ideal) x4 (ix2 a b) = x4 (ix2 a b) := by
  pointwise [k0_pay9]

/-- A stored block of two heads, its columns from `o + 128 j` on. -/
theorem pair_at (ho : ∀ a b, x4 (ix2 a b) = if a.val / 64 = b.val / 64 then 1 else 0) (g : FVec Ideal S1x128 .f32) (o j p : ℕ)
    (hp : p = o + j * 128) (hj : p + 128 ≤ 2304) (inb) (i : Fin 512) (q : Fin 2) (d : Fin 64) :
    k0_pay20 (F := Ideal) (k0_pay2 x0 x1 x2) (k0_pay7 x7) (k0_pay8 x8) (k0_pay9 x4) (k0_pay12 k0_pay10 k0_pay11) g
        (View.ld (Val := Elt Ideal) (e' := .bf16) x3 (Rect.unit (s := S1024x2304) ![0, p] S1024x128.size inb)) (ix3 0 i (lane q d))
      = headOut x0 x1 x2 x3 x7 x8 o (fun a => g (ix2 0 (lane q a))) i (j * 2 + q.val) (by omega) d := by
  subst hp
  rw [head_at _ _ _ _ _ _ (fun a b => (ones_read x4 a b).trans (ho a b)) i q d]
  unfold headOut
  have hq : (⟨(j * 2 + q.val) % 2, by omega⟩ : Fin 2) = q := Fin.ext (by show (j * 2 + q.val) % 2 = q.val; omega)
  rw [hq]
  congr 1
  · congr 1
    refine funext fun a => (narrow_col x0 x1 x2 x3 (o + j * 128) hj inb i (lane q a)).trans (congrArg _ (Fin.ext ?_))
    show o + j * 128 + (q.val * 64 + a.val) = o + (j * 2 + q.val) * 64 + a.val
    omega
  · exact funext fun a => turn_at x7 i _
  · exact funext fun a => turn_at' x8 i _

/-- The keys' block. -/
theorem kb_stored (ho : ∀ a b, x4 (ix2 a b) = if a.val / 64 = b.val / 64 then 1 else 0) (i : Fin 512) (n : Fin 128) :
    out0_13 (F := Ideal) x0 x1 x2 x3 x4 x5 x6 x7 x8 (ix3 0 i n)
      = headOut x0 x1 x2 x3 x7 x8 2048 (fun a => x6 (ix2 0 (lane ⟨n.val / 64 % 2, by omega⟩ a))) i (n.val / 64) (by omega) ⟨n.val % 64, by omega⟩ := by
  unfold out0_13 k0_pay27 k0_pay26 k0_pay25 k0_pay24 k0_pay23 k0_pay22 k0_pay21
  rw [View.canon_cons_unit_lit _ _ _ (by decide), ld_x0, ld_x1, ld_x2, ld_x4, ld_gain, ld_turn, ld_turn, key_eq]
  have hn : n = lane ⟨n.val / 64, by omega⟩ ⟨n.val % 64, by omega⟩ := Fin.ext (by show n.val = n.val / 64 * 64 + n.val % 64; omega)
  have hg : ∀ l, k0_pay14 (F := Ideal) x6 (ix2 0 l) = x6 (ix2 0 l) := fun l => by pointwise [k0_pay14]
  conv_lhs => rw [hn]
  refine (pair_at x0 x1 x2 x3 x4 x7 x8 ho (k0_pay14 x6) 2048 0 2048 rfl (by omega) _ i _ _).trans ?_
  refine headOut_congr x0 x1 x2 x3 x7 x8 (funext fun a => (hg _).trans (congrArg (fun q => x6 (ix2 0 (lane q a))) (Fin.ext ?_))) rfl ?_ rfl
  · show n.val / 64 = n.val / 64 % 2
    omega
  · show 0 * 2 + n.val / 64 = n.val / 64
    omega

/-- The queries' block. -/
def queries : FVec Ideal S1x512x512 .bf16 := fun y =>
  headOut x0 x1 x2 x3 x7 x8 1536 (fun a => x5 (ix2 0 (lane ⟨(y 2).val / 64 % 2, by omega⟩ a)) * Ideal.ofBits .f32 0x3E000000#32)
    (y 1) ((y 2).val / 64) (by have h : (y 2).val < 512 := (y 2).isLt; omega) ⟨(y 2).val % 64, by omega⟩

/-- A pair of query heads is its columns of the queries' block. -/
theorem pair_queries (ho : ∀ a b, x4 (ix2 a b) = if a.val / 64 = b.val / 64 then 1 else 0) (j : Fin 4) (p s : ℕ)
    (hp : p = 1536 + j.val * 128) (hs : s = j.val * 128) (inb) (inb') (y : S1x512x128.Idx) :
    k0_pay20 (F := Ideal) (k0_pay2 x0 x1 x2) (k0_pay7 x7) (k0_pay8 x8) (k0_pay9 x4) (k0_pay12 k0_pay10 k0_pay11) (k0_pay13 x5)
        (View.ld (Val := Elt Ideal) (e' := .bf16) x3 (Rect.unit (s := S1024x2304) ![0, p] S1024x128.size inb)) y
      = queries x0 x1 x2 x3 x5 x7 x8 ((Rect.unit (s := S1x512x512) ![0, 0, s] S1x512x128.size inb').emb y) := by
  subst hs
  have h2 : (y 2).val < 128 := (y 2).isLt
  have e1 : ((Rect.unit (s := S1x512x512) ![0, 0, j.val * 128] S1x512x128.size inb').emb y 1).val = (y 1).val := by
    show 0 + 1 * (y 1).val = _; omega
  have e2 : ((Rect.unit (s := S1x512x512) ![0, 0, j.val * 128] S1x512x128.size inb').emb y 2).val = j.val * 128 + (y 2).val := by
    show j.val * 128 + 1 * (y 2).val = _; omega
  have hg : ∀ l, k0_pay13 (F := Ideal) x5 (ix2 0 l) = x5 (ix2 0 l) * Ideal.ofBits .f32 0x3E000000#32 := fun l => by pointwise [k0_pay13]
  have hy : y = ix3 0 (y 1) (lane ⟨(y 2).val / 64, by omega⟩ ⟨(y 2).val % 64, by omega⟩) := by
    funext a
    fin_cases a
    · exact Fin.ext (by have h : (y 0).val < 1 := (y 0).isLt; show (y 0).val = 0; omega)
    · rfl
    · exact Fin.ext (by show (y 2).val = (y 2).val / 64 * 64 + (y 2).val % 64; omega)
  conv_lhs => rw [hy]
  refine (pair_at x0 x1 x2 x3 x4 x7 x8 ho (k0_pay13 x5) 1536 j.val p hp (by omega) inb (y 1) _ _).trans ?_
  unfold queries
  refine headOut_congr x0 x1 x2 x3 x7 x8 (funext fun a => (hg _).trans (congrArg (fun q => x5 (ix2 0 (lane q a)) * _) (Fin.ext ?_)))
    (Fin.ext e1.symm) ?_ (Fin.ext ?_)
  · show (y 2).val / 64 = _ / 64 % 2
    rw [e2]; omega
  · show j.val * 2 + (y 2).val / 64 = _ / 64
    rw [e2]; omega
  · show (y 2).val % 64 = _ % 64
    rw [e2]; omega

theorem qb_stored (ho : ∀ a b, x4 (ix2 a b) = if a.val / 64 = b.val / 64 then 1 else 0) (y : S1x512x512.Idx) :
    out0_12 (F := Ideal) x0 x1 x2 x3 x4 x5 x6 x7 x8 y = queries x0 x1 x2 x3 x5 x7 x8 y := by
  unfold out0_12
  refine View.canon_apply_of_pieces (Val := Elt Ideal) (e := .bf16) (queries x0 x1 x2 x3 x5 x7 x8) _ (fun p hp y => ?_) y (cover0_12 _ _ _ _ y)
  unfold k0_pay28 k0_pay27 k0_pay26 k0_pay25 k0_pay24 k0_pay23 k0_pay22 k0_pay21 at hp
  rw [ld_x0, ld_x1, ld_x2, ld_x4, ld_gain, ld_turn, ld_turn, first_eq, second_eq, third_eq] at hp
  simp only [List.mem_cons, List.not_mem_nil, or_false] at hp
  rcases hp with rfl | rfl | rfl | rfl
  · exact pair_queries x0 x1 x2 x3 x4 x5 x7 x8 ho 3 1920 384 rfl rfl inb_S1024x2304_S1024x128_0_1920 inb_S1x512x512_S1x512x128_0_0_384 y
  · exact pair_queries x0 x1 x2 x3 x4 x5 x7 x8 ho 2 1792 256 rfl rfl inb_S1024x2304_S1024x128_0_1792 inb_S1x512x512_S1x512x128_0_0_256 y
  · exact pair_queries x0 x1 x2 x3 x4 x5 x7 x8 ho 1 1664 128 rfl rfl inb_S1024x2304_S1024x128_0_1664 inb_S1x512x512_S1x512x128_0_0_128 y
  · exact pair_queries x0 x1 x2 x3 x4 x5 x7 x8 ho 0 1536 0 rfl rfl inb_S1024x2304_S1024x128_0_1536 inb_S1x512x512_S1x512x128_0_0_0 y

end Cert.In.Kernel

end
-- ==== Proof.In.Entries.lean ====
/- The reference's six results, entry by entry, in the columns of its product. -/
module

public import proofs.«01_k».proof.Proof.In.Ref

@[expose] public section

set_option maxRecDepth 16384

noncomputable section

namespace Cert.In.Ref

open Idealize.ShloMosaic Idealize.ShloMosaic.TcCoe Idealize.SL.Sem
open Cert.InRefIdeal Cert.InRefIdeal.Read Cert.In.Spec

variable (x : FVec Ideal S9x2048x1024 .f32) (md : FVec Ideal S16x1x9216 .f32) (g : FVec Ideal S1024 .f32)
  (w : FVec Ideal S1024x2304 .f32) (gq gk : FVec Ideal S64 .f32)

/-- Column `n` of the product of token `r` of group `b`. -/
def column (b : Fin 9) (r : Fin 2048) (n : Fin 2304) : EReal :=
  proj (hidden (fun k => x (ix3 b r k)) (fun k => g (ix1 k)) (fun k => md (ix3 ⟨b.val, by omega⟩ 0 ⟨3072 + k.val, by omega⟩))
    (fun k => md (ix3 ⟨b.val, by omega⟩ 0 ⟨4096 + k.val, by omega⟩))) (fun k n => w (ix2 k n)) n

theorem column_at (b : Fin 9) (r : Fin 2048) (n : Fin 2304) :
    val_main_v29 (F := Ideal) x md g w (ix3 b r n) = column x md g w b r n := by
  rw [proj_at]
  unfold column
  congr 1
  exact funext fun k => hidden_at x md g b r k

theorem qa_result (b : Fin 9) (r : Fin 2048) (n : Fin 512) :
    val_main_v183 (F := Ideal) x md g w (ix3 b r n) = column x md g w b r ⟨0 + n.val, by omega⟩ * Ideal.ofBits .f32 0x3E000000#32 := by
  rw [← column_at]
  pointwise [val_main_v183, val_main_v66, val_main_v65, val_main_v30, val_main_cst_8]

theorem ka_result (b : Fin 9) (r : Fin 2048) (n : Fin 512) :
    val_main_v184 (F := Ideal) x md g w (ix3 b r n) = column x md g w b r ⟨512 + n.val, by omega⟩ := by
  rw [← column_at]
  pointwise [val_main_v184, val_main_v31]

theorem va_result (b : Fin 9) (r : Fin 2048) (n : Fin 512) :
    val_main_v185 (F := Ideal) x md g w (ix3 b r n) = column x md g w b r ⟨1024 + n.val, by omega⟩ := by
  rw [← column_at]
  pointwise [val_main_v185, val_main_v32]

theorem vb_result (b : Fin 9) (r : Fin 2048) (n : Fin 128) :
    val_main_v188 (F := Ideal) x md g w (ix3 b r n) = column x md g w b r ⟨2176 + n.val, by omega⟩ := by
  rw [← column_at]
  pointwise [val_main_v188, val_main_v35]

theorem query_column (b : Fin 9) (r : Fin 2048) (n : Fin 512) :
    val_main_v33 (F := Ideal) x md g w (ix3 b r n) = column x md g w b r ⟨1536 + n.val, by omega⟩ := by
  rw [← column_at]
  pointwise [val_main_v33]

theorem key_column (b : Fin 9) (r : Fin 2048) (n : Fin 128) :
    val_main_v34 (F := Ideal) x md g w (ix3 b r n) = column x md g w b r ⟨2048 + n.val, by omega⟩ := by
  rw [← column_at]
  pointwise [val_main_v34]

/-- Head `e` of the columns from `o` on, normed. -/
def head (o : ℕ) (gain : FVec Ideal S64 .f32) (b : Fin 9) (r : Fin 2048) (e : ℕ) (he : o + e * 64 + 64 ≤ 2304) : Fin 64 → EReal :=
  headNorm (fun a => column x md g w b r ⟨o + e * 64 + a.val, by omega⟩) (fun a => gain (ix1 a))

theorem query_head (b : Fin 9) (e : Fin 8) (r : Fin 2048) (d : Fin 64) :
    val_main_v81 (F := Ideal) x md g w gq (ix4 b e r d) = head x md g w 1536 gq b r e.val (by omega) d := by
  rw [query_norm_at]
  unfold head
  congr 1
  exact funext fun a => (query_column x md g w b r _).trans
    (congrArg _ (Fin.ext (by show 1536 + (e.val * 64 + a.val) = 1536 + e.val * 64 + a.val; omega)))

theorem key_head (b : Fin 9) (e : Fin 2) (r : Fin 2048) (d : Fin 64) :
    val_main_v140 (F := Ideal) x md g w gk (ix4 b e r d) = head x md g w 2048 gk b r e.val (by omega) d := by
  rw [key_norm_at]
  unfold head
  congr 1
  exact funext fun a => (key_column x md g w b r _).trans
    (congrArg _ (Fin.ext (by show 2048 + (e.val * 64 + a.val) = 2048 + e.val * 64 + a.val; omega)))

theorem query_scaled (b : Fin 9) (r : Fin 2048) (n : Fin 512) :
    val_main_v186 (F := Ideal) x md g w gq (ix3 b r n)
      = val_main_v123 (F := Ideal) x md g w gq (ix3 b r n) * Ideal.ofBits .f32 0x3E000000#32 := by
  pointwise [val_main_v186, val_main_v125, val_main_v124, val_main_cst_12]

theorem key_result (b : Fin 9) (r : Fin 2048) (n : Fin 128) :
    val_main_v187 (F := Ideal) x md g w gk (ix3 b r n) = val_main_v182 (F := Ideal) x md g w gk (ix3 b r n) := by
  pointwise [val_main_v187]

theorem query_latent (b : Fin 8) (r : Fin 2048) (n : Fin 512) :
    val_main_v186 (F := Ideal) x md g w gq (ix3 ⟨b.val, by omega⟩ r n)
      = turn (head x md g w 1536 gq ⟨b.val, by omega⟩ r (n.val / 64) (by omega)) (cosine r) (sine r) ⟨n.val % 64, by omega⟩
        * Ideal.ofBits .f32 0x3E000000#32 := by
  rw [query_scaled, query_latent_at, query_turn_at]
  congr 2
  exact funext fun a => query_head x md g w gq _ _ r a

theorem query_context (r : Fin 2048) (n : Fin 512) :
    val_main_v186 (F := Ideal) x md g w gq (ix3 8 r n)
      = head x md g w 1536 gq 8 r (n.val / 64) (by omega) ⟨n.val % 64, by omega⟩ * Ideal.ofBits .f32 0x3E000000#32 := by
  rw [query_scaled]
  exact congrArg (· * _) ((query_context_at x md g w gq r n).trans (query_head x md g w gq 8 ⟨n.val / 64, by omega⟩ r _))

theorem key_latent (b : Fin 8) (r : Fin 2048) (n : Fin 128) :
    val_main_v187 (F := Ideal) x md g w gk (ix3 ⟨b.val, by omega⟩ r n)
      = turn (head x md g w 2048 gk ⟨b.val, by omega⟩ r (n.val / 64) (by omega)) (cosine r) (sine r) ⟨n.val % 64, by omega⟩ := by
  rw [key_result, key_latent_at, key_turn_at]
  congr 1
  exact funext fun a => key_head x md g w gk _ _ r a

theorem key_context (r : Fin 2048) (n : Fin 128) :
    val_main_v187 (F := Ideal) x md g w gk (ix3 8 r n)
      = head x md g w 2048 gk 8 r (n.val / 64) (by omega) ⟨n.val % 64, by omega⟩ := by
  rw [key_result]
  exact (key_context_at x md g w gk r n).trans (key_head x md g w gk 8 ⟨n.val / 64, by omega⟩ r _)

/-- A column of the product is finite when the gain, the modulation it reads and the matrix's column are. -/
theorem column_finite (b : Fin 9) (r : Fin 2048) (n : Fin 2304)
    (hm : ∀ (b : Fin 9) (k : Fin 2048), Cert.Attn.Fin' (md (ix3 ⟨b.val, by omega⟩ 0 ⟨3072 + k.val, by omega⟩)))
    (hg : ∀ i, Cert.Attn.Fin' (g i)) (hw : ∀ k, Cert.Attn.Fin' (w (ix2 k n))) : Cert.Attn.Fin' (column x md g w b r n) :=
  proj_finite _ _ n (hidden_finite _ _ _ _ (fun _ => hg _) (fun k => hm b ⟨k.val, by omega⟩)
    (fun k => by have h := hm b ⟨1024 + k.val, by omega⟩; simpa only [show 3072 + (1024 + k.val) = 4096 + k.val by omega] using h)) hw

end Cert.In.Ref

end
-- ==== Proof.In.Blocks.lean ====
/- The blocks each point of the input projection reads, in the call's arguments. -/
module

public import proofs.«01_k».proof.Proof.In.Angles
public import proofs.«01_k».proof.Proof.In.Store
public import proofs.«01_k».proof.Proof.In.Entries

@[expose] public section

set_option maxRecDepth 16384

noncomputable section

namespace Cert.In.Blocks

open Idealize.ShloMosaic Idealize.ShloMosaic.TcCoe Idealize.SL.Sem
open Cert.InIdeal Cert.InIdeal.Gen Cert.In.Kernel

variable (m : (ℓ : Loc nD τ sig) → Buf (Elt Ideal) ℓ)

/-- Where each grid point reads. -/
theorem reads : ∀ t : Fin cfg0.N,
    win0_0.index t = ![t.val / 4, t.val % 4, 0]
    ∧ win0_1.index t = ![t.val / 4, 0, 1]
    ∧ win0_2.index t = ![0, 0] ∧ win0_3.index t = ![0, 0] ∧ win0_4.index t = ![0, 0] ∧ win0_5.index t = ![0, 0] ∧ win0_6.index t = ![0, 0]
    ∧ win0_7.index t = ![t.val / 32, t.val % 4, 0]
    ∧ win0_8.index t = ![t.val / 32, t.val % 4, 0] := (by decide +kernel : ∀ t : Fin grid0.N, _)

/-- Where each grid point writes. -/
theorem writes : ∀ t : Fin cfg0.N,
    win0_9.index t = ![t.val / 4, t.val % 4, 0] ∧ win0_10.index t = ![t.val / 4, t.val % 4, 0] ∧ win0_11.index t = ![t.val / 4, t.val % 4, 0]
    ∧ win0_12.index t = ![t.val / 4, t.val % 4, 0] ∧ win0_13.index t = ![t.val / 4, t.val % 4, 0]
    ∧ win0_14.index t = ![t.val / 4, t.val % 4, 0] := (by decide +kernel : ∀ t : Fin grid0.N, _)

theorem x_at (c : Dev nD) (t : Fin cfg0.N) (i : Fin 512) (k : Fin 1024) (a : Fin 9) (r : Fin 2048)
    (ha : a.val = t.val / 4) (hr : r.val = t.val % 4 * 512 + i.val) :
    (show FVec Ideal S1x512x1024 .f32 from iblk m c 0 t) (ix3 0 i k) = m ((c : Thread nD τ).loc main_arg0) (ix3 a r k) := by
  blk_ext [iblk, V, (reads t).1]

theorem mod_at (c : Dev nD) (t : Fin cfg0.N) (k : Fin 3072) (a : Fin 16) (e : Fin 9216)
    (ha : a.val = t.val / 4) (he : e.val = 3072 + k.val) :
    (show FVec Ideal S1x1x3072 .f32 from iblk m c 1 t) (ix3 0 0 k) = m ((c : Thread nD τ).loc main_arg1) (ix3 a 0 e) := by
  blk_ext [iblk, V, (reads t).2.1]

theorem g_at (c : Dev nD) (t : Fin cfg0.N) (k : Fin 1024) :
    (show FVec Ideal S1x1024 .f32 from iblk m c 2 t) (ix2 0 k) = m ((c : Thread nD τ).loc main_arg2) (ix1 k) := by
  refine Eq.trans ?_ (Tables.g_at m c k)
  blk_ext [iblk, (reads t).2.2.1]

theorem w_at (c : Dev nD) (t : Fin cfg0.N) (k : Fin 1024) (n : Fin 2304) :
    (show FVec Ideal S1024x2304 .bf16 from iblk m c 3 t) (ix2 k n) = m ((c : Thread nD τ).loc main_arg3) (ix2 k n) := by
  refine Eq.trans ?_ (Tables.w_at m c k n)
  blk_ext [iblk, (reads t).2.2.2.1]

theorem ones_at (c : Dev nD) (t : Fin cfg0.N) (a b : Fin 128) :
    (show FVec Ideal S128x128 .bf16 from iblk m c 4 t) (ix2 a b) = if a.val / 64 = b.val / 64 then 1 else 0 := by
  refine Eq.trans ?_ ((congrFun (Tables.ones_table m c) _).trans (Tables.ones_at a b))
  blk_ext [iblk, (reads t).2.2.2.2.1]

theorem gq_at (c : Dev nD) (t : Fin cfg0.N) (q : Fin 2) (d : Fin 64) :
    (show FVec Ideal S1x128 .f32 from iblk m c 5 t) (ix2 0 (lane q d)) = m ((c : Thread nD τ).loc main_arg4) (ix1 d) := by
  refine Eq.trans ?_ ((congrFun (Tables.gq_table m c) _).trans (Tables.gains_at _ q d))
  blk_ext [iblk, (reads t).2.2.2.2.2.1]

theorem gk_at (c : Dev nD) (t : Fin cfg0.N) (q : Fin 2) (d : Fin 64) :
    (show FVec Ideal S1x128 .f32 from iblk m c 6 t) (ix2 0 (lane q d)) = m ((c : Thread nD τ).loc main_arg5) (ix1 d) := by
  refine Eq.trans ?_ ((congrFun (Tables.gk_table m c) _).trans (Tables.gains_at _ q d))
  blk_ext [iblk, (reads t).2.2.2.2.2.2.1]

theorem cos_at (c : Dev nD) (t : Fin cfg0.N) (i : Fin 512) (l : Fin 128) (a : Fin 2) (r : Fin 2048)
    (ha : a.val = t.val / 32) (hr : r.val = t.val % 4 * 512 + i.val) :
    (show FVec Ideal S1x512x128 .f32 from iblk m c 7 t) (ix3 0 i l) = (show FVec Ideal S2x2048x128 .f32 from V m c main_v42) (ix3 a r l) := by
  blk_ext [iblk, (reads t).2.2.2.2.2.2.2.1]

theorem sin_at (c : Dev nD) (t : Fin cfg0.N) (i : Fin 512) (l : Fin 128) (a : Fin 2) (r : Fin 2048)
    (ha : a.val = t.val / 32) (hr : r.val = t.val % 4 * 512 + i.val) :
    (show FVec Ideal S1x512x128 .f32 from iblk m c 8 t) (ix3 0 i l) = (show FVec Ideal S2x2048x128 .f32 from V m c main_v46) (ix3 a r l) := by
  blk_ext [iblk, (reads t).2.2.2.2.2.2.2.2]

/-- Column `n` of the product, in the device's arguments. -/
abbrev column (c : Dev nD) : Fin 9 → Fin 2048 → Fin 2304 → EReal :=
  Ref.column (m ((c : Thread nD τ).loc main_arg0)) (m ((c : Thread nD τ).loc main_arg1)) (m ((c : Thread nD τ).loc main_arg2))
    (m ((c : Thread nD τ).loc main_arg3))

theorem column_congr {x x' g g' s s' e e' : Fin 1024 → EReal} {w w' : Fin 1024 → Fin 2304 → EReal} (n : Fin 2304)
    (hx : x = x') (hg : g = g') (hs : s = s') (he : e = e') (hw : w = w') :
    Spec.proj (Spec.hidden x g s e) w n = Spec.proj (Spec.hidden x' g' s' e') w' n := by
  subst hx; subst hg; subst hs; subst he; subst hw; rfl

/-- A block's column is the product's. -/
theorem col_at (c : Dev nD) (t : Fin cfg0.N) (i : Fin 512) (n : Fin 2304) (a : Fin 9) (r : Fin 2048)
    (ha : a.val = t.val / 4) (hr : r.val = t.val % 4 * 512 + i.val) :
    col (iblk m c 0 t) (iblk m c 1 t) (iblk m c 2 t) (iblk m c 3 t) i n = column m c a r n := by
  exact column_congr n (funext fun k => x_at m c t i k a r ha hr) (funext fun k => g_at m c t k)
    (funext fun k => mod_at m c t _ _ _ ha rfl)
    (funext fun k => mod_at m c t _ _ _ ha (by show 4096 + k.val = 3072 + (1024 + k.val); omega))
    (funext fun k => funext fun n => w_at m c t k n)

end Cert.In.Blocks

end
-- ==== Proof.In.Final.lean ====
/- The input projection's six result arrays after the run are the reference's. -/
module

public import proofs.«01_k».proof.Proof.In.Blocks

@[expose] public section

set_option maxRecDepth 16384

noncomputable section

namespace Cert.In.Final

open Idealize.ShloMosaic Idealize.ShloMosaic.TcCoe Idealize.SL.Sem
open Cert.InIdeal Cert.InIdeal.Gen Cert.In.Kernel Cert.In.Blocks Cert.In.Spec
open Cert.InRefIdeal.Read

variable (m : (ℓ : Loc nD τ sig) → Buf (Elt Ideal) ℓ)

/-- The columns of the heads are finite. -/
def Finite (c : Dev nD) : Prop := ∀ b r (n : Fin 2304), 1536 ≤ n.val → n.val < 2176 → Cert.Attn.Fin' (column m c b r n)

/-- A block's turned head is the reference's, in a group of latent tokens. -/
theorem head_latent (c : Dev nD) (t : Fin cfg0.N) (i : Fin 512) (a : Fin 9) (r : Fin 2048)
    (ha : a.val = t.val / 4) (hr : r.val = t.val % 4 * 512 + i.val) (hl : a.val < 8) (hf : Finite m c)
    (o e : ℕ) (he : o + e * 64 + 64 ≤ 2304) (h0 : 1536 ≤ o) (h1 : o + e * 64 + 64 ≤ 2176) (gain : FVec Ideal S64 .f32) (k : ℝ) (hk : 0 ≤ k) (d : Fin 64) :
    headOut (iblk m c 0 t) (iblk m c 1 t) (iblk m c 2 t) (iblk m c 3 t) (iblk m c 7 t) (iblk m c 8 t) o (fun a => gain (ix1 a) * (k : EReal)) i e he d
      = turn (Ref.head (m ((c : Thread nD τ).loc main_arg0)) (m ((c : Thread nD τ).loc main_arg1)) (m ((c : Thread nD τ).loc main_arg2))
          (m ((c : Thread nD τ).loc main_arg3)) o gain a r e he) (Ref.cosine r) (Ref.sine r) d * (k : EReal) := by
  have hc : (fun l => (show FVec Ideal S1x512x128 .f32 from iblk m c 7 t) (ix3 0 i (lane ⟨e % 2, by omega⟩ l))) = Ref.cosine r :=
    funext fun l => (cos_at m c t i _ 0 r (by show 0 = _; omega) hr).trans (Tables.cosine_at m c r _ l)
  have hs : (fun l => (show FVec Ideal S1x512x128 .f32 from iblk m c 8 t) (ix3 0 i (lane ⟨e % 2, by omega⟩ l)))
      = fun l => if l.val % 32 < 16 then - Ref.sine r l else Ref.sine r l :=
    funext fun l => (sin_at m c t i _ 0 r (by show 0 = _; omega) hr).trans (Tables.sine_at m c r _ l)
  have hv : (fun l : Fin 64 => col (iblk m c 0 t) (iblk m c 1 t) (iblk m c 2 t) (iblk m c 3 t) i ⟨o + e * 64 + l.val, by omega⟩)
      = fun l => column m c a r ⟨o + e * 64 + l.val, by omega⟩ := funext fun l => col_at m c t i _ a r ha hr
  unfold headOut Ref.head
  refine (congrArg₂ (fun C S => kerTurn _ C S d) hc hs).trans ?_
  rw [hv, ← kerTurn_eq _ _ _ k hk]
  exact congrArg (fun y => kerTurn y _ _ d) (funext fun l => kerNorm_scaled _ _ (fun l => hf _ _ _ (by show 1536 ≤ o + e * 64 + l.val; omega) (by show o + e * 64 + l.val < 2176; omega)) _ l)

/-- A block's head is the reference's, in the group of context tokens. -/
theorem head_context (c : Dev nD) (t : Fin cfg0.N) (i : Fin 512) (a : Fin 9) (r : Fin 2048)
    (ha : a.val = t.val / 4) (hr : r.val = t.val % 4 * 512 + i.val) (hl : a.val = 8) (hf : Finite m c)
    (o e : ℕ) (he : o + e * 64 + 64 ≤ 2304) (h0 : 1536 ≤ o) (h1 : o + e * 64 + 64 ≤ 2176) (gain : FVec Ideal S64 .f32) (k : EReal) (d : Fin 64) :
    headOut (iblk m c 0 t) (iblk m c 1 t) (iblk m c 2 t) (iblk m c 3 t) (iblk m c 7 t) (iblk m c 8 t) o (fun a => gain (ix1 a) * k) i e he d
      = Ref.head (m ((c : Thread nD τ).loc main_arg0)) (m ((c : Thread nD τ).loc main_arg1)) (m ((c : Thread nD τ).loc main_arg2))
          (m ((c : Thread nD τ).loc main_arg3)) o gain a r e he d * k := by
  have ht : t.val < 36 := lt_of_lt_of_eq t.isLt N_0
  unfold headOut Ref.head
  have hc : (fun l => (show FVec Ideal S1x512x128 .f32 from iblk m c 7 t) (ix3 0 i (lane ⟨e % 2, by omega⟩ l))) = fun _ => 1 :=
    funext fun l => (cos_at m c t i _ 1 r (by show 1 = _; omega) hr).trans (Tables.cosine_context m c r _ l)
  have hs : (fun l => (show FVec Ideal S1x512x128 .f32 from iblk m c 8 t) (ix3 0 i (lane ⟨e % 2, by omega⟩ l))) = fun _ => 0 :=
    funext fun l => (sin_at m c t i _ 1 r (by show 1 = _; omega) hr).trans (Tables.sine_context m c r _ l)
  have hv : (fun l : Fin 64 => col (iblk m c 0 t) (iblk m c 1 t) (iblk m c 2 t) (iblk m c 3 t) i ⟨o + e * 64 + l.val, by omega⟩)
      = fun l => column m c a r ⟨o + e * 64 + l.val, by omega⟩ := funext fun l => col_at m c t i _ a r ha hr
  refine (congrArg₂ (fun C S => kerTurn _ C S d) hc hs).trans ?_
  rw [kerTurn_still, hv, kerNorm_scaled _ _ (fun l => hf _ _ _ (by show 1536 ≤ o + e * 64 + l.val; omega) (by show o + e * 64 + l.val < 2176; omega))]

end Cert.In.Final

end
-- ==== Proof.In.Heads.lean ====
/- A point's blocks of queries and keys are the reference's. -/
module

public import proofs.«01_k».proof.Proof.In.Final

@[expose] public section

set_option maxRecDepth 16384

noncomputable section

namespace Cert.In.Final

open Idealize.ShloMosaic Idealize.ShloMosaic.TcCoe Idealize.SL.Sem
open Cert.InIdeal Cert.InIdeal.Gen Cert.In.Kernel Cert.In.Blocks Cert.In.Spec
open Cert.InRefIdeal.Read

variable (m : (ℓ : Loc nD τ sig) → Buf (Elt Ideal) ℓ)

/-- The reference's results in the device's arguments. -/
abbrev refQueries (c : Dev nD) : FVec Ideal S9x2048x512 .bf16 :=
  val_main_v186 (F := Ideal) (m ((c : Thread nD τ).loc main_arg0)) (m ((c : Thread nD τ).loc main_arg1)) (m ((c : Thread nD τ).loc main_arg2))
    (m ((c : Thread nD τ).loc main_arg3)) (m ((c : Thread nD τ).loc main_arg4))
abbrev refKeys (c : Dev nD) : FVec Ideal S9x2048x128 .bf16 :=
  val_main_v187 (F := Ideal) (m ((c : Thread nD τ).loc main_arg0)) (m ((c : Thread nD τ).loc main_arg1)) (m ((c : Thread nD τ).loc main_arg2))
    (m ((c : Thread nD τ).loc main_arg3)) (m ((c : Thread nD τ).loc main_arg5))

theorem last_group (a : Fin 9) (h : ¬ a.val < 8) : a = 8 := Fin.ext (by show a.val = 8; omega)

theorem queries_at (c : Dev nD) (t : Fin cfg0.N) (i n : Fin 512) (a : Fin 9) (r : Fin 2048)
    (ha : a.val = t.val / 4) (hr : r.val = t.val % 4 * 512 + i.val) (hf : Finite m c) :
    out0_12 (F := Ideal) (iblk m c 0 t) (iblk m c 1 t) (iblk m c 2 t) (iblk m c 3 t) (iblk m c 4 t) (iblk m c 5 t) (iblk m c 6 t) (iblk m c 7 t)
      (iblk m c 8 t) (ix3 0 i n) = refQueries m c (ix3 a r n) := by
  refine (qb_stored _ _ _ _ _ _ _ _ _ (ones_at m c t) (ix3 0 i n)).trans ?_
  unfold queries
  refine (headOut_congr _ _ _ _ _ _ (he' := (by omega : 1536 + n.val / 64 * 64 + 64 ≤ 2304)) (funext fun l =>
    congrArg₂ (· * ·) (gq_at m c t ⟨n.val / 64 % 2, by omega⟩ l) word_8) rfl rfl rfl).trans ?_
  by_cases h : a.val < 8
  · refine (head_latent m c t i a r ha hr h hf 1536 (n.val / 64) (by omega) (by omega) (by omega) _ 8⁻¹ (by norm_num) ⟨n.val % 64, by omega⟩).trans ?_
    rw [← word_8]
    exact (Ref.query_latent _ _ _ _ _ ⟨a.val, h⟩ r n).symm
  · have h8 := last_group a h
    refine (head_context m c t i a r ha hr (congrArg Fin.val h8) hf 1536 (n.val / 64) (by omega) (by omega) (by omega) _ _ ⟨n.val % 64, by omega⟩).trans ?_
    rw [← word_8]
    subst h8
    exact (Ref.query_context _ _ _ _ _ r n).symm

theorem keys_at (c : Dev nD) (t : Fin cfg0.N) (i : Fin 512) (n : Fin 128) (a : Fin 9) (r : Fin 2048)
    (ha : a.val = t.val / 4) (hr : r.val = t.val % 4 * 512 + i.val) (hf : Finite m c) :
    out0_13 (F := Ideal) (iblk m c 0 t) (iblk m c 1 t) (iblk m c 2 t) (iblk m c 3 t) (iblk m c 4 t) (iblk m c 5 t) (iblk m c 6 t) (iblk m c 7 t)
      (iblk m c 8 t) (ix3 0 i n) = refKeys m c (ix3 a r n) := by
  refine (kb_stored _ _ _ _ _ _ _ _ _ (ones_at m c t) i n).trans ?_
  refine (headOut_congr _ _ _ _ _ _ (he' := (by omega : 2048 + n.val / 64 * 64 + 64 ≤ 2304)) (funext fun l =>
    (gk_at m c t ⟨n.val / 64 % 2, by omega⟩ l).trans (mul_one _).symm) rfl rfl rfl).trans ?_
  by_cases h : a.val < 8
  · refine (head_latent m c t i a r ha hr h hf 2048 (n.val / 64) (by omega) (by omega) (by omega) _ 1 zero_le_one ⟨n.val % 64, by omega⟩).trans ?_
    refine (mul_one _).trans ?_
    exact (Ref.key_latent _ _ _ _ _ ⟨a.val, h⟩ r n).symm
  · have h8 := last_group a h
    refine (head_context m c t i a r ha hr (congrArg Fin.val h8) hf 2048 (n.val / 64) (by omega) (by omega) (by omega) _ 1 ⟨n.val % 64, by omega⟩).trans ?_
    refine (mul_one _).trans ?_
    subst h8
    exact (Ref.key_context _ _ _ _ _ r n).symm

end Cert.In.Final

end
-- ==== Proof.In.Arrays.lean ====
/- The input projection's six result arrays after the run are the reference's. -/
module

public import proofs.«01_k».proof.Proof.In.Heads

@[expose] public section

set_option maxRecDepth 16384

noncomputable section

namespace Cert.In.Final

open Idealize.ShloMosaic Idealize.ShloMosaic.TcCoe Idealize.SL.Sem
open Cert.InIdeal Cert.InIdeal.Gen Cert.In.Kernel Cert.In.Blocks Cert.In.Spec
open Cert.InRefIdeal.Read

variable (m : (ℓ : Loc nD τ sig) → Buf (Elt Ideal) ℓ)

theorem wide_ix (y : S1x512x512.Idx) : y = ix3 0 (y 1) (y 2) := by
  funext a
  fin_cases a
  · exact Fin.ext (by have h : (y 0).val < 1 := (y 0).isLt; show (y 0).val = 0; omega)
  · rfl
  · rfl

theorem narrow_ix (y : S1x512x128.Idx) : y = ix3 0 (y 1) (y 2) := by
  funext a
  fin_cases a
  · exact Fin.ext (by have h : (y 0).val < 1 := (y 0).isLt; show (y 0).val = 0; omega)
  · rfl
  · rfl

/-- The group and the token of a row `i` of the point `t`. -/
def group (t : Fin cfg0.N) : Fin 9 := ⟨t.val / 4, by have h : t.val < 36 := lt_of_lt_of_eq t.isLt N_0; omega⟩
def token (t : Fin cfg0.N) (i : Fin 512) : Fin 2048 := ⟨t.val % 4 * 512 + i.val, by omega⟩

theorem emb_qa (t : Fin cfg0.N) (i n : Fin 512) (y : S1x512x512.Idx) (h1 : (y 1).val = i.val) (h2 : (y 2).val = n.val) :
    ((View.whole main_v66_0).slice (win0_9.rect t)).emb y = (ix3 (group t) (token t i) n : S9x2048x512.Idx) := by
  blk_ext [(writes t).1, group, token]
theorem emb_ka (t : Fin cfg0.N) (i n : Fin 512) (y : S1x512x512.Idx) (h1 : (y 1).val = i.val) (h2 : (y 2).val = n.val) :
    ((View.whole main_v66_1).slice (win0_10.rect t)).emb y = (ix3 (group t) (token t i) n : S9x2048x512.Idx) := by
  blk_ext [(writes t).2.1, group, token]
theorem emb_va (t : Fin cfg0.N) (i n : Fin 512) (y : S1x512x512.Idx) (h1 : (y 1).val = i.val) (h2 : (y 2).val = n.val) :
    ((View.whole main_v66_2).slice (win0_11.rect t)).emb y = (ix3 (group t) (token t i) n : S9x2048x512.Idx) := by
  blk_ext [(writes t).2.2.1, group, token]
theorem emb_qb (t : Fin cfg0.N) (i n : Fin 512) (y : S1x512x512.Idx) (h1 : (y 1).val = i.val) (h2 : (y 2).val = n.val) :
    ((View.whole main_v66_3).slice (win0_12.rect t)).emb y = (ix3 (group t) (token t i) n : S9x2048x512.Idx) := by
  blk_ext [(writes t).2.2.2.1, group, token]
theorem emb_kb (t : Fin cfg0.N) (i : Fin 512) (n : Fin 128) (y : S1x512x128.Idx) (h1 : (y 1).val = i.val) (h2 : (y 2).val = n.val) :
    ((View.whole main_v66_4).slice (win0_13.rect t)).emb y = (ix3 (group t) (token t i) n : S9x2048x128.Idx) := by
  blk_ext [(writes t).2.2.2.2.1, group, token]
theorem emb_vb (t : Fin cfg0.N) (i : Fin 512) (n : Fin 128) (y : S1x512x128.Idx) (h1 : (y 1).val = i.val) (h2 : (y 2).val = n.val) :
    ((View.whole main_v66_5).slice (win0_14.rect t)).emb y = (ix3 (group t) (token t i) n : S9x2048x128.Idx) := by
  blk_ext [(writes t).2.2.2.2.2, group, token]

/-- A column block's entry is the product's. -/
theorem part_at (c : Dev nD) (t : Fin cfg0.N) (i : Fin 512) (n : Fin 2304) :
    col (iblk m c 0 t) (iblk m c 1 t) (iblk m c 2 t) (iblk m c 3 t) i n = column m c (group t) (token t i) n :=
  col_at m c t i n (group t) (token t i) rfl rfl

theorem qa_final (c : Dev nD) : (dats m 0 c).arrAt 9 (cfgs 0).N = val_main_v183 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 9 _ (by decide +kernel) (fun t hf y => ?_)
  blk_simp; rw [after0_9, emb_qa t (y 1) (y 2) y rfl rfl]
  refine (congrArg _ (wide_ix y)).trans ((qa_stored _ _ _ _ _ _ _ _ _ (y 1) (y 2)).trans ?_)
  exact (congrArg (· * _) (part_at m c t (y 1) _)).trans (Ref.qa_result _ _ _ _ _ _ _).symm

theorem ka_final (c : Dev nD) : (dats m 0 c).arrAt 10 (cfgs 0).N = val_main_v184 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 10 _ (by decide +kernel) (fun t hf y => ?_)
  blk_simp; rw [after0_10, emb_ka t (y 1) (y 2) y rfl rfl]
  refine (congrArg _ (wide_ix y)).trans ((ka_stored _ _ _ _ _ _ _ _ _ (y 1) (y 2)).trans ?_)
  exact (part_at m c t (y 1) _).trans (Ref.ka_result _ _ _ _ _ _ _).symm

theorem va_final (c : Dev nD) : (dats m 0 c).arrAt 11 (cfgs 0).N = val_main_v185 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 11 _ (by decide +kernel) (fun t hf y => ?_)
  blk_simp; rw [after0_11, emb_va t (y 1) (y 2) y rfl rfl]
  refine (congrArg _ (wide_ix y)).trans ((va_stored _ _ _ _ _ _ _ _ _ (y 1) (y 2)).trans ?_)
  exact (part_at m c t (y 1) _).trans (Ref.va_result _ _ _ _ _ _ _).symm

theorem qb_final (c : Dev nD) (hfin : Finite m c) : (dats m 0 c).arrAt 12 (cfgs 0).N = refQueries m c := by
  refine (dats m 0 c).arrAt_eq_of_covers 12 _ (by decide +kernel) (fun t hf y => ?_)
  blk_simp; rw [after0_12, emb_qb t (y 1) (y 2) y rfl rfl]
  exact (congrArg _ (wide_ix y)).trans (queries_at m c t (y 1) (y 2) (group t) (token t (y 1)) rfl rfl hfin)

theorem kb_final (c : Dev nD) (hfin : Finite m c) : (dats m 0 c).arrAt 13 (cfgs 0).N = refKeys m c := by
  refine (dats m 0 c).arrAt_eq_of_covers 13 _ (by decide +kernel) (fun t hf y => ?_)
  blk_simp; rw [after0_13, emb_kb t (y 1) (y 2) y rfl rfl]
  exact (congrArg _ (narrow_ix y)).trans (keys_at m c t (y 1) (y 2) (group t) (token t (y 1)) rfl rfl hfin)

theorem vb_final (c : Dev nD) : (dats m 0 c).arrAt 14 (cfgs 0).N = val_main_v188 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 14 _ (by decide +kernel) (fun t hf y => ?_)
  blk_simp; rw [after0_14, emb_vb t (y 1) (y 2) y rfl rfl]
  refine (congrArg _ (narrow_ix y)).trans ((vb_stored _ _ _ _ _ _ _ _ _ (y 1) (y 2)).trans ?_)
  exact (part_at m c t (y 1) _).trans (Ref.vb_result _ _ _ _ _ _ _).symm

end Cert.In.Final

end
-- ==== Proof.In.Pre.lean ====
/- What the precondition of the input projection says: the shift and the scale, the gain and the matrix's columns of queries and keys are finite. -/
module

public import proofs.«01_k».proof.Pre_in_finite
public import proofs.«01_k».proof.Proof.Na.Pre

@[expose] public section

noncomputable section

namespace Cert.In.Pre

open Idealize.ShloMosaic Cert.Attn

/-- The precondition's shape facts. -/
instance preFacts : Cert.Pre_in_finite.Facts where
  slices_S16x1x9216_S9x1x2048_0_0_3072 := by decide
  slices_S1024x2304_S1024x640_0_1536 := by decide
  bcast_S_S9x1x2048 := by decide
  bcast_S_S1024 := by decide
  bcast_S_S1024x640 := by decide

variable (x0 : FVec Ideal ⟨3, ![9, 2048, 1024]⟩ .f32) (x1 : FVec Ideal ⟨3, ![16, 1, 9216]⟩ .f32) (x2 : FVec Ideal ⟨1, ![1024]⟩ .f32)
  (x3 : FVec Ideal ⟨2, ![1024, 2304]⟩ .f32) (x4 x5 : FVec Ideal ⟨1, ![64]⟩ .f32)

/-- A value strictly between the infinities' words is finite. -/
theorem fin_of_bit {a : EReal} (hi : IntOp.andi (Scalar.cmpf (F := Ideal) (φ := .f32) .ogt a (Ideal.ofBits .f32 0xFF800000#32))
    (Scalar.cmpf (F := Ideal) (φ := .f32) .olt a (Ideal.ofBits .f32 0x7F800000#32)) = 1#1) : Fin' a := by
  apply Cert.Na.Pre.fin_of_words
  rw [← ofBits_neg_inf, ← Cert.Na.Pre.ofBits_pos_inf]
  exact hi

theorem fin_mod (h : (Cert.Pre_in_finite.fn (F := Ideal) x0 x1 x2 x3 x4 x5).1 = fun _ => 1#1) (b : Fin 9) (k : Fin 2048) :
    Fin' (x1 (ix3 ⟨b.val, by omega⟩ 0 ⟨3072 + k.val, by omega⟩)) := by
  have e : (extractStridedSlice Cert.Pre_in_finite.S9x1x2048 ![0, 0, 3072] x1 preFacts.slices_S16x1x9216_S9x1x2048_0_0_3072) (ix3 b 0 k)
      = x1 (ix3 ⟨b.val, by omega⟩ 0 ⟨3072 + k.val, by omega⟩) := by pointwise
  rw [← e]
  exact fin_of_bit (congrFun h (ix3 b 0 k))

theorem fin_g (h : (Cert.Pre_in_finite.fn (F := Ideal) x0 x1 x2 x3 x4 x5).2.1 = fun _ => 1#1) (i) : Fin' (x2 i) := fin_of_bit (congrFun h i)

theorem fin_w (h : (Cert.Pre_in_finite.fn (F := Ideal) x0 x1 x2 x3 x4 x5).2.2 = fun _ => 1#1) (k : Fin 1024) (n : Fin 640) :
    Fin' (x3 (ix2 k ⟨1536 + n.val, by omega⟩)) := by
  have e : (extractStridedSlice Cert.Pre_in_finite.S1024x640 ![0, 1536] x3 preFacts.slices_S1024x2304_S1024x640_0_1536) (ix2 k n)
      = x3 (ix2 k ⟨1536 + n.val, by omega⟩) := by pointwise
  rw [← e]
  exact fin_of_bit (congrFun h (ix2 k n))

end Cert.In.Pre

end
-- ==== Proof.In.Claims.lean ====
/- The claims about the input projection. -/
module

public import proofs.«01_k».proof.Defs
public import proofs.«01_k».proof.Proof.Gen.In.Frame
public import proofs.«01_k».proof.Proof.Gen.InIdeal.Value
public import proofs.«01_k».proof.Proof.Gen.InRefIdeal.Run
public import proofs.«01_k».proof.Proof.Gen.InRefIdeal.Read
public import proofs.«01_k».proof.Proof.In.Arrays
public import proofs.«01_k».proof.Proof.In.Pre

@[expose] public section

set_option maxHeartbeats 2000000

noncomputable section

namespace Cert.In.Claims

open Idealize.ShloMosaic Idealize.ShloMosaic.TcCoe Idealize.SL.Sem Cert.In.Final

theorem frame : Cert.quiescent_In := fun m g _ => Cert.In.Gen.frame m g

theorem frame_ideal : Cert.quiescent_InIdeal := fun m g _ => Cert.InIdeal.Gen.frame m g

theorem frame_ideal_pre : Cert.quiescent_InIdeal_pre_in_finite := fun m g _ => Cert.InIdeal.Gen.frame m g

theorem frame_ref : Cert.quiescent_InRefIdeal := fun m g _ =>
  (θ_run _ _ _).mono (fun r h => ⟨fun c => (h c).2.2.2.2.2.2, sem_eq_zero_of_no_sems (by decide) r.2⟩)
    (Cert.InRefIdeal.Value.run m g)

theorem frame_ref_pre : Cert.quiescent_InRefIdeal_pre_in_finite := fun m g _ => frame_ref m g trivial

/-- Under the precondition the columns of the heads are finite. -/
theorem finite (m : (ℓ : Loc Cert.InIdeal.nD Cert.InIdeal.τ Cert.InIdeal.sig) → Buf (Elt Ideal) ℓ)
    (hpre : Cert.Pre_InIdeal_in_finite m) (c : Dev Cert.InIdeal.nD) : Finite m c := by
  obtain ⟨hm, hg, hw⟩ := hpre c
  intro b r n h0 h1
  refine Cert.In.Ref.column_finite _ _ _ _ b r n (Cert.In.Pre.fin_mod _ _ _ _ _ _ hm) (Cert.In.Pre.fin_g _ _ _ _ _ _ hg) fun k => ?_
  have h := Cert.In.Pre.fin_w _ _ _ _ _ _ hw k ⟨n.val - 1536, by omega⟩
  have e : (⟨1536 + (n.val - 1536), by omega⟩ : Fin 2304) = n := Fin.ext (by show 1536 + (n.val - 1536) = n.val; omega)
  exact e ▸ h

theorem congr4 {A B C D E : Type} (f : A → B → C → D → E) {a a' : A} {b b' : B} {c c' : C} {d d' : D}
    (ha : a = a') (hb : b = b') (hc : c = c') (hd : d = d') : f a b c d = f a' b' c' d' := by
  subst ha; subst hb; subst hc; subst hd; rfl

theorem congr5 {A B C D G E : Type} (f : A → B → C → D → G → E) {a a' : A} {b b' : B} {c c' : C} {d d' : D} {e e' : G}
    (ha : a = a') (hb : b = b') (hc : c = c') (hd : d = d') (he : e = e') : f a b c d e = f a' b' c' d' e' := by
  subst ha; subst hb; subst hc; subst hd; subst he; rfl

/-! The call's arguments on a device. -/

abbrev arg0 (m : (ℓ : Loc Cert.InIdeal.nD Cert.InIdeal.τ Cert.InIdeal.sig) → Buf (Elt Ideal) ℓ) (c : Dev Cert.InIdeal.nD) :=
  m ((c.tc : Thread Cert.InIdeal.nD Cert.InIdeal.τ).loc Cert.InIdeal.main_arg0)
abbrev arg1 (m : (ℓ : Loc Cert.InIdeal.nD Cert.InIdeal.τ Cert.InIdeal.sig) → Buf (Elt Ideal) ℓ) (c : Dev Cert.InIdeal.nD) :=
  m ((c.tc : Thread Cert.InIdeal.nD Cert.InIdeal.τ).loc Cert.InIdeal.main_arg1)
abbrev arg2 (m : (ℓ : Loc Cert.InIdeal.nD Cert.InIdeal.τ Cert.InIdeal.sig) → Buf (Elt Ideal) ℓ) (c : Dev Cert.InIdeal.nD) :=
  m ((c.tc : Thread Cert.InIdeal.nD Cert.InIdeal.τ).loc Cert.InIdeal.main_arg2)
abbrev arg3 (m : (ℓ : Loc Cert.InIdeal.nD Cert.InIdeal.τ Cert.InIdeal.sig) → Buf (Elt Ideal) ℓ) (c : Dev Cert.InIdeal.nD) :=
  m ((c.tc : Thread Cert.InIdeal.nD Cert.InIdeal.τ).loc Cert.InIdeal.main_arg3)

/-- The run's six arrays are the reference's. -/
theorem algebraic : Cert.algebraic_InIdeal_InRefIdeal_pre_in_finite := by
  intro m g m' g' hpre hagree
  refine ⟨fun c => Cert.InRefIdeal.Read.val_main_v183 (F := Ideal) (arg0 m c) (arg1 m c) (arg2 m c) (arg3 m c),
    fun c => Cert.InRefIdeal.Read.val_main_v184 (F := Ideal) (arg0 m c) (arg1 m c) (arg2 m c) (arg3 m c),
    fun c => Cert.InRefIdeal.Read.val_main_v185 (F := Ideal) (arg0 m c) (arg1 m c) (arg2 m c) (arg3 m c),
    fun c => refQueries m c, fun c => refKeys m c,
    fun c => Cert.InRefIdeal.Read.val_main_v188 (F := Ideal) (arg0 m c) (arg1 m c) (arg2 m c) (arg3 m c),
    (θ_run _ _ _).mono (fun r h c => ?_) (Cert.InIdeal.Value.run_blocks m g),
    (θ_run _ _ _).mono (fun r h c => ?_) (Cert.InRefIdeal.Value.run m' g')⟩
  · obtain ⟨h0, h1, h2, h3, h4, h5, hk⟩ := h c
    exact ⟨h0.trans (qa_final m c), h1.trans (ka_final m c), h2.trans (va_final m c), h3.trans (qb_final m c (finite m hpre c)),
      h4.trans (kb_final m c (finite m hpre c)), h5.trans (vb_final m c), hk⟩
  · obtain ⟨h0, h1, h2, h3, h4, h5, hk⟩ := h c
    obtain ⟨e0, e1, e2, e3, e4, e5⟩ := hagree c
    refine ⟨h0.trans ?_, h1.trans ?_, h2.trans ?_, h3.trans ?_, h4.trans ?_, h5.trans ?_, hk⟩
    · exact (Cert.InRefIdeal.Read.val_main_v183_eq _).trans (congr4 (Cert.InRefIdeal.Read.val_main_v183 (F := Ideal)) e0 e1 e2 e3)
    · exact (Cert.InRefIdeal.Read.val_main_v184_eq _).trans (congr4 (Cert.InRefIdeal.Read.val_main_v184 (F := Ideal)) e0 e1 e2 e3)
    · exact (Cert.InRefIdeal.Read.val_main_v185_eq _).trans (congr4 (Cert.InRefIdeal.Read.val_main_v185 (F := Ideal)) e0 e1 e2 e3)
    · exact (Cert.InRefIdeal.Read.val_main_v186_eq _).trans (congr5 (Cert.InRefIdeal.Read.val_main_v186 (F := Ideal)) e0 e1 e2 e3 e4)
    · exact (Cert.InRefIdeal.Read.val_main_v187_eq _).trans (congr5 (Cert.InRefIdeal.Read.val_main_v187 (F := Ideal)) e0 e1 e2 e3 e5)
    · exact (Cert.InRefIdeal.Read.val_main_v188_eq _).trans (congr4 (Cert.InRefIdeal.Read.val_main_v188 (F := Ideal)) e0 e1 e2 e3)

end Cert.In.Claims

end
-- ==== Proof.Mod.Spec.lean ====
/- The modulation call as one formula per entry: a gated condition row times a matrix, plus a bias. -/
module

public import Idealize.ShloMosaic.Lib.Pipeline.ValueKit
public import Idealize.ShloMosaic.Lib.Pointwise

@[expose] public section

noncomputable section

namespace Cert.Modulation

open Idealize.ShloMosaic

/-- Entry of the modulation: row `c` of the condition, column `w` of a layer's matrix, its bias `b`. -/
def modulated (c w : Fin 1024 → EReal) (b : EReal) : EReal :=
  (∑ k, c k * Ideal.logistic (c k) * w k) + b

end Cert.Modulation

end
-- ==== Proof.Mod.Final.lean ====
/- The modulation kernel's result array after the run, entry by entry. -/
module

public import proofs.«01_k».proof.Proof.Gen.ModIdeal.Value
public import proofs.«01_k».proof.Proof.Mod.Spec

@[expose] public section

set_option maxRecDepth 16384

noncomputable section

namespace Cert.Modulation

open Idealize.ShloMosaic Idealize.ShloMosaic.TcCoe Idealize.SL.Sem
open Cert.ModIdeal Cert.ModIdeal.Gen

/-- What a point stores. -/
theorem stored_at (x0 : FVec Ideal S16x1024 .f32) (x1 : FVec Ideal S1x1024x1152 .f32) (x2 : FVec Ideal S1x1x1152 .f32)
    (i : Fin 16) (n : Fin 1152) :
    k0_pay1 (F := Ideal) x0 x1 x2 (ix3 0 i n)
      = modulated (fun k => x0 (ix2 i k)) (fun k => x1 (ix3 0 k n)) (x2 (ix3 0 0 n)) := by
  pointwise [k0_pay1]
  rfl

variable (m : (ℓ : Loc nD τ sig) → Buf (Elt Ideal) ℓ)

/-- Where each grid point reads and writes. -/
theorem idx : ∀ t : Fin cfg0.N,
    win0_0.index t = ![0, 0]
    ∧ win0_1.index t = ![t.val / 8, 0, t.val % 8]
    ∧ win0_2.index t = ![t.val / 8, 0, t.val % 8]
    ∧ win0_3.index t = ![t.val / 8, 0, t.val % 8] := (by decide +kernel : ∀ t : Fin grid0.N, _)

theorem cond_at (c : Dev nD) (t : Fin cfg0.N) (i : Fin 16) (k : Fin 1024) :
    (show FVec Ideal S16x1024 .f32 from iblk m c 0 t) (ix2 i k) = m ((c : Thread nD τ).loc main_arg0) (ix2 i k) := by
  blk_ext [iblk, V, (idx t).1]

theorem w_at (c : Dev nD) (t : Fin cfg0.N) (k : Fin 1024) (n : Fin 1152) (a : Fin 2) (e : Fin 9216)
    (ha : a.val = t.val / 8) (he : e.val = t.val % 8 * 1152 + n.val) :
    (show FVec Ideal S1x1024x1152 .f32 from iblk m c 1 t) (ix3 0 k n) = m ((c : Thread nD τ).loc main_arg1) (ix3 a k e) := by
  blk_ext [iblk, V, (idx t).2.1]

theorem b_at (c : Dev nD) (t : Fin cfg0.N) (n : Fin 1152) (a : Fin 2) (e : Fin 9216)
    (ha : a.val = t.val / 8) (he : e.val = t.val % 8 * 1152 + n.val) :
    (show FVec Ideal S1x1x1152 .f32 from iblk m c 2 t) (ix3 0 0 n) = m ((c : Thread nD τ).loc main_arg2) (ix2 a e) := by
  have h : (show FVec Ideal S2x1x9216 .f32 from V m c main_v0) (ix3 a 0 e) = m ((c : Thread nD τ).loc main_arg2) (ix2 a e) := by
    entry_read
    pointwise
  refine Eq.trans ?_ h
  blk_ext [iblk, (idx t).2.2.1]

/-- The result array. -/
def result (c : Dev nD) : FVec Ideal S2x16x9216 .f32 := fun i =>
  modulated (fun k => m ((c : Thread nD τ).loc main_arg0) (ix2 (i 1) k))
    (fun k => m ((c : Thread nD τ).loc main_arg1) (ix3 (i 0) k (i 2)))
    (m ((c : Thread nD τ).loc main_arg2) (ix2 (i 0) (i 2)))

/-- What a point's body leaves at row `i`, channel `n` of its block. -/
theorem block_at (c : Dev nD) (t : Fin cfg0.N) (i : Fin 16) (n : Fin 1152) (a : Fin 2) (e : Fin 9216)
    (ha : a.val = t.val / 8) (he : e.val = t.val % 8 * 1152 + n.val) (j : S1x16x1152.Idx) (hj : j = ix3 0 i n) :
    out0_3 (iblk m c 0 t) (iblk m c 1 t) (iblk m c 2 t) j = result m c (ix3 a i e) := by
  subst hj
  unfold out0_3
  frame_out
  refine (stored_at _ _ _ i n).trans ?_
  show modulated _ _ _ = modulated _ _ _
  congr 1
  · exact funext fun k => cond_at m c t i k
  · exact funext fun k => w_at m c t k n a e ha he
  · exact b_at m c t n a e ha he

theorem emb_at (t : Fin cfg0.N) (i : Fin 16) (n : Fin 1152) (a : Fin 2) (e : Fin 9216)
    (ha : a.val = t.val / 8) (he : e.val = t.val % 8 * 1152 + n.val)
    (y : S1x16x1152.Idx) (h1 : (y 1).val = i.val) (h2 : (y 2).val = n.val) :
    ((View.whole main_v1).slice (win0_3.rect t)).emb y = (ix3 a i e : S2x16x9216.Idx) := by
  blk_ext [(idx t).2.2.2]

theorem final (c : Dev nD) : (dats m 0 c).arrAt 3 (cfgs 0).N = result m c := by
  refine (dats m 0 c).arrAt_eq_of_covers 3 _ (by decide +kernel) (fun t hf y => ?_)
  blk_simp; rw [after0_3]
  have ht : t.val < 16 := lt_of_lt_of_eq t.isLt N_0
  have h1 : (y 1).val < 16 := (y 1).isLt
  have h2 : (y 2).val < 1152 := (y 2).isLt
  rw [emb_at t ⟨(y 1).val, h1⟩ ⟨(y 2).val, h2⟩ ⟨t.val / 8, by omega⟩ ⟨t.val % 8 * 1152 + (y 2).val, by omega⟩
    rfl rfl y rfl rfl]
  exact block_at m c t ⟨(y 1).val, h1⟩ ⟨(y 2).val, h2⟩ _ _ rfl rfl y (by blk_ext)

end Cert.Modulation

end
-- ==== Proof.Mod.Ref.lean ====
/- The reference of the modulation, entry by entry. -/
module

public import proofs.«01_k».proof.Proof.Gen.ModRefIdeal.Read
public import proofs.«01_k».proof.Proof.Mod.Spec

@[expose] public section

set_option maxRecDepth 16384
noncomputable section

namespace Cert.Modulation.Ref
open Idealize.ShloMosaic Idealize.ShloMosaic.TcCoe Idealize.SL.Sem
open Cert.ModRefIdeal Cert.ModRefIdeal.Read

variable (x : FVec Ideal S16x1024 .f32) (w : FVec Ideal S2x1024x9216 .f32) (b : FVec Ideal S2x9216 .f32)

/-- The first layer's row. -/
theorem first_at (i : Fin 16) (n : Fin 9216) :
    val_main_v8 (F := Ideal) x w b (ix2 i n)
      = modulated (fun k => x (ix2 i k)) (fun k => w (ix3 0 k n)) (b (ix2 0 n)) := by
  pointwise [val_main_call0_v0, val_main_call0_v1, val_main_call0_cst, val_main_call0_v2, val_main_call0_v3, val_main_call0_cst_0, val_main_call0_v4, val_main_call0_v5, val_main_v0, val_main_v1, val_main_v2, val_main_v3, val_main_v4, val_main_v5, val_main_v6, val_main_v7, val_main_v8]
  rfl

/-- The second layer's row. -/
theorem second_at (i : Fin 16) (n : Fin 9216) :
    val_main_v17 (F := Ideal) x w b (ix2 i n)
      = modulated (fun k => x (ix2 i k)) (fun k => w (ix3 1 k n)) (b (ix2 1 n)) := by
  pointwise [val_main_call1_v0, val_main_call1_v1, val_main_call1_cst, val_main_call1_v2, val_main_call1_v3, val_main_call1_cst_0, val_main_call1_v4, val_main_call1_v5, val_main_v9, val_main_v10, val_main_v11, val_main_v12, val_main_v13, val_main_v14, val_main_v15, val_main_v16, val_main_v17]
  rfl

/-- The two layers stacked: layer 0. -/
theorem low_at (i : Fin 16) (n : Fin 9216) :
    val_main_v20 (F := Ideal) x w b (ix3 0 i n) = val_main_v8 (F := Ideal) x w b (ix2 i n) := by
  unfold val_main_v20
  pointwise [val_main_v18]

/-- Layer 1. -/
theorem high_at (i : Fin 16) (n : Fin 9216) :
    val_main_v20 (F := Ideal) x w b (ix3 1 i n) = val_main_v17 (F := Ideal) x w b (ix2 i n) := by
  unfold val_main_v20
  pointwise [val_main_v19]

/-- The reference's result, entry by entry. -/
theorem result_at (a : Fin 2) (i : Fin 16) (n : Fin 9216) :
    val_main_v20 (F := Ideal) x w b (ix3 a i n)
      = modulated (fun k => x (ix2 i k)) (fun k => w (ix3 a k n)) (b (ix2 a n)) := by
  fin_cases a
  · exact (low_at x w b i n).trans (first_at x w b i n)
  · exact (high_at x w b i n).trans (second_at x w b i n)

end Cert.Modulation.Ref
end
-- ==== Proof.Mod.Claims.lean ====
/- The claims about the modulation. -/
module

public import proofs.«01_k».proof.Defs
public import proofs.«01_k».proof.Proof.Gen.Mod.Frame
public import proofs.«01_k».proof.Proof.Gen.ModRefIdeal.Run
public import proofs.«01_k».proof.Proof.Mod.Final
public import proofs.«01_k».proof.Proof.Mod.Ref

@[expose] public section

noncomputable section

namespace Cert.Modulation.Claims

open Idealize.ShloMosaic Idealize.ShloMosaic.TcCoe Idealize.SL.Sem

theorem frame : Cert.quiescent_Mod := fun m g _ => Cert.Mod.Gen.frame m g

theorem frame_ideal : Cert.quiescent_ModIdeal := fun m g _ => Cert.ModIdeal.Gen.frame m g

theorem frame_ref : Cert.quiescent_ModRefIdeal := fun m g _ =>
  (θ_run _ _ _).mono (fun r h => ⟨fun c => (h c).2, sem_eq_zero_of_no_sems (by decide) r.2⟩)
    (Cert.ModRefIdeal.Value.run m g)

theorem algebraic : Cert.algebraic_ModIdeal_ModRefIdeal := by
  intro m g m' g' _ hagree
  refine ⟨fun c => result m c, ?_, ?_⟩
  · refine (θ_run _ _ _).mono (fun r h c => ?_) (Cert.ModIdeal.Value.run_blocks m g)
    obtain ⟨h0, hk⟩ := h c
    exact ⟨h0.trans (final m c), hk⟩
  · refine (θ_run _ _ _).mono (fun r h c => ?_) (Cert.ModRefIdeal.Value.run m' g')
    obtain ⟨h0, hk⟩ := h c
    obtain ⟨e0, e1, e2⟩ := hagree c
    refine ⟨h0.trans ?_, hk⟩
    rw [Cert.ModRefIdeal.Read.val_main_v20_eq, e0, e1, e2]
    funext i
    refine Eq.trans (congrArg _ ?_) (Ref.result_at _ _ _ (i 0) (i 1) (i 2))
    funext a; fin_cases a <;> rfl

end Cert.Modulation.Claims

end
-- ==== Proof.Ctx.Spec.lean ====
/- The attention of the context rows among themselves, written as sums over the arguments. -/
module

public import proofs.«01_k».proof.Proof.Gqa.Spec

@[expose] public section

noncomputable section

namespace Cert.Context.Spec

open Idealize.ShloMosaic Cert.Attn Cert.Na.Spec Cert.Gqa.Spec

/-- The attention of one query with scores `s` and values `v`, divided after the sum. -/
def softLast {C : Type} [Fintype C] (s v : C → EReal) : EReal :=
  Ideal.div (∑ c, Ideal.exp (s c - top s) * v c) (∑ c, Ideal.exp (s c - top s))

/-- The same with every weight divided before it meets its value. -/
def softFirst {C : Type} [Fintype C] (s v : C → EReal) : EReal :=
  ∑ c, Ideal.div (Ideal.exp (s c - top s)) (∑ c, Ideal.exp (s c - top s)) * v c

/-- For finite scores the two orders agree: the attention over two sets of keys, the first of them empty. -/
theorem softLast_eq {C : Type} [Fintype C] [Nonempty C] (s v : C → EReal) (h : ∀ c, Fin' (s c)) :
    softLast s v = softFirst s v := by
  have e := attention (A := Empty) (B := Empty) (fun a => a.elim) (fun a => a.elim) s v id
    Function.injective_id (fun a => a.elim) (fun a => a.elim) h
  have t : ∀ f : Empty → EReal, max (top f) (top s) = top s := fun f => by
    unfold top
    simp
  simpa [divLast, divFirst, softLast, softFirst, t] using e

theorem softLast_congr {C : Type} [Fintype C] {s s' v v' : C → EReal} (h : ∀ c, s c = s' c) (g : ∀ c, v c = v' c) :
    softLast s v = softLast s' v' := by
  rw [funext h, funext g]

/-- The sample of a context row and its place there. -/
def sampleOf (r : Fin 2048) : Fin 8 := ⟨r.val / 256, by omega⟩

section Heads
variable (Q K V : FVec Ideal Sx .bf16)

/-- The product of the query in context row `r` with key `c` of its sample, for the head of column `e`. -/
def dot (r : Fin 2048) (e : Fin 512) (c : Fin 256) : EReal :=
  ∑ d : Fin 64, Q (ix3 8 r (col (headOf e) d)) * K (ix3 8 (ctxAt (sampleOf r) c) (col (headOf e) d))

/-- One entry of the first result's context rows with the division last, and with every weight divided first. -/
def kernelOut (r : Fin 2048) (e : Fin 512) : EReal := softLast (dot Q K r e) fun c => V (ix3 8 (ctxAt (sampleOf r) c) e)
def refOut (r : Fin 2048) (e : Fin 512) : EReal := softFirst (dot Q K r e) fun c => V (ix3 8 (ctxAt (sampleOf r) c) e)

theorem agree (h0 : ∀ r e, Fin' (Q (ix3 8 r e))) (h1 : ∀ r e, Fin' (K (ix3 8 r e))) (r : Fin 2048) (e : Fin 512) :
    kernelOut Q K V r e = refOut Q K V r e :=
  softLast_eq _ _ fun c => Fin'.sum _ _ fun d => (h0 _ _).mul (h1 _ _)

end Heads

section Groups
variable (Q : FVec Ideal Sx .bf16) (K V : FVec Ideal Sk .bf16)

/-- The same product for the grouped queries: the key head of column `e`. -/
def gdot (r : Fin 2048) (e : Fin 512) (c : Fin 256) : EReal :=
  ∑ d : Fin 64, Q (ix3 8 r (col (headOf e) d)) * K (ix3 8 (ctxAt (sampleOf r) c) (keyLane e d))

/-- One entry of the second result's context rows, in the two orders. -/
def gkernelOut (r : Fin 2048) (e : Fin 512) : EReal :=
  softLast (gdot Q K r e) fun c => V (ix3 8 (ctxAt (sampleOf r) c) (valueLane e))
def grefOut (r : Fin 2048) (e : Fin 512) : EReal :=
  softFirst (gdot Q K r e) fun c => V (ix3 8 (ctxAt (sampleOf r) c) (valueLane e))

theorem gagree (h0 : ∀ r e, Fin' (Q (ix3 8 r e))) (h1 : ∀ r e, Fin' (K (ix3 8 r e))) (r : Fin 2048) (e : Fin 512) :
    gkernelOut Q K V r e = grefOut Q K V r e :=
  softLast_eq _ _ fun c => Fin'.sum _ _ fun d => (h0 _ _).mul (h1 _ _)

end Groups

end Cert.Context.Spec

end
-- ==== Proof.Ctx.Payload.lean ====
/- What one point of the context attention's kernel writes in a column block of either result. -/
module

public import proofs.«01_k».proof.Proof.Gen.CtxIdeal.Value
public import proofs.«01_k».proof.Proof.Na.Payload
public import proofs.«01_k».proof.Proof.Ctx.Spec

@[expose] public section

set_option maxRecDepth 16384

noncomputable section

namespace Cert.Context.Kernel

open Idealize.ShloMosaic Idealize.ShloMosaic.TcCoe Idealize.SL.Sem
open Cert.CtxIdeal Cert.CtxIdeal.Gen Cert.Attn Cert.Na.Kernel Cert.Context.Spec

/-! ## Two heads side by side -/

/-- The attention of 256 queries `s` over 256 keys. -/
def soft (s k v : FVec Ideal S256x128 .bf16) : FVec Ideal S256x128 .f32 :=
  have a : FVec Ideal S256x256 .f32 := matmul dot_S256x128_S256x128_S256x256_1_1_0_0_n_n none s k (constant S256x256 .f32 0x00000000#32)
  have p : FVec Ideal S256x256 .f32 := exp (subf a (broadcastTo S256x256
    (shapeCast S256x1 (multiReduction .maximumf [1] S256 a 0xFF800000#32 reduces_S256x256_S256 (.inl rfl) rfl) shapeCasts_S256_S256x1)
    broadcasts_S256x1_S256x256))
  divf
    (matmul dot_S256x256_S256x128_S256x128_1_0_0_1_n_n none (truncf .bf16 p bitsLt_bf16_f32) v (constant S256x128 .f32 0x00000000#32))
    (broadcastTo S256x128
      (shapeCast S256x1 (multiReduction .add [1] S256 p 0x00000000#32 reduces_S256x256_S256 (.inl rfl) rfl) shapeCasts_S256_S256x1)
      broadcasts_S256x1_S256x128)

theorem soft_at (s k v : FVec Ideal S256x128 .bf16) (p : Fin 256) (l : Fin 128) :
    soft s k v (ix2 p l) = softLast (fun c : Fin 256 => ∑ x, s (ix2 p x) * k (ix2 c x)) (fun c => v (ix2 c l)) := by
  pointwise [soft]
  have e := ofBits_neg_inf
  unfold softLast top
  rw [← e]

variable (q k v : FVec Ideal S1x256x128 .bf16)

/-- What the kernel stores in one column block of the first result. -/
def pair : FVec Ideal S1x256x128 .f32 :=
  shapeCast S1x256x128 (select k0_pay7
    (soft (select k0_pay7 (k0_pay6 q) (k0_pay8 (F := Ideal))) (k0_pay4 k) (k0_pay5 v))
    (soft (select k0_pay7 (k0_pay8 (F := Ideal)) (k0_pay6 q)) (k0_pay4 k) (k0_pay5 v))) shapeCasts_S256x128_S1x256x128

theorem pair_0 : k0_pay12 (F := Ideal) (k0_pay9 k v q) (k0_pay10 k v q) k0_pay11 = pair q k v := rfl
theorem pair_1 : k0_pay22 (F := Ideal) (k0_pay14 v) (k0_pay18 k v q) (k0_pay20 k q) (k0_pay21 k q) (constant S256x128 .f32 0x00000000#32)
    = pair q k v := rfl
theorem pair_2 : k0_pay31 (F := Ideal) (k0_pay24 v) (k0_pay28 k v q) (k0_pay29 k q) (k0_pay30 k q) = pair q k v := rfl
theorem pair_3 : k0_pay38 (F := Ideal) (k0_pay32 k) (k0_pay33 v) (k0_pay34 q) k0_pay35 k0_pay36 (k0_pay37 k v q) = pair q k v := rfl

/-- The attention of query `i` for head `hh` of a pair, at lane `l` of the values. -/
def head (hh : Fin 2) (i : Fin 256) (l : Fin 128) : EReal :=
  softLast (fun c : Fin 256 => ∑ d : Fin 64, q (ix3 0 i (lane hh d)) * k (ix3 0 c (lane hh d))) (fun c => v (ix3 0 c l))

theorem rows_at (x : FVec Ideal S1x256x128 .bf16) (a : Fin 256) (l : Fin 128) : k0_pay4 (F := Ideal) x (ix2 a l) = x (ix3 0 a l) := by
  pointwise [k0_pay4]

theorem low_at (i : Fin 256) (x : Fin 128) : select k0_pay7 (k0_pay6 q) (k0_pay8 (F := Ideal)) (ix2 i x)
    = Scalar.select (IntOp.cmpi CmpIPredicate.slt (BitVec.ofNat 32 x.val) 64#32) (q (ix3 0 i x)) (0 : EReal) := by
  pointwise [k0_pay6, k0_pay7, k0_pay8]
theorem high_at (i : Fin 256) (x : Fin 128) : select k0_pay7 (k0_pay8 (F := Ideal)) (k0_pay6 q) (ix2 i x)
    = Scalar.select (IntOp.cmpi CmpIPredicate.slt (BitVec.ofNat 32 x.val) 64#32) (0 : EReal) (q (ix3 0 i x)) := by
  pointwise [k0_pay6, k0_pay7, k0_pay8]

/-- A product over the lanes of which the other head's are set to zero. -/
theorem masked_low (f g : Fin 128 → EReal) :
    ∑ x : Fin 128, Scalar.select (IntOp.cmpi CmpIPredicate.slt (BitVec.ofNat 32 x.val) 64#32) (f x) (0 : EReal) * g x
      = ∑ d, f (lane 0 d) * g (lane 0 d) := by
  rw [sum_lanes]
  simp only [slt_low, slt_high]
  simp [Scalar.select]
theorem masked_high (f g : Fin 128 → EReal) :
    ∑ x : Fin 128, Scalar.select (IntOp.cmpi CmpIPredicate.slt (BitVec.ofNat 32 x.val) 64#32) (0 : EReal) (f x) * g x
      = ∑ d, f (lane 1 d) * g (lane 1 d) := by
  rw [sum_lanes]
  simp only [slt_low, slt_high]
  simp [Scalar.select]

theorem lower_at (i : Fin 256) (l : Fin 128) :
    soft (select k0_pay7 (k0_pay6 q) (k0_pay8 (F := Ideal))) (k0_pay4 k) (k0_pay5 v) (ix2 i l) = head q k v 0 i l := by
  rw [soft_at]
  refine softLast_congr (fun c => ?_) (fun c => rows_at v c l)
  simp only [low_at, rows_at]
  exact masked_low _ _
theorem upper_at (i : Fin 256) (l : Fin 128) :
    soft (select k0_pay7 (k0_pay8 (F := Ideal)) (k0_pay6 q)) (k0_pay4 k) (k0_pay5 v) (ix2 i l) = head q k v 1 i l := by
  rw [soft_at]
  refine softLast_congr (fun c => ?_) (fun c => rows_at v c l)
  simp only [high_at, rows_at]
  exact masked_high _ _

/-- The comparison of a lane with 64. -/
theorem half_of : ∀ l : Fin 128, IntOp.cmpi CmpIPredicate.slt (BitVec.ofNat 32 l.val) 64#32 = if l.val < 64 then 1#1 else 0#1 := by
  decide +kernel

/-- Each lane holds its own head. -/
theorem choose (f : Fin 2 → EReal) (l : Fin 128) :
    Scalar.select (IntOp.cmpi CmpIPredicate.slt (BitVec.ofNat 32 l.val) 64#32) (f 0) (f 1) = f ⟨l.val / 64, by omega⟩ := by
  rw [half_of]
  by_cases h : l.val < 64
  · rw [if_pos h]
    exact congrArg f (Fin.ext (by show 0 = l.val / 64; omega))
  · rw [if_neg h]
    exact congrArg f (Fin.ext (by show 1 = l.val / 64; omega))

theorem pair_at (i : Fin 256) (l : Fin 128) : pair q k v (ix3 0 i l) = head q k v ⟨l.val / 64, by omega⟩ i l := by
  rw [← choose fun hh => head q k v hh i l]
  pointwise [pair]
  rw [lower_at, upper_at]
  pointwise [k0_pay7]

/-! ## Four grouped heads under one another -/

/-- The attention of 1024 queries `s` over 256 keys. -/
def tall (s : FVec Ideal S1024x128 .bf16) (k v : FVec Ideal S256x128 .bf16) : FVec Ideal S1024x128 .f32 :=
  have a : FVec Ideal S1024x256 .f32 := matmul dot_S1024x128_S256x128_S1024x256_1_1_0_0_n_n none s k (constant S1024x256 .f32 0x00000000#32)
  have p : FVec Ideal S1024x256 .f32 := exp (subf a (broadcastTo S1024x256
    (shapeCast S1024x1 (multiReduction .maximumf [1] S1024 a 0xFF800000#32 reduces_S1024x256_S1024 (.inl rfl) rfl) shapeCasts_S1024_S1024x1)
    broadcasts_S1024x1_S1024x256))
  divf
    (matmul dot_S1024x256_S256x128_S1024x128_1_0_0_1_n_n none (truncf .bf16 p bitsLt_bf16_f32) v (constant S1024x128 .f32 0x00000000#32))
    (broadcastTo S1024x128
      (shapeCast S1024x1 (multiReduction .add [1] S1024 p 0x00000000#32 reduces_S1024x256_S1024 (.inl rfl) rfl) shapeCasts_S1024_S1024x1)
      broadcasts_S1024x1_S1024x128)

theorem tall_at (s : FVec Ideal S1024x128 .bf16) (k v : FVec Ideal S256x128 .bf16) (p : Fin 1024) (l : Fin 128) :
    tall s k v (ix2 p l) = softLast (fun c : Fin 256 => ∑ x, s (ix2 p x) * k (ix2 c x)) (fun c => v (ix2 c l)) := by
  pointwise [tall]
  have e := ofBits_neg_inf
  unfold softLast top
  rw [← e]

variable (w : FVec Ideal S1x256x512 .bf16)

/-- The stacked queries of the upper heads. -/
def stackHigh : FVec Ideal S1024x128 .bf16 :=
  concatenate S1024x128 0 [⟨S256x128, select k0_pay46 (k0_pay47 (F := Ideal)) (k0_pay42 w)⟩, ⟨S256x128, select k0_pay46 (k0_pay47 (F := Ideal)) (k0_pay43 w)⟩,
    ⟨S256x128, select k0_pay46 (k0_pay47 (F := Ideal)) (k0_pay44 w)⟩, ⟨S256x128, select k0_pay46 (k0_pay47 (F := Ideal)) (k0_pay45 w)⟩]
    concatenates_S256x128_S256x128_S256x128_S256x128_S1024x128_d0

theorem lower_eq : k0_pay49 (F := Ideal) (k0_pay40 k) (k0_pay41 v) (k0_pay48 w) (constant S1024x256 .f32 0x00000000#32)
    = tall (k0_pay48 w) (k0_pay40 k) (k0_pay41 v) := rfl
theorem upper_eq : k0_pay50 (F := Ideal) (k0_pay40 k) (k0_pay41 v) (k0_pay42 w) (k0_pay43 w) (k0_pay44 w) (k0_pay45 w) k0_pay46 k0_pay47
    = tall (stackHigh w) (k0_pay40 k) (k0_pay41 v) := rfl

/-- Column `x` of row `p` of the stack, in the queries. -/
def at' (p : Fin 1024) (x : Fin 128) : EReal := w (ix3 0 ⟨p.val % 256, by omega⟩ ⟨p.val / 256 * 128 + x.val, by omega⟩)

theorem stack_low_at (p : Fin 1024) (x : Fin 128) :
    k0_pay48 (F := Ideal) w (ix2 p x)
      = Scalar.select (IntOp.cmpi CmpIPredicate.slt (BitVec.ofNat 32 x.val) 64#32) (at' w p x) (0 : EReal) := by
  have hp : p.val < 1024 := p.isLt
  pointwise [k0_pay48, k0_pay39, k0_pay42, k0_pay43, k0_pay44, k0_pay45, k0_pay46, k0_pay47]
  unfold at'
  split_ifs <;> refine congrArg₂ (Scalar.select _) (congrArg w ?_) rfl <;> blk_ext

theorem stack_high_at (p : Fin 1024) (x : Fin 128) :
    stackHigh w (ix2 p x)
      = Scalar.select (IntOp.cmpi CmpIPredicate.slt (BitVec.ofNat 32 x.val) 64#32) (0 : EReal) (at' w p x) := by
  have hp : p.val < 1024 := p.isLt
  pointwise [stackHigh, k0_pay39, k0_pay42, k0_pay43, k0_pay44, k0_pay45, k0_pay46, k0_pay47]
  unfold at'
  split_ifs <;> refine congrArg (Scalar.select _ _) (congrArg w ?_) <;> blk_ext

/-- The attention of stack row `p` for key head `hh`, at lane `l` of the values. -/
def ghead (hh : Fin 2) (p : Fin 1024) (l : Fin 128) : EReal :=
  softLast (fun c : Fin 256 => ∑ d : Fin 64, at' w p (lane hh d) * k (ix3 0 c (lane hh d))) (fun c => v (ix3 0 c l))

theorem rows_at' (x : FVec Ideal S1x256x128 .bf16) (a : Fin 256) (l : Fin 128) : k0_pay40 (F := Ideal) x (ix2 a l) = x (ix3 0 a l) := by
  pointwise [k0_pay40]

theorem glower_at (p : Fin 1024) (l : Fin 128) :
    tall (k0_pay48 (F := Ideal) w) (k0_pay40 k) (k0_pay41 v) (ix2 p l) = ghead k v w 0 p l := by
  rw [tall_at]
  refine softLast_congr (fun c => ?_) (fun c => rows_at' v c l)
  simp only [stack_low_at, rows_at']
  exact masked_low _ _
theorem gupper_at (p : Fin 1024) (l : Fin 128) :
    tall (stackHigh w) (k0_pay40 k) (k0_pay41 v) (ix2 p l) = ghead k v w 1 p l := by
  rw [tall_at]
  refine softLast_congr (fun c => ?_) (fun c => rows_at' v c l)
  simp only [stack_high_at, rows_at']
  exact masked_high _ _

/-- What the kernel stores in column block `g` of the second result, from row `o` of the two stacks on. -/
theorem grouped_at (g : Fin 4) (o : ℕ) (ho : o = g.val * 256) (sl sc) (i : Fin 256) (l : Fin 128) :
    shapeCast S1x256x128 (select k0_pay46
        (extractStridedSlice S256x128 ![o, 0] (tall (k0_pay48 (F := Ideal) w) (k0_pay40 k) (k0_pay41 v)) sl)
        (extractStridedSlice S256x128 ![o, 0] (tall (stackHigh w) (k0_pay40 k) (k0_pay41 v)) sl)) sc (ix3 0 i l)
      = ghead k v w ⟨l.val / 64, by omega⟩ ⟨g.val * 256 + i.val, by omega⟩ l := by
  subst ho
  rw [← choose fun hh => ghead k v w hh ⟨g.val * 256 + i.val, by omega⟩ l]
  pointwise [k0_pay46]
  rw [glower_at, gupper_at]

end Cert.Context.Kernel

end
-- ==== Proof.Ctx.Store.lean ====
/- The two blocks a point of the context attention's kernel leaves: four stores each, one per column block. -/
module

public import proofs.«01_k».proof.Proof.Ctx.Payload

@[expose] public section

set_option maxRecDepth 16384

noncomputable section

namespace Cert.Context.Kernel

open Idealize.ShloMosaic Idealize.ShloMosaic.TcCoe Idealize.SL.Sem
open Cert.CtxIdeal Cert.CtxIdeal.Gen Cert.Attn Cert.Na.Spec Cert.Na.Kernel Cert.Gqa.Spec Cert.Context.Spec

/-- Where a store of column block `g` puts its entry `y`. -/
theorem emb_at (g : Fin 4) (inb) (i : Fin 256) (l : Fin 128) :
    (Rect.unit (s := S1x256x512) ![0, 0, g.val * 128] ![1, 256, 128] inb).emb (ix3 0 i l : S1x256x128.Idx)
      = (ix3 0 i ⟨g.val * 128 + l.val, by omega⟩ : S1x256x512.Idx) := by
  blk_ext

theorem entry_of (y : S1x256x128.Idx) : ∃ (i : Fin 256) (l : Fin 128), y = ix3 0 i l := ⟨y 1, y 2, by blk_ext⟩

section Heads
variable (q k v : FVec Ideal S1x256x512 .bf16)

/-- The block of the first result. -/
def block : FVec Ideal S1x256x512 .f32 := fun y =>
  softLast (fun c : Fin 256 => ∑ d : Fin 64, q (ix3 0 (y 1) (col (headOf (y 2)) d)) * k (ix3 0 c (col (headOf (y 2)) d)))
    (fun c => v (ix3 0 c (y 2)))

/-- A column block of an argument. -/
def cut (x : FVec Ideal S1x256x512 .bf16) (o : ℕ) (inb : ∀ i, ![0, 0, o] i + ![1, 256, 128] i ≤ S1x256x512.size i) : FVec Ideal S1x256x128 .bf16 :=
  View.ld (Val := Elt Ideal) (e' := .bf16) x (Rect.unit (s := S1x256x512) ![0, 0, o] ![1, 256, 128] inb)

theorem cut_at (x : FVec Ideal S1x256x512 .bf16) (g : Fin 4) (inb) (i : Fin 256) (l : Fin 128) :
    cut x (g.val * 128) inb (ix3 0 i l) = x (ix3 0 i ⟨g.val * 128 + l.val, by omega⟩) :=
  congrArg x (emb_at g inb i l)

/-- The store of column block `g` is that part of the block. -/
theorem pair_block (g : Fin 4) (o : ℕ) (ho : o = g.val * 128) (inb) (y : S1x256x128.Idx) :
    pair (cut q o inb) (cut k o inb) (cut v o inb) y
      = block q k v ((Rect.unit (s := S1x256x512) ![0, 0, o] ![1, 256, 128] inb).emb y) := by
  subst ho
  obtain ⟨i, l, rfl⟩ := entry_of y
  rw [pair_at, emb_at]
  have e : ∀ d : Fin 64, (⟨g.val * 128 + (lane ⟨l.val / 64, by omega⟩ d).val, by omega⟩ : Fin 512)
      = col (headOf ⟨g.val * 128 + l.val, by omega⟩) d := fun d => Fin.ext (by
    show g.val * 128 + (l.val / 64 * 64 + d.val) = (g.val * 128 + l.val) / 64 * 64 + d.val
    omega)
  unfold head block
  refine softLast_congr (fun c => ?_) (fun c => cut_at v g inb c l)
  simp only [cut_at, e]
  rfl

end Heads

section Groups
variable (q : FVec Ideal S1x256x512 .bf16) (k v : FVec Ideal S1x256x128 .bf16)

/-- The block of the second result. -/
def gblock : FVec Ideal S1x256x512 .f32 := fun y =>
  softLast (fun c : Fin 256 => ∑ d : Fin 64, q (ix3 0 (y 1) (col (headOf (y 2)) d)) * k (ix3 0 c (keyLane (y 2) d)))
    (fun c => v (ix3 0 c (valueLane (y 2))))

/-- The store of column block `g` is that part of the block. -/
theorem grouped_block (g : Fin 4) (o r : ℕ) (ho : o = g.val * 128) (hr : r = g.val * 256) (inb) (sl sc) (y : S1x256x128.Idx) :
    shapeCast S1x256x128 (select k0_pay46
        (extractStridedSlice S256x128 ![r, 0] (k0_pay49 (F := Ideal) (k0_pay40 k) (k0_pay41 v) (k0_pay48 q) (constant S1024x256 .f32 0x00000000#32)) sl)
        (extractStridedSlice S256x128 ![r, 0]
          (k0_pay50 (F := Ideal) (k0_pay40 k) (k0_pay41 v) (k0_pay42 q) (k0_pay43 q) (k0_pay44 q) (k0_pay45 q) k0_pay46 k0_pay47) sl)) sc y
      = gblock q k v ((Rect.unit (s := S1x256x512) ![0, 0, o] ![1, 256, 128] inb).emb y) := by
  subst ho
  obtain ⟨i, l, rfl⟩ := entry_of y
  rw [lower_eq, upper_eq, grouped_at k v q g r hr, emb_at]
  have hi : (g.val * 256 + i.val) % 256 = i.val := by omega
  have hg : (g.val * 256 + i.val) / 256 = g.val := by omega
  unfold ghead gblock
  refine softLast_congr (fun c => Finset.sum_congr rfl fun d _ => congrArg₂ (· * ·) (congrArg q ?_) (congrArg k ?_)) (fun c => congrArg v ?_)
  · refine congrArg₂ (fun a b => (ix3 0 a b : S1x256x512.Idx)) (Fin.ext hi) (Fin.ext ?_)
    show (g.val * 256 + i.val) / 256 * 128 + (l.val / 64 * 64 + d.val) = (g.val * 128 + l.val) / 64 * 64 + d.val
    omega
  · refine congrArg (fun b => (ix3 0 c b : S1x256x128.Idx)) (Fin.ext ?_)
    show l.val / 64 * 64 + d.val = (g.val * 128 + l.val) % 128 / 64 * 64 + d.val
    omega
  · refine congrArg (fun b => (ix3 0 c b : S1x256x128.Idx)) (Fin.ext ?_)
    show l.val = (g.val * 128 + l.val) % 128
    omega

end Groups

variable (m : (ℓ : Loc nD τ sig) → Buf (Elt Ideal) ℓ) (c : Dev nD)

theorem out6 (t : Fin grid0.N) (y : S1x256x512.Idx) :
    (outsAt0 m c t).1 y = block (iblk m c 0 t) (iblk m c 1 t) (iblk m c 2 t) y := by
  unfold outsAt0
  frame_out
  refine View.canon_apply_of_pieces (Val := Elt Ideal) (e := .f32) (block (iblk m c 0 t) (iblk m c 1 t) (iblk m c 2 t)) _ (fun p hp y => ?_) y
    (by exact View.cover_of_tiledL _ ![1, 256, 128] (by sl_kernel_rfl) y)
  simp only [List.mem_cons, List.not_mem_nil, or_false] at hp
  rcases hp with rfl | rfl | rfl | rfl
  · exact (congrFun (pair_3 _ _ _) y).trans (pair_block _ _ _ 3 384 rfl inb_S1x256x512_S1x256x128_0_0_384 y)
  · exact (congrFun (pair_2 _ _ _) y).trans (pair_block _ _ _ 2 256 rfl inb_S1x256x512_S1x256x128_0_0_256 y)
  · exact (congrFun (pair_1 _ _ _) y).trans (pair_block _ _ _ 1 128 rfl inb_S1x256x512_S1x256x128_0_0_128 y)
  · exact (congrFun (pair_0 _ _ _) y).trans (pair_block _ _ _ 0 0 rfl inb_S1x256x512_S1x256x128_0_0_0 y)

theorem out7 (t : Fin grid0.N) (y : S1x256x512.Idx) :
    (outsAt0 m c t).2 y = gblock (iblk m c 3 t) (iblk m c 4 t) (iblk m c 5 t) y := by
  unfold outsAt0
  frame_out
  refine View.canon_apply_of_pieces (Val := Elt Ideal) (e := .f32) (gblock (iblk m c 3 t) (iblk m c 4 t) (iblk m c 5 t)) _ (fun p hp y => ?_) y
    (by exact View.cover_of_tiledL _ ![1, 256, 128] (by sl_kernel_rfl) y)
  simp only [List.mem_cons, List.not_mem_nil, or_false] at hp
  rcases hp with rfl | rfl | rfl | rfl
  · exact grouped_block _ _ _ 3 384 768 rfl rfl inb_S1x256x512_S1x256x128_0_0_384 _ _ y
  · exact grouped_block _ _ _ 2 256 512 rfl rfl inb_S1x256x512_S1x256x128_0_0_256 _ _ y
  · exact grouped_block _ _ _ 1 128 256 rfl rfl inb_S1x256x512_S1x256x128_0_0_128 _ _ y
  · exact grouped_block _ _ _ 0 0 0 rfl rfl inb_S1x256x512_S1x256x128_0_0_0 _ _ y

end Cert.Context.Kernel

end
-- ==== Proof.Ctx.Final.lean ====
/- The context attention's two result arrays after the run, entry by entry. -/
module

public import proofs.«01_k».proof.Proof.Ctx.Store

@[expose] public section

set_option maxRecDepth 16384

noncomputable section

namespace Cert.Context.Kernel

open Idealize.ShloMosaic Idealize.ShloMosaic.TcCoe Idealize.SL.Sem
open Cert.CtxIdeal Cert.CtxIdeal.Gen Cert.Attn Cert.Context.Spec
open Cert.Na.Spec (ctxAt)

variable (m : (ℓ : Loc nD τ sig) → Buf (Elt Ideal) ℓ)

/-- Every window is at the context rows of the point's sample. -/
theorem idx : ∀ t : Fin cfg0.N,
    win0_0.index t = ![8, t.val, 0] ∧ win0_1.index t = ![8, t.val, 0] ∧ win0_2.index t = ![8, t.val, 0]
    ∧ win0_3.index t = ![8, t.val, 0] ∧ win0_4.index t = ![8, t.val, 0] ∧ win0_5.index t = ![8, t.val, 0]
    ∧ win0_6.index t = ![8, t.val, 0] ∧ win0_7.index t = ![8, t.val, 0] := (by decide +kernel : ∀ t : Fin grid0.N, _)

section Blocks
variable (c : Dev nD) (t : Fin cfg0.N) (a : Fin 256) (r : Fin 2048) (hr : r.val = t.val * 256 + a.val)
include hr

theorem qa_at (e : Fin 512) : (show FVec Ideal S1x256x512 .bf16 from iblk m c 0 t) (ix3 0 a e) = m ((c : Thread nD τ).loc main_arg0) (ix3 8 r e) := by
  blk_ext [iblk, V, (idx t).1]
theorem ka_at (e : Fin 512) : (show FVec Ideal S1x256x512 .bf16 from iblk m c 1 t) (ix3 0 a e) = m ((c : Thread nD τ).loc main_arg1) (ix3 8 r e) := by
  blk_ext [iblk, V, (idx t).2.1]
theorem va_at (e : Fin 512) : (show FVec Ideal S1x256x512 .bf16 from iblk m c 2 t) (ix3 0 a e) = m ((c : Thread nD τ).loc main_arg2) (ix3 8 r e) := by
  blk_ext [iblk, V, (idx t).2.2.1]
theorem qb_at (e : Fin 512) : (show FVec Ideal S1x256x512 .bf16 from iblk m c 3 t) (ix3 0 a e) = m ((c : Thread nD τ).loc main_arg3) (ix3 8 r e) := by
  blk_ext [iblk, V, (idx t).2.2.2.1]
theorem kb_at (e : Fin 128) : (show FVec Ideal S1x256x128 .bf16 from iblk m c 4 t) (ix3 0 a e) = m ((c : Thread nD τ).loc main_arg4) (ix3 8 r e) := by
  blk_ext [iblk, V, (idx t).2.2.2.2.1]
theorem vb_at (e : Fin 128) : (show FVec Ideal S1x256x128 .bf16 from iblk m c 5 t) (ix3 0 a e) = m ((c : Thread nD τ).loc main_arg5) (ix3 8 r e) := by
  blk_ext [iblk, V, (idx t).2.2.2.2.2.1]

end Blocks

/-- What a point leaves at row `i`, column `e` of its two blocks. -/
theorem block_at (c : Dev nD) (t : Fin cfg0.N) (i : Fin 256) (e : Fin 512) (r : Fin 2048) (hr : r.val = t.val * 256 + i.val) :
    block (iblk m c 0 t) (iblk m c 1 t) (iblk m c 2 t) (ix3 0 i e)
      = kernelOut (m ((c : Thread nD τ).loc main_arg0)) (m ((c : Thread nD τ).loc main_arg1)) (m ((c : Thread nD τ).loc main_arg2)) r e := by
  have hc : ∀ a : Fin 256, (ctxAt (sampleOf r) a).val = t.val * 256 + a.val := fun a => by
    show r.val / 256 * 256 + a.val = _; omega
  unfold kernelOut dot
  exact softLast_congr (fun a => Finset.sum_congr rfl fun d _ => congrArg₂ (· * ·) (qa_at m c t i r hr _) (ka_at m c t a _ (hc a) _))
    (fun a => va_at m c t a _ (hc a) _)
theorem gblock_at (c : Dev nD) (t : Fin cfg0.N) (i : Fin 256) (e : Fin 512) (r : Fin 2048) (hr : r.val = t.val * 256 + i.val) :
    gblock (iblk m c 3 t) (iblk m c 4 t) (iblk m c 5 t) (ix3 0 i e)
      = gkernelOut (m ((c : Thread nD τ).loc main_arg3)) (m ((c : Thread nD τ).loc main_arg4)) (m ((c : Thread nD τ).loc main_arg5)) r e := by
  have hc : ∀ a : Fin 256, (ctxAt (sampleOf r) a).val = t.val * 256 + a.val := fun a => by
    show r.val / 256 * 256 + a.val = _; omega
  unfold gkernelOut gdot
  exact softLast_congr (fun a => Finset.sum_congr rfl fun d _ => congrArg₂ (· * ·) (qb_at m c t i r hr _) (kb_at m c t a _ (hc a) _))
    (fun a => vb_at m c t a _ (hc a) _)

theorem emb6 (t : Fin cfg0.N) (i : Fin 256) (e : Fin 512) (r : Fin 2048) (hr : r.val = t.val * 256 + i.val) :
    ((View.whole main_v0_0).slice (win0_6.rect t)).emb (ix3 0 i e : S1x256x512.Idx) = (ix3 8 r e : S9x2048x512.Idx) := by
  blk_ext [(idx t).2.2.2.2.2.2.1]
theorem emb7 (t : Fin cfg0.N) (i : Fin 256) (e : Fin 512) (r : Fin 2048) (hr : r.val = t.val * 256 + i.val) :
    ((View.whole main_v0_1).slice (win0_7.rect t)).emb (ix3 0 i e : S1x256x512.Idx) = (ix3 8 r e : S9x2048x512.Idx) := by
  blk_ext [(idx t).2.2.2.2.2.2.2]

theorem place_of (y : S1x256x512.Idx) : ∃ (i : Fin 256) (e : Fin 512), y = ix3 0 i e := ⟨y 1, y 2, by blk_ext⟩

/-- The first result: its context rows hold the attention, the rest what it held. -/
theorem final6 (c : Dev nD) : (dats m 0 c).arrAt 6 (cfgs 0).N
    = fun i => if (i 0 : ℕ) = 8 then kernelOut (m ((c : Thread nD τ).loc main_arg0)) (m ((c : Thread nD τ).loc main_arg1)) (m ((c : Thread nD τ).loc main_arg2)) (i 1) (i 2)
        else V m c main_v0_0 i := by
  refine (dats m 0 c).arrAt_eq_of_coversWhere 6 _ (fun β => (β 0 : ℕ) = 8) (by decide +kernel) (fun t hf y => ?_)
    (fun j => by blk_simp [Pipeline.Window.cell_apply]; try omega)
  blk_simp; rw [after0_6]
  have ht : t.val < 8 := lt_of_lt_of_eq t.isLt N_0
  obtain ⟨i, e, rfl⟩ := place_of y
  rw [emb6 t i e ⟨t.val * 256 + i.val, by omega⟩ rfl]
  exact (out6 m c t _).trans (block_at m c t i e _ rfl)

/-- The second result. -/
theorem final7 (c : Dev nD) : (dats m 0 c).arrAt 7 (cfgs 0).N
    = fun i => if (i 0 : ℕ) = 8 then gkernelOut (m ((c : Thread nD τ).loc main_arg3)) (m ((c : Thread nD τ).loc main_arg4)) (m ((c : Thread nD τ).loc main_arg5)) (i 1) (i 2)
        else V m c main_v0_1 i := by
  refine (dats m 0 c).arrAt_eq_of_coversWhere 7 _ (fun β => (β 0 : ℕ) = 8) (by decide +kernel) (fun t hf y => ?_)
    (fun j => by blk_simp [Pipeline.Window.cell_apply]; try omega)
  blk_simp; rw [after0_7]
  have ht : t.val < 8 := lt_of_lt_of_eq t.isLt N_0
  obtain ⟨i, e, rfl⟩ := place_of y
  rw [emb7 t i e ⟨t.val * 256 + i.val, by omega⟩ rfl]
  exact (out7 m c t _).trans (gblock_at m c t i e _ rfl)

/-- What the results held: the two arguments they are written into. -/
theorem held6 (c : Dev nD) (i : S9x2048x512.Idx) : V m c main_v0_0 i = m ((c : Thread nD τ).loc main_arg6) i := by
  show V m c (Pipeline.arrRef spec0 6) i = _
  entry_read
  rfl
theorem held7 (c : Dev nD) (i : S9x2048x512.Idx) : V m c main_v0_1 i = m ((c : Thread nD τ).loc main_arg7) i := by
  show V m c (Pipeline.arrRef spec0 7) i = _
  entry_read
  rfl

end Cert.Context.Kernel

end
-- ==== Proof.Ctx.Ref.lean ====
/- The reference's attention of the context rows read at an index: softmax over the sample's context rows, every
   weight divided before it meets its value. -/
module

public import proofs.«01_k».proof.Proof.Gen.CtxRefIdeal.Read
public import proofs.«01_k».proof.Proof.Ctx.Spec

@[expose] public section

set_option maxRecDepth 65536

noncomputable section

namespace Cert.Context.Ref

open Idealize.ShloMosaic Cert.Attn Cert.Context.Spec
open Cert.Na.Spec (Sx col headOf ctxAt)
open Cert.Gqa.Spec (Sk keyLane valueLane)
open Cert.CtxRefIdeal Cert.CtxRefIdeal.Gen Cert.CtxRefIdeal.Read

/-! ## The first result: one key head for each query head -/

section Heads
variable (x0 x1 x2 : FVec Ideal Sx .bf16) (x6 : FVec Ideal Sx .f32)

theorem q_at (b h : Fin 8) (t : Fin 256) (d : Fin 64) :
    val_main_v6 (F := Ideal) x0 (ix5 b h 0 t d) = x0 (ix3 8 (ctxAt b t) (col h d)) := by
  pointwise [val_main_v0, val_main_v1, val_main_v2, val_main_v3, val_main_v4, val_main_v5, val_main_v6]
  first | rfl | (refine congrArg x0 ?_; unfold col ctxAt; blk_ext)

theorem k_at (b h : Fin 8) (a : Fin 256) (d : Fin 64) :
    val_main_v12 (F := Ideal) x1 (ix4 b h a d) = x1 (ix3 8 (ctxAt b a) (col h d)) := by
  pointwise [val_main_v7, val_main_v8, val_main_v9, val_main_v10, val_main_v11, val_main_v12]
  first | rfl | (refine congrArg x1 ?_; unfold col ctxAt; blk_ext)

theorem v_at (b h : Fin 8) (a : Fin 256) (d : Fin 64) :
    val_main_v18 (F := Ideal) x2 (ix4 b h a d) = x2 (ix3 8 (ctxAt b a) (col h d)) := k_at x2 b h a d

theorem score_at (b h : Fin 8) (t j : Fin 256) :
    val_main_v19 (F := Ideal) x0 x1 (ix5 b h 0 t j) = ∑ d : Fin 64, x0 (ix3 8 (ctxAt b t) (col h d)) * x1 (ix3 8 (ctxAt b j) (col h d)) := by
  pointwise [val_main_v19]
  simp only [q_at, k_at]

/-- The greatest along the last axis. -/
theorem max_of (x : FVec Ideal S8x8x1x256x256 .f32) (i : FVec Ideal S_ .f32) (b h : Fin 8) (t : Fin 256) :
    Host.reduce FloatOps.maximumf x i reducesTo_S8x8x1x256x256_S8x8x1x256_d4 h_S_ (ix4 b h 0 t)
      = Finset.univ.fold max (i (Shape.Idx.first h_S_)) (fun j : Fin 256 => x (ix5 b h 0 t j)) := by
  pointwise

theorem greatest (b h : Fin 8) (t : Fin 256) :
    val_main_v22 (F := Ideal) x0 x1 (ix4 b h 0 t) = top fun j => val_main_v19 (F := Ideal) x0 x1 (ix5 b h 0 t j) := by
  have e : val_main_v20 (F := Ideal) x0 x1 (ix4 b h 0 t) = top fun j => val_main_v19 (F := Ideal) x0 x1 (ix5 b h 0 t j) := by
    unfold val_main_v20
    rw [max_of, show val_main_cst (F := Ideal) (Shape.Idx.first h_S_) = ⊥ from ofBits_neg_inf]
    rfl
  rw [val_main_v22_apply, e, show val_main_v21 (F := Ideal) (ix4 b h 0 t) = ⊥ from ofBits_neg_inf]
  exact max_eq_right bot_le

theorem summed (b h : Fin 8) (t : Fin 256) :
    val_main_v27 (F := Ideal) x0 x1 (ix4 b h 0 t)
      = ∑ j : Fin 256, Ideal.exp (val_main_v19 (F := Ideal) x0 x1 (ix5 b h 0 t j) - val_main_v22 (F := Ideal) x0 x1 (ix4 b h 0 t)) := by
  pointwise [val_main_v23, val_main_v24, val_main_v25, val_main_v26, val_main_v27, val_main_cst_1]

theorem weight_at (b h : Fin 8) (t j : Fin 256) :
    val_main_v30 (F := Ideal) x0 x1 (ix5 b h 0 t j)
      = Ideal.div (Ideal.exp (val_main_v19 (F := Ideal) x0 x1 (ix5 b h 0 t j) - val_main_v22 (F := Ideal) x0 x1 (ix4 b h 0 t)))
          (val_main_v27 (F := Ideal) x0 x1 (ix4 b h 0 t)) := by
  pointwise [val_main_v23, val_main_v24, val_main_v25, val_main_v26, val_main_v28, val_main_v29, val_main_v30]

theorem product_at (b h : Fin 8) (t : Fin 256) (d : Fin 64) :
    val_main_v31 (F := Ideal) x0 x1 x2 (ix5 b h 0 t d)
      = ∑ j : Fin 256, val_main_v30 (F := Ideal) x0 x1 (ix5 b h 0 t j) * val_main_v18 (F := Ideal) x2 (ix4 b h j d) := by
  pointwise [val_main_v31]

/-- The attention of one query. -/
theorem attended (b h : Fin 8) (t : Fin 256) (d : Fin 64) :
    val_main_v31 (F := Ideal) x0 x1 x2 (ix5 b h 0 t d)
      = softFirst (fun j : Fin 256 => ∑ d : Fin 64, x0 (ix3 8 (ctxAt b t) (col h d)) * x1 (ix3 8 (ctxAt b j) (col h d)))
          (fun j => x2 (ix3 8 (ctxAt b j) (col h d))) := by
  rw [product_at]
  simp only [weight_at, summed, greatest, score_at, v_at]
  rfl

/-- The result at a context row. -/
theorem result_at (r : Fin 2048) (e : Fin 512) :
    val_main_v70 (F := Ideal) x0 x1 x2 x6 (ix3 8 r e) = refOut x0 x1 x2 r e := by
  have e1 : val_main_v70 (F := Ideal) x0 x1 x2 x6 (ix3 8 r e)
      = val_main_v31 (F := Ideal) x0 x1 x2 (ix5 (sampleOf r) (headOf e) (0 : Fin 1) (⟨r.val % 256, by omega⟩ : Fin 256) (⟨e.val % 64, by omega⟩ : Fin 64)) := by
    pointwise [val_main_v32, val_main_v66, val_main_v67, val_main_v68, val_main_v69, val_main_v70]
    refine congrArg (val_main_v31 (F := Ideal) x0 x1 x2) ?_
    unfold sampleOf headOf
    blk_ext
  have e2 : col (headOf e) ⟨e.val % 64, by omega⟩ = e := Fin.ext (by show e.val / 64 * 64 + e.val % 64 = e.val; omega)
  have e3 : ctxAt (sampleOf r) ⟨r.val % 256, by omega⟩ = r := Fin.ext (by show r.val / 256 * 256 + r.val % 256 = r.val; omega)
  rw [e1, attended, e2, e3]
  rfl

/-- Elsewhere the result is the latent groups' result it was given. -/
theorem kept_at (i : S9x2048x512.Idx) (h : (i 0 : ℕ) < 8) : val_main_v70 (F := Ideal) x0 x1 x2 x6 i = x6 i := by
  pointwise [val_main_v68, val_main_v70]
  rw [dif_pos h]

end Heads

/-! ## The second result: four query heads to a key head -/

section Groups
variable (x3 : FVec Ideal Sx .bf16) (x4 x5 : FVec Ideal Sk .bf16) (x7 : FVec Ideal Sx .f32)

/-- Lane `d` of key head `k`, and the query column of group `g`, key head `k`, lane `d`. -/
def lane (k : Fin 2) (d : Fin 64) : Fin 128 := ⟨k.val * 64 + d.val, by omega⟩
def column (g : Fin 4) (k : Fin 2) (d : Fin 64) : Fin 512 := ⟨g.val * 128 + k.val * 64 + d.val, by omega⟩

theorem gq_at (b : Fin 8) (k : Fin 2) (g : Fin 4) (t : Fin 256) (d : Fin 64) :
    val_main_v38 (F := Ideal) x3 (ix5 b k g t d) = x3 (ix3 8 (ctxAt b t) (column g k d)) := by
  pointwise [val_main_v33, val_main_v34, val_main_v35, val_main_v36, val_main_v37, val_main_v38]
  first | rfl | (refine congrArg x3 ?_; unfold column ctxAt; blk_ext)

theorem gk_at (b : Fin 8) (k : Fin 2) (a : Fin 256) (d : Fin 64) :
    val_main_v44 (F := Ideal) x4 (ix4 b k a d) = x4 (ix3 8 (ctxAt b a) (lane k d)) := by
  pointwise [val_main_v39, val_main_v40, val_main_v41, val_main_v42, val_main_v43, val_main_v44]
  first | rfl | (refine congrArg x4 ?_; unfold lane ctxAt; blk_ext)

theorem gv_at (b : Fin 8) (k : Fin 2) (a : Fin 256) (d : Fin 64) :
    val_main_v50 (F := Ideal) x5 (ix4 b k a d) = x5 (ix3 8 (ctxAt b a) (lane k d)) := gk_at x5 b k a d

theorem gscore_at (b : Fin 8) (k : Fin 2) (g : Fin 4) (t j : Fin 256) :
    val_main_v51 (F := Ideal) x3 x4 (ix5 b k g t j)
      = ∑ d : Fin 64, x3 (ix3 8 (ctxAt b t) (column g k d)) * x4 (ix3 8 (ctxAt b j) (lane k d)) := by
  pointwise [val_main_v51]
  simp only [gq_at, gk_at]

/-- The greatest along the last axis. -/
theorem gmax_of (x : FVec Ideal S8x2x4x256x256 .f32) (i : FVec Ideal S_ .f32) (b : Fin 8) (k : Fin 2) (g : Fin 4) (t : Fin 256) :
    Host.reduce FloatOps.maximumf x i reducesTo_S8x2x4x256x256_S8x2x4x256_d4 h_S_ (ix4 b k g t)
      = Finset.univ.fold max (i (Shape.Idx.first h_S_)) (fun j : Fin 256 => x (ix5 b k g t j)) := by
  pointwise

theorem ggreatest (b : Fin 8) (k : Fin 2) (g : Fin 4) (t : Fin 256) :
    val_main_v54 (F := Ideal) x3 x4 (ix4 b k g t) = top fun j => val_main_v51 (F := Ideal) x3 x4 (ix5 b k g t j) := by
  have e : val_main_v52 (F := Ideal) x3 x4 (ix4 b k g t) = top fun j => val_main_v51 (F := Ideal) x3 x4 (ix5 b k g t j) := by
    unfold val_main_v52
    rw [gmax_of, show val_main_cst_2 (F := Ideal) (Shape.Idx.first h_S_) = ⊥ from ofBits_neg_inf]
    rfl
  rw [val_main_v54_apply, e, show val_main_v53 (F := Ideal) (ix4 b k g t) = ⊥ from ofBits_neg_inf]
  exact max_eq_right bot_le

theorem gsummed (b : Fin 8) (k : Fin 2) (g : Fin 4) (t : Fin 256) :
    val_main_v59 (F := Ideal) x3 x4 (ix4 b k g t)
      = ∑ j : Fin 256, Ideal.exp (val_main_v51 (F := Ideal) x3 x4 (ix5 b k g t j) - val_main_v54 (F := Ideal) x3 x4 (ix4 b k g t)) := by
  pointwise [val_main_v55, val_main_v56, val_main_v57, val_main_v58, val_main_v59, val_main_cst_4]

theorem gweight_at (b : Fin 8) (k : Fin 2) (g : Fin 4) (t j : Fin 256) :
    val_main_v62 (F := Ideal) x3 x4 (ix5 b k g t j)
      = Ideal.div (Ideal.exp (val_main_v51 (F := Ideal) x3 x4 (ix5 b k g t j) - val_main_v54 (F := Ideal) x3 x4 (ix4 b k g t)))
          (val_main_v59 (F := Ideal) x3 x4 (ix4 b k g t)) := by
  pointwise [val_main_v55, val_main_v56, val_main_v57, val_main_v58, val_main_v60, val_main_v61, val_main_v62]

theorem gproduct_at (b : Fin 8) (k : Fin 2) (g : Fin 4) (t : Fin 256) (d : Fin 64) :
    val_main_v63 (F := Ideal) x3 x4 x5 (ix5 b k g t d)
      = ∑ j : Fin 256, val_main_v62 (F := Ideal) x3 x4 (ix5 b k g t j) * val_main_v50 (F := Ideal) x5 (ix4 b k j d) := by
  pointwise [val_main_v63]

/-- The attention of one query. -/
theorem gattended (b : Fin 8) (k : Fin 2) (g : Fin 4) (t : Fin 256) (d : Fin 64) :
    val_main_v63 (F := Ideal) x3 x4 x5 (ix5 b k g t d)
      = softFirst (fun j : Fin 256 => ∑ d : Fin 64, x3 (ix3 8 (ctxAt b t) (column g k d)) * x4 (ix3 8 (ctxAt b j) (lane k d)))
          (fun j => x5 (ix3 8 (ctxAt b j) (lane k d))) := by
  rw [gproduct_at]
  simp only [gweight_at, gsummed, ggreatest, gscore_at, gv_at]
  rfl

/-- The result at a context row. -/
theorem gresult_at (r : Fin 2048) (e : Fin 512) :
    val_main_v73 (F := Ideal) x3 x4 x5 x7 (ix3 8 r e) = grefOut x3 x4 x5 r e := by
  have e1 : val_main_v73 (F := Ideal) x3 x4 x5 x7 (ix3 8 r e)
      = val_main_v63 (F := Ideal) x3 x4 x5 (ix5 (sampleOf r) (⟨e.val % 128 / 64, by omega⟩ : Fin 2) (⟨e.val / 128, by omega⟩ : Fin 4)
          (⟨r.val % 256, by omega⟩ : Fin 256) (⟨e.val % 64, by omega⟩ : Fin 64)) := by
    pointwise [val_main_v64, val_main_v65, val_main_v71, val_main_v72, val_main_v73]
    refine congrArg (val_main_v63 (F := Ideal) x3 x4 x5) ?_
    unfold sampleOf
    blk_ext
  have e2 : lane (⟨e.val % 128 / 64, by omega⟩ : Fin 2) (⟨e.val % 64, by omega⟩ : Fin 64) = valueLane e :=
    Fin.ext (by show e.val % 128 / 64 * 64 + e.val % 64 = e.val % 128; omega)
  have e3 : ctxAt (sampleOf r) ⟨r.val % 256, by omega⟩ = r := Fin.ext (by show r.val / 256 * 256 + r.val % 256 = r.val; omega)
  have e4 : ∀ d, column (⟨e.val / 128, by omega⟩ : Fin 4) (⟨e.val % 128 / 64, by omega⟩ : Fin 2) d = col (headOf e) d := fun d =>
    Fin.ext (by show e.val / 128 * 128 + e.val % 128 / 64 * 64 + d.val = e.val / 64 * 64 + d.val; omega)
  rw [e1, gattended, e2, e3]
  simp only [e4]
  rfl

/-- Elsewhere the result is the latent groups' result it was given. -/
theorem gkept_at (i : S9x2048x512.Idx) (h : (i 0 : ℕ) < 8) : val_main_v73 (F := Ideal) x3 x4 x5 x7 i = x7 i := by
  pointwise [val_main_v71, val_main_v73]
  rw [dif_pos h]

end Groups

end Cert.Context.Ref

end
-- ==== Proof.Ctx.Pre.lean ====
/- What the precondition of the context rows' attention says: their queries and keys are finite. -/
module

public import proofs.«01_k».proof.Pre_ctx_finite_scores
public import proofs.«01_k».proof.Proof.Na.Pre
public import proofs.«01_k».proof.Proof.Gqa.Spec

@[expose] public section

noncomputable section

namespace Cert.Context.Pre

open Idealize.ShloMosaic Cert.Attn Cert.Pre_ctx_finite_scores
open Cert.Na.Spec (Sx)
open Cert.Gqa.Spec (Sk)

/-- The precondition's shape facts. -/
instance preFacts : Cert.Pre_ctx_finite_scores.Facts where
  slices_S9x2048x512_S1x2048x512_8_0_0 := by decide
  shapeCasts_S1x2048x512_S2048x512 := by decide
  bitsLt_bf16_f32 := by decide
  slices_S9x2048x128_S1x2048x128_8_0_0 := by decide
  shapeCasts_S1x2048x128_S2048x128 := by decide
  bcast_S_S2048x512 := by decide
  bcast_S_S2048x128 := by decide

/-- The context rows of an argument, in the order the precondition takes them. -/
theorem row_at (x : FVec Ideal Sx .bf16) (h1 h2 h3) (r : Fin 2048) (e : Fin 512) :
    (extf .f32 (shapeCast S2048x512 (extractStridedSlice S1x2048x512 ![8, 0, 0] x h1) h2) h3 : FVec Ideal S2048x512 .f32) (ix2 r e)
      = x (ix3 8 r e) := by
  pointwise
theorem key_row_at (x : FVec Ideal Sk .bf16) (h1 h2 h3) (r : Fin 2048) (e : Fin 128) :
    (extf .f32 (shapeCast S2048x128 (extractStridedSlice S1x2048x128 ![8, 0, 0] x h1) h2) h3 : FVec Ideal S2048x128 .f32) (ix2 r e)
      = x (ix3 8 r e) := by
  pointwise

variable (x0 x1 x2 x3 : FVec Ideal Sx .bf16) (x4 x5 : FVec Ideal Sk .bf16) (x6 x7 : FVec Ideal Sx .f32)

theorem fin_qa (h : (Cert.Pre_ctx_finite_scores.fn (F := Ideal) x0 x1 x2 x3 x4 x5 x6 x7).1 = fun _ => 1#1) (r : Fin 2048) (e : Fin 512) :
    Fin' (x0 (ix3 8 r e)) := by
  have hi := congrFun h (ix2 r e)
  rw [← row_at x0 Facts.slices_S9x2048x512_S1x2048x512_8_0_0 Facts.shapeCasts_S1x2048x512_S2048x512 Facts.bitsLt_bf16_f32]
  apply Cert.Na.Pre.fin_of_words
  rw [← ofBits_neg_inf, ← Cert.Na.Pre.ofBits_pos_inf]
  exact hi

theorem fin_ka (h : (Cert.Pre_ctx_finite_scores.fn (F := Ideal) x0 x1 x2 x3 x4 x5 x6 x7).2.1 = fun _ => 1#1) (r : Fin 2048) (e : Fin 512) :
    Fin' (x1 (ix3 8 r e)) := by
  have hi := congrFun h (ix2 r e)
  rw [← row_at x1 Facts.slices_S9x2048x512_S1x2048x512_8_0_0 Facts.shapeCasts_S1x2048x512_S2048x512 Facts.bitsLt_bf16_f32]
  apply Cert.Na.Pre.fin_of_words
  rw [← ofBits_neg_inf, ← Cert.Na.Pre.ofBits_pos_inf]
  exact hi

theorem fin_qb (h : (Cert.Pre_ctx_finite_scores.fn (F := Ideal) x0 x1 x2 x3 x4 x5 x6 x7).2.2.1 = fun _ => 1#1) (r : Fin 2048) (e : Fin 512) :
    Fin' (x3 (ix3 8 r e)) := by
  have hi := congrFun h (ix2 r e)
  rw [← row_at x3 Facts.slices_S9x2048x512_S1x2048x512_8_0_0 Facts.shapeCasts_S1x2048x512_S2048x512 Facts.bitsLt_bf16_f32]
  apply Cert.Na.Pre.fin_of_words
  rw [← ofBits_neg_inf, ← Cert.Na.Pre.ofBits_pos_inf]
  exact hi

theorem fin_kb (h : (Cert.Pre_ctx_finite_scores.fn (F := Ideal) x0 x1 x2 x3 x4 x5 x6 x7).2.2.2 = fun _ => 1#1) (r : Fin 2048) (e : Fin 128) :
    Fin' (x4 (ix3 8 r e)) := by
  have hi := congrFun h (ix2 r e)
  rw [← key_row_at x4 Facts.slices_S9x2048x128_S1x2048x128_8_0_0 Facts.shapeCasts_S1x2048x128_S2048x128 Facts.bitsLt_bf16_f32]
  apply Cert.Na.Pre.fin_of_words
  rw [← ofBits_neg_inf, ← Cert.Na.Pre.ofBits_pos_inf]
  exact hi

end Cert.Context.Pre

end
-- ==== Proof.Ctx.Claims.lean ====
/- The claims about the attention of the context rows among themselves. -/
module

public import proofs.«01_k».proof.Defs
public import proofs.«01_k».proof.Proof.Gen.Ctx.Frame
public import proofs.«01_k».proof.Proof.Gen.CtxIdeal.Value
public import proofs.«01_k».proof.Proof.Gen.CtxRefIdeal.Run
public import proofs.«01_k».proof.Proof.Gen.CtxRefIdeal.Read
public import proofs.«01_k».proof.Proof.Ctx.Final
public import proofs.«01_k».proof.Proof.Ctx.Ref
public import proofs.«01_k».proof.Proof.Ctx.Pre

@[expose] public section

set_option maxHeartbeats 1600000

noncomputable section

namespace Cert.Context.Claims

open Idealize.ShloMosaic Idealize.ShloMosaic.TcCoe Idealize.SL.Sem Cert.Context.Kernel
open Cert.Na.Spec (Sx)
open Cert.Gqa.Spec (Sk)

theorem frame : Cert.quiescent_Ctx := fun m g _ => Cert.Ctx.Gen.frame m g

theorem frame_ideal : Cert.quiescent_CtxIdeal := fun m g _ => Cert.CtxIdeal.Gen.frame m g

theorem frame_ideal_pre : Cert.quiescent_CtxIdeal_pre_ctx_finite_scores := fun m g _ => Cert.CtxIdeal.Gen.frame m g

theorem frame_ref : Cert.quiescent_CtxRefIdeal := by
  intro m g _
  exact (θ_run _ _ _).mono (fun r h => ⟨fun c => (h c).2.2, sem_eq_zero_of_no_sems (by decide) r.2⟩)
    (Cert.CtxRefIdeal.Value.run m g)

theorem frame_ref_pre : Cert.quiescent_CtxRefIdeal_pre_ctx_finite_scores := fun m g _ => frame_ref m g trivial

section Results
variable (m : (ℓ : Loc Cert.CtxIdeal.nD Cert.CtxIdeal.τ Cert.CtxIdeal.sig) → Buf (Elt Ideal) ℓ) (c : Dev Cert.CtxIdeal.nD)

/-- The kernel's arguments. -/
def qa : FVec Ideal Sx .bf16 := m ((c : Thread Cert.CtxIdeal.nD Cert.CtxIdeal.τ).loc Cert.CtxIdeal.main_arg0)
def ka : FVec Ideal Sx .bf16 := m ((c : Thread Cert.CtxIdeal.nD Cert.CtxIdeal.τ).loc Cert.CtxIdeal.main_arg1)
def va : FVec Ideal Sx .bf16 := m ((c : Thread Cert.CtxIdeal.nD Cert.CtxIdeal.τ).loc Cert.CtxIdeal.main_arg2)
def qb : FVec Ideal Sx .bf16 := m ((c : Thread Cert.CtxIdeal.nD Cert.CtxIdeal.τ).loc Cert.CtxIdeal.main_arg3)
def kb : FVec Ideal Sk .bf16 := m ((c : Thread Cert.CtxIdeal.nD Cert.CtxIdeal.τ).loc Cert.CtxIdeal.main_arg4)
def vb : FVec Ideal Sk .bf16 := m ((c : Thread Cert.CtxIdeal.nD Cert.CtxIdeal.τ).loc Cert.CtxIdeal.main_arg5)
def oa : FVec Ideal Sx .f32 := m ((c : Thread Cert.CtxIdeal.nD Cert.CtxIdeal.τ).loc Cert.CtxIdeal.main_arg6)
def ob : FVec Ideal Sx .f32 := m ((c : Thread Cert.CtxIdeal.nD Cert.CtxIdeal.τ).loc Cert.CtxIdeal.main_arg7)

/-- The reference's two results on them. -/
def first : FVec Ideal Sx .f32 := Cert.CtxRefIdeal.Read.val_main_v70 (F := Ideal) (qa m c) (ka m c) (va m c) (oa m c)
def second : FVec Ideal Sx .f32 := Cert.CtxRefIdeal.Read.val_main_v73 (F := Ideal) (qb m c) (kb m c) (vb m c) (ob m c)

/-- An index of the last group. -/
theorem last_of (i : Sx.Idx) (h : (i 0 : ℕ) = 8) : i = ix3 8 (i 1) (i 2) := by
  funext a
  fin_cases a
  · exact Fin.ext h
  · rfl
  · rfl

theorem below_of (i : Sx.Idx) (h : ¬ (i 0 : ℕ) = 8) : (i 0 : ℕ) < 8 := by
  have h0 : (i 0 : ℕ) < 9 := (i 0).isLt
  omega

/-- The kernel's first array is the reference's first result. -/
theorem first_eq (hpre : Cert.Pre_CtxIdeal_ctx_finite_scores m) :
    (Cert.CtxIdeal.Gen.dats m 0 c).arrAt 6 (Cert.CtxIdeal.cfgs 0).N = first m c := by
  obtain ⟨h0, h1, -, -⟩ := hpre c
  rw [final6 m c]
  funext i
  show (if (i 0 : ℕ) = 8 then Spec.kernelOut (qa m c) (ka m c) (va m c) (i 1) (i 2) else _) = first m c i
  by_cases h : (i 0 : ℕ) = 8
  · rw [if_pos h]
    refine (Spec.agree (qa m c) (ka m c) (va m c) (Pre.fin_qa _ _ _ _ _ _ _ _ h0) (Pre.fin_ka _ _ _ _ _ _ _ _ h1) (i 1) (i 2)).trans ?_
    exact (Ref.result_at _ _ _ (oa m c) (i 1) (i 2)).symm.trans (congrArg (first m c) (last_of i h).symm)
  · rw [if_neg h, held6]
    exact (Ref.kept_at _ _ _ _ i (below_of i h)).symm

/-- The kernel's second array is the reference's second result. -/
theorem second_eq (hpre : Cert.Pre_CtxIdeal_ctx_finite_scores m) :
    (Cert.CtxIdeal.Gen.dats m 0 c).arrAt 7 (Cert.CtxIdeal.cfgs 0).N = second m c := by
  obtain ⟨-, -, h0, h1⟩ := hpre c
  rw [final7 m c]
  funext i
  show (if (i 0 : ℕ) = 8 then Spec.gkernelOut (qb m c) (kb m c) (vb m c) (i 1) (i 2) else _) = second m c i
  by_cases h : (i 0 : ℕ) = 8
  · rw [if_pos h]
    refine (Spec.gagree (qb m c) (kb m c) (vb m c) (Pre.fin_qb _ _ _ _ _ _ _ _ h0) (Pre.fin_kb _ _ _ _ _ _ _ _ h1) (i 1) (i 2)).trans ?_
    exact (Ref.gresult_at _ _ _ (ob m c) (i 1) (i 2)).symm.trans (congrArg (second m c) (last_of i h).symm)
  · rw [if_neg h, held7]
    exact (Ref.gkept_at _ _ _ _ i (below_of i h)).symm

end Results

theorem congr4 {A B C D E : Type} (f : A → B → C → D → E) {a a' : A} {b b' : B} {c c' : C} {d d' : D}
    (ha : a = a') (hb : b = b') (hc : c = c') (hd : d = d') : f a b c d = f a' b' c' d' := by
  subst ha hb hc hd; rfl

theorem algebraic : Cert.algebraic_CtxIdeal_CtxRefIdeal_pre_ctx_finite_scores := by
  intro m g m' g' hpre hagree
  refine ⟨fun c => first m c, fun c => second m c,
    (θ_run _ _ _).mono (fun r h c => ?_) (Cert.CtxIdeal.Value.run_blocks m g),
    (θ_run _ _ _).mono (fun r h c => ?_) (Cert.CtxRefIdeal.Value.run m' g')⟩
  · obtain ⟨h0, h1, hk⟩ := h c
    exact ⟨h0.trans (first_eq m c hpre), h1.trans (second_eq m c hpre), hk⟩
  · obtain ⟨h0, h1, hk⟩ := h c
    obtain ⟨e0, e1, e2, e3, e4, e5, e6, e7⟩ := hagree c
    refine ⟨h0.trans ?_, h1.trans ?_, hk⟩
    · exact (Cert.CtxRefIdeal.Read.val_main_v70_eq _ _).trans (congr4 (Cert.CtxRefIdeal.Read.val_main_v70 (F := Ideal)) e0 e1 e2 e6)
    · exact (Cert.CtxRefIdeal.Read.val_main_v73_eq _ _).trans (congr4 (Cert.CtxRefIdeal.Read.val_main_v73 (F := Ideal)) e3 e4 e5 e7)

end Cert.Context.Claims

end
-- ==== Proof.lean ====
module

public import proofs.«01_k».proof.Defs
public import proofs.«01_k».proof.Proof.Na.Claims
public import proofs.«01_k».proof.Proof.Ffn.FirstClaims
public import proofs.«01_k».proof.Proof.Ffn.SecondClaims
public import proofs.«01_k».proof.Proof.Ffn.LastClaims
public import proofs.«01_k».proof.Proof.Gqa.Claims
public import proofs.«01_k».proof.Proof.Out.FirstClaims
public import proofs.«01_k».proof.Proof.Out.LastClaims
public import proofs.«01_k».proof.Proof.In.Claims
public import proofs.«01_k».proof.Proof.Mod.Claims
public import proofs.«01_k».proof.Proof.Ctx.Claims

@[expose] public section

noncomputable section

namespace Cert.Proof

theorem claim : Cert.Claim :=
  ⟨Cert.Na.Gen.facts, Cert.NaIdeal.Gen.facts, Cert.NaRefIdeal.Gen.facts,
    Cert.FfnFirst.Gen.facts, Cert.FfnFirstIdeal.Gen.facts, Cert.FfnFirstRefIdeal.Gen.facts,
    Cert.FfnSecond.Gen.facts, Cert.FfnSecondIdeal.Gen.facts, Cert.FfnSecondRefIdeal.Gen.facts,
    Cert.FfnLast.Gen.facts, Cert.FfnLastIdeal.Gen.facts, Cert.FfnLastRefIdeal.Gen.facts,
    Cert.Gqa.Gen.facts, Cert.GqaIdeal.Gen.facts, Cert.GqaRefIdeal.Gen.facts,
    Cert.OutFirst.Gen.facts, Cert.OutFirstIdeal.Gen.facts, Cert.OutFirstRefIdeal.Gen.facts,
    Cert.OutLast.Gen.facts, Cert.OutLastIdeal.Gen.facts, Cert.OutLastRefIdeal.Gen.facts,
    Cert.In.Gen.facts, Cert.InIdeal.Gen.facts, Cert.InRefIdeal.Gen.facts,
    Cert.Mod.Gen.facts, Cert.ModIdeal.Gen.facts, Cert.ModRefIdeal.Gen.facts,
    Cert.Ctx.Gen.facts, Cert.CtxIdeal.Gen.facts, Cert.CtxRefIdeal.Gen.facts,
    Cert.Na.Pre.preFacts, Cert.Gqa.Pre.preFacts, Cert.In.Pre.preFacts, Cert.Context.Pre.preFacts,
    Cert.On_latent_groups.Gen.facts, Cert.On_gqa_latent_groups.Gen.facts,
    Cert.Na.Claims.frame, Cert.Na.Claims.frame_ideal, Cert.Na.Claims.frame_ideal_pre,
    Cert.Na.Claims.frame_ref, Cert.Na.Claims.frame_ref_pre,
    Cert.Ffn.First.frame, Cert.Ffn.First.frame_ideal, Cert.Ffn.First.frame_ref,
    Cert.Ffn.Second.frame, Cert.Ffn.Second.frame_ideal, Cert.Ffn.Second.frame_ref,
    Cert.Ffn.Last.frame, Cert.Ffn.Last.frame_ideal, Cert.Ffn.Last.frame_ref,
    Cert.Gqa.Claims.frame, Cert.Gqa.Claims.frame_ideal, Cert.Gqa.Claims.frame_ideal_pre,
    Cert.Gqa.Claims.frame_ref, Cert.Gqa.Claims.frame_ref_pre,
    Cert.Out.First.frame, Cert.Out.First.frame_ideal, Cert.Out.First.frame_ref,
    Cert.Out.Last.frame, Cert.Out.Last.frame_ideal, Cert.Out.Last.frame_ref,
    Cert.In.Claims.frame, Cert.In.Claims.frame_ideal, Cert.In.Claims.frame_ideal_pre,
    Cert.In.Claims.frame_ref, Cert.In.Claims.frame_ref_pre,
    Cert.Modulation.Claims.frame, Cert.Modulation.Claims.frame_ideal, Cert.Modulation.Claims.frame_ref,
    Cert.Context.Claims.frame, Cert.Context.Claims.frame_ideal, Cert.Context.Claims.frame_ideal_pre,
    Cert.Context.Claims.frame_ref, Cert.Context.Claims.frame_ref_pre,
    trivial, Cert.Na.Claims.algebraic, trivial, Cert.Ffn.First.algebraic,
    trivial, Cert.Ffn.Second.algebraic, trivial, Cert.Ffn.Last.algebraic,
    trivial, Cert.Gqa.Claims.algebraic, trivial, Cert.Out.First.algebraic,
    trivial, Cert.Out.Last.algebraic, trivial, Cert.In.Claims.algebraic,
    trivial, Cert.Modulation.Claims.algebraic, trivial, Cert.Context.Claims.algebraic⟩

end Cert.Proof

end
